-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_UpY (m : (ℓ : Loc Cert.UpY.nD Cert.UpY.τ Cert.UpY.sig) → Buf (Elt Bits) ℓ) : Prop :=
  True

def Pre_UpYIdeal (m : (ℓ : Loc Cert.UpYIdeal.nD Cert.UpYIdeal.τ Cert.UpYIdeal.sig) → Buf (Elt Ideal) ℓ) : Prop :=
  True

def Pre_UpYRefIdeal (m : (ℓ : Loc Cert.UpYRefIdeal.nD Cert.UpYRefIdeal.τ Cert.UpYRefIdeal.sig) → Buf (Elt Ideal) ℓ) : Prop :=
  True

def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_DownYRefIdeal (m : (ℓ : Loc Cert.DownYRefIdeal.nD Cert.DownYRefIdeal.τ Cert.DownYRefIdeal.sig) → Buf (Elt Ideal) ℓ) : Prop :=
  True

def Pre_GateY (m : (ℓ : Loc Cert.GateY.nD Cert.GateY.τ Cert.GateY.sig) → Buf (Elt Bits) ℓ) : Prop :=
  True

def Pre_GateYIdeal (m : (ℓ : Loc Cert.GateYIdeal.nD Cert.GateYIdeal.τ Cert.GateYIdeal.sig) → Buf (Elt Ideal) ℓ) : Prop :=
  True

def Pre_GateYRefIdeal (m : (ℓ : Loc Cert.GateYRefIdeal.nD Cert.GateYRefIdeal.τ Cert.GateYRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_GateX (m : (ℓ : Loc Cert.GateX.nD Cert.GateX.τ Cert.GateX.sig) → Buf (Elt Bits) ℓ) : Prop :=
  True

def Pre_GateXIdeal (m : (ℓ : Loc Cert.GateXIdeal.nD Cert.GateXIdeal.τ Cert.GateXIdeal.sig) → Buf (Elt Ideal) ℓ) : Prop :=
  True

def Pre_GateXRefIdeal (m : (ℓ : Loc Cert.GateXRefIdeal.nD Cert.GateXRefIdeal.τ Cert.GateXRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_OutM (m : (ℓ : Loc Cert.OutM.nD Cert.OutM.τ Cert.OutM.sig) → Buf (Elt Bits) ℓ) : Prop :=
  True

def Pre_OutMIdeal (m : (ℓ : Loc Cert.OutMIdeal.nD Cert.OutMIdeal.τ Cert.OutMIdeal.sig) → Buf (Elt Ideal) ℓ) : Prop :=
  True

def Pre_OutMRefIdeal (m : (ℓ : Loc Cert.OutMRefIdeal.nD Cert.OutMRefIdeal.τ Cert.OutMRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_MixX (m : (ℓ : Loc Cert.MixX.nD Cert.MixX.τ Cert.MixX.sig) → Buf (Elt Bits) ℓ) : Prop :=
  True

def Pre_MixXIdeal (m : (ℓ : Loc Cert.MixXIdeal.nD Cert.MixXIdeal.τ Cert.MixXIdeal.sig) → Buf (Elt Ideal) ℓ) : Prop :=
  True

def Pre_MixXRefIdeal (m : (ℓ : Loc Cert.MixXRefIdeal.nD Cert.MixXRefIdeal.τ Cert.MixXRefIdeal.sig) → Buf (Elt Ideal) ℓ) : Prop :=
  True

def Pre_OutV (m : (ℓ : Loc Cert.OutV.nD Cert.OutV.τ Cert.OutV.sig) → Buf (Elt Bits) ℓ) : Prop :=
  True

def Pre_OutVIdeal (m : (ℓ : Loc Cert.OutVIdeal.nD Cert.OutVIdeal.τ Cert.OutVIdeal.sig) → Buf (Elt Ideal) ℓ) : Prop :=
  True

def Pre_OutVRefIdeal (m : (ℓ : Loc Cert.OutVRefIdeal.nD Cert.OutVRefIdeal.τ Cert.OutVRefIdeal.sig) → Buf (Elt Ideal) ℓ) : Prop :=
  True

def Pre_InY (m : (ℓ : Loc Cert.InY.nD Cert.InY.τ Cert.InY.sig) → Buf (Elt Bits) ℓ) : Prop :=
  True

def Pre_InYIdeal (m : (ℓ : Loc Cert.InYIdeal.nD Cert.InYIdeal.τ Cert.InYIdeal.sig) → Buf (Elt Ideal) ℓ) : Prop :=
  True

def Pre_InYRefIdeal (m : (ℓ : Loc Cert.InYRefIdeal.nD Cert.InYRefIdeal.τ Cert.InYRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_KvY (m : (ℓ : Loc Cert.KvY.nD Cert.KvY.τ Cert.KvY.sig) → Buf (Elt Bits) ℓ) : Prop :=
  True

def Pre_KvYIdeal (m : (ℓ : Loc Cert.KvYIdeal.nD Cert.KvYIdeal.τ Cert.KvYIdeal.sig) → Buf (Elt Ideal) ℓ) : Prop :=
  True

def Pre_KvYRefIdeal (m : (ℓ : Loc Cert.KvYRefIdeal.nD Cert.KvYRefIdeal.τ Cert.KvYRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_KvX (m : (ℓ : Loc Cert.KvX.nD Cert.KvX.τ Cert.KvX.sig) → Buf (Elt Bits) ℓ) : Prop :=
  True

def Pre_KvXIdeal (m : (ℓ : Loc Cert.KvXIdeal.nD Cert.KvXIdeal.τ Cert.KvXIdeal.sig) → Buf (Elt Ideal) ℓ) : Prop :=
  True

def Pre_KvXRefIdeal (m : (ℓ : Loc Cert.KvXRefIdeal.nD Cert.KvXRefIdeal.τ Cert.KvXRefIdeal.sig) → Buf (Elt Ideal) ℓ) : Prop :=
  True

def Pre_PleY (m : (ℓ : Loc Cert.PleY.nD Cert.PleY.τ Cert.PleY.sig) → Buf (Elt Bits) ℓ) : Prop :=
  True

def Pre_PleYIdeal (m : (ℓ : Loc Cert.PleYIdeal.nD Cert.PleYIdeal.τ Cert.PleYIdeal.sig) → Buf (Elt Ideal) ℓ) : Prop :=
  True

def Pre_PleYRefIdeal (m : (ℓ : Loc Cert.PleYRefIdeal.nD Cert.PleYRefIdeal.τ Cert.PleYRefIdeal.sig) → Buf (Elt Ideal) ℓ) : Prop :=
  True

def Pre_PleW (m : (ℓ : Loc Cert.PleW.nD Cert.PleW.τ Cert.PleW.sig) → Buf (Elt Bits) ℓ) : Prop :=
  True

def Pre_PleWIdeal (m : (ℓ : Loc Cert.PleWIdeal.nD Cert.PleWIdeal.τ Cert.PleWIdeal.sig) → Buf (Elt Ideal) ℓ) : Prop :=
  True

def Pre_PleWRefIdeal (m : (ℓ : Loc Cert.PleWRefIdeal.nD Cert.PleWRefIdeal.τ Cert.PleWRefIdeal.sig) → Buf (Elt Ideal) ℓ) : Prop :=
  True

def Pre_QY (m : (ℓ : Loc Cert.QY.nD Cert.QY.τ Cert.QY.sig) → Buf (Elt Bits) ℓ) : Prop :=
  True

def Pre_QYIdeal (m : (ℓ : Loc Cert.QYIdeal.nD Cert.QYIdeal.τ Cert.QYIdeal.sig) → Buf (Elt Ideal) ℓ) : Prop :=
  True

def Pre_QYRefIdeal (m : (ℓ : Loc Cert.QYRefIdeal.nD Cert.QYRefIdeal.τ Cert.QYRefIdeal.sig) → Buf (Elt Ideal) ℓ) : Prop :=
  True

def Pre_QW (m : (ℓ : Loc Cert.QW.nD Cert.QW.τ Cert.QW.sig) → Buf (Elt Bits) ℓ) : Prop :=
  True

def Pre_QWIdeal (m : (ℓ : Loc Cert.QWIdeal.nD Cert.QWIdeal.τ Cert.QWIdeal.sig) → Buf (Elt Ideal) ℓ) : Prop :=
  True

def Pre_QWRefIdeal (m : (ℓ : Loc Cert.QWRefIdeal.nD Cert.QWRefIdeal.τ Cert.QWRefIdeal.sig) → Buf (Elt Ideal) ℓ) : Prop :=
  True

def Pre_QX (m : (ℓ : Loc Cert.QX.nD Cert.QX.τ Cert.QX.sig) → Buf (Elt Bits) ℓ) : Prop :=
  True

def Pre_QXIdeal (m : (ℓ : Loc Cert.QXIdeal.nD Cert.QXIdeal.τ Cert.QXIdeal.sig) → Buf (Elt Ideal) ℓ) : Prop :=
  True

def Pre_QXRefIdeal (m : (ℓ : Loc Cert.QXRefIdeal.nD Cert.QXRefIdeal.τ Cert.QXRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1))
      ∧ r.2.sem = fun _ => 0)

def quiescent_UpY [hUpY : Cert.UpY.Facts] : Prop :=
  ∀ (m : (ℓ : Loc Cert.UpY.nD Cert.UpY.τ Cert.UpY.sig) → Buf (Elt Bits) ℓ) (g : Dev Cert.UpY.nD → PrngReg), Pre_UpY m →
    θ_run (Cert.UpY.defs (F := Bits)) (onTc (τ := Cert.UpY.τ) (Cert.UpY.main (F := Bits))) ⟨m, fun _ => 0, g⟩ (fun r => (∀ c : Dev Cert.UpY.nD,
      r.2.mem ((c.tc : Thread Cert.UpY.nD Cert.UpY.τ).loc Cert.UpY.main_arg0) = m ((c.tc : Thread Cert.UpY.nD Cert.UpY.τ).loc Cert.UpY.main_arg0)
      ∧ r.2.mem ((c.tc : Thread Cert.UpY.nD Cert.UpY.τ).loc Cert.UpY.main_arg1) = m ((c.tc : Thread Cert.UpY.nD Cert.UpY.τ).loc Cert.UpY.main_arg1))
      ∧ r.2.sem = fun _ => 0)

def quiescent_UpYIdeal [hUpYIdeal : Cert.UpYIdeal.Facts] : Prop :=
  ∀ (m : (ℓ : Loc Cert.UpYIdeal.nD Cert.UpYIdeal.τ Cert.UpYIdeal.sig) → Buf (Elt Ideal) ℓ) (g : Dev Cert.UpYIdeal.nD → PrngReg), Pre_UpYIdeal m →
    θ_run (Cert.UpYIdeal.defs (F := Ideal)) (onTc (τ := Cert.UpYIdeal.τ) (Cert.UpYIdeal.main (F := Ideal))) ⟨m, fun _ => 0, g⟩ (fun r => (∀ c : Dev Cert.UpYIdeal.nD,
      r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
      ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ r.2.sem = fun _ => 0)

def quiescent_UpYRefIdeal [hUpYRefIdeal : Cert.UpYRefIdeal.Facts] : Prop :=
  ∀ (m : (ℓ : Loc Cert.UpYRefIdeal.nD Cert.UpYRefIdeal.τ Cert.UpYRefIdeal.sig) → Buf (Elt Ideal) ℓ) (g : Dev Cert.UpYRefIdeal.nD → PrngReg), Pre_UpYRefIdeal m →
    θ_run (Cert.UpYRefIdeal.defs (F := Ideal)) (onTc (τ := Cert.UpYRefIdeal.τ) (Cert.UpYRefIdeal.main (F := Ideal))) ⟨m, fun _ => 0, g⟩ (fun r => (∀ c : Dev Cert.UpYRefIdeal.nD,
      r.2.mem ((c.tc : Thread Cert.UpYRefIdeal.nD Cert.UpYRefIdeal.τ).loc Cert.UpYRefIdeal.main_arg0) = m ((c.tc : Thread Cert.UpYRefIdeal.nD Cert.UpYRefIdeal.τ).loc Cert.UpYRefIdeal.main_arg0)
      ∧ r.2.mem ((c.tc : Thread Cert.UpYRefIdeal.nD Cert.UpYRefIdeal.τ).loc Cert.UpYRefIdeal.main_arg1) = m ((c.tc : Thread Cert.UpYRefIdeal.nD Cert.UpYRefIdeal.τ).loc Cert.UpYRefIdeal.main_arg1))
      ∧ r.2.sem = fun _ => 0)

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1)
      ∧ r.2.mem ((c.tc : Thread Cert.DownY.nD Cert.DownY.τ).loc Cert.DownY.main_arg2) = m ((c.tc : Thread Cert.DownY.nD Cert.DownY.τ).loc Cert.DownY.main_arg2))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
      ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2))
      ∧ r.2.sem = fun _ => 0)

def quiescent_DownYRefIdeal [hDownYRefIdeal : Cert.DownYRefIdeal.Facts] : Prop :=
  ∀ (m : (ℓ : Loc Cert.DownYRefIdeal.nD Cert.DownYRefIdeal.τ Cert.DownYRefIdeal.sig) → Buf (Elt Ideal) ℓ) (g : Dev Cert.DownYRefIdeal.nD → PrngReg), Pre_DownYRefIdeal m →
    θ_run (Cert.DownYRefIdeal.defs (F := Ideal)) (onTc (τ := Cert.DownYRefIdeal.τ) (Cert.DownYRefIdeal.main (F := Ideal))) ⟨m, fun _ => 0, g⟩ (fun r => (∀ c : Dev Cert.DownYRefIdeal.nD,
      r.2.mem ((c.tc : Thread Cert.DownYRefIdeal.nD Cert.DownYRefIdeal.τ).loc Cert.DownYRefIdeal.main_arg0) = m ((c.tc : Thread Cert.DownYRefIdeal.nD Cert.DownYRefIdeal.τ).loc Cert.DownYRefIdeal.main_arg0)
      ∧ r.2.mem ((c.tc : Thread Cert.DownYRefIdeal.nD Cert.DownYRefIdeal.τ).loc Cert.DownYRefIdeal.main_arg1) = m ((c.tc : Thread Cert.DownYRefIdeal.nD Cert.DownYRefIdeal.τ).loc Cert.DownYRefIdeal.main_arg1)
      ∧ r.2.mem ((c.tc : Thread Cert.DownYRefIdeal.nD Cert.DownYRefIdeal.τ).loc Cert.DownYRefIdeal.main_arg2) = m ((c.tc : Thread Cert.DownYRefIdeal.nD Cert.DownYRefIdeal.τ).loc Cert.DownYRefIdeal.main_arg2))
      ∧ r.2.sem = fun _ => 0)

def quiescent_GateY [hGateY : Cert.GateY.Facts] : Prop :=
  ∀ (m : (ℓ : Loc Cert.GateY.nD Cert.GateY.τ Cert.GateY.sig) → Buf (Elt Bits) ℓ) (g : Dev Cert.GateY.nD → PrngReg), Pre_GateY m →
    θ_run (Cert.GateY.defs (F := Bits)) (onTc (τ := Cert.GateY.τ) (Cert.GateY.main (F := Bits))) ⟨m, fun _ => 0, g⟩ (fun r => (∀ c : Dev Cert.GateY.nD,
      r.2.mem ((c.tc : Thread Cert.GateY.nD Cert.GateY.τ).loc Cert.GateY.main_arg0) = m ((c.tc : Thread Cert.GateY.nD Cert.GateY.τ).loc Cert.GateY.main_arg0)
      ∧ r.2.mem ((c.tc : Thread Cert.GateY.nD Cert.GateY.τ).loc Cert.GateY.main_arg1) = m ((c.tc : Thread Cert.GateY.nD Cert.GateY.τ).loc Cert.GateY.main_arg1)
      ∧ r.2.mem ((c.tc : Thread Cert.GateY.nD Cert.GateY.τ).loc Cert.GateY.main_arg2) = m ((c.tc : Thread Cert.GateY.nD Cert.GateY.τ).loc Cert.GateY.main_arg2))
      ∧ r.2.sem = fun _ => 0)

def quiescent_GateYIdeal [hGateYIdeal : Cert.GateYIdeal.Facts] : Prop :=
  ∀ (m : (ℓ : Loc Cert.GateYIdeal.nD Cert.GateYIdeal.τ Cert.GateYIdeal.sig) → Buf (Elt Ideal) ℓ) (g : Dev Cert.GateYIdeal.nD → PrngReg), Pre_GateYIdeal m →
    θ_run (Cert.GateYIdeal.defs (F := Ideal)) (onTc (τ := Cert.GateYIdeal.τ) (Cert.GateYIdeal.main (F := Ideal))) ⟨m, fun _ => 0, g⟩ (fun r => (∀ c : Dev Cert.GateYIdeal.nD,
      r.2.mem ((c.tc : Thread Cert.GateYIdeal.nD Cert.GateYIdeal.τ).loc Cert.GateYIdeal.main_arg0) = m ((c.tc : Thread Cert.GateYIdeal.nD Cert.GateYIdeal.τ).loc Cert.GateYIdeal.main_arg0)
      ∧ r.2.mem ((c.tc : Thread Cert.GateYIdeal.nD Cert.GateYIdeal.τ).loc Cert.GateYIdeal.main_arg1) = m ((c.tc : Thread Cert.GateYIdeal.nD Cert.GateYIdeal.τ).loc Cert.GateYIdeal.main_arg1)
      ∧ r.2.mem ((c.tc : Thread Cert.GateYIdeal.nD Cert.GateYIdeal.τ).loc Cert.GateYIdeal.main_arg2) = m ((c.tc : Thread Cert.GateYIdeal.nD Cert.GateYIdeal.τ).loc Cert.GateYIdeal.main_arg2))
      ∧ r.2.sem = fun _ => 0)

def quiescent_GateYRefIdeal [hGateYRefIdeal : Cert.GateYRefIdeal.Facts] : Prop :=
  ∀ (m : (ℓ : Loc Cert.GateYRefIdeal.nD Cert.GateYRefIdeal.τ Cert.GateYRefIdeal.sig) → Buf (Elt Ideal) ℓ) (g : Dev Cert.GateYRefIdeal.nD → PrngReg), Pre_GateYRefIdeal m →
    θ_run (Cert.GateYRefIdeal.defs (F := Ideal)) (onTc (τ := Cert.GateYRefIdeal.τ) (Cert.GateYRefIdeal.main (F := Ideal))) ⟨m, fun _ => 0, g⟩ (fun r => (∀ c : Dev Cert.GateYRefIdeal.nD,
      r.2.mem ((c.tc : Thread Cert.GateYRefIdeal.nD Cert.GateYRefIdeal.τ).loc Cert.GateYRefIdeal.main_arg0) = m ((c.tc : Thread Cert.GateYRefIdeal.nD Cert.GateYRefIdeal.τ).loc Cert.GateYRefIdeal.main_arg0)
      ∧ r.2.mem ((c.tc : Thread Cert.GateYRefIdeal.nD Cert.GateYRefIdeal.τ).loc Cert.GateYRefIdeal.main_arg1) = m ((c.tc : Thread Cert.GateYRefIdeal.nD Cert.GateYRefIdeal.τ).loc Cert.GateYRefIdeal.main_arg1)
      ∧ r.2.mem ((c.tc : Thread Cert.GateYRefIdeal.nD Cert.GateYRefIdeal.τ).loc Cert.GateYRefIdeal.main_arg2) = m ((c.tc : Thread Cert.GateYRefIdeal.nD Cert.GateYRefIdeal.τ).loc Cert.GateYRefIdeal.main_arg2))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_GateX [hGateX : Cert.GateX.Facts] : Prop :=
  ∀ (m : (ℓ : Loc Cert.GateX.nD Cert.GateX.τ Cert.GateX.sig) → Buf (Elt Bits) ℓ) (g : Dev Cert.GateX.nD → PrngReg), Pre_GateX m →
    θ_run (Cert.GateX.defs (F := Bits)) (onTc (τ := Cert.GateX.τ) (Cert.GateX.main (F := Bits))) ⟨m, fun _ => 0, g⟩ (fun r => (∀ c : Dev Cert.GateX.nD,
      r.2.mem ((c.tc : Thread Cert.GateX.nD Cert.GateX.τ).loc Cert.GateX.main_arg0) = m ((c.tc : Thread Cert.GateX.nD Cert.GateX.τ).loc Cert.GateX.main_arg0)
      ∧ r.2.mem ((c.tc : Thread Cert.GateX.nD Cert.GateX.τ).loc Cert.GateX.main_arg1) = m ((c.tc : Thread Cert.GateX.nD Cert.GateX.τ).loc Cert.GateX.main_arg1))
      ∧ r.2.sem = fun _ => 0)

def quiescent_GateXIdeal [hGateXIdeal : Cert.GateXIdeal.Facts] : Prop :=
  ∀ (m : (ℓ : Loc Cert.GateXIdeal.nD Cert.GateXIdeal.τ Cert.GateXIdeal.sig) → Buf (Elt Ideal) ℓ) (g : Dev Cert.GateXIdeal.nD → PrngReg), Pre_GateXIdeal m →
    θ_run (Cert.GateXIdeal.defs (F := Ideal)) (onTc (τ := Cert.GateXIdeal.τ) (Cert.GateXIdeal.main (F := Ideal))) ⟨m, fun _ => 0, g⟩ (fun r => (∀ c : Dev Cert.GateXIdeal.nD,
      r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
      ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1))
      ∧ r.2.sem = fun _ => 0)

def quiescent_GateXRefIdeal [hGateXRefIdeal : Cert.GateXRefIdeal.Facts] : Prop :=
  ∀ (m : (ℓ : Loc Cert.GateXRefIdeal.nD Cert.GateXRefIdeal.τ Cert.GateXRefIdeal.sig) → Buf (Elt Ideal) ℓ) (g : Dev Cert.GateXRefIdeal.nD → PrngReg), Pre_GateXRefIdeal m →
    θ_run (Cert.GateXRefIdeal.defs (F := Ideal)) (onTc (τ := Cert.GateXRefIdeal.τ) (Cert.GateXRefIdeal.main (F := Ideal))) ⟨m, fun _ => 0, g⟩ (fun r => (∀ c : Dev Cert.GateXRefIdeal.nD,
      r.2.mem ((c.tc : Thread Cert.GateXRefIdeal.nD Cert.GateXRefIdeal.τ).loc Cert.GateXRefIdeal.main_arg0) = m ((c.tc : Thread Cert.GateXRefIdeal.nD Cert.GateXRefIdeal.τ).loc Cert.GateXRefIdeal.main_arg0)
      ∧ r.2.mem ((c.tc : Thread Cert.GateXRefIdeal.nD Cert.GateXRefIdeal.τ).loc Cert.GateXRefIdeal.main_arg1) = m ((c.tc : Thread Cert.GateXRefIdeal.nD Cert.GateXRefIdeal.τ).loc Cert.GateXRefIdeal.main_arg1))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2))
      ∧ r.2.sem = fun _ => 0)

def quiescent_OutM [hOutM : Cert.OutM.Facts] : Prop :=
  ∀ (m : (ℓ : Loc Cert.OutM.nD Cert.OutM.τ Cert.OutM.sig) → Buf (Elt Bits) ℓ) (g : Dev Cert.OutM.nD → PrngReg), Pre_OutM m →
    θ_run (Cert.OutM.defs (F := Bits)) (onTc (τ := Cert.OutM.τ) (Cert.OutM.main (F := Bits))) ⟨m, fun _ => 0, g⟩ (fun r => (∀ c : Dev Cert.OutM.nD,
      r.2.mem ((c.tc : Thread Cert.OutM.nD Cert.OutM.τ).loc Cert.OutM.main_arg0) = m ((c.tc : Thread Cert.OutM.nD Cert.OutM.τ).loc Cert.OutM.main_arg0)
      ∧ r.2.mem ((c.tc : Thread Cert.OutM.nD Cert.OutM.τ).loc Cert.OutM.main_arg1) = m ((c.tc : Thread Cert.OutM.nD Cert.OutM.τ).loc Cert.OutM.main_arg1)
      ∧ r.2.mem ((c.tc : Thread Cert.OutM.nD Cert.OutM.τ).loc Cert.OutM.main_arg2) = m ((c.tc : Thread Cert.OutM.nD Cert.OutM.τ).loc Cert.OutM.main_arg2))
      ∧ r.2.sem = fun _ => 0)

def quiescent_OutMIdeal [hOutMIdeal : Cert.OutMIdeal.Facts] : Prop :=
  ∀ (m : (ℓ : Loc Cert.OutMIdeal.nD Cert.OutMIdeal.τ Cert.OutMIdeal.sig) → Buf (Elt Ideal) ℓ) (g : Dev Cert.OutMIdeal.nD → PrngReg), Pre_OutMIdeal m →
    θ_run (Cert.OutMIdeal.defs (F := Ideal)) (onTc (τ := Cert.OutMIdeal.τ) (Cert.OutMIdeal.main (F := Ideal))) ⟨m, fun _ => 0, g⟩ (fun r => (∀ c : Dev Cert.OutMIdeal.nD,
      r.2.mem ((c.tc : Thread Cert.OutMIdeal.nD Cert.OutMIdeal.τ).loc Cert.OutMIdeal.main_arg0) = m ((c.tc : Thread Cert.OutMIdeal.nD Cert.OutMIdeal.τ).loc Cert.OutMIdeal.main_arg0)
      ∧ r.2.mem ((c.tc : Thread Cert.OutMIdeal.nD Cert.OutMIdeal.τ).loc Cert.OutMIdeal.main_arg1) = m ((c.tc : Thread Cert.OutMIdeal.nD Cert.OutMIdeal.τ).loc Cert.OutMIdeal.main_arg1)
      ∧ r.2.mem ((c.tc : Thread Cert.OutMIdeal.nD Cert.OutMIdeal.τ).loc Cert.OutMIdeal.main_arg2) = m ((c.tc : Thread Cert.OutMIdeal.nD Cert.OutMIdeal.τ).loc Cert.OutMIdeal.main_arg2))
      ∧ r.2.sem = fun _ => 0)

def quiescent_OutMRefIdeal [hOutMRefIdeal : Cert.OutMRefIdeal.Facts] : Prop :=
  ∀ (m : (ℓ : Loc Cert.OutMRefIdeal.nD Cert.OutMRefIdeal.τ Cert.OutMRefIdeal.sig) → Buf (Elt Ideal) ℓ) (g : Dev Cert.OutMRefIdeal.nD → PrngReg), Pre_OutMRefIdeal m →
    θ_run (Cert.OutMRefIdeal.defs (F := Ideal)) (onTc (τ := Cert.OutMRefIdeal.τ) (Cert.OutMRefIdeal.main (F := Ideal))) ⟨m, fun _ => 0, g⟩ (fun r => (∀ c : Dev Cert.OutMRefIdeal.nD,
      r.2.mem ((c.tc : Thread Cert.OutMRefIdeal.nD Cert.OutMRefIdeal.τ).loc Cert.OutMRefIdeal.main_arg0) = m ((c.tc : Thread Cert.OutMRefIdeal.nD Cert.OutMRefIdeal.τ).loc Cert.OutMRefIdeal.main_arg0)
      ∧ r.2.mem ((c.tc : Thread Cert.OutMRefIdeal.nD Cert.OutMRefIdeal.τ).loc Cert.OutMRefIdeal.main_arg1) = m ((c.tc : Thread Cert.OutMRefIdeal.nD Cert.OutMRefIdeal.τ).loc Cert.OutMRefIdeal.main_arg1)
      ∧ r.2.mem ((c.tc : Thread Cert.OutMRefIdeal.nD Cert.OutMRefIdeal.τ).loc Cert.OutMRefIdeal.main_arg2) = m ((c.tc : Thread Cert.OutMRefIdeal.nD Cert.OutMRefIdeal.τ).loc Cert.OutMRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_MixX [hMixX : Cert.MixX.Facts] : Prop :=
  ∀ (m : (ℓ : Loc Cert.MixX.nD Cert.MixX.τ Cert.MixX.sig) → Buf (Elt Bits) ℓ) (g : Dev Cert.MixX.nD → PrngReg), Pre_MixX m →
    θ_run (Cert.MixX.defs (F := Bits)) (onTc (τ := Cert.MixX.τ) (Cert.MixX.main (F := Bits))) ⟨m, fun _ => 0, g⟩ (fun r => (∀ c : Dev Cert.MixX.nD,
      r.2.mem ((c.tc : Thread Cert.MixX.nD Cert.MixX.τ).loc Cert.MixX.main_arg0) = m ((c.tc : Thread Cert.MixX.nD Cert.MixX.τ).loc Cert.MixX.main_arg0)
      ∧ r.2.mem ((c.tc : Thread Cert.MixX.nD Cert.MixX.τ).loc Cert.MixX.main_arg1) = m ((c.tc : Thread Cert.MixX.nD Cert.MixX.τ).loc Cert.MixX.main_arg1))
      ∧ r.2.sem = fun _ => 0)

def quiescent_MixXIdeal [hMixXIdeal : Cert.MixXIdeal.Facts] : Prop :=
  ∀ (m : (ℓ : Loc Cert.MixXIdeal.nD Cert.MixXIdeal.τ Cert.MixXIdeal.sig) → Buf (Elt Ideal) ℓ) (g : Dev Cert.MixXIdeal.nD → PrngReg), Pre_MixXIdeal m →
    θ_run (Cert.MixXIdeal.defs (F := Ideal)) (onTc (τ := Cert.MixXIdeal.τ) (Cert.MixXIdeal.main (F := Ideal))) ⟨m, fun _ => 0, g⟩ (fun r => (∀ c : Dev Cert.MixXIdeal.nD,
      r.2.mem ((c.tc : Thread Cert.MixXIdeal.nD Cert.MixXIdeal.τ).loc Cert.MixXIdeal.main_arg0) = m ((c.tc : Thread Cert.MixXIdeal.nD Cert.MixXIdeal.τ).loc Cert.MixXIdeal.main_arg0)
      ∧ r.2.mem ((c.tc : Thread Cert.MixXIdeal.nD Cert.MixXIdeal.τ).loc Cert.MixXIdeal.main_arg1) = m ((c.tc : Thread Cert.MixXIdeal.nD Cert.MixXIdeal.τ).loc Cert.MixXIdeal.main_arg1))
      ∧ r.2.sem = fun _ => 0)

def quiescent_MixXRefIdeal [hMixXRefIdeal : Cert.MixXRefIdeal.Facts] : Prop :=
  ∀ (m : (ℓ : Loc Cert.MixXRefIdeal.nD Cert.MixXRefIdeal.τ Cert.MixXRefIdeal.sig) → Buf (Elt Ideal) ℓ) (g : Dev Cert.MixXRefIdeal.nD → PrngReg), Pre_MixXRefIdeal m →
    θ_run (Cert.MixXRefIdeal.defs (F := Ideal)) (onTc (τ := Cert.MixXRefIdeal.τ) (Cert.MixXRefIdeal.main (F := Ideal))) ⟨m, fun _ => 0, g⟩ (fun r => (∀ c : Dev Cert.MixXRefIdeal.nD,
      r.2.mem ((c.tc : Thread Cert.MixXRefIdeal.nD Cert.MixXRefIdeal.τ).loc Cert.MixXRefIdeal.main_arg0) = m ((c.tc : Thread Cert.MixXRefIdeal.nD Cert.MixXRefIdeal.τ).loc Cert.MixXRefIdeal.main_arg0)
      ∧ r.2.mem ((c.tc : Thread Cert.MixXRefIdeal.nD Cert.MixXRefIdeal.τ).loc Cert.MixXRefIdeal.main_arg1) = m ((c.tc : Thread Cert.MixXRefIdeal.nD Cert.MixXRefIdeal.τ).loc Cert.MixXRefIdeal.main_arg1))
      ∧ r.2.sem = fun _ => 0)

def quiescent_OutV [hOutV : Cert.OutV.Facts] : Prop :=
  ∀ (m : (ℓ : Loc Cert.OutV.nD Cert.OutV.τ Cert.OutV.sig) → Buf (Elt Bits) ℓ) (g : Dev Cert.OutV.nD → PrngReg), Pre_OutV m →
    θ_run (Cert.OutV.defs (F := Bits)) (onTc (τ := Cert.OutV.τ) (Cert.OutV.main (F := Bits))) ⟨m, fun _ => 0, g⟩ (fun r => (∀ c : Dev Cert.OutV.nD,
      r.2.mem ((c.tc : Thread Cert.OutV.nD Cert.OutV.τ).loc Cert.OutV.main_arg0) = m ((c.tc : Thread Cert.OutV.nD Cert.OutV.τ).loc Cert.OutV.main_arg0)
      ∧ r.2.mem ((c.tc : Thread Cert.OutV.nD Cert.OutV.τ).loc Cert.OutV.main_arg1) = m ((c.tc : Thread Cert.OutV.nD Cert.OutV.τ).loc Cert.OutV.main_arg1))
      ∧ r.2.sem = fun _ => 0)

def quiescent_OutVIdeal [hOutVIdeal : Cert.OutVIdeal.Facts] : Prop :=
  ∀ (m : (ℓ : Loc Cert.OutVIdeal.nD Cert.OutVIdeal.τ Cert.OutVIdeal.sig) → Buf (Elt Ideal) ℓ) (g : Dev Cert.OutVIdeal.nD → PrngReg), Pre_OutVIdeal m →
    θ_run (Cert.OutVIdeal.defs (F := Ideal)) (onTc (τ := Cert.OutVIdeal.τ) (Cert.OutVIdeal.main (F := Ideal))) ⟨m, fun _ => 0, g⟩ (fun r => (∀ c : Dev Cert.OutVIdeal.nD,
      r.2.mem ((c.tc : Thread Cert.OutVIdeal.nD Cert.OutVIdeal.τ).loc Cert.OutVIdeal.main_arg0) = m ((c.tc : Thread Cert.OutVIdeal.nD Cert.OutVIdeal.τ).loc Cert.OutVIdeal.main_arg0)
      ∧ r.2.mem ((c.tc : Thread Cert.OutVIdeal.nD Cert.OutVIdeal.τ).loc Cert.OutVIdeal.main_arg1) = m ((c.tc : Thread Cert.OutVIdeal.nD Cert.OutVIdeal.τ).loc Cert.OutVIdeal.main_arg1))
      ∧ r.2.sem = fun _ => 0)

def quiescent_OutVRefIdeal [hOutVRefIdeal : Cert.OutVRefIdeal.Facts] : Prop :=
  ∀ (m : (ℓ : Loc Cert.OutVRefIdeal.nD Cert.OutVRefIdeal.τ Cert.OutVRefIdeal.sig) → Buf (Elt Ideal) ℓ) (g : Dev Cert.OutVRefIdeal.nD → PrngReg), Pre_OutVRefIdeal m →
    θ_run (Cert.OutVRefIdeal.defs (F := Ideal)) (onTc (τ := Cert.OutVRefIdeal.τ) (Cert.OutVRefIdeal.main (F := Ideal))) ⟨m, fun _ => 0, g⟩ (fun r => (∀ c : Dev Cert.OutVRefIdeal.nD,
      r.2.mem ((c.tc : Thread Cert.OutVRefIdeal.nD Cert.OutVRefIdeal.τ).loc Cert.OutVRefIdeal.main_arg0) = m ((c.tc : Thread Cert.OutVRefIdeal.nD Cert.OutVRefIdeal.τ).loc Cert.OutVRefIdeal.main_arg0)
      ∧ r.2.mem ((c.tc : Thread Cert.OutVRefIdeal.nD Cert.OutVRefIdeal.τ).loc Cert.OutVRefIdeal.main_arg1) = m ((c.tc : Thread Cert.OutVRefIdeal.nD Cert.OutVRefIdeal.τ).loc Cert.OutVRefIdeal.main_arg1))
      ∧ r.2.sem = fun _ => 0)

def quiescent_InY [hInY : Cert.InY.Facts] : Prop :=
  ∀ (m : (ℓ : Loc Cert.InY.nD Cert.InY.τ Cert.InY.sig) → Buf (Elt Bits) ℓ) (g : Dev Cert.InY.nD → PrngReg), Pre_InY m →
    θ_run (Cert.InY.defs (F := Bits)) (onTc (τ := Cert.InY.τ) (Cert.InY.main (F := Bits))) ⟨m, fun _ => 0, g⟩ (fun r => (∀ c : Dev Cert.InY.nD,
      r.2.mem ((c.tc : Thread Cert.InY.nD Cert.InY.τ).loc Cert.InY.main_arg0) = m ((c.tc : Thread Cert.InY.nD Cert.InY.τ).loc Cert.InY.main_arg0)
      ∧ r.2.mem ((c.tc : Thread Cert.InY.nD Cert.InY.τ).loc Cert.InY.main_arg1) = m ((c.tc : Thread Cert.InY.nD Cert.InY.τ).loc Cert.InY.main_arg1))
      ∧ r.2.sem = fun _ => 0)

def quiescent_InYIdeal [hInYIdeal : Cert.InYIdeal.Facts] : Prop :=
  ∀ (m : (ℓ : Loc Cert.InYIdeal.nD Cert.InYIdeal.τ Cert.InYIdeal.sig) → Buf (Elt Ideal) ℓ) (g : Dev Cert.InYIdeal.nD → PrngReg), Pre_InYIdeal m →
    θ_run (Cert.InYIdeal.defs (F := Ideal)) (onTc (τ := Cert.InYIdeal.τ) (Cert.InYIdeal.main (F := Ideal))) ⟨m, fun _ => 0, g⟩ (fun r => (∀ c : Dev Cert.InYIdeal.nD,
      r.2.mem ((c.tc : Thread Cert.InYIdeal.nD Cert.InYIdeal.τ).loc Cert.InYIdeal.main_arg0) = m ((c.tc : Thread Cert.InYIdeal.nD Cert.InYIdeal.τ).loc Cert.InYIdeal.main_arg0)
      ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ r.2.sem = fun _ => 0)

def quiescent_InYRefIdeal [hInYRefIdeal : Cert.InYRefIdeal.Facts] : Prop :=
  ∀ (m : (ℓ : Loc Cert.InYRefIdeal.nD Cert.InYRefIdeal.τ Cert.InYRefIdeal.sig) → Buf (Elt Ideal) ℓ) (g : Dev Cert.InYRefIdeal.nD → PrngReg), Pre_InYRefIdeal m →
    θ_run (Cert.InYRefIdeal.defs (F := Ideal)) (onTc (τ := Cert.InYRefIdeal.τ) (Cert.InYRefIdeal.main (F := Ideal))) ⟨m, fun _ => 0, g⟩ (fun r => (∀ c : Dev Cert.InYRefIdeal.nD,
      r.2.mem ((c.tc : Thread Cert.InYRefIdeal.nD Cert.InYRefIdeal.τ).loc Cert.InYRefIdeal.main_arg0) = m ((c.tc : Thread Cert.InYRefIdeal.nD Cert.InYRefIdeal.τ).loc Cert.InYRefIdeal.main_arg0)
      ∧ r.2.mem ((c.tc : Thread Cert.InYRefIdeal.nD Cert.InYRefIdeal.τ).loc Cert.InYRefIdeal.main_arg1) = m ((c.tc : Thread Cert.InYRefIdeal.nD Cert.InYRefIdeal.τ).loc Cert.InYRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_KvY [hKvY : Cert.KvY.Facts] : Prop :=
  ∀ (m : (ℓ : Loc Cert.KvY.nD Cert.KvY.τ Cert.KvY.sig) → Buf (Elt Bits) ℓ) (g : Dev Cert.KvY.nD → PrngReg), Pre_KvY m →
    θ_run (Cert.KvY.defs (F := Bits)) (onTc (τ := Cert.KvY.τ) (Cert.KvY.main (F := Bits))) ⟨m, fun _ => 0, g⟩ (fun r => (∀ c : Dev Cert.KvY.nD,
      r.2.mem ((c.tc : Thread Cert.KvY.nD Cert.KvY.τ).loc Cert.KvY.main_arg0) = m ((c.tc : Thread Cert.KvY.nD Cert.KvY.τ).loc Cert.KvY.main_arg0)
      ∧ r.2.mem ((c.tc : Thread Cert.KvY.nD Cert.KvY.τ).loc Cert.KvY.main_arg1) = m ((c.tc : Thread Cert.KvY.nD Cert.KvY.τ).loc Cert.KvY.main_arg1))
      ∧ r.2.sem = fun _ => 0)

def quiescent_KvYIdeal [hKvYIdeal : Cert.KvYIdeal.Facts] : Prop :=
  ∀ (m : (ℓ : Loc Cert.KvYIdeal.nD Cert.KvYIdeal.τ Cert.KvYIdeal.sig) → Buf (Elt Ideal) ℓ) (g : Dev Cert.KvYIdeal.nD → PrngReg), Pre_KvYIdeal m →
    θ_run (Cert.KvYIdeal.defs (F := Ideal)) (onTc (τ := Cert.KvYIdeal.τ) (Cert.KvYIdeal.main (F := Ideal))) ⟨m, fun _ => 0, g⟩ (fun r => (∀ c : Dev Cert.KvYIdeal.nD,
      r.2.mem ((c.tc : Thread Cert.KvYIdeal.nD Cert.KvYIdeal.τ).loc Cert.KvYIdeal.main_arg0) = m ((c.tc : Thread Cert.KvYIdeal.nD Cert.KvYIdeal.τ).loc Cert.KvYIdeal.main_arg0)
      ∧ r.2.mem ((c.tc : Thread Cert.KvYIdeal.nD Cert.KvYIdeal.τ).loc Cert.KvYIdeal.main_arg1) = m ((c.tc : Thread Cert.KvYIdeal.nD Cert.KvYIdeal.τ).loc Cert.KvYIdeal.main_arg1))
      ∧ r.2.sem = fun _ => 0)

def quiescent_KvYRefIdeal [hKvYRefIdeal : Cert.KvYRefIdeal.Facts] : Prop :=
  ∀ (m : (ℓ : Loc Cert.KvYRefIdeal.nD Cert.KvYRefIdeal.τ Cert.KvYRefIdeal.sig) → Buf (Elt Ideal) ℓ) (g : Dev Cert.KvYRefIdeal.nD → PrngReg), Pre_KvYRefIdeal m →
    θ_run (Cert.KvYRefIdeal.defs (F := Ideal)) (onTc (τ := Cert.KvYRefIdeal.τ) (Cert.KvYRefIdeal.main (F := Ideal))) ⟨m, fun _ => 0, g⟩ (fun r => (∀ c : Dev Cert.KvYRefIdeal.nD,
      r.2.mem ((c.tc : Thread Cert.KvYRefIdeal.nD Cert.KvYRefIdeal.τ).loc Cert.KvYRefIdeal.main_arg0) = m ((c.tc : Thread Cert.KvYRefIdeal.nD Cert.KvYRefIdeal.τ).loc Cert.KvYRefIdeal.main_arg0)
      ∧ r.2.mem ((c.tc : Thread Cert.KvYRefIdeal.nD Cert.KvYRefIdeal.τ).loc Cert.KvYRefIdeal.main_arg1) = m ((c.tc : Thread Cert.KvYRefIdeal.nD Cert.KvYRefIdeal.τ).loc Cert.KvYRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_KvX [hKvX : Cert.KvX.Facts] : Prop :=
  ∀ (m : (ℓ : Loc Cert.KvX.nD Cert.KvX.τ Cert.KvX.sig) → Buf (Elt Bits) ℓ) (g : Dev Cert.KvX.nD → PrngReg), Pre_KvX m →
    θ_run (Cert.KvX.defs (F := Bits)) (onTc (τ := Cert.KvX.τ) (Cert.KvX.main (F := Bits))) ⟨m, fun _ => 0, g⟩ (fun r => (∀ c : Dev Cert.KvX.nD,
      r.2.mem ((c.tc : Thread Cert.KvX.nD Cert.KvX.τ).loc Cert.KvX.main_arg0) = m ((c.tc : Thread Cert.KvX.nD Cert.KvX.τ).loc Cert.KvX.main_arg0)
      ∧ r.2.mem ((c.tc : Thread Cert.KvX.nD Cert.KvX.τ).loc Cert.KvX.main_arg1) = m ((c.tc : Thread Cert.KvX.nD Cert.KvX.τ).loc Cert.KvX.main_arg1))
      ∧ r.2.sem = fun _ => 0)

def quiescent_KvXIdeal [hKvXIdeal : Cert.KvXIdeal.Facts] : Prop :=
  ∀ (m : (ℓ : Loc Cert.KvXIdeal.nD Cert.KvXIdeal.τ Cert.KvXIdeal.sig) → Buf (Elt Ideal) ℓ) (g : Dev Cert.KvXIdeal.nD → PrngReg), Pre_KvXIdeal m →
    θ_run (Cert.KvXIdeal.defs (F := Ideal)) (onTc (τ := Cert.KvXIdeal.τ) (Cert.KvXIdeal.main (F := Ideal))) ⟨m, fun _ => 0, g⟩ (fun r => (∀ c : Dev Cert.KvXIdeal.nD,
      r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
      ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ r.2.sem = fun _ => 0)

def quiescent_KvXRefIdeal [hKvXRefIdeal : Cert.KvXRefIdeal.Facts] : Prop :=
  ∀ (m : (ℓ : Loc Cert.KvXRefIdeal.nD Cert.KvXRefIdeal.τ Cert.KvXRefIdeal.sig) → Buf (Elt Ideal) ℓ) (g : Dev Cert.KvXRefIdeal.nD → PrngReg), Pre_KvXRefIdeal m →
    θ_run (Cert.KvXRefIdeal.defs (F := Ideal)) (onTc (τ := Cert.KvXRefIdeal.τ) (Cert.KvXRefIdeal.main (F := Ideal))) ⟨m, fun _ => 0, g⟩ (fun r => (∀ c : Dev Cert.KvXRefIdeal.nD,
      r.2.mem ((c.tc : Thread Cert.KvXRefIdeal.nD Cert.KvXRefIdeal.τ).loc Cert.KvXRefIdeal.main_arg0) = m ((c.tc : Thread Cert.KvXRefIdeal.nD Cert.KvXRefIdeal.τ).loc Cert.KvXRefIdeal.main_arg0)
      ∧ r.2.mem ((c.tc : Thread Cert.KvXRefIdeal.nD Cert.KvXRefIdeal.τ).loc Cert.KvXRefIdeal.main_arg1) = m ((c.tc : Thread Cert.KvXRefIdeal.nD Cert.KvXRefIdeal.τ).loc Cert.KvXRefIdeal.main_arg1))
      ∧ r.2.sem = fun _ => 0)

def quiescent_PleY [hPleY : Cert.PleY.Facts] : Prop :=
  ∀ (m : (ℓ : Loc Cert.PleY.nD Cert.PleY.τ Cert.PleY.sig) → Buf (Elt Bits) ℓ) (g : Dev Cert.PleY.nD → PrngReg), Pre_PleY m →
    θ_run (Cert.PleY.defs (F := Bits)) (onTc (τ := Cert.PleY.τ) (Cert.PleY.main (F := Bits))) ⟨m, fun _ => 0, g⟩ (fun r => (∀ c : Dev Cert.PleY.nD,
      r.2.mem ((c.tc : Thread Cert.PleY.nD Cert.PleY.τ).loc Cert.PleY.main_arg0) = m ((c.tc : Thread Cert.PleY.nD Cert.PleY.τ).loc Cert.PleY.main_arg0)
      ∧ r.2.mem ((c.tc : Thread Cert.PleY.nD Cert.PleY.τ).loc Cert.PleY.main_arg1) = m ((c.tc : Thread Cert.PleY.nD Cert.PleY.τ).loc Cert.PleY.main_arg1))
      ∧ r.2.sem = fun _ => 0)

def quiescent_PleYIdeal [hPleYIdeal : Cert.PleYIdeal.Facts] : Prop :=
  ∀ (m : (ℓ : Loc Cert.PleYIdeal.nD Cert.PleYIdeal.τ Cert.PleYIdeal.sig) → Buf (Elt Ideal) ℓ) (g : Dev Cert.PleYIdeal.nD → PrngReg), Pre_PleYIdeal m →
    θ_run (Cert.PleYIdeal.defs (F := Ideal)) (onTc (τ := Cert.PleYIdeal.τ) (Cert.PleYIdeal.main (F := Ideal))) ⟨m, fun _ => 0, g⟩ (fun r => (∀ c : Dev Cert.PleYIdeal.nD,
      r.2.mem ((c.tc : Thread Cert.PleYIdeal.nD Cert.PleYIdeal.τ).loc Cert.PleYIdeal.main_arg0) = m ((c.tc : Thread Cert.PleYIdeal.nD Cert.PleYIdeal.τ).loc Cert.PleYIdeal.main_arg0)
      ∧ r.2.mem ((c.tc : Thread Cert.PleYIdeal.nD Cert.PleYIdeal.τ).loc Cert.PleYIdeal.main_arg1) = m ((c.tc : Thread Cert.PleYIdeal.nD Cert.PleYIdeal.τ).loc Cert.PleYIdeal.main_arg1))
      ∧ r.2.sem = fun _ => 0)

def quiescent_PleYRefIdeal [hPleYRefIdeal : Cert.PleYRefIdeal.Facts] : Prop :=
  ∀ (m : (ℓ : Loc Cert.PleYRefIdeal.nD Cert.PleYRefIdeal.τ Cert.PleYRefIdeal.sig) → Buf (Elt Ideal) ℓ) (g : Dev Cert.PleYRefIdeal.nD → PrngReg), Pre_PleYRefIdeal m →
    θ_run (Cert.PleYRefIdeal.defs (F := Ideal)) (onTc (τ := Cert.PleYRefIdeal.τ) (Cert.PleYRefIdeal.main (F := Ideal))) ⟨m, fun _ => 0, g⟩ (fun r => (∀ c : Dev Cert.PleYRefIdeal.nD,
      r.2.mem ((c.tc : Thread Cert.PleYRefIdeal.nD Cert.PleYRefIdeal.τ).loc Cert.PleYRefIdeal.main_arg0) = m ((c.tc : Thread Cert.PleYRefIdeal.nD Cert.PleYRefIdeal.τ).loc Cert.PleYRefIdeal.main_arg0)
      ∧ r.2.mem ((c.tc : Thread Cert.PleYRefIdeal.nD Cert.PleYRefIdeal.τ).loc Cert.PleYRefIdeal.main_arg1) = m ((c.tc : Thread Cert.PleYRefIdeal.nD Cert.PleYRefIdeal.τ).loc Cert.PleYRefIdeal.main_arg1))
      ∧ r.2.sem = fun _ => 0)

def quiescent_PleW [hPleW : Cert.PleW.Facts] : Prop :=
  ∀ (m : (ℓ : Loc Cert.PleW.nD Cert.PleW.τ Cert.PleW.sig) → Buf (Elt Bits) ℓ) (g : Dev Cert.PleW.nD → PrngReg), Pre_PleW m →
    θ_run (Cert.PleW.defs (F := Bits)) (onTc (τ := Cert.PleW.τ) (Cert.PleW.main (F := Bits))) ⟨m, fun _ => 0, g⟩ (fun r => (∀ c : Dev Cert.PleW.nD,
      r.2.mem ((c.tc : Thread Cert.PleW.nD Cert.PleW.τ).loc Cert.PleW.main_arg0) = m ((c.tc : Thread Cert.PleW.nD Cert.PleW.τ).loc Cert.PleW.main_arg0)
      ∧ r.2.mem ((c.tc : Thread Cert.PleW.nD Cert.PleW.τ).loc Cert.PleW.main_arg1) = m ((c.tc : Thread Cert.PleW.nD Cert.PleW.τ).loc Cert.PleW.main_arg1))
      ∧ r.2.sem = fun _ => 0)

def quiescent_PleWIdeal [hPleWIdeal : Cert.PleWIdeal.Facts] : Prop :=
  ∀ (m : (ℓ : Loc Cert.PleWIdeal.nD Cert.PleWIdeal.τ Cert.PleWIdeal.sig) → Buf (Elt Ideal) ℓ) (g : Dev Cert.PleWIdeal.nD → PrngReg), Pre_PleWIdeal m →
    θ_run (Cert.PleWIdeal.defs (F := Ideal)) (onTc (τ := Cert.PleWIdeal.τ) (Cert.PleWIdeal.main (F := Ideal))) ⟨m, fun _ => 0, g⟩ (fun r => (∀ c : Dev Cert.PleWIdeal.nD,
      r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
      ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ r.2.sem = fun _ => 0)

def quiescent_PleWRefIdeal [hPleWRefIdeal : Cert.PleWRefIdeal.Facts] : Prop :=
  ∀ (m : (ℓ : Loc Cert.PleWRefIdeal.nD Cert.PleWRefIdeal.τ Cert.PleWRefIdeal.sig) → Buf (Elt Ideal) ℓ) (g : Dev Cert.PleWRefIdeal.nD → PrngReg), Pre_PleWRefIdeal m →
    θ_run (Cert.PleWRefIdeal.defs (F := Ideal)) (onTc (τ := Cert.PleWRefIdeal.τ) (Cert.PleWRefIdeal.main (F := Ideal))) ⟨m, fun _ => 0, g⟩ (fun r => (∀ c : Dev Cert.PleWRefIdeal.nD,
      r.2.mem ((c.tc : Thread Cert.PleWRefIdeal.nD Cert.PleWRefIdeal.τ).loc Cert.PleWRefIdeal.main_arg0) = m ((c.tc : Thread Cert.PleWRefIdeal.nD Cert.PleWRefIdeal.τ).loc Cert.PleWRefIdeal.main_arg0)
      ∧ r.2.mem ((c.tc : Thread Cert.PleWRefIdeal.nD Cert.PleWRefIdeal.τ).loc Cert.PleWRefIdeal.main_arg1) = m ((c.tc : Thread Cert.PleWRefIdeal.nD Cert.PleWRefIdeal.τ).loc Cert.PleWRefIdeal.main_arg1))
      ∧ r.2.sem = fun _ => 0)

def quiescent_QY [hQY : Cert.QY.Facts] : Prop :=
  ∀ (m : (ℓ : Loc Cert.QY.nD Cert.QY.τ Cert.QY.sig) → Buf (Elt Bits) ℓ) (g : Dev Cert.QY.nD → PrngReg), Pre_QY m →
    θ_run (Cert.QY.defs (F := Bits)) (onTc (τ := Cert.QY.τ) (Cert.QY.main (F := Bits))) ⟨m, fun _ => 0, g⟩ (fun r => (∀ c : Dev Cert.QY.nD,
      r.2.mem ((c.tc : Thread Cert.QY.nD Cert.QY.τ).loc Cert.QY.main_arg0) = m ((c.tc : Thread Cert.QY.nD Cert.QY.τ).loc Cert.QY.main_arg0)
      ∧ r.2.mem ((c.tc : Thread Cert.QY.nD Cert.QY.τ).loc Cert.QY.main_arg1) = m ((c.tc : Thread Cert.QY.nD Cert.QY.τ).loc Cert.QY.main_arg1))
      ∧ r.2.sem = fun _ => 0)

def quiescent_QYIdeal [hQYIdeal : Cert.QYIdeal.Facts] : Prop :=
  ∀ (m : (ℓ : Loc Cert.QYIdeal.nD Cert.QYIdeal.τ Cert.QYIdeal.sig) → Buf (Elt Ideal) ℓ) (g : Dev Cert.QYIdeal.nD → PrngReg), Pre_QYIdeal m →
    θ_run (Cert.QYIdeal.defs (F := Ideal)) (onTc (τ := Cert.QYIdeal.τ) (Cert.QYIdeal.main (F := Ideal))) ⟨m, fun _ => 0, g⟩ (fun r => (∀ c : Dev Cert.QYIdeal.nD,
      r.2.mem ((c.tc : Thread Cert.QYIdeal.nD Cert.QYIdeal.τ).loc Cert.QYIdeal.main_arg0) = m ((c.tc : Thread Cert.QYIdeal.nD Cert.QYIdeal.τ).loc Cert.QYIdeal.main_arg0)
      ∧ r.2.mem ((c.tc : Thread Cert.QYIdeal.nD Cert.QYIdeal.τ).loc Cert.QYIdeal.main_arg1) = m ((c.tc : Thread Cert.QYIdeal.nD Cert.QYIdeal.τ).loc Cert.QYIdeal.main_arg1))
      ∧ r.2.sem = fun _ => 0)

def quiescent_QYRefIdeal [hQYRefIdeal : Cert.QYRefIdeal.Facts] : Prop :=
  ∀ (m : (ℓ : Loc Cert.QYRefIdeal.nD Cert.QYRefIdeal.τ Cert.QYRefIdeal.sig) → Buf (Elt Ideal) ℓ) (g : Dev Cert.QYRefIdeal.nD → PrngReg), Pre_QYRefIdeal m →
    θ_run (Cert.QYRefIdeal.defs (F := Ideal)) (onTc (τ := Cert.QYRefIdeal.τ) (Cert.QYRefIdeal.main (F := Ideal))) ⟨m, fun _ => 0, g⟩ (fun r => (∀ c : Dev Cert.QYRefIdeal.nD,
      r.2.mem ((c.tc : Thread Cert.QYRefIdeal.nD Cert.QYRefIdeal.τ).loc Cert.QYRefIdeal.main_arg0) = m ((c.tc : Thread Cert.QYRefIdeal.nD Cert.QYRefIdeal.τ).loc Cert.QYRefIdeal.main_arg0)
      ∧ r.2.mem ((c.tc : Thread Cert.QYRefIdeal.nD Cert.QYRefIdeal.τ).loc Cert.QYRefIdeal.main_arg1) = m ((c.tc : Thread Cert.QYRefIdeal.nD Cert.QYRefIdeal.τ).loc Cert.QYRefIdeal.main_arg1))
      ∧ r.2.sem = fun _ => 0)

def quiescent_QW [hQW : Cert.QW.Facts] : Prop :=
  ∀ (m : (ℓ : Loc Cert.QW.nD Cert.QW.τ Cert.QW.sig) → Buf (Elt Bits) ℓ) (g : Dev Cert.QW.nD → PrngReg), Pre_QW m →
    θ_run (Cert.QW.defs (F := Bits)) (onTc (τ := Cert.QW.τ) (Cert.QW.main (F := Bits))) ⟨m, fun _ => 0, g⟩ (fun r => (∀ c : Dev Cert.QW.nD,
      r.2.mem ((c.tc : Thread Cert.QW.nD Cert.QW.τ).loc Cert.QW.main_arg0) = m ((c.tc : Thread Cert.QW.nD Cert.QW.τ).loc Cert.QW.main_arg0)
      ∧ r.2.mem ((c.tc : Thread Cert.QW.nD Cert.QW.τ).loc Cert.QW.main_arg1) = m ((c.tc : Thread Cert.QW.nD Cert.QW.τ).loc Cert.QW.main_arg1))
      ∧ r.2.sem = fun _ => 0)

def quiescent_QWIdeal [hQWIdeal : Cert.QWIdeal.Facts] : Prop :=
  ∀ (m : (ℓ : Loc Cert.QWIdeal.nD Cert.QWIdeal.τ Cert.QWIdeal.sig) → Buf (Elt Ideal) ℓ) (g : Dev Cert.QWIdeal.nD → PrngReg), Pre_QWIdeal m →
    θ_run (Cert.QWIdeal.defs (F := Ideal)) (onTc (τ := Cert.QWIdeal.τ) (Cert.QWIdeal.main (F := Ideal))) ⟨m, fun _ => 0, g⟩ (fun r => (∀ c : Dev Cert.QWIdeal.nD,
      r.2.mem ((c.tc : Thread Cert.QWIdeal.nD Cert.QWIdeal.τ).loc Cert.QWIdeal.main_arg0) = m ((c.tc : Thread Cert.QWIdeal.nD Cert.QWIdeal.τ).loc Cert.QWIdeal.main_arg0)
      ∧ r.2.mem ((c.tc : Thread Cert.QWIdeal.nD Cert.QWIdeal.τ).loc Cert.QWIdeal.main_arg1) = m ((c.tc : Thread Cert.QWIdeal.nD Cert.QWIdeal.τ).loc Cert.QWIdeal.main_arg1))
      ∧ r.2.sem = fun _ => 0)

def quiescent_QWRefIdeal [hQWRefIdeal : Cert.QWRefIdeal.Facts] : Prop :=
  ∀ (m : (ℓ : Loc Cert.QWRefIdeal.nD Cert.QWRefIdeal.τ Cert.QWRefIdeal.sig) → Buf (Elt Ideal) ℓ) (g : Dev Cert.QWRefIdeal.nD → PrngReg), Pre_QWRefIdeal m →
    θ_run (Cert.QWRefIdeal.defs (F := Ideal)) (onTc (τ := Cert.QWRefIdeal.τ) (Cert.QWRefIdeal.main (F := Ideal))) ⟨m, fun _ => 0, g⟩ (fun r => (∀ c : Dev Cert.QWRefIdeal.nD,
      r.2.mem ((c.tc : Thread Cert.QWRefIdeal.nD Cert.QWRefIdeal.τ).loc Cert.QWRefIdeal.main_arg0) = m ((c.tc : Thread Cert.QWRefIdeal.nD Cert.QWRefIdeal.τ).loc Cert.QWRefIdeal.main_arg0)
      ∧ r.2.mem ((c.tc : Thread Cert.QWRefIdeal.nD Cert.QWRefIdeal.τ).loc Cert.QWRefIdeal.main_arg1) = m ((c.tc : Thread Cert.QWRefIdeal.nD Cert.QWRefIdeal.τ).loc Cert.QWRefIdeal.main_arg1))
      ∧ r.2.sem = fun _ => 0)

def quiescent_QX [hQX : Cert.QX.Facts] : Prop :=
  ∀ (m : (ℓ : Loc Cert.QX.nD Cert.QX.τ Cert.QX.sig) → Buf (Elt Bits) ℓ) (g : Dev Cert.QX.nD → PrngReg), Pre_QX m →
    θ_run (Cert.QX.defs (F := Bits)) (onTc (τ := Cert.QX.τ) (Cert.QX.main (F := Bits))) ⟨m, fun _ => 0, g⟩ (fun r => (∀ c : Dev Cert.QX.nD,
      r.2.mem ((c.tc : Thread Cert.QX.nD Cert.QX.τ).loc Cert.QX.main_arg0) = m ((c.tc : Thread Cert.QX.nD Cert.QX.τ).loc Cert.QX.main_arg0)
      ∧ r.2.mem ((c.tc : Thread Cert.QX.nD Cert.QX.τ).loc Cert.QX.main_arg1) = m ((c.tc : Thread Cert.QX.nD Cert.QX.τ).loc Cert.QX.main_arg1))
      ∧ r.2.sem = fun _ => 0)

def quiescent_QXIdeal [hQXIdeal : Cert.QXIdeal.Facts] : Prop :=
  ∀ (m : (ℓ : Loc Cert.QXIdeal.nD Cert.QXIdeal.τ Cert.QXIdeal.sig) → Buf (Elt Ideal) ℓ) (g : Dev Cert.QXIdeal.nD → PrngReg), Pre_QXIdeal m →
    θ_run (Cert.QXIdeal.defs (F := Ideal)) (onTc (τ := Cert.QXIdeal.τ) (Cert.QXIdeal.main (F := Ideal))) ⟨m, fun _ => 0, g⟩ (fun r => (∀ c : Dev Cert.QXIdeal.nD,
      r.2.mem ((c.tc : Thread Cert.QXIdeal.nD Cert.QXIdeal.τ).loc Cert.QXIdeal.main_arg0) = m ((c.tc : Thread Cert.QXIdeal.nD Cert.QXIdeal.τ).loc Cert.QXIdeal.main_arg0)
      ∧ r.2.mem ((c.tc : Thread Cert.QXIdeal.nD Cert.QXIdeal.τ).loc Cert.QXIdeal.main_arg1) = m ((c.tc : Thread Cert.QXIdeal.nD Cert.QXIdeal.τ).loc Cert.QXIdeal.main_arg1))
      ∧ r.2.sem = fun _ => 0)

def quiescent_QXRefIdeal [hQXRefIdeal : Cert.QXRefIdeal.Facts] : Prop :=
  ∀ (m : (ℓ : Loc Cert.QXRefIdeal.nD Cert.QXRefIdeal.τ Cert.QXRefIdeal.sig) → Buf (Elt Ideal) ℓ) (g : Dev Cert.QXRefIdeal.nD → PrngReg), Pre_QXRefIdeal m →
    θ_run (Cert.QXRefIdeal.defs (F := Ideal)) (onTc (τ := Cert.QXRefIdeal.τ) (Cert.QXRefIdeal.main (F := Ideal))) ⟨m, fun _ => 0, g⟩ (fun r => (∀ c : Dev Cert.QXRefIdeal.nD,
      r.2.mem ((c.tc : Thread Cert.QXRefIdeal.nD Cert.QXRefIdeal.τ).loc Cert.QXRefIdeal.main_arg0) = m ((c.tc : Thread Cert.QXRefIdeal.nD Cert.QXRefIdeal.τ).loc Cert.QXRefIdeal.main_arg0)
      ∧ r.2.mem ((c.tc : Thread Cert.QXRefIdeal.nD Cert.QXRefIdeal.τ).loc Cert.QXRefIdeal.main_arg1) = m ((c.tc : Thread Cert.QXRefIdeal.nD Cert.QXRefIdeal.τ).loc Cert.QXRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v2)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v2) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v2) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v5)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v5) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v8) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v6)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v6) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v4) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1))

def preserves_UpY_UpYIdeal : Prop :=
  True

def algebraic_UpYIdeal_UpYRefIdeal [hUpYIdeal : Cert.UpYIdeal.Facts] [hUpYRefIdeal : Cert.UpYRefIdeal.Facts] : Prop :=
  ∀ (m : (ℓ : Loc Cert.UpYIdeal.nD Cert.UpYIdeal.τ Cert.UpYIdeal.sig) → Buf (Elt Ideal) ℓ) (g : Dev Cert.UpYIdeal.nD → PrngReg)
    (m' : (ℓ : Loc Cert.UpYRefIdeal.nD Cert.UpYRefIdeal.τ Cert.UpYRefIdeal.sig) → Buf (Elt Ideal) ℓ) (g' : Dev Cert.UpYRefIdeal.nD → PrngReg), Pre_UpYIdeal m →
    (∀ c : Dev Cert.UpYIdeal.nD,
      m' ((c.tc : Thread Cert.UpYRefIdeal.nD Cert.UpYRefIdeal.τ).loc Cert.UpYRefIdeal.main_arg0) = m ((c.tc : Thread Cert.UpYIdeal.nD Cert.UpYIdeal.τ).loc Cert.UpYIdeal.main_arg0)
      ∧ m' ((c.tc : Thread Cert.UpYRefIdeal.nD Cert.UpYRefIdeal.τ).loc Cert.UpYRefIdeal.main_arg1) = m ((c.tc : Thread Cert.UpYIdeal.nD Cert.UpYIdeal.τ).loc Cert.UpYIdeal.main_arg1)) →
    ∃ (v0 : (c : Dev Cert.UpYIdeal.nD) → Buf (Elt Ideal) ((c.tc : Thread Cert.UpYIdeal.nD Cert.UpYIdeal.τ).loc Cert.UpYIdeal.main_v5)),
      θ_run (Cert.UpYIdeal.defs (F := Ideal)) (onTc (τ := Cert.UpYIdeal.τ) (Cert.UpYIdeal.main (F := Ideal))) ⟨m, fun _ => 0, g⟩ (fun r => ∀ c : Dev Cert.UpYIdeal.nD,
          r.2.mem ((c.tc : Thread Cert.UpYIdeal.nD Cert.UpYIdeal.τ).loc Cert.UpYIdeal.main_v5) = v0 c
          ∧ r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
          ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ θ_run (Cert.UpYRefIdeal.defs (F := Ideal)) (onTc (τ := Cert.UpYRefIdeal.τ) (Cert.UpYRefIdeal.main (F := Ideal))) ⟨m', fun _ => 0, g'⟩ (fun r => ∀ c : Dev Cert.UpYRefIdeal.nD,
          r.2.mem ((c.tc : Thread Cert.UpYRefIdeal.nD Cert.UpYRefIdeal.τ).loc Cert.UpYRefIdeal.main_v2) = v0 c
          ∧ r.2.mem ((c.tc : Thread Cert.UpYRefIdeal.nD Cert.UpYRefIdeal.τ).loc Cert.UpYRefIdeal.main_arg0) = m' ((c.tc : Thread Cert.UpYRefIdeal.nD Cert.UpYRefIdeal.τ).loc Cert.UpYRefIdeal.main_arg0)
          ∧ r.2.mem ((c.tc : Thread Cert.UpYRefIdeal.nD Cert.UpYRefIdeal.τ).loc Cert.UpYRefIdeal.main_arg1) = m' ((c.tc : Thread Cert.UpYRefIdeal.nD Cert.UpYRefIdeal.τ).loc Cert.UpYRefIdeal.main_arg1))

def preserves_DownY_DownYIdeal : Prop :=
  True

def algebraic_DownYIdeal_DownYRefIdeal [hDownYIdeal : Cert.DownYIdeal.Facts] [hDownYRefIdeal : Cert.DownYRefIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.DownYRefIdeal.nD Cert.DownYRefIdeal.τ Cert.DownYRefIdeal.sig) → Buf (Elt Ideal) ℓ) (g' : Dev Cert.DownYRefIdeal.nD → PrngReg), Pre_DownYIdeal m →
    (∀ c : Dev Cert.DownYIdeal.nD,
      m' ((c.tc : Thread Cert.DownYRefIdeal.nD Cert.DownYRefIdeal.τ).loc Cert.DownYRefIdeal.main_arg0) = m ((c.tc : Thread Cert.DownYIdeal.nD Cert.DownYIdeal.τ).loc Cert.DownYIdeal.main_arg0)
      ∧ m' ((c.tc : Thread Cert.DownYRefIdeal.nD Cert.DownYRefIdeal.τ).loc Cert.DownYRefIdeal.main_arg1) = m ((c.tc : Thread Cert.DownYIdeal.nD Cert.DownYIdeal.τ).loc Cert.DownYIdeal.main_arg1)
      ∧ m' ((c.tc : Thread Cert.DownYRefIdeal.nD Cert.DownYRefIdeal.τ).loc Cert.DownYRefIdeal.main_arg2) = m ((c.tc : Thread Cert.DownYIdeal.nD Cert.DownYIdeal.τ).loc Cert.DownYIdeal.main_arg2)) →
    ∃ (v0 : (c : Dev Cert.DownYIdeal.nD) → Buf (Elt Ideal) ((c.tc : Thread Cert.DownYIdeal.nD Cert.DownYIdeal.τ).loc Cert.DownYIdeal.main_v2)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v2) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1)
          ∧ r.2.mem ((c.tc : Thread Cert.DownYIdeal.nD Cert.DownYIdeal.τ).loc Cert.DownYIdeal.main_arg2) = m ((c.tc : Thread Cert.DownYIdeal.nD Cert.DownYIdeal.τ).loc Cert.DownYIdeal.main_arg2))
      ∧ θ_run (Cert.DownYRefIdeal.defs (F := Ideal)) (onTc (τ := Cert.DownYRefIdeal.τ) (Cert.DownYRefIdeal.main (F := Ideal))) ⟨m', fun _ => 0, g'⟩ (fun r => ∀ c : Dev Cert.DownYRefIdeal.nD,
          r.2.mem ((c.tc : Thread Cert.DownYRefIdeal.nD Cert.DownYRefIdeal.τ).loc Cert.DownYRefIdeal.main_v1) = v0 c
          ∧ r.2.mem ((c.tc : Thread Cert.DownYRefIdeal.nD Cert.DownYRefIdeal.τ).loc Cert.DownYRefIdeal.main_arg0) = m' ((c.tc : Thread Cert.DownYRefIdeal.nD Cert.DownYRefIdeal.τ).loc Cert.DownYRefIdeal.main_arg0)
          ∧ r.2.mem ((c.tc : Thread Cert.DownYRefIdeal.nD Cert.DownYRefIdeal.τ).loc Cert.DownYRefIdeal.main_arg1) = m' ((c.tc : Thread Cert.DownYRefIdeal.nD Cert.DownYRefIdeal.τ).loc Cert.DownYRefIdeal.main_arg1)
          ∧ r.2.mem ((c.tc : Thread Cert.DownYRefIdeal.nD Cert.DownYRefIdeal.τ).loc Cert.DownYRefIdeal.main_arg2) = m' ((c.tc : Thread Cert.DownYRefIdeal.nD Cert.DownYRefIdeal.τ).loc Cert.DownYRefIdeal.main_arg2))

def preserves_GateY_GateYIdeal : Prop :=
  True

def algebraic_GateYIdeal_GateYRefIdeal [hGateYIdeal : Cert.GateYIdeal.Facts] [hGateYRefIdeal : Cert.GateYRefIdeal.Facts] : Prop :=
  ∀ (m : (ℓ : Loc Cert.GateYIdeal.nD Cert.GateYIdeal.τ Cert.GateYIdeal.sig) → Buf (Elt Ideal) ℓ) (g : Dev Cert.GateYIdeal.nD → PrngReg)
    (m' : (ℓ : Loc Cert.GateYRefIdeal.nD Cert.GateYRefIdeal.τ Cert.GateYRefIdeal.sig) → Buf (Elt Ideal) ℓ) (g' : Dev Cert.GateYRefIdeal.nD → PrngReg), Pre_GateYIdeal m →
    (∀ c : Dev Cert.GateYIdeal.nD,
      m' ((c.tc : Thread Cert.GateYRefIdeal.nD Cert.GateYRefIdeal.τ).loc Cert.GateYRefIdeal.main_arg0) = m ((c.tc : Thread Cert.GateYIdeal.nD Cert.GateYIdeal.τ).loc Cert.GateYIdeal.main_arg0)
      ∧ m' ((c.tc : Thread Cert.GateYRefIdeal.nD Cert.GateYRefIdeal.τ).loc Cert.GateYRefIdeal.main_arg1) = m ((c.tc : Thread Cert.GateYIdeal.nD Cert.GateYIdeal.τ).loc Cert.GateYIdeal.main_arg1)
      ∧ m' ((c.tc : Thread Cert.GateYRefIdeal.nD Cert.GateYRefIdeal.τ).loc Cert.GateYRefIdeal.main_arg2) = m ((c.tc : Thread Cert.GateYIdeal.nD Cert.GateYIdeal.τ).loc Cert.GateYIdeal.main_arg2)) →
    ∃ (v0 : (c : Dev Cert.GateYIdeal.nD) → Buf (Elt Ideal) ((c.tc : Thread Cert.GateYIdeal.nD Cert.GateYIdeal.τ).loc Cert.GateYIdeal.main_v2)),
      θ_run (Cert.GateYIdeal.defs (F := Ideal)) (onTc (τ := Cert.GateYIdeal.τ) (Cert.GateYIdeal.main (F := Ideal))) ⟨m, fun _ => 0, g⟩ (fun r => ∀ c : Dev Cert.GateYIdeal.nD,
          r.2.mem ((c.tc : Thread Cert.GateYIdeal.nD Cert.GateYIdeal.τ).loc Cert.GateYIdeal.main_v2) = v0 c
          ∧ r.2.mem ((c.tc : Thread Cert.GateYIdeal.nD Cert.GateYIdeal.τ).loc Cert.GateYIdeal.main_arg0) = m ((c.tc : Thread Cert.GateYIdeal.nD Cert.GateYIdeal.τ).loc Cert.GateYIdeal.main_arg0)
          ∧ r.2.mem ((c.tc : Thread Cert.GateYIdeal.nD Cert.GateYIdeal.τ).loc Cert.GateYIdeal.main_arg1) = m ((c.tc : Thread Cert.GateYIdeal.nD Cert.GateYIdeal.τ).loc Cert.GateYIdeal.main_arg1)
          ∧ r.2.mem ((c.tc : Thread Cert.GateYIdeal.nD Cert.GateYIdeal.τ).loc Cert.GateYIdeal.main_arg2) = m ((c.tc : Thread Cert.GateYIdeal.nD Cert.GateYIdeal.τ).loc Cert.GateYIdeal.main_arg2))
      ∧ θ_run (Cert.GateYRefIdeal.defs (F := Ideal)) (onTc (τ := Cert.GateYRefIdeal.τ) (Cert.GateYRefIdeal.main (F := Ideal))) ⟨m', fun _ => 0, g'⟩ (fun r => ∀ c : Dev Cert.GateYRefIdeal.nD,
          r.2.mem ((c.tc : Thread Cert.GateYRefIdeal.nD Cert.GateYRefIdeal.τ).loc Cert.GateYRefIdeal.main_v4) = v0 c
          ∧ r.2.mem ((c.tc : Thread Cert.GateYRefIdeal.nD Cert.GateYRefIdeal.τ).loc Cert.GateYRefIdeal.main_arg0) = m' ((c.tc : Thread Cert.GateYRefIdeal.nD Cert.GateYRefIdeal.τ).loc Cert.GateYRefIdeal.main_arg0)
          ∧ r.2.mem ((c.tc : Thread Cert.GateYRefIdeal.nD Cert.GateYRefIdeal.τ).loc Cert.GateYRefIdeal.main_arg1) = m' ((c.tc : Thread Cert.GateYRefIdeal.nD Cert.GateYRefIdeal.τ).loc Cert.GateYRefIdeal.main_arg1)
          ∧ r.2.mem ((c.tc : Thread Cert.GateYRefIdeal.nD Cert.GateYRefIdeal.τ).loc Cert.GateYRefIdeal.main_arg2) = m' ((c.tc : Thread Cert.GateYRefIdeal.nD Cert.GateYRefIdeal.τ).loc Cert.GateYRefIdeal.main_arg2))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v2)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v2) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v4) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_GateX_GateXIdeal : Prop :=
  True

def algebraic_GateXIdeal_GateXRefIdeal [hGateXIdeal : Cert.GateXIdeal.Facts] [hGateXRefIdeal : Cert.GateXRefIdeal.Facts] : Prop :=
  ∀ (m : (ℓ : Loc Cert.GateXIdeal.nD Cert.GateXIdeal.τ Cert.GateXIdeal.sig) → Buf (Elt Ideal) ℓ) (g : Dev Cert.GateXIdeal.nD → PrngReg)
    (m' : (ℓ : Loc Cert.GateXRefIdeal.nD Cert.GateXRefIdeal.τ Cert.GateXRefIdeal.sig) → Buf (Elt Ideal) ℓ) (g' : Dev Cert.GateXRefIdeal.nD → PrngReg), Pre_GateXIdeal m →
    (∀ c : Dev Cert.GateXIdeal.nD,
      m' ((c.tc : Thread Cert.GateXRefIdeal.nD Cert.GateXRefIdeal.τ).loc Cert.GateXRefIdeal.main_arg0) = m ((c.tc : Thread Cert.GateXIdeal.nD Cert.GateXIdeal.τ).loc Cert.GateXIdeal.main_arg0)
      ∧ m' ((c.tc : Thread Cert.GateXRefIdeal.nD Cert.GateXRefIdeal.τ).loc Cert.GateXRefIdeal.main_arg1) = m ((c.tc : Thread Cert.GateXIdeal.nD Cert.GateXIdeal.τ).loc Cert.GateXIdeal.main_arg1)) →
    ∃ (v0 : (c : Dev Cert.GateXIdeal.nD) → Buf (Elt Ideal) ((c.tc : Thread Cert.GateXIdeal.nD Cert.GateXIdeal.τ).loc Cert.GateXIdeal.main_v2)),
      θ_run (Cert.GateXIdeal.defs (F := Ideal)) (onTc (τ := Cert.GateXIdeal.τ) (Cert.GateXIdeal.main (F := Ideal))) ⟨m, fun _ => 0, g⟩ (fun r => ∀ c : Dev Cert.GateXIdeal.nD,
          r.2.mem ((c.tc : Thread Cert.GateXIdeal.nD Cert.GateXIdeal.τ).loc Cert.GateXIdeal.main_v2) = v0 c
          ∧ r.2.mem ((c.tc : Thread Cert.GateXIdeal.nD Cert.GateXIdeal.τ).loc Cert.GateXIdeal.main_arg0) = m ((c.tc : Thread Cert.GateXIdeal.nD Cert.GateXIdeal.τ).loc Cert.GateXIdeal.main_arg0)
          ∧ r.2.mem ((c.tc : Thread Cert.GateXIdeal.nD Cert.GateXIdeal.τ).loc Cert.GateXIdeal.main_arg1) = m ((c.tc : Thread Cert.GateXIdeal.nD Cert.GateXIdeal.τ).loc Cert.GateXIdeal.main_arg1))
      ∧ θ_run (Cert.GateXRefIdeal.defs (F := Ideal)) (onTc (τ := Cert.GateXRefIdeal.τ) (Cert.GateXRefIdeal.main (F := Ideal))) ⟨m', fun _ => 0, g'⟩ (fun r => ∀ c : Dev Cert.GateXRefIdeal.nD,
          r.2.mem ((c.tc : Thread Cert.GateXRefIdeal.nD Cert.GateXRefIdeal.τ).loc Cert.GateXRefIdeal.main_v2) = v0 c
          ∧ r.2.mem ((c.tc : Thread Cert.GateXRefIdeal.nD Cert.GateXRefIdeal.τ).loc Cert.GateXRefIdeal.main_arg0) = m' ((c.tc : Thread Cert.GateXRefIdeal.nD Cert.GateXRefIdeal.τ).loc Cert.GateXRefIdeal.main_arg0)
          ∧ r.2.mem ((c.tc : Thread Cert.GateXRefIdeal.nD Cert.GateXRefIdeal.τ).loc Cert.GateXRefIdeal.main_arg1) = m' ((c.tc : Thread Cert.GateXRefIdeal.nD Cert.GateXRefIdeal.τ).loc Cert.GateXRefIdeal.main_arg1))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)) →
    ∃ (v0 : (c : Dev Cert.OutSIdeal.nD) → Buf (Elt Ideal) ((c.tc : Thread Cert.OutSIdeal.nD Cert.OutSIdeal.τ).loc Cert.OutSIdeal.main_v2)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v2) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v2) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2))

def preserves_OutM_OutMIdeal : Prop :=
  True

def algebraic_OutMIdeal_OutMRefIdeal [hOutMIdeal : Cert.OutMIdeal.Facts] [hOutMRefIdeal : Cert.OutMRefIdeal.Facts] : Prop :=
  ∀ (m : (ℓ : Loc Cert.OutMIdeal.nD Cert.OutMIdeal.τ Cert.OutMIdeal.sig) → Buf (Elt Ideal) ℓ) (g : Dev Cert.OutMIdeal.nD → PrngReg)
    (m' : (ℓ : Loc Cert.OutMRefIdeal.nD Cert.OutMRefIdeal.τ Cert.OutMRefIdeal.sig) → Buf (Elt Ideal) ℓ) (g' : Dev Cert.OutMRefIdeal.nD → PrngReg), Pre_OutMIdeal m →
    (∀ c : Dev Cert.OutMIdeal.nD,
      m' ((c.tc : Thread Cert.OutMRefIdeal.nD Cert.OutMRefIdeal.τ).loc Cert.OutMRefIdeal.main_arg0) = m ((c.tc : Thread Cert.OutMIdeal.nD Cert.OutMIdeal.τ).loc Cert.OutMIdeal.main_arg0)
      ∧ m' ((c.tc : Thread Cert.OutMRefIdeal.nD Cert.OutMRefIdeal.τ).loc Cert.OutMRefIdeal.main_arg1) = m ((c.tc : Thread Cert.OutMIdeal.nD Cert.OutMIdeal.τ).loc Cert.OutMIdeal.main_arg1)
      ∧ m' ((c.tc : Thread Cert.OutMRefIdeal.nD Cert.OutMRefIdeal.τ).loc Cert.OutMRefIdeal.main_arg2) = m ((c.tc : Thread Cert.OutMIdeal.nD Cert.OutMIdeal.τ).loc Cert.OutMIdeal.main_arg2)) →
    ∃ (v0 : (c : Dev Cert.OutMIdeal.nD) → Buf (Elt Ideal) ((c.tc : Thread Cert.OutMIdeal.nD Cert.OutMIdeal.τ).loc Cert.OutMIdeal.main_v2)),
      θ_run (Cert.OutMIdeal.defs (F := Ideal)) (onTc (τ := Cert.OutMIdeal.τ) (Cert.OutMIdeal.main (F := Ideal))) ⟨m, fun _ => 0, g⟩ (fun r => ∀ c : Dev Cert.OutMIdeal.nD,
          r.2.mem ((c.tc : Thread Cert.OutMIdeal.nD Cert.OutMIdeal.τ).loc Cert.OutMIdeal.main_v2) = v0 c
          ∧ r.2.mem ((c.tc : Thread Cert.OutMIdeal.nD Cert.OutMIdeal.τ).loc Cert.OutMIdeal.main_arg0) = m ((c.tc : Thread Cert.OutMIdeal.nD Cert.OutMIdeal.τ).loc Cert.OutMIdeal.main_arg0)
          ∧ r.2.mem ((c.tc : Thread Cert.OutMIdeal.nD Cert.OutMIdeal.τ).loc Cert.OutMIdeal.main_arg1) = m ((c.tc : Thread Cert.OutMIdeal.nD Cert.OutMIdeal.τ).loc Cert.OutMIdeal.main_arg1)
          ∧ r.2.mem ((c.tc : Thread Cert.OutMIdeal.nD Cert.OutMIdeal.τ).loc Cert.OutMIdeal.main_arg2) = m ((c.tc : Thread Cert.OutMIdeal.nD Cert.OutMIdeal.τ).loc Cert.OutMIdeal.main_arg2))
      ∧ θ_run (Cert.OutMRefIdeal.defs (F := Ideal)) (onTc (τ := Cert.OutMRefIdeal.τ) (Cert.OutMRefIdeal.main (F := Ideal))) ⟨m', fun _ => 0, g'⟩ (fun r => ∀ c : Dev Cert.OutMRefIdeal.nD,
          r.2.mem ((c.tc : Thread Cert.OutMRefIdeal.nD Cert.OutMRefIdeal.τ).loc Cert.OutMRefIdeal.main_v2) = v0 c
          ∧ r.2.mem ((c.tc : Thread Cert.OutMRefIdeal.nD Cert.OutMRefIdeal.τ).loc Cert.OutMRefIdeal.main_arg0) = m' ((c.tc : Thread Cert.OutMRefIdeal.nD Cert.OutMRefIdeal.τ).loc Cert.OutMRefIdeal.main_arg0)
          ∧ r.2.mem ((c.tc : Thread Cert.OutMRefIdeal.nD Cert.OutMRefIdeal.τ).loc Cert.OutMRefIdeal.main_arg1) = m' ((c.tc : Thread Cert.OutMRefIdeal.nD Cert.OutMRefIdeal.τ).loc Cert.OutMRefIdeal.main_arg1)
          ∧ r.2.mem ((c.tc : Thread Cert.OutMRefIdeal.nD Cert.OutMRefIdeal.τ).loc Cert.OutMRefIdeal.main_arg2) = m' ((c.tc : Thread Cert.OutMRefIdeal.nD Cert.OutMRefIdeal.τ).loc Cert.OutMRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_MixX_MixXIdeal : Prop :=
  True

def algebraic_MixXIdeal_MixXRefIdeal [hMixXIdeal : Cert.MixXIdeal.Facts] [hMixXRefIdeal : Cert.MixXRefIdeal.Facts] : Prop :=
  ∀ (m : (ℓ : Loc Cert.MixXIdeal.nD Cert.MixXIdeal.τ Cert.MixXIdeal.sig) → Buf (Elt Ideal) ℓ) (g : Dev Cert.MixXIdeal.nD → PrngReg)
    (m' : (ℓ : Loc Cert.MixXRefIdeal.nD Cert.MixXRefIdeal.τ Cert.MixXRefIdeal.sig) → Buf (Elt Ideal) ℓ) (g' : Dev Cert.MixXRefIdeal.nD → PrngReg), Pre_MixXIdeal m →
    (∀ c : Dev Cert.MixXIdeal.nD,
      m' ((c.tc : Thread Cert.MixXRefIdeal.nD Cert.MixXRefIdeal.τ).loc Cert.MixXRefIdeal.main_arg0) = m ((c.tc : Thread Cert.MixXIdeal.nD Cert.MixXIdeal.τ).loc Cert.MixXIdeal.main_arg0)
      ∧ m' ((c.tc : Thread Cert.MixXRefIdeal.nD Cert.MixXRefIdeal.τ).loc Cert.MixXRefIdeal.main_arg1) = m ((c.tc : Thread Cert.MixXIdeal.nD Cert.MixXIdeal.τ).loc Cert.MixXIdeal.main_arg1)) →
    ∃ (v0 : (c : Dev Cert.MixXIdeal.nD) → Buf (Elt Ideal) ((c.tc : Thread Cert.MixXIdeal.nD Cert.MixXIdeal.τ).loc Cert.MixXIdeal.main_v2)),
      θ_run (Cert.MixXIdeal.defs (F := Ideal)) (onTc (τ := Cert.MixXIdeal.τ) (Cert.MixXIdeal.main (F := Ideal))) ⟨m, fun _ => 0, g⟩ (fun r => ∀ c : Dev Cert.MixXIdeal.nD,
          r.2.mem ((c.tc : Thread Cert.MixXIdeal.nD Cert.MixXIdeal.τ).loc Cert.MixXIdeal.main_v2) = v0 c
          ∧ r.2.mem ((c.tc : Thread Cert.MixXIdeal.nD Cert.MixXIdeal.τ).loc Cert.MixXIdeal.main_arg0) = m ((c.tc : Thread Cert.MixXIdeal.nD Cert.MixXIdeal.τ).loc Cert.MixXIdeal.main_arg0)
          ∧ r.2.mem ((c.tc : Thread Cert.MixXIdeal.nD Cert.MixXIdeal.τ).loc Cert.MixXIdeal.main_arg1) = m ((c.tc : Thread Cert.MixXIdeal.nD Cert.MixXIdeal.τ).loc Cert.MixXIdeal.main_arg1))
      ∧ θ_run (Cert.MixXRefIdeal.defs (F := Ideal)) (onTc (τ := Cert.MixXRefIdeal.τ) (Cert.MixXRefIdeal.main (F := Ideal))) ⟨m', fun _ => 0, g'⟩ (fun r => ∀ c : Dev Cert.MixXRefIdeal.nD,
          r.2.mem ((c.tc : Thread Cert.MixXRefIdeal.nD Cert.MixXRefIdeal.τ).loc Cert.MixXRefIdeal.main_v2) = v0 c
          ∧ r.2.mem ((c.tc : Thread Cert.MixXRefIdeal.nD Cert.MixXRefIdeal.τ).loc Cert.MixXRefIdeal.main_arg0) = m' ((c.tc : Thread Cert.MixXRefIdeal.nD Cert.MixXRefIdeal.τ).loc Cert.MixXRefIdeal.main_arg0)
          ∧ r.2.mem ((c.tc : Thread Cert.MixXRefIdeal.nD Cert.MixXRefIdeal.τ).loc Cert.MixXRefIdeal.main_arg1) = m' ((c.tc : Thread Cert.MixXRefIdeal.nD Cert.MixXRefIdeal.τ).loc Cert.MixXRefIdeal.main_arg1))

def preserves_OutV_OutVIdeal : Prop :=
  True

def algebraic_OutVIdeal_OutVRefIdeal [hOutVIdeal : Cert.OutVIdeal.Facts] [hOutVRefIdeal : Cert.OutVRefIdeal.Facts] : Prop :=
  ∀ (m : (ℓ : Loc Cert.OutVIdeal.nD Cert.OutVIdeal.τ Cert.OutVIdeal.sig) → Buf (Elt Ideal) ℓ) (g : Dev Cert.OutVIdeal.nD → PrngReg)
    (m' : (ℓ : Loc Cert.OutVRefIdeal.nD Cert.OutVRefIdeal.τ Cert.OutVRefIdeal.sig) → Buf (Elt Ideal) ℓ) (g' : Dev Cert.OutVRefIdeal.nD → PrngReg), Pre_OutVIdeal m →
    (∀ c : Dev Cert.OutVIdeal.nD,
      m' ((c.tc : Thread Cert.OutVRefIdeal.nD Cert.OutVRefIdeal.τ).loc Cert.OutVRefIdeal.main_arg0) = m ((c.tc : Thread Cert.OutVIdeal.nD Cert.OutVIdeal.τ).loc Cert.OutVIdeal.main_arg0)
      ∧ m' ((c.tc : Thread Cert.OutVRefIdeal.nD Cert.OutVRefIdeal.τ).loc Cert.OutVRefIdeal.main_arg1) = m ((c.tc : Thread Cert.OutVIdeal.nD Cert.OutVIdeal.τ).loc Cert.OutVIdeal.main_arg1)) →
    ∃ (v0 : (c : Dev Cert.OutVIdeal.nD) → Buf (Elt Ideal) ((c.tc : Thread Cert.OutVIdeal.nD Cert.OutVIdeal.τ).loc Cert.OutVIdeal.main_v2)),
      θ_run (Cert.OutVIdeal.defs (F := Ideal)) (onTc (τ := Cert.OutVIdeal.τ) (Cert.OutVIdeal.main (F := Ideal))) ⟨m, fun _ => 0, g⟩ (fun r => ∀ c : Dev Cert.OutVIdeal.nD,
          r.2.mem ((c.tc : Thread Cert.OutVIdeal.nD Cert.OutVIdeal.τ).loc Cert.OutVIdeal.main_v2) = v0 c
          ∧ r.2.mem ((c.tc : Thread Cert.OutVIdeal.nD Cert.OutVIdeal.τ).loc Cert.OutVIdeal.main_arg0) = m ((c.tc : Thread Cert.OutVIdeal.nD Cert.OutVIdeal.τ).loc Cert.OutVIdeal.main_arg0)
          ∧ r.2.mem ((c.tc : Thread Cert.OutVIdeal.nD Cert.OutVIdeal.τ).loc Cert.OutVIdeal.main_arg1) = m ((c.tc : Thread Cert.OutVIdeal.nD Cert.OutVIdeal.τ).loc Cert.OutVIdeal.main_arg1))
      ∧ θ_run (Cert.OutVRefIdeal.defs (F := Ideal)) (onTc (τ := Cert.OutVRefIdeal.τ) (Cert.OutVRefIdeal.main (F := Ideal))) ⟨m', fun _ => 0, g'⟩ (fun r => ∀ c : Dev Cert.OutVRefIdeal.nD,
          r.2.mem ((c.tc : Thread Cert.OutVRefIdeal.nD Cert.OutVRefIdeal.τ).loc Cert.OutVRefIdeal.main_v4) = v0 c
          ∧ r.2.mem ((c.tc : Thread Cert.OutVRefIdeal.nD Cert.OutVRefIdeal.τ).loc Cert.OutVRefIdeal.main_arg0) = m' ((c.tc : Thread Cert.OutVRefIdeal.nD Cert.OutVRefIdeal.τ).loc Cert.OutVRefIdeal.main_arg0)
          ∧ r.2.mem ((c.tc : Thread Cert.OutVRefIdeal.nD Cert.OutVRefIdeal.τ).loc Cert.OutVRefIdeal.main_arg1) = m' ((c.tc : Thread Cert.OutVRefIdeal.nD Cert.OutVRefIdeal.τ).loc Cert.OutVRefIdeal.main_arg1))

def preserves_InY_InYIdeal : Prop :=
  True

def algebraic_InYIdeal_InYRefIdeal [hInYIdeal : Cert.InYIdeal.Facts] [hInYRefIdeal : Cert.InYRefIdeal.Facts] : Prop :=
  ∀ (m : (ℓ : Loc Cert.InYIdeal.nD Cert.InYIdeal.τ Cert.InYIdeal.sig) → Buf (Elt Ideal) ℓ) (g : Dev Cert.InYIdeal.nD → PrngReg)
    (m' : (ℓ : Loc Cert.InYRefIdeal.nD Cert.InYRefIdeal.τ Cert.InYRefIdeal.sig) → Buf (Elt Ideal) ℓ) (g' : Dev Cert.InYRefIdeal.nD → PrngReg), Pre_InYIdeal m →
    (∀ c : Dev Cert.InYIdeal.nD,
      m' ((c.tc : Thread Cert.InYRefIdeal.nD Cert.InYRefIdeal.τ).loc Cert.InYRefIdeal.main_arg0) = m ((c.tc : Thread Cert.InYIdeal.nD Cert.InYIdeal.τ).loc Cert.InYIdeal.main_arg0)
      ∧ m' ((c.tc : Thread Cert.InYRefIdeal.nD Cert.InYRefIdeal.τ).loc Cert.InYRefIdeal.main_arg1) = m ((c.tc : Thread Cert.InYIdeal.nD Cert.InYIdeal.τ).loc Cert.InYIdeal.main_arg1)) →
    ∃ (v0 : (c : Dev Cert.InYIdeal.nD) → Buf (Elt Ideal) ((c.tc : Thread Cert.InYIdeal.nD Cert.InYIdeal.τ).loc Cert.InYIdeal.main_v36)),
      θ_run (Cert.InYIdeal.defs (F := Ideal)) (onTc (τ := Cert.InYIdeal.τ) (Cert.InYIdeal.main (F := Ideal))) ⟨m, fun _ => 0, g⟩ (fun r => ∀ c : Dev Cert.InYIdeal.nD,
          r.2.mem ((c.tc : Thread Cert.InYIdeal.nD Cert.InYIdeal.τ).loc Cert.InYIdeal.main_v36) = v0 c
          ∧ r.2.mem ((c.tc : Thread Cert.InYIdeal.nD Cert.InYIdeal.τ).loc Cert.InYIdeal.main_arg0) = m ((c.tc : Thread Cert.InYIdeal.nD Cert.InYIdeal.τ).loc Cert.InYIdeal.main_arg0)
          ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ θ_run (Cert.InYRefIdeal.defs (F := Ideal)) (onTc (τ := Cert.InYRefIdeal.τ) (Cert.InYRefIdeal.main (F := Ideal))) ⟨m', fun _ => 0, g'⟩ (fun r => ∀ c : Dev Cert.InYRefIdeal.nD,
          r.2.mem ((c.tc : Thread Cert.InYRefIdeal.nD Cert.InYRefIdeal.τ).loc Cert.InYRefIdeal.main_v2) = v0 c
          ∧ r.2.mem ((c.tc : Thread Cert.InYRefIdeal.nD Cert.InYRefIdeal.τ).loc Cert.InYRefIdeal.main_arg0) = m' ((c.tc : Thread Cert.InYRefIdeal.nD Cert.InYRefIdeal.τ).loc Cert.InYRefIdeal.main_arg0)
          ∧ r.2.mem ((c.tc : Thread Cert.InYRefIdeal.nD Cert.InYRefIdeal.τ).loc Cert.InYRefIdeal.main_arg1) = m' ((c.tc : Thread Cert.InYRefIdeal.nD Cert.InYRefIdeal.τ).loc Cert.InYRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v30)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v30) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v8) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v39)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v39) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v4) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_KvY_KvYIdeal : Prop :=
  True

def algebraic_KvYIdeal_KvYRefIdeal [hKvYIdeal : Cert.KvYIdeal.Facts] [hKvYRefIdeal : Cert.KvYRefIdeal.Facts] : Prop :=
  ∀ (m : (ℓ : Loc Cert.KvYIdeal.nD Cert.KvYIdeal.τ Cert.KvYIdeal.sig) → Buf (Elt Ideal) ℓ) (g : Dev Cert.KvYIdeal.nD → PrngReg)
    (m' : (ℓ : Loc Cert.KvYRefIdeal.nD Cert.KvYRefIdeal.τ Cert.KvYRefIdeal.sig) → Buf (Elt Ideal) ℓ) (g' : Dev Cert.KvYRefIdeal.nD → PrngReg), Pre_KvYIdeal m →
    (∀ c : Dev Cert.KvYIdeal.nD,
      m' ((c.tc : Thread Cert.KvYRefIdeal.nD Cert.KvYRefIdeal.τ).loc Cert.KvYRefIdeal.main_arg0) = m ((c.tc : Thread Cert.KvYIdeal.nD Cert.KvYIdeal.τ).loc Cert.KvYIdeal.main_arg0)
      ∧ m' ((c.tc : Thread Cert.KvYRefIdeal.nD Cert.KvYRefIdeal.τ).loc Cert.KvYRefIdeal.main_arg1) = m ((c.tc : Thread Cert.KvYIdeal.nD Cert.KvYIdeal.τ).loc Cert.KvYIdeal.main_arg1)) →
    ∃ (v0 : (c : Dev Cert.KvYIdeal.nD) → Buf (Elt Ideal) ((c.tc : Thread Cert.KvYIdeal.nD Cert.KvYIdeal.τ).loc Cert.KvYIdeal.main_v2)),
      θ_run (Cert.KvYIdeal.defs (F := Ideal)) (onTc (τ := Cert.KvYIdeal.τ) (Cert.KvYIdeal.main (F := Ideal))) ⟨m, fun _ => 0, g⟩ (fun r => ∀ c : Dev Cert.KvYIdeal.nD,
          r.2.mem ((c.tc : Thread Cert.KvYIdeal.nD Cert.KvYIdeal.τ).loc Cert.KvYIdeal.main_v2) = v0 c
          ∧ r.2.mem ((c.tc : Thread Cert.KvYIdeal.nD Cert.KvYIdeal.τ).loc Cert.KvYIdeal.main_arg0) = m ((c.tc : Thread Cert.KvYIdeal.nD Cert.KvYIdeal.τ).loc Cert.KvYIdeal.main_arg0)
          ∧ r.2.mem ((c.tc : Thread Cert.KvYIdeal.nD Cert.KvYIdeal.τ).loc Cert.KvYIdeal.main_arg1) = m ((c.tc : Thread Cert.KvYIdeal.nD Cert.KvYIdeal.τ).loc Cert.KvYIdeal.main_arg1))
      ∧ θ_run (Cert.KvYRefIdeal.defs (F := Ideal)) (onTc (τ := Cert.KvYRefIdeal.τ) (Cert.KvYRefIdeal.main (F := Ideal))) ⟨m', fun _ => 0, g'⟩ (fun r => ∀ c : Dev Cert.KvYRefIdeal.nD,
          r.2.mem ((c.tc : Thread Cert.KvYRefIdeal.nD Cert.KvYRefIdeal.τ).loc Cert.KvYRefIdeal.main_v0) = v0 c
          ∧ r.2.mem ((c.tc : Thread Cert.KvYRefIdeal.nD Cert.KvYRefIdeal.τ).loc Cert.KvYRefIdeal.main_arg0) = m' ((c.tc : Thread Cert.KvYRefIdeal.nD Cert.KvYRefIdeal.τ).loc Cert.KvYRefIdeal.main_arg0)
          ∧ r.2.mem ((c.tc : Thread Cert.KvYRefIdeal.nD Cert.KvYRefIdeal.τ).loc Cert.KvYRefIdeal.main_arg1) = m' ((c.tc : Thread Cert.KvYRefIdeal.nD Cert.KvYRefIdeal.τ).loc Cert.KvYRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v2)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v2) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v4) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_KvX_KvXIdeal : Prop :=
  True

def algebraic_KvXIdeal_KvXRefIdeal [hKvXIdeal : Cert.KvXIdeal.Facts] [hKvXRefIdeal : Cert.KvXRefIdeal.Facts] : Prop :=
  ∀ (m : (ℓ : Loc Cert.KvXIdeal.nD Cert.KvXIdeal.τ Cert.KvXIdeal.sig) → Buf (Elt Ideal) ℓ) (g : Dev Cert.KvXIdeal.nD → PrngReg)
    (m' : (ℓ : Loc Cert.KvXRefIdeal.nD Cert.KvXRefIdeal.τ Cert.KvXRefIdeal.sig) → Buf (Elt Ideal) ℓ) (g' : Dev Cert.KvXRefIdeal.nD → PrngReg), Pre_KvXIdeal m →
    (∀ c : Dev Cert.KvXIdeal.nD,
      m' ((c.tc : Thread Cert.KvXRefIdeal.nD Cert.KvXRefIdeal.τ).loc Cert.KvXRefIdeal.main_arg0) = m ((c.tc : Thread Cert.KvXIdeal.nD Cert.KvXIdeal.τ).loc Cert.KvXIdeal.main_arg0)
      ∧ m' ((c.tc : Thread Cert.KvXRefIdeal.nD Cert.KvXRefIdeal.τ).loc Cert.KvXRefIdeal.main_arg1) = m ((c.tc : Thread Cert.KvXIdeal.nD Cert.KvXIdeal.τ).loc Cert.KvXIdeal.main_arg1)) →
    ∃ (v0 : (c : Dev Cert.KvXIdeal.nD) → Buf (Elt Ideal) ((c.tc : Thread Cert.KvXIdeal.nD Cert.KvXIdeal.τ).loc Cert.KvXIdeal.main_v2)),
      θ_run (Cert.KvXIdeal.defs (F := Ideal)) (onTc (τ := Cert.KvXIdeal.τ) (Cert.KvXIdeal.main (F := Ideal))) ⟨m, fun _ => 0, g⟩ (fun r => ∀ c : Dev Cert.KvXIdeal.nD,
          r.2.mem ((c.tc : Thread Cert.KvXIdeal.nD Cert.KvXIdeal.τ).loc Cert.KvXIdeal.main_v2) = v0 c
          ∧ r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
          ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ θ_run (Cert.KvXRefIdeal.defs (F := Ideal)) (onTc (τ := Cert.KvXRefIdeal.τ) (Cert.KvXRefIdeal.main (F := Ideal))) ⟨m', fun _ => 0, g'⟩ (fun r => ∀ c : Dev Cert.KvXRefIdeal.nD,
          r.2.mem ((c.tc : Thread Cert.KvXRefIdeal.nD Cert.KvXRefIdeal.τ).loc Cert.KvXRefIdeal.main_v2) = v0 c
          ∧ r.2.mem ((c.tc : Thread Cert.KvXRefIdeal.nD Cert.KvXRefIdeal.τ).loc Cert.KvXRefIdeal.main_arg0) = m' ((c.tc : Thread Cert.KvXRefIdeal.nD Cert.KvXRefIdeal.τ).loc Cert.KvXRefIdeal.main_arg0)
          ∧ r.2.mem ((c.tc : Thread Cert.KvXRefIdeal.nD Cert.KvXRefIdeal.τ).loc Cert.KvXRefIdeal.main_arg1) = m' ((c.tc : Thread Cert.KvXRefIdeal.nD Cert.KvXRefIdeal.τ).loc Cert.KvXRefIdeal.main_arg1))

def preserves_PleY_PleYIdeal : Prop :=
  True

def algebraic_PleYIdeal_PleYRefIdeal [hPleYIdeal : Cert.PleYIdeal.Facts] [hPleYRefIdeal : Cert.PleYRefIdeal.Facts] : Prop :=
  ∀ (m : (ℓ : Loc Cert.PleYIdeal.nD Cert.PleYIdeal.τ Cert.PleYIdeal.sig) → Buf (Elt Ideal) ℓ) (g : Dev Cert.PleYIdeal.nD → PrngReg)
    (m' : (ℓ : Loc Cert.PleYRefIdeal.nD Cert.PleYRefIdeal.τ Cert.PleYRefIdeal.sig) → Buf (Elt Ideal) ℓ) (g' : Dev Cert.PleYRefIdeal.nD → PrngReg), Pre_PleYIdeal m →
    (∀ c : Dev Cert.PleYIdeal.nD,
      m' ((c.tc : Thread Cert.PleYRefIdeal.nD Cert.PleYRefIdeal.τ).loc Cert.PleYRefIdeal.main_arg0) = m ((c.tc : Thread Cert.PleYIdeal.nD Cert.PleYIdeal.τ).loc Cert.PleYIdeal.main_arg0)
      ∧ m' ((c.tc : Thread Cert.PleYRefIdeal.nD Cert.PleYRefIdeal.τ).loc Cert.PleYRefIdeal.main_arg1) = m ((c.tc : Thread Cert.PleYIdeal.nD Cert.PleYIdeal.τ).loc Cert.PleYIdeal.main_arg1)) →
    ∃ (v0 : (c : Dev Cert.PleYIdeal.nD) → Buf (Elt Ideal) ((c.tc : Thread Cert.PleYIdeal.nD Cert.PleYIdeal.τ).loc Cert.PleYIdeal.main_v2)),
      θ_run (Cert.PleYIdeal.defs (F := Ideal)) (onTc (τ := Cert.PleYIdeal.τ) (Cert.PleYIdeal.main (F := Ideal))) ⟨m, fun _ => 0, g⟩ (fun r => ∀ c : Dev Cert.PleYIdeal.nD,
          r.2.mem ((c.tc : Thread Cert.PleYIdeal.nD Cert.PleYIdeal.τ).loc Cert.PleYIdeal.main_v2) = v0 c
          ∧ r.2.mem ((c.tc : Thread Cert.PleYIdeal.nD Cert.PleYIdeal.τ).loc Cert.PleYIdeal.main_arg0) = m ((c.tc : Thread Cert.PleYIdeal.nD Cert.PleYIdeal.τ).loc Cert.PleYIdeal.main_arg0)
          ∧ r.2.mem ((c.tc : Thread Cert.PleYIdeal.nD Cert.PleYIdeal.τ).loc Cert.PleYIdeal.main_arg1) = m ((c.tc : Thread Cert.PleYIdeal.nD Cert.PleYIdeal.τ).loc Cert.PleYIdeal.main_arg1))
      ∧ θ_run (Cert.PleYRefIdeal.defs (F := Ideal)) (onTc (τ := Cert.PleYRefIdeal.τ) (Cert.PleYRefIdeal.main (F := Ideal))) ⟨m', fun _ => 0, g'⟩ (fun r => ∀ c : Dev Cert.PleYRefIdeal.nD,
          r.2.mem ((c.tc : Thread Cert.PleYRefIdeal.nD Cert.PleYRefIdeal.τ).loc Cert.PleYRefIdeal.main_v0) = v0 c
          ∧ r.2.mem ((c.tc : Thread Cert.PleYRefIdeal.nD Cert.PleYRefIdeal.τ).loc Cert.PleYRefIdeal.main_arg0) = m' ((c.tc : Thread Cert.PleYRefIdeal.nD Cert.PleYRefIdeal.τ).loc Cert.PleYRefIdeal.main_arg0)
          ∧ r.2.mem ((c.tc : Thread Cert.PleYRefIdeal.nD Cert.PleYRefIdeal.τ).loc Cert.PleYRefIdeal.main_arg1) = m' ((c.tc : Thread Cert.PleYRefIdeal.nD Cert.PleYRefIdeal.τ).loc Cert.PleYRefIdeal.main_arg1))

def preserves_PleW_PleWIdeal : Prop :=
  True

def algebraic_PleWIdeal_PleWRefIdeal [hPleWIdeal : Cert.PleWIdeal.Facts] [hPleWRefIdeal : Cert.PleWRefIdeal.Facts] : Prop :=
  ∀ (m : (ℓ : Loc Cert.PleWIdeal.nD Cert.PleWIdeal.τ Cert.PleWIdeal.sig) → Buf (Elt Ideal) ℓ) (g : Dev Cert.PleWIdeal.nD → PrngReg)
    (m' : (ℓ : Loc Cert.PleWRefIdeal.nD Cert.PleWRefIdeal.τ Cert.PleWRefIdeal.sig) → Buf (Elt Ideal) ℓ) (g' : Dev Cert.PleWRefIdeal.nD → PrngReg), Pre_PleWIdeal m →
    (∀ c : Dev Cert.PleWIdeal.nD,
      m' ((c.tc : Thread Cert.PleWRefIdeal.nD Cert.PleWRefIdeal.τ).loc Cert.PleWRefIdeal.main_arg0) = m ((c.tc : Thread Cert.PleWIdeal.nD Cert.PleWIdeal.τ).loc Cert.PleWIdeal.main_arg0)
      ∧ m' ((c.tc : Thread Cert.PleWRefIdeal.nD Cert.PleWRefIdeal.τ).loc Cert.PleWRefIdeal.main_arg1) = m ((c.tc : Thread Cert.PleWIdeal.nD Cert.PleWIdeal.τ).loc Cert.PleWIdeal.main_arg1)) →
    ∃ (v0 : (c : Dev Cert.PleWIdeal.nD) → Buf (Elt Ideal) ((c.tc : Thread Cert.PleWIdeal.nD Cert.PleWIdeal.τ).loc Cert.PleWIdeal.main_v2)),
      θ_run (Cert.PleWIdeal.defs (F := Ideal)) (onTc (τ := Cert.PleWIdeal.τ) (Cert.PleWIdeal.main (F := Ideal))) ⟨m, fun _ => 0, g⟩ (fun r => ∀ c : Dev Cert.PleWIdeal.nD,
          r.2.mem ((c.tc : Thread Cert.PleWIdeal.nD Cert.PleWIdeal.τ).loc Cert.PleWIdeal.main_v2) = v0 c
          ∧ r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
          ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1))
      ∧ θ_run (Cert.PleWRefIdeal.defs (F := Ideal)) (onTc (τ := Cert.PleWRefIdeal.τ) (Cert.PleWRefIdeal.main (F := Ideal))) ⟨m', fun _ => 0, g'⟩ (fun r => ∀ c : Dev Cert.PleWRefIdeal.nD,
          r.2.mem ((c.tc : Thread Cert.PleWRefIdeal.nD Cert.PleWRefIdeal.τ).loc Cert.PleWRefIdeal.main_v4) = v0 c
          ∧ r.2.mem ((c.tc : Thread Cert.PleWRefIdeal.nD Cert.PleWRefIdeal.τ).loc Cert.PleWRefIdeal.main_arg0) = m' ((c.tc : Thread Cert.PleWRefIdeal.nD Cert.PleWRefIdeal.τ).loc Cert.PleWRefIdeal.main_arg0)
          ∧ r.2.mem ((c.tc : Thread Cert.PleWRefIdeal.nD Cert.PleWRefIdeal.τ).loc Cert.PleWRefIdeal.main_arg1) = m' ((c.tc : Thread Cert.PleWRefIdeal.nD Cert.PleWRefIdeal.τ).loc Cert.PleWRefIdeal.main_arg1))

def preserves_QY_QYIdeal : Prop :=
  True

def algebraic_QYIdeal_QYRefIdeal [hQYIdeal : Cert.QYIdeal.Facts] [hQYRefIdeal : Cert.QYRefIdeal.Facts] : Prop :=
  ∀ (m : (ℓ : Loc Cert.QYIdeal.nD Cert.QYIdeal.τ Cert.QYIdeal.sig) → Buf (Elt Ideal) ℓ) (g : Dev Cert.QYIdeal.nD → PrngReg)
    (m' : (ℓ : Loc Cert.QYRefIdeal.nD Cert.QYRefIdeal.τ Cert.QYRefIdeal.sig) → Buf (Elt Ideal) ℓ) (g' : Dev Cert.QYRefIdeal.nD → PrngReg), Pre_QYIdeal m →
    (∀ c : Dev Cert.QYIdeal.nD,
      m' ((c.tc : Thread Cert.QYRefIdeal.nD Cert.QYRefIdeal.τ).loc Cert.QYRefIdeal.main_arg0) = m ((c.tc : Thread Cert.QYIdeal.nD Cert.QYIdeal.τ).loc Cert.QYIdeal.main_arg0)
      ∧ m' ((c.tc : Thread Cert.QYRefIdeal.nD Cert.QYRefIdeal.τ).loc Cert.QYRefIdeal.main_arg1) = m ((c.tc : Thread Cert.QYIdeal.nD Cert.QYIdeal.τ).loc Cert.QYIdeal.main_arg1)) →
    ∃ (v0 : (c : Dev Cert.QYIdeal.nD) → Buf (Elt Ideal) ((c.tc : Thread Cert.QYIdeal.nD Cert.QYIdeal.τ).loc Cert.QYIdeal.main_v8)),
      θ_run (Cert.QYIdeal.defs (F := Ideal)) (onTc (τ := Cert.QYIdeal.τ) (Cert.QYIdeal.main (F := Ideal))) ⟨m, fun _ => 0, g⟩ (fun r => ∀ c : Dev Cert.QYIdeal.nD,
          r.2.mem ((c.tc : Thread Cert.QYIdeal.nD Cert.QYIdeal.τ).loc Cert.QYIdeal.main_v8) = v0 c
          ∧ r.2.mem ((c.tc : Thread Cert.QYIdeal.nD Cert.QYIdeal.τ).loc Cert.QYIdeal.main_arg0) = m ((c.tc : Thread Cert.QYIdeal.nD Cert.QYIdeal.τ).loc Cert.QYIdeal.main_arg0)
          ∧ r.2.mem ((c.tc : Thread Cert.QYIdeal.nD Cert.QYIdeal.τ).loc Cert.QYIdeal.main_arg1) = m ((c.tc : Thread Cert.QYIdeal.nD Cert.QYIdeal.τ).loc Cert.QYIdeal.main_arg1))
      ∧ θ_run (Cert.QYRefIdeal.defs (F := Ideal)) (onTc (τ := Cert.QYRefIdeal.τ) (Cert.QYRefIdeal.main (F := Ideal))) ⟨m', fun _ => 0, g'⟩ (fun r => ∀ c : Dev Cert.QYRefIdeal.nD,
          r.2.mem ((c.tc : Thread Cert.QYRefIdeal.nD Cert.QYRefIdeal.τ).loc Cert.QYRefIdeal.main_v0) = v0 c
          ∧ r.2.mem ((c.tc : Thread Cert.QYRefIdeal.nD Cert.QYRefIdeal.τ).loc Cert.QYRefIdeal.main_arg0) = m' ((c.tc : Thread Cert.QYRefIdeal.nD Cert.QYRefIdeal.τ).loc Cert.QYRefIdeal.main_arg0)
          ∧ r.2.mem ((c.tc : Thread Cert.QYRefIdeal.nD Cert.QYRefIdeal.τ).loc Cert.QYRefIdeal.main_arg1) = m' ((c.tc : Thread Cert.QYRefIdeal.nD Cert.QYRefIdeal.τ).loc Cert.QYRefIdeal.main_arg1))

def preserves_QW_QWIdeal : Prop :=
  True

def algebraic_QWIdeal_QWRefIdeal [hQWIdeal : Cert.QWIdeal.Facts] [hQWRefIdeal : Cert.QWRefIdeal.Facts] : Prop :=
  ∀ (m : (ℓ : Loc Cert.QWIdeal.nD Cert.QWIdeal.τ Cert.QWIdeal.sig) → Buf (Elt Ideal) ℓ) (g : Dev Cert.QWIdeal.nD → PrngReg)
    (m' : (ℓ : Loc Cert.QWRefIdeal.nD Cert.QWRefIdeal.τ Cert.QWRefIdeal.sig) → Buf (Elt Ideal) ℓ) (g' : Dev Cert.QWRefIdeal.nD → PrngReg), Pre_QWIdeal m →
    (∀ c : Dev Cert.QWIdeal.nD,
      m' ((c.tc : Thread Cert.QWRefIdeal.nD Cert.QWRefIdeal.τ).loc Cert.QWRefIdeal.main_arg0) = m ((c.tc : Thread Cert.QWIdeal.nD Cert.QWIdeal.τ).loc Cert.QWIdeal.main_arg0)
      ∧ m' ((c.tc : Thread Cert.QWRefIdeal.nD Cert.QWRefIdeal.τ).loc Cert.QWRefIdeal.main_arg1) = m ((c.tc : Thread Cert.QWIdeal.nD Cert.QWIdeal.τ).loc Cert.QWIdeal.main_arg1)) →
    ∃ (v0 : (c : Dev Cert.QWIdeal.nD) → Buf (Elt Ideal) ((c.tc : Thread Cert.QWIdeal.nD Cert.QWIdeal.τ).loc Cert.QWIdeal.main_v8)),
      θ_run (Cert.QWIdeal.defs (F := Ideal)) (onTc (τ := Cert.QWIdeal.τ) (Cert.QWIdeal.main (F := Ideal))) ⟨m, fun _ => 0, g⟩ (fun r => ∀ c : Dev Cert.QWIdeal.nD,
          r.2.mem ((c.tc : Thread Cert.QWIdeal.nD Cert.QWIdeal.τ).loc Cert.QWIdeal.main_v8) = v0 c
          ∧ r.2.mem ((c.tc : Thread Cert.QWIdeal.nD Cert.QWIdeal.τ).loc Cert.QWIdeal.main_arg0) = m ((c.tc : Thread Cert.QWIdeal.nD Cert.QWIdeal.τ).loc Cert.QWIdeal.main_arg0)
          ∧ r.2.mem ((c.tc : Thread Cert.QWIdeal.nD Cert.QWIdeal.τ).loc Cert.QWIdeal.main_arg1) = m ((c.tc : Thread Cert.QWIdeal.nD Cert.QWIdeal.τ).loc Cert.QWIdeal.main_arg1))
      ∧ θ_run (Cert.QWRefIdeal.defs (F := Ideal)) (onTc (τ := Cert.QWRefIdeal.τ) (Cert.QWRefIdeal.main (F := Ideal))) ⟨m', fun _ => 0, g'⟩ (fun r => ∀ c : Dev Cert.QWRefIdeal.nD,
          r.2.mem ((c.tc : Thread Cert.QWRefIdeal.nD Cert.QWRefIdeal.τ).loc Cert.QWRefIdeal.main_v4) = v0 c
          ∧ r.2.mem ((c.tc : Thread Cert.QWRefIdeal.nD Cert.QWRefIdeal.τ).loc Cert.QWRefIdeal.main_arg0) = m' ((c.tc : Thread Cert.QWRefIdeal.nD Cert.QWRefIdeal.τ).loc Cert.QWRefIdeal.main_arg0)
          ∧ r.2.mem ((c.tc : Thread Cert.QWRefIdeal.nD Cert.QWRefIdeal.τ).loc Cert.QWRefIdeal.main_arg1) = m' ((c.tc : Thread Cert.QWRefIdeal.nD Cert.QWRefIdeal.τ).loc Cert.QWRefIdeal.main_arg1))

def preserves_QX_QXIdeal : Prop :=
  True

def algebraic_QXIdeal_QXRefIdeal [hQXIdeal : Cert.QXIdeal.Facts] [hQXRefIdeal : Cert.QXRefIdeal.Facts] : Prop :=
  ∀ (m : (ℓ : Loc Cert.QXIdeal.nD Cert.QXIdeal.τ Cert.QXIdeal.sig) → Buf (Elt Ideal) ℓ) (g : Dev Cert.QXIdeal.nD → PrngReg)
    (m' : (ℓ : Loc Cert.QXRefIdeal.nD Cert.QXRefIdeal.τ Cert.QXRefIdeal.sig) → Buf (Elt Ideal) ℓ) (g' : Dev Cert.QXRefIdeal.nD → PrngReg), Pre_QXIdeal m →
    (∀ c : Dev Cert.QXIdeal.nD,
      m' ((c.tc : Thread Cert.QXRefIdeal.nD Cert.QXRefIdeal.τ).loc Cert.QXRefIdeal.main_arg0) = m ((c.tc : Thread Cert.QXIdeal.nD Cert.QXIdeal.τ).loc Cert.QXIdeal.main_arg0)
      ∧ m' ((c.tc : Thread Cert.QXRefIdeal.nD Cert.QXRefIdeal.τ).loc Cert.QXRefIdeal.main_arg1) = m ((c.tc : Thread Cert.QXIdeal.nD Cert.QXIdeal.τ).loc Cert.QXIdeal.main_arg1)) →
    ∃ (v0 : (c : Dev Cert.QXIdeal.nD) → Buf (Elt Ideal) ((c.tc : Thread Cert.QXIdeal.nD Cert.QXIdeal.τ).loc Cert.QXIdeal.main_v8)),
      θ_run (Cert.QXIdeal.defs (F := Ideal)) (onTc (τ := Cert.QXIdeal.τ) (Cert.QXIdeal.main (F := Ideal))) ⟨m, fun _ => 0, g⟩ (fun r => ∀ c : Dev Cert.QXIdeal.nD,
          r.2.mem ((c.tc : Thread Cert.QXIdeal.nD Cert.QXIdeal.τ).loc Cert.QXIdeal.main_v8) = v0 c
          ∧ r.2.mem ((c.tc : Thread Cert.QXIdeal.nD Cert.QXIdeal.τ).loc Cert.QXIdeal.main_arg0) = m ((c.tc : Thread Cert.QXIdeal.nD Cert.QXIdeal.τ).loc Cert.QXIdeal.main_arg0)
          ∧ r.2.mem ((c.tc : Thread Cert.QXIdeal.nD Cert.QXIdeal.τ).loc Cert.QXIdeal.main_arg1) = m ((c.tc : Thread Cert.QXIdeal.nD Cert.QXIdeal.τ).loc Cert.QXIdeal.main_arg1))
      ∧ θ_run (Cert.QXRefIdeal.defs (F := Ideal)) (onTc (τ := Cert.QXRefIdeal.τ) (Cert.QXRefIdeal.main (F := Ideal))) ⟨m', fun _ => 0, g'⟩ (fun r => ∀ c : Dev Cert.QXRefIdeal.nD,
          r.2.mem ((c.tc : Thread Cert.QXRefIdeal.nD Cert.QXRefIdeal.τ).loc Cert.QXRefIdeal.main_v2) = v0 c
          ∧ r.2.mem ((c.tc : Thread Cert.QXRefIdeal.nD Cert.QXRefIdeal.τ).loc Cert.QXRefIdeal.main_arg0) = m' ((c.tc : Thread Cert.QXRefIdeal.nD Cert.QXRefIdeal.τ).loc Cert.QXRefIdeal.main_arg0)
          ∧ r.2.mem ((c.tc : Thread Cert.QXRefIdeal.nD Cert.QXRefIdeal.τ).loc Cert.QXRefIdeal.main_arg1) = m' ((c.tc : Thread Cert.QXRefIdeal.nD Cert.QXRefIdeal.τ).loc Cert.QXRefIdeal.main_arg1))

def Claim : Prop :=
  ∃ (hKernel : Cert.Kernel.Facts) (hKernelIdeal : Cert.KernelIdeal.Facts) (hReferenceIdeal : Cert.ReferenceIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hUpY : Cert.UpY.Facts) (hUpYIdeal : Cert.UpYIdeal.Facts) (hUpYRefIdeal : Cert.UpYRefIdeal.Facts) (hDownY : Cert.DownY.Facts) (hDownYIdeal : Cert.DownYIdeal.Facts) (hDownYRefIdeal : Cert.DownYRefIdeal.Facts) (hGateY : Cert.GateY.Facts) (hGateYIdeal : Cert.GateYIdeal.Facts) (hGateYRefIdeal : Cert.GateYRefIdeal.Facts) (hGateW : Cert.GateW.Facts) (hGateWIdeal : Cert.GateWIdeal.Facts) (hGateWRefIdeal : Cert.GateWRefIdeal.Facts) (hGateX : Cert.GateX.Facts) (hGateXIdeal : Cert.GateXIdeal.Facts) (hGateXRefIdeal : Cert.GateXRefIdeal.Facts) (hOutS : Cert.OutS.Facts) (hOutSIdeal : Cert.OutSIdeal.Facts) (hOutSRefIdeal : Cert.OutSRefIdeal.Facts) (hOutM : Cert.OutM.Facts) (hOutMIdeal : Cert.OutMIdeal.Facts) (hOutMRefIdeal : Cert.OutMRefIdeal.Facts) (hOutW : Cert.OutW.Facts) (hOutWIdeal : Cert.OutWIdeal.Facts) (hOutWRefIdeal : Cert.OutWRefIdeal.Facts) (hMixX : Cert.MixX.Facts) (hMixXIdeal : Cert.MixXIdeal.Facts) (hMixXRefIdeal : Cert.MixXRefIdeal.Facts) (hOutV : Cert.OutV.Facts) (hOutVIdeal : Cert.OutVIdeal.Facts) (hOutVRefIdeal : Cert.OutVRefIdeal.Facts) (hInY : Cert.InY.Facts) (hInYIdeal : Cert.InYIdeal.Facts) (hInYRefIdeal : Cert.InYRefIdeal.Facts) (hInW : Cert.InW.Facts) (hInWIdeal : Cert.InWIdeal.Facts) (hInWRefIdeal : Cert.InWRefIdeal.Facts) (hInX : Cert.InX.Facts) (hInXIdeal : Cert.InXIdeal.Facts) (hInXRefIdeal : Cert.InXRefIdeal.Facts) (hKvY : Cert.KvY.Facts) (hKvYIdeal : Cert.KvYIdeal.Facts) (hKvYRefIdeal : Cert.KvYRefIdeal.Facts) (hKvW : Cert.KvW.Facts) (hKvWIdeal : Cert.KvWIdeal.Facts) (hKvWRefIdeal : Cert.KvWRefIdeal.Facts) (hKvX : Cert.KvX.Facts) (hKvXIdeal : Cert.KvXIdeal.Facts) (hKvXRefIdeal : Cert.KvXRefIdeal.Facts) (hPleY : Cert.PleY.Facts) (hPleYIdeal : Cert.PleYIdeal.Facts) (hPleYRefIdeal : Cert.PleYRefIdeal.Facts) (hPleW : Cert.PleW.Facts) (hPleWIdeal : Cert.PleWIdeal.Facts) (hPleWRefIdeal : Cert.PleWRefIdeal.Facts) (hQY : Cert.QY.Facts) (hQYIdeal : Cert.QYIdeal.Facts) (hQYRefIdeal : Cert.QYRefIdeal.Facts) (hQW : Cert.QW.Facts) (hQWIdeal : Cert.QWIdeal.Facts) (hQWRefIdeal : Cert.QWRefIdeal.Facts) (hQX : Cert.QX.Facts) (hQXIdeal : Cert.QXIdeal.Facts) (hQXRefIdeal : Cert.QXRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_UpY (hUpY := hUpY)
    ∧ quiescent_UpYIdeal (hUpYIdeal := hUpYIdeal)
    ∧ quiescent_UpYRefIdeal (hUpYRefIdeal := hUpYRefIdeal)
    ∧ quiescent_DownY (hDownY := hDownY)
    ∧ quiescent_DownYIdeal (hDownYIdeal := hDownYIdeal)
    ∧ quiescent_DownYRefIdeal (hDownYRefIdeal := hDownYRefIdeal)
    ∧ quiescent_GateY (hGateY := hGateY)
    ∧ quiescent_GateYIdeal (hGateYIdeal := hGateYIdeal)
    ∧ quiescent_GateYRefIdeal (hGateYRefIdeal := hGateYRefIdeal)
    ∧ quiescent_GateW (hGateW := hGateW)
    ∧ quiescent_GateWIdeal (hGateWIdeal := hGateWIdeal)
    ∧ quiescent_GateWRefIdeal (hGateWRefIdeal := hGateWRefIdeal)
    ∧ quiescent_GateX (hGateX := hGateX)
    ∧ quiescent_GateXIdeal (hGateXIdeal := hGateXIdeal)
    ∧ quiescent_GateXRefIdeal (hGateXRefIdeal := hGateXRefIdeal)
    ∧ quiescent_OutS (hOutS := hOutS)
    ∧ quiescent_OutSIdeal (hOutSIdeal := hOutSIdeal)
    ∧ quiescent_OutSRefIdeal (hOutSRefIdeal := hOutSRefIdeal)
    ∧ quiescent_OutM (hOutM := hOutM)
    ∧ quiescent_OutMIdeal (hOutMIdeal := hOutMIdeal)
    ∧ quiescent_OutMRefIdeal (hOutMRefIdeal := hOutMRefIdeal)
    ∧ quiescent_OutW (hOutW := hOutW)
    ∧ quiescent_OutWIdeal (hOutWIdeal := hOutWIdeal)
    ∧ quiescent_OutWRefIdeal (hOutWRefIdeal := hOutWRefIdeal)
    ∧ quiescent_MixX (hMixX := hMixX)
    ∧ quiescent_MixXIdeal (hMixXIdeal := hMixXIdeal)
    ∧ quiescent_MixXRefIdeal (hMixXRefIdeal := hMixXRefIdeal)
    ∧ quiescent_OutV (hOutV := hOutV)
    ∧ quiescent_OutVIdeal (hOutVIdeal := hOutVIdeal)
    ∧ quiescent_OutVRefIdeal (hOutVRefIdeal := hOutVRefIdeal)
    ∧ quiescent_InY (hInY := hInY)
    ∧ quiescent_InYIdeal (hInYIdeal := hInYIdeal)
    ∧ quiescent_InYRefIdeal (hInYRefIdeal := hInYRefIdeal)
    ∧ quiescent_InW (hInW := hInW)
    ∧ quiescent_InWIdeal (hInWIdeal := hInWIdeal)
    ∧ quiescent_InWRefIdeal (hInWRefIdeal := hInWRefIdeal)
    ∧ quiescent_InX (hInX := hInX)
    ∧ quiescent_InXIdeal (hInXIdeal := hInXIdeal)
    ∧ quiescent_InXRefIdeal (hInXRefIdeal := hInXRefIdeal)
    ∧ quiescent_KvY (hKvY := hKvY)
    ∧ quiescent_KvYIdeal (hKvYIdeal := hKvYIdeal)
    ∧ quiescent_KvYRefIdeal (hKvYRefIdeal := hKvYRefIdeal)
    ∧ quiescent_KvW (hKvW := hKvW)
    ∧ quiescent_KvWIdeal (hKvWIdeal := hKvWIdeal)
    ∧ quiescent_KvWRefIdeal (hKvWRefIdeal := hKvWRefIdeal)
    ∧ quiescent_KvX (hKvX := hKvX)
    ∧ quiescent_KvXIdeal (hKvXIdeal := hKvXIdeal)
    ∧ quiescent_KvXRefIdeal (hKvXRefIdeal := hKvXRefIdeal)
    ∧ quiescent_PleY (hPleY := hPleY)
    ∧ quiescent_PleYIdeal (hPleYIdeal := hPleYIdeal)
    ∧ quiescent_PleYRefIdeal (hPleYRefIdeal := hPleYRefIdeal)
    ∧ quiescent_PleW (hPleW := hPleW)
    ∧ quiescent_PleWIdeal (hPleWIdeal := hPleWIdeal)
    ∧ quiescent_PleWRefIdeal (hPleWRefIdeal := hPleWRefIdeal)
    ∧ quiescent_QY (hQY := hQY)
    ∧ quiescent_QYIdeal (hQYIdeal := hQYIdeal)
    ∧ quiescent_QYRefIdeal (hQYRefIdeal := hQYRefIdeal)
    ∧ quiescent_QW (hQW := hQW)
    ∧ quiescent_QWIdeal (hQWIdeal := hQWIdeal)
    ∧ quiescent_QWRefIdeal (hQWRefIdeal := hQWRefIdeal)
    ∧ quiescent_QX (hQX := hQX)
    ∧ quiescent_QXIdeal (hQXIdeal := hQXIdeal)
    ∧ quiescent_QXRefIdeal (hQXRefIdeal := hQXRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_UpY_UpYIdeal
    ∧ algebraic_UpYIdeal_UpYRefIdeal (hUpYIdeal := hUpYIdeal) (hUpYRefIdeal := hUpYRefIdeal)
    ∧ preserves_DownY_DownYIdeal
    ∧ algebraic_DownYIdeal_DownYRefIdeal (hDownYIdeal := hDownYIdeal) (hDownYRefIdeal := hDownYRefIdeal)
    ∧ preserves_GateY_GateYIdeal
    ∧ algebraic_GateYIdeal_GateYRefIdeal (hGateYIdeal := hGateYIdeal) (hGateYRefIdeal := hGateYRefIdeal)
    ∧ preserves_GateW_GateWIdeal
    ∧ algebraic_GateWIdeal_GateWRefIdeal (hGateWIdeal := hGateWIdeal) (hGateWRefIdeal := hGateWRefIdeal)
    ∧ preserves_GateX_GateXIdeal
    ∧ algebraic_GateXIdeal_GateXRefIdeal (hGateXIdeal := hGateXIdeal) (hGateXRefIdeal := hGateXRefIdeal)
    ∧ preserves_OutS_OutSIdeal
    ∧ algebraic_OutSIdeal_OutSRefIdeal (hOutSIdeal := hOutSIdeal) (hOutSRefIdeal := hOutSRefIdeal)
    ∧ preserves_OutM_OutMIdeal
    ∧ algebraic_OutMIdeal_OutMRefIdeal (hOutMIdeal := hOutMIdeal) (hOutMRefIdeal := hOutMRefIdeal)
    ∧ preserves_OutW_OutWIdeal
    ∧ algebraic_OutWIdeal_OutWRefIdeal (hOutWIdeal := hOutWIdeal) (hOutWRefIdeal := hOutWRefIdeal)
    ∧ preserves_MixX_MixXIdeal
    ∧ algebraic_MixXIdeal_MixXRefIdeal (hMixXIdeal := hMixXIdeal) (hMixXRefIdeal := hMixXRefIdeal)
    ∧ preserves_OutV_OutVIdeal
    ∧ algebraic_OutVIdeal_OutVRefIdeal (hOutVIdeal := hOutVIdeal) (hOutVRefIdeal := hOutVRefIdeal)
    ∧ preserves_InY_InYIdeal
    ∧ algebraic_InYIdeal_InYRefIdeal (hInYIdeal := hInYIdeal) (hInYRefIdeal := hInYRefIdeal)
    ∧ preserves_InW_InWIdeal
    ∧ algebraic_InWIdeal_InWRefIdeal (hInWIdeal := hInWIdeal) (hInWRefIdeal := hInWRefIdeal)
    ∧ preserves_InX_InXIdeal
    ∧ algebraic_InXIdeal_InXRefIdeal (hInXIdeal := hInXIdeal) (hInXRefIdeal := hInXRefIdeal)
    ∧ preserves_KvY_KvYIdeal
    ∧ algebraic_KvYIdeal_KvYRefIdeal (hKvYIdeal := hKvYIdeal) (hKvYRefIdeal := hKvYRefIdeal)
    ∧ preserves_KvW_KvWIdeal
    ∧ algebraic_KvWIdeal_KvWRefIdeal (hKvWIdeal := hKvWIdeal) (hKvWRefIdeal := hKvWRefIdeal)
    ∧ preserves_KvX_KvXIdeal
    ∧ algebraic_KvXIdeal_KvXRefIdeal (hKvXIdeal := hKvXIdeal) (hKvXRefIdeal := hKvXRefIdeal)
    ∧ preserves_PleY_PleYIdeal
    ∧ algebraic_PleYIdeal_PleYRefIdeal (hPleYIdeal := hPleYIdeal) (hPleYRefIdeal := hPleYRefIdeal)
    ∧ preserves_PleW_PleWIdeal
    ∧ algebraic_PleWIdeal_PleWRefIdeal (hPleWIdeal := hPleWIdeal) (hPleWRefIdeal := hPleWRefIdeal)
    ∧ preserves_QY_QYIdeal
    ∧ algebraic_QYIdeal_QYRefIdeal (hQYIdeal := hQYIdeal) (hQYRefIdeal := hQYRefIdeal)
    ∧ preserves_QW_QWIdeal
    ∧ algebraic_QWIdeal_QWRefIdeal (hQWIdeal := hQWIdeal) (hQWRefIdeal := hQWRefIdeal)
    ∧ preserves_QX_QXIdeal
    ∧ algebraic_QXIdeal_QXRefIdeal (hQXIdeal := hQXIdeal) (hQXRefIdeal := hQXRefIdeal)
-- ==== Pre_finite.lean ====
abbrev S2048x8x192 : Shape := ⟨3, ![2048, 8, 192]⟩
abbrev S2048x8x128 : Shape := ⟨3, ![2048, 8, 128]⟩
abbrev S2048x2048 : Shape := ⟨2, ![2048, 2048]⟩
abbrev S_ : Shape := ⟨0, ![]⟩

class Facts : Prop where
  bcast_S_S2048x8x192 : S_.BroadcastsInDim S2048x8x192 (![] : Fin 0 → Fin S2048x8x192.rank)
  reducesTo_S2048x8x192_S_d0_1_2 : S2048x8x192.ReducesTo [0, 1, 2] S_
  h_S_ : 0 < S_.numel
  bcast_S_S2048x8x128 : S_.BroadcastsInDim S2048x8x128 (![] : Fin 0 → Fin S2048x8x128.rank)
  reducesTo_S2048x8x128_S_d0_1_2 : S2048x8x128.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x8x192 .f32) (main_arg1 : FVec F S2048x8x192 .f32) (main_arg2 : FVec F S2048x8x128 .f32) (main_arg3 : FVec F S2048x2048 .f32) : IVec S_ 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_c : IVec S_ 1 := constantI S_ 1 1#1
  let main_v3 : IVec S_ 1 := (fun x v => Host.reduce IntOp.andi x v reducesTo_S2048x8x192_S_d0_1_2 h_S_) main_v2 main_c
  let main_v4 : FVec F S2048x8x192 .f32 := Host.absf main_arg1
  let main_cst_0 : FVec F S_ .f32 := constant S_ .f32 0x7F800000#32
  let main_v5 : FVec F S2048x8x192 .f32 := broadcastInDim S2048x8x192 ![] bcast_S_S2048x8x192 main_cst_0
  let main_v6 : IVec S2048x8x192 1 := cmpf .olt main_v4 main_v5
  let main_c_1 : IVec S_ 1 := constantI S_ 1 1#1
  let main_v7 : IVec S_ 1 := (fun x v => Host.reduce IntOp.andi x v reducesTo_S2048x8x192_S_d0_1_2 h_S_) main_v6 main_c_1
  let main_v8 : IVec S_ 1 := andi main_v3 main_v7
  let main_v9 : FVec F S2048x8x128 .f32 := Host.absf main_arg2
  let main_cst_2 : FVec F S_ .f32 := constant S_ .f32 0x7F800000#32
  let main_v10 : FVec F S2048x8x128 .f32 := broadcastInDim S2048x8x128 ![] bcast_S_S2048x8x128 main_cst_2
  let main_v11 : IVec S2048x8x128 1 := cmpf .olt main_v9 main_v10
  let main_c_3 : IVec S_ 1 := constantI S_ 1 1#1
  let main_v12 : IVec S_ 1 := (fun x v => Host.reduce IntOp.andi x v reducesTo_S2048x8x128_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x8x192 : Shape := ⟨3, ![2048, 8, 192]⟩
abbrev S2048x8x128 : Shape := ⟨3, ![2048, 8, 128]⟩
abbrev S2048x2048 : Shape := ⟨2, ![2048, 2048]⟩
abbrev S8x2048x192 : Shape := ⟨3, ![8, 2048, 192]⟩
abbrev S_ : Shape := ⟨0, ![]⟩
abbrev S8x2048x256 : Shape := ⟨3, ![8, 2048, 256]⟩
abbrev S8x2048x128 : Shape := ⟨3, ![8, 2048, 128]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S2048x1024 : Shape := ⟨2, ![2048, 1024]⟩
abbrev S8x4x1x512 : Shape := ⟨4, ![8, 4, 1, 512]⟩
abbrev S2x2048x256 : Shape := ⟨3, ![2, 2048, 256]⟩
abbrev S2x512x256 : Shape := ⟨3, ![2, 512, 256]⟩
abbrev S2x512x128 : Shape := ⟨3, ![2, 512, 128]⟩
abbrev S2048x256 : Shape := ⟨2, ![2048, 256]⟩
abbrev S2x4x1x512 : Shape := ⟨4, ![2, 4, 1, 512]⟩
abbrev S2x4x8x512 : Shape := ⟨4, ![2, 4, 8, 512]⟩
abbrev S8x128 : Shape := ⟨2, ![8, 128]⟩
abbrev S512x256 : Shape := ⟨2, ![512, 256]⟩
abbrev S512x128 : Shape := ⟨2, ![512, 128]⟩
abbrev S8x512 : Shape := ⟨2, ![8, 512]⟩
abbrev S1x1x8x512 : Shape := ⟨4, ![1, 1, 8, 512]⟩
abbrev S1x512x256 : Shape := ⟨3, ![1, 512, 256]⟩
abbrev S1x512x128 : Shape := ⟨3, ![1, 512, 128]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 118
  | .vmem => 19
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048x8x128, .f32⟩
  | .hbm, ⟨3, _⟩ => ⟨S2048x2048, .f32⟩
  | .hbm, ⟨4, _⟩ => ⟨S8x2048x192, .f32⟩
  | .hbm, ⟨5, _⟩ => ⟨S_, .i32⟩
  | .hbm, ⟨6, _⟩ => ⟨S_, .f32⟩
  | .hbm, ⟨7, _⟩ => ⟨S8x2048x256, .f32⟩
  | .hbm, ⟨8, _⟩ => ⟨S8x2048x256, .bf16⟩
  | .hbm, ⟨9, _⟩ => ⟨S8x2048x192, .f32⟩
  | .hbm, ⟨10, _⟩ => ⟨S_, .i32⟩
  | .hbm, ⟨11, _⟩ => ⟨S_, .f32⟩
  | .hbm, ⟨12, _⟩ => ⟨S8x2048x256, .f32⟩
  | .hbm, ⟨13, _⟩ => ⟨S8x2048x256, .bf16⟩
  | .hbm, ⟨14, _⟩ => ⟨S8x2048x128, .f32⟩
  | .hbm, ⟨15, _⟩ => ⟨S8x2048x128, .bf16⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S2048, .i32⟩
  | .hbm, ⟨21, _⟩ => ⟨S_, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S1x2048, .i32⟩
  | .hbm, ⟨40, _⟩ => ⟨S2048x1, .i32⟩
  | .hbm, ⟨41, _⟩ => ⟨S2048x2048, .i32⟩
  | .hbm, ⟨42, _⟩ => ⟨S2048x2048, .i32⟩
  | .hbm, ⟨43, _⟩ => ⟨S2048x2048, .i1⟩
  | .hbm, ⟨44, _⟩ => ⟨S_, .f32⟩
  | .hbm, ⟨45, _⟩ => ⟨S_, .f32⟩
  | .hbm, ⟨46, _⟩ => ⟨S8x2048x2048, .i1⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x128x2048, .f32⟩
  | .hbm, ⟨64, _⟩ => ⟨S2048x8x128, .f32⟩
  | .hbm, ⟨65, _⟩ => ⟨S2048x1024, .f32⟩
  | .hbm, ⟨66, _⟩ => ⟨S8x2048x2048, .f32⟩
  | .hbm, ⟨67, _⟩ => ⟨S_, .f32⟩
  | .hbm, ⟨68, _⟩ => ⟨S8x2048x2048, .f32⟩
  | .hbm, ⟨69, _⟩ => ⟨S8x2048x2048, .f32⟩
  | .hbm, ⟨70, _⟩ => ⟨S2048, .i32⟩
  | .hbm, ⟨71, _⟩ => ⟨S_, .i32⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S_, .i32⟩
  | .hbm, ⟨77, _⟩ => ⟨S2048, .i32⟩
  | .hbm, ⟨78, _⟩ => ⟨S2048, .i1⟩
  | .hbm, ⟨79, _⟩ => ⟨S2048, .i32⟩
  | .hbm, ⟨80, _⟩ => ⟨S2048, .i32⟩
  | .hbm, ⟨81, _⟩ => ⟨S_, .i32⟩
  | .hbm, ⟨82, _⟩ => ⟨S2048, .i32⟩
  | .hbm, ⟨83, _⟩ => ⟨S2048, .i1⟩
  | .hbm, ⟨84, _⟩ => ⟨S2048, .i1⟩
  | .hbm, ⟨85, _⟩ => ⟨S_, .i32⟩
  | .hbm, ⟨86, _⟩ => ⟨S2048, .i32⟩
  | .hbm, ⟨87, _⟩ => ⟨S2048, .i32⟩
  | .hbm, ⟨88, _⟩ => ⟨S2048, .i32⟩
  | .hbm, ⟨89, _⟩ => ⟨S1x2048, .i32⟩
  | .hbm, ⟨90, _⟩ => ⟨S2048x1, .i32⟩
  | .hbm, ⟨91, _⟩ => ⟨S2048x2048, .i32⟩
  | .hbm, ⟨92, _⟩ => ⟨S2048x2048, .i32⟩
  | .hbm, ⟨93, _⟩ => ⟨S2048x2048, .i1⟩
  | .hbm, ⟨94, _⟩ => ⟨S_, .f32⟩
  | .hbm, ⟨95, _⟩ => ⟨S_, .f32⟩
  | .hbm, ⟨96, _⟩ => ⟨S8x2048x2048, .i1⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x2048x1, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S_, .f32⟩
  | .hbm, ⟨106, _⟩ => ⟨S8x2048, .f32⟩
  | .hbm, ⟨107, _⟩ => ⟨S8x2048, .f32⟩
  | .hbm, ⟨108, _⟩ => ⟨S8x2048, .f32⟩
  | .hbm, ⟨109, _⟩ => ⟨S8x4x1x512, .f32⟩
  | .hbm, ⟨110, _⟩ => ⟨S8x2048x256, .f32⟩
  | .hbm, ⟨111, _⟩ => ⟨S8x2048x256, .f32⟩
  | .hbm, ⟨112, _⟩ => ⟨S8x2048x128, .f32⟩
  | .hbm, ⟨113, _⟩ => ⟨S8x2048x192, .f32⟩
  | .hbm, ⟨114, _⟩ => ⟨S2048x8x192, .f32⟩
  | .hbm, ⟨115, _⟩ => ⟨S8x2048x192, .f32⟩
  | .hbm, ⟨116, _⟩ => ⟨S2048x8x192, .f32⟩
  | .hbm, ⟨117, _⟩ => ⟨S2048x8x128, .f32⟩
  | .local _ .vmem, ⟨0, _⟩ => ⟨S2x2048x256, .bf16⟩
  | .local _ .vmem, ⟨1, _⟩ => ⟨S2x2048x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x512x128, .bf16⟩
  | .local _ .vmem, ⟨5, _⟩ => ⟨S2x512x128, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2x4x1x512, .f32⟩
  | .local _ .vmem, ⟨11, _⟩ => ⟨S2x4x1x512, .f32⟩
  | .local _ .vmem, ⟨12, _⟩ => ⟨S2x2048x256, .f32⟩
  | .local _ .vmem, ⟨13, _⟩ => ⟨S2x2048x256, .f32⟩
  | .local _ .vmem, ⟨14, _⟩ => ⟨S2x512x256, .f32⟩
  | .local _ .vmem, ⟨15, _⟩ => ⟨S2x512x256, .f32⟩
  | .local _ .vmem, ⟨16, _⟩ => ⟨S2x512x128, .f32⟩
  | .local _ .vmem, ⟨17, _⟩ => ⟨S2x512x128, .f32⟩
  | .local _ .vmem, ⟨18, _⟩ => ⟨S2x4x8x512, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_c : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_0 : Ref sig .tc := ⟨.hbm, 35, rfl⟩
abbrev main_call2_v12 : Ref sig .tc := ⟨.hbm, 36, rfl⟩
abbrev main_call2_v13 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_7 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_c : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_0 : Ref sig .tc := ⟨.hbm, 85, rfl⟩
abbrev main_call4_v12 : Ref sig .tc := ⟨.hbm, 86, rfl⟩
abbrev main_call4_v13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_8 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v43 : Ref sig .tc := ⟨.hbm, 98, rfl⟩
abbrev main_cst_9 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_10 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53_0 : Ref sig .tc := ⟨.hbm, 110, rfl⟩
abbrev main_v53_1 : Ref sig .tc := ⟨.hbm, 111, rfl⟩
abbrev main_v53_2 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 3 → Nat :=
  let c0_9 : Index := 0#32
  let arg1 : BitVec 32 := BitVec.ofNat 32 (i 1).val
  let c512_i32 : BitVec 32 := 512#32
  let v8 : BitVec 32 := Scalar.muli arg1 c512_i32
  let v9 : BitVec 32 := v8
  let v14 : Index := Scalar.indexCast v9
  let c0_10 : Index := 0#32
  ![0, v14.toNat, 0]
def k0_off2 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v17 : Index := Scalar.indexCast v9
  let c0_11 : Index := 0#32
  ![v17.toNat, 0]
def k0_off3 (i : grid0.Coords) : Fin 4 → Nat :=
  let c0_16 : Index := 0#32
  let arg1 : BitVec 32 := BitVec.ofNat 32 (i 1).val
  let v32 : Index := Scalar.indexCast arg1
  let c0_17 : Index := 0#32
  let c0_18 : Index := 0#32
  ![0, v32.toNat, 0, 0]
def k0_off4 (i : grid0.Coords) : Fin 4 → Nat :=
  let c0_21 : Index := 0#32
  let arg1 : BitVec 32 := BitVec.ofNat 32 (i 1).val
  let v42 : Index := Scalar.indexCast arg1
  let c0_22 : Index := 0#32
  let c0_23 : Index := 0#32
  ![0, v42.toNat, 0, 0]
def k0_off5 (i : grid0.Coords) : Fin 3 → Nat :=
  let c1_36 : Index := 1#32
  let arg1 : BitVec 32 := BitVec.ofNat 32 (i 1).val
  let c512_i32 : BitVec 32 := 512#32
  let v8 : BitVec 32 := Scalar.muli arg1 c512_i32
  let v9 : BitVec 32 := v8
  let v66 : Index := Scalar.indexCast v9
  let c0_37 : Index := 0#32
  ![1, v66.toNat, 0]
def k0_off6 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v69 : Index := Scalar.indexCast v9
  let c128 : Index := 128#32
  ![v69.toNat, 128]
def k0_off7 (i : grid0.Coords) : Fin 4 → Nat :=
  let c1_43 : Index := 1#32
  let arg1 : BitVec 32 := BitVec.ofNat 32 (i 1).val
  let v84 : Index := Scalar.indexCast arg1
  let c0_44 : Index := 0#32
  let c0_45 : Index := 0#32
  ![1, v84.toNat, 0, 0]
def k0_off8 (i : grid0.Coords) : Fin 4 → Nat :=
  let c1_48 : Index := 1#32
  let arg1 : BitVec 32 := BitVec.ofNat 32 (i 1).val
  let v94 : Index := Scalar.indexCast arg1
  let c0_49 : Index := 0#32
  let c0_50 : Index := 0#32
  ![1, v94.toNat, 0, 0]
@[reducible] def k0_t1_loop (i : grid0.Coords) : Scf.Loop 32 :=
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_59 : BitVec 32 := 1#32
  ⟨v7, v118, c1_i32_59⟩
def k0_mult2 (i : grid0.Coords) (k0_t1 : Fin (k0_t1_loop i).trips) : BitVec 32 :=
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let c512_i32_73 : BitVec 32 := 512#32
  let v133 : BitVec 32 := Scalar.muli arg12 c512_i32_73
  v133
def k0_off9 (i : grid0.Coords) (k0_t1 : Fin (k0_t1_loop i).trips) : Fin 3 → Nat :=
  let c0_80 : Index := 0#32
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let c512_i32_73 : BitVec 32 := 512#32
  let v133 : BitVec 32 := Scalar.muli arg12 c512_i32_73
  let v134 : BitVec 32 := v133
  let v139 : Index := Scalar.indexCast v134
  let c0_81 : Index := 0#32
  ![0, v139.toNat, 0]
def k0_off10 (i : grid0.Coords) (k0_t1 : Fin (k0_t1_loop i).trips) : Fin 2 → Nat :=
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let c512_i32_73 : BitVec 32 := 512#32
  let v133 : BitVec 32 := Scalar.muli arg12 c512_i32_73
  let v134 : BitVec 32 := v133
  let v142 : Index := Scalar.indexCast v134
  let c0_82 : Index := 0#32
  ![v142.toNat, 0]
def k0_off11 (i : grid0.Coords) (k0_t1 : Fin (k0_t1_loop i).trips) : Fin 4 → Nat :=
  let c0_85 : Index := 0#32
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let v148 : Index := Scalar.indexCast arg12
  let c0_86 : Index := 0#32
  let c0_87 : Index := 0#32
  ![0, v148.toNat, 0, 0]
def k0_off12 (i : grid0.Coords) (k0_t1 : Fin (k0_t1_loop i).trips) : Fin 4 → Nat :=
  let c0_90 : Index := 0#32
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let v158 : Index := Scalar.indexCast arg12
  let c0_91 : Index := 0#32
  let c0_92 : Index := 0#32
  ![0, v158.toNat, 0, 0]
def k0_off13 (i : grid0.Coords) (k0_t1 : Fin (k0_t1_loop i).trips) : Fin 3 → Nat :=
  let c1_106 : Index := 1#32
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let c512_i32_73 : BitVec 32 := 512#32
  let v133 : BitVec 32 := Scalar.muli arg12 c512_i32_73
  let v134 : BitVec 32 := v133
  let v182 : Index := Scalar.indexCast v134
  let c0_107 : Index := 0#32
  ![1, v182.toNat, 0]
def k0_off14 (i : grid0.Coords) (k0_t1 : Fin (k0_t1_loop i).trips) : Fin 2 → Nat :=
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let c512_i32_73 : BitVec 32 := 512#32
  let v133 : BitVec 32 := Scalar.muli arg12 c512_i32_73
  let v134 : BitVec 32 := v133
  let v185 : Index := Scalar.indexCast v134
  let c128_108 : Index := 128#32
  ![v185.toNat, 128]
def k0_off15 (i : grid0.Coords) (k0_t1 : Fin (k0_t1_loop i).trips) : Fin 4 → Nat :=
  let c1_111 : Index := 1#32
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let v191 : Index := Scalar.indexCast arg12
  let c0_112 : Index := 0#32
  let c0_113 : Index := 0#32
  ![1, v191.toNat, 0, 0]
def k0_off16 (i : grid0.Coords) (k0_t1 : Fin (k0_t1_loop i).trips) : Fin 4 → Nat :=
  let c1_116 : Index := 1#32
  let arg1 : BitVec 32 := BitVec.ofNat 32 (i 1).val
  let c1_i32 : BitVec 32 := 1#32
  let v7 : BitVec 32 := Scalar.addi arg1 c1_i32
  let c1_i32_59 : BitVec 32 := 1#32
  let arg12 : BitVec 32 := Scf.iv v7 c1_i32_59 k0_t1
  let v201 : Index := Scalar.indexCast arg12
  let c0_117 : Index := 0#32
  let c0_118 : Index := 0#32
  ![1, v201.toNat, 0, 0]
@[reducible] def k0_t2_loop (i : grid0.Coords) : Scf.Loop 32 :=
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let v115 : BitVec 32 := Scalar.addi v7 v114
  let c1_i32_60 : BitVec 32 := 1#32
  ⟨v118, v115, c1_i32_60⟩
def k0_mult3 (i : grid0.Coords) (k0_t2 : Fin (k0_t2_loop i).trips) : BitVec 32 :=
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let c512_i32_73 : BitVec 32 := 512#32
  let v133 : BitVec 32 := Scalar.muli arg12 c512_i32_73
  v133
def k0_off17 (i : grid0.Coords) (k0_t2 : Fin (k0_t2_loop i).trips) : Fin 3 → Nat :=
  let c0_80 : Index := 0#32
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let c512_i32_73 : BitVec 32 := 512#32
  let v133 : BitVec 32 := Scalar.muli arg12 c512_i32_73
  let v134 : BitVec 32 := v133
  let v139 : Index := Scalar.indexCast v134
  let c0_81 : Index := 0#32
  ![0, v139.toNat, 0]
def k0_off18 (i : grid0.Coords) (k0_t2 : Fin (k0_t2_loop i).trips) : Fin 2 → Nat :=
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let c512_i32_73 : BitVec 32 := 512#32
  let v133 : BitVec 32 := Scalar.muli arg12 c512_i32_73
  let v134 : BitVec 32 := v133
  let v142 : Index := Scalar.indexCast v134
  let c0_82 : Index := 0#32
  ![v142.toNat, 0]
def k0_off19 (i : grid0.Coords) (k0_t2 : Fin (k0_t2_loop i).trips) : Fin 4 → Nat :=
  let c0_85 : Index := 0#32
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let v148 : Index := Scalar.indexCast arg12
  let c0_86 : Index := 0#32
  let c0_87 : Index := 0#32
  ![0, v148.toNat, 0, 0]
def k0_off20 (i : grid0.Coords) (k0_t2 : Fin (k0_t2_loop i).trips) : Fin 4 → Nat :=
  let c0_90 : Index := 0#32
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let v158 : Index := Scalar.indexCast arg12
  let c0_91 : Index := 0#32
  let c0_92 : Index := 0#32
  ![0, v158.toNat, 0, 0]
def k0_off21 (i : grid0.Coords) (k0_t2 : Fin (k0_t2_loop i).trips) : Fin 3 → Nat :=
  let c1_106 : Index := 1#32
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let c512_i32_73 : BitVec 32 := 512#32
  let v133 : BitVec 32 := Scalar.muli arg12 c512_i32_73
  let v134 : BitVec 32 := v133
  let v182 : Index := Scalar.indexCast v134
  let c0_107 : Index := 0#32
  ![1, v182.toNat, 0]
def k0_off22 (i : grid0.Coords) (k0_t2 : Fin (k0_t2_loop i).trips) : Fin 2 → Nat :=
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let c512_i32_73 : BitVec 32 := 512#32
  let v133 : BitVec 32 := Scalar.muli arg12 c512_i32_73
  let v134 : BitVec 32 := v133
  let v185 : Index := Scalar.indexCast v134
  let c128_108 : Index := 128#32
  ![v185.toNat, 128]
def k0_off23 (i : grid0.Coords) (k0_t2 : Fin (k0_t2_loop i).trips) : Fin 4 → Nat :=
  let c1_111 : Index := 1#32
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let v191 : Index := Scalar.indexCast arg12
  let c0_112 : Index := 0#32
  let c0_113 : Index := 0#32
  ![1, v191.toNat, 0, 0]
def k0_off24 (i : grid0.Coords) (k0_t2 : Fin (k0_t2_loop i).trips) : Fin 4 → Nat :=
  let c1_116 : Index := 1#32
  let arg1 : BitVec 32 := BitVec.ofNat 32 (i 1).val
  let c1_i32 : BitVec 32 := 1#32
  let v7 : BitVec 32 := Scalar.addi arg1 c1_i32
  let c4_i32 : BitVec 32 := 4#32
  let v114 : BitVec 32 := Scalar.subi c4_i32 v7
  let c1_i32_58 : BitVec 32 := 1#32
  let v116 : BitVec 32 := Scalar.divsi v114 c1_i32_58
  let v117 : BitVec 32 := Scalar.muli v116 c1_i32_58
  let v118 : BitVec 32 := Scalar.addi v7 v117
  let c1_i32_60 : BitVec 32 := 1#32
  let arg12 : BitVec 32 := Scf.iv v118 c1_i32_60 k0_t2
  let v201 : Index := Scalar.indexCast arg12
  let c0_117 : Index := 0#32
  let c0_118 : Index := 0#32
  ![1, v201.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2048x8x192 : Shape := ⟨3, ![2048, 8, 192]⟩
abbrev S2048x8x128 : Shape := ⟨3, ![2048, 8, 128]⟩
abbrev S2048x2048 : Shape := ⟨2, ![2048, 2048]⟩
abbrev S2048x1024 : Shape := ⟨2, ![2048, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S8x2048 : Shape := ⟨2, ![8, 2048]⟩
abbrev S8x2048x1 : Shape := ⟨3, ![8, 2048, 1]⟩
abbrev S8x128x2048 : Shape := ⟨3, ![8, 128, 2048]⟩
abbrev S8x2048x192 : Shape := ⟨3, ![8, 2048, 192]⟩

abbrev nBuf : Space → Nat
  | .hbm => 109
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048x8x128, .f32⟩
  | .hbm, ⟨3, _⟩ => ⟨S2048x2048, .f32⟩
  | .hbm, ⟨4, _⟩ => ⟨S2048x1024, .f32⟩
  | .hbm, ⟨5, _⟩ => ⟨S2048x8x128, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S8x2048x2048, .i1⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .i1⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S8x2048, .i1⟩
  | .hbm, ⟨55, _⟩ => ⟨S_, .f32⟩
  | .hbm, ⟨56, _⟩ => ⟨S8x2048, .f32⟩
  | .hbm, ⟨57, _⟩ => ⟨S8x2048, .i1⟩
  | .hbm, ⟨58, _⟩ => ⟨S_, .f32⟩
  | .hbm, ⟨59, _⟩ => ⟨S8x2048, .f32⟩
  | .hbm, ⟨60, _⟩ => ⟨S_, .f32⟩
  | .hbm, ⟨61, _⟩ => ⟨S8x2048, .f32⟩
  | .hbm, ⟨62, _⟩ => ⟨S_, .f32⟩
  | .hbm, ⟨63, _⟩ => ⟨S8x2048, .f32⟩
  | .hbm, ⟨64, _⟩ => ⟨S8x2048, .f32⟩
  | .hbm, ⟨65, _⟩ => ⟨S8x2048, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S8x2048x2048, .f32⟩
  | .hbm, ⟨74, _⟩ => ⟨S8x2048x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x128x2048, .f32⟩
  | .hbm, ⟨80, _⟩ => ⟨S2048x8x128, .f32⟩
  | .hbm, ⟨81, _⟩ => ⟨S8x128x2048, .f32⟩
  | .hbm, ⟨82, _⟩ => ⟨S8x2048x2048, .f32⟩
  | .hbm, ⟨83, _⟩ => ⟨S8x128x2048, .f32⟩
  | .hbm, ⟨84, _⟩ => ⟨S2048x8x128, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S8x2048x1, .f32⟩
  | .hbm, ⟨92, _⟩ => ⟨S8x2048x2048, .f32⟩
  | .hbm, ⟨93, _⟩ => ⟨S8x2048x2048, .f32⟩
  | .hbm, ⟨94, _⟩ => ⟨S_, .f32⟩
  | .hbm, ⟨95, _⟩ => ⟨S8x2048, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048x2048, .f32⟩
  | .hbm, ⟨104, _⟩ => ⟨S8x2048x2048, .f32⟩
  | .hbm, ⟨105, _⟩ => ⟨S8x2048x192, .f32⟩
  | .hbm, ⟨106, _⟩ => ⟨S2048x8x192, .f32⟩
  | .hbm, ⟨107, _⟩ => ⟨S8x2048x192, .f32⟩
  | .hbm, ⟨108, _⟩ => ⟨S2048x8x192, .f32⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_0 : Ref sig .tc := ⟨.hbm, 34, rfl⟩
abbrev main_call1_v0 : Ref sig .tc := ⟨.hbm, 35, rfl⟩
abbrev main_v12_1 : Ref sig .tc := ⟨.hbm, 36, rfl⟩
abbrev main_call1_v2 : Ref sig .tc := ⟨.hbm, 37, rfl⟩
abbrev main_v12_0 : Ref sig .tc := ⟨.hbm, 38, rfl⟩
abbrev main_call1_cst : Ref sig .tc := ⟨.hbm, 39, rfl⟩
abbrev main_v12_2 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_cst_7 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_10 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩

abbrev nD : Nat := 1
abbrev τ : Topo := Topo.v7x

variable {F : FTy → Type} [FloatOps F]
-- ==== DownX.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x2048, .bf16⟩
  | .hbm, ⟨3, _⟩ => ⟨S5632x2048, .bf16⟩
  | .hbm, ⟨4, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownW.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpW.lean ====
abbrev S2048x2048 : Shape := ⟨2, ![2048, 2048]⟩
abbrev S2048x11264 : Shape := ⟨2, ![2048, 11264]⟩
abbrev S2048x2x4x1408 : Shape := ⟨4, ![2048, 2, 4, 1408]⟩
abbrev S2048x4x2x1408 : Shape := ⟨4, ![2048, 4, 2, 1408]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x2x4x1408, .f32⟩
  | .hbm, ⟨4, _⟩ => ⟨S2048x4x2x1408, .f32⟩
  | .hbm, ⟨5, _⟩ => ⟨S2048x11264, .f32⟩
  | .hbm, ⟨6, _⟩ => ⟨S2048x11264, .bf16⟩
  | .hbm, ⟨7, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg0.toNat, c0_i32_10.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S2048x2048 : Shape := ⟨2, ![2048, 2048]⟩
abbrev S2048x11264 : Shape := ⟨2, ![2048, 11264]⟩
abbrev S_ : Shape := ⟨0, ![]⟩
abbrev S8x2048x1408 : Shape := ⟨3, ![8, 2048, 1408]⟩
abbrev S2048x8x1408 : Shape := ⟨3, ![2048, 8, 1408]⟩
abbrev S11264x2048 : Shape := ⟨2, ![11264, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpX.lean ====
abbrev S2048x11264 : Shape := ⟨2, ![2048, 11264]⟩
abbrev S8x2048x1408 : Shape := ⟨3, ![8, 2048, 1408]⟩
abbrev S_ : Shape := ⟨0, ![]⟩
abbrev S1x2048 : Shape := ⟨2, ![1, 2048]⟩
abbrev S2048x2x4x1408 : Shape := ⟨4, ![2048, 2, 4, 1408]⟩
abbrev S2048x4x2x1408 : Shape := ⟨4, ![2048, 4, 2, 1408]⟩
abbrev S2048x2048 : Shape := ⟨2, ![2048, 2048]⟩
abbrev S2048x1408 : Shape := ⟨2, ![2048, 1408]⟩
abbrev S1x1024x1408 : Shape := ⟨3, ![1, 1024, 1408]⟩
abbrev S1x1024 : Shape := ⟨2, ![1, 1024]⟩
abbrev S2048x1024 : Shape := ⟨2, ![2048, 1024]⟩
abbrev S1024x1408 : Shape := ⟨2, ![1024, 1408]⟩

abbrev nBuf : Space → Nat
  | .hbm => 10
  | .vmem => 9
  | .smem => 0
  | _ => 0

abbrev bufTy : (tb : Table) → Fin (tcTables nBuf tb) → BufTy
  | .hbm, ⟨0, _⟩ => ⟨S2048x11264, .f32⟩
  | .hbm, ⟨1, _⟩ => ⟨S8x2048x1408, .f32⟩
  | .hbm, ⟨2, _⟩ => ⟨S_, .f32⟩
  | .hbm, ⟨3, _⟩ => ⟨S1x2048, .f32⟩
  | .hbm, ⟨4, _⟩ => ⟨S2048x2x4x1408, .f32⟩
  | .hbm, ⟨5, _⟩ => ⟨S2048x4x2x1408, .f32⟩
  | .hbm, ⟨6, _⟩ => ⟨S2048x11264, .f32⟩
  | .hbm, ⟨7, _⟩ => ⟨S2048x11264, .bf16⟩
  | .hbm, ⟨8, _⟩ => ⟨S8x2048x1408, .bf16⟩
  | .hbm, ⟨9, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg2 c2_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg2 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpXRefIdeal.lean ====
abbrev S2048x11264 : Shape := ⟨2, ![2048, 11264]⟩
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S8x2048x1408, .f32⟩
  | .hbm, ⟨2, _⟩ => ⟨S_, .f32⟩
  | .hbm, ⟨3, _⟩ => ⟨S2048x2048, .f32⟩
  | .hbm, ⟨4, _⟩ => ⟨S2048x8x1408, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpY.lean ====
abbrev S2048x2048 : Shape := ⟨2, ![2048, 2048]⟩
abbrev S8x2048x1408 : Shape := ⟨3, ![8, 2048, 1408]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S2048x4x2x1408 : Shape := ⟨4, ![2048, 4, 2, 1408]⟩
abbrev S2048x2x4x1408 : Shape := ⟨4, ![2048, 2, 4, 1408]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8x2048x1408, .f32⟩
  | .hbm, ⟨2, _⟩ => ⟨S2048x2048, .bf16⟩
  | .hbm, ⟨3, _⟩ => ⟨S8x2048x1408, .bf16⟩
  | .hbm, ⟨4, _⟩ => ⟨S2048x11264, .f32⟩
  | .hbm, ⟨5, _⟩ => ⟨S2048x4x2x1408, .f32⟩
  | .hbm, ⟨6, _⟩ => ⟨S2048x2x4x1408, .f32⟩
  | .hbm, ⟨7, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg1 c2_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg1 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, arg2.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpYRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x2048x1408, .f32⟩
  | .hbm, ⟨2, _⟩ => ⟨S2048x8x1408, .f32⟩
  | .hbm, ⟨3, _⟩ => ⟨S2048x11264, .f32⟩
  | .hbm, ⟨4, _⟩ => ⟨S2048x11264, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownY.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownYRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GateY.lean ====
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateYRefIdeal.lean ====
abbrev S2048x2048 : Shape := ⟨2, ![2048, 2048]⟩
abbrev S1x2048 : Shape := ⟨2, ![1, 2048]⟩
abbrev S2048 : Shape := ⟨1, ![2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateW.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateX.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateXRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutS.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutSRefIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S1024x2048, .f32⟩
  | .hbm, ⟨4, _⟩ => ⟨S2048x2048, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutM.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutMRefIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S1024x2048, .f32⟩
  | .hbm, ⟨4, _⟩ => ⟨S2048x2048, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutW.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixX.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixXRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutV.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutVRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InY.lean ====
abbrev S2048x2048 : Shape := ⟨2, ![2048, 2048]⟩
abbrev S8x2048x426 : Shape := ⟨3, ![8, 2048, 426]⟩
abbrev S1x2048x426 : Shape := ⟨3, ![1, 2048, 426]⟩
abbrev S2048x426 : Shape := ⟨2, ![2048, 426]⟩
abbrev S2048x4 : Shape := ⟨2, ![2048, 4]⟩
abbrev S2048x406 : Shape := ⟨2, ![2048, 406]⟩
abbrev S2048x362 : Shape := ⟨2, ![2048, 362]⟩
abbrev S2048x64 : Shape := ⟨2, ![2048, 64]⟩
abbrev S_ : Shape := ⟨0, ![]⟩
abbrev S2048x16 : Shape := ⟨2, ![2048, 16]⟩
abbrev S2048x112 : Shape := ⟨2, ![2048, 112]⟩
abbrev S2048x3584 : Shape := ⟨2, ![2048, 3584]⟩
abbrev S1024x2048 : Shape := ⟨2, ![1024, 2048]⟩
abbrev S2048x896 : Shape := ⟨2, ![2048, 896]⟩
abbrev S1024x896 : Shape := ⟨2, ![1024, 896]⟩
abbrev S2048x2560 : Shape := ⟨2, ![2048, 2560]⟩
abbrev S2048x832 : Shape := ⟨2, ![2048, 832]⟩
abbrev S2048x3408 : Shape := ⟨2, ![2048, 3408]⟩

abbrev nBuf : Space → Nat
  | .hbm => 41
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8x2048x426, .f32⟩
  | .hbm, ⟨2, _⟩ => ⟨S2048x2048, .bf16⟩
  | .hbm, ⟨3, _⟩ => ⟨S8x2048x426, .bf16⟩
  | .hbm, ⟨4, _⟩ => ⟨S1x2048x426, .bf16⟩
  | .hbm, ⟨5, _⟩ => ⟨S2048x426, .bf16⟩
  | .hbm, ⟨6, _⟩ => ⟨S1x2048x426, .bf16⟩
  | .hbm, ⟨7, _⟩ => ⟨S2048x426, .bf16⟩
  | .hbm, ⟨8, _⟩ => ⟨S1x2048x426, .bf16⟩
  | .hbm, ⟨9, _⟩ => ⟨S2048x426, .bf16⟩
  | .hbm, ⟨10, _⟩ => ⟨S1x2048x426, .bf16⟩
  | .hbm, ⟨11, _⟩ => ⟨S2048x426, .bf16⟩
  | .hbm, ⟨12, _⟩ => ⟨S1x2048x426, .bf16⟩
  | .hbm, ⟨13, _⟩ => ⟨S2048x426, .bf16⟩
  | .hbm, ⟨14, _⟩ => ⟨S1x2048x426, .bf16⟩
  | .hbm, ⟨15, _⟩ => ⟨S2048x426, .bf16⟩
  | .hbm, ⟨16, _⟩ => ⟨S1x2048x426, .bf16⟩
  | .hbm, ⟨17, _⟩ => ⟨S2048x426, .bf16⟩
  | .hbm, ⟨18, _⟩ => ⟨S2048x4, .bf16⟩
  | .hbm, ⟨19, _⟩ => ⟨S1x2048x426, .bf16⟩
  | .hbm, ⟨20, _⟩ => ⟨S2048x426, .bf16⟩
  | .hbm, ⟨21, _⟩ => ⟨S2048x406, .bf16⟩
  | .hbm, ⟨22, _⟩ => ⟨S1x2048x426, .bf16⟩
  | .hbm, ⟨23, _⟩ => ⟨S2048x426, .bf16⟩
  | .hbm, ⟨24, _⟩ => ⟨S2048x362, .bf16⟩
  | .hbm, ⟨25, _⟩ => ⟨S1x2048x426, .bf16⟩
  | .hbm, ⟨26, _⟩ => ⟨S2048x426, .bf16⟩
  | .hbm, ⟨27, _⟩ => ⟨S2048x64, .bf16⟩
  | .hbm, ⟨28, _⟩ => ⟨S_, .bf16⟩
  | .hbm, ⟨29, _⟩ => ⟨S2048x64, .bf16⟩
  | .hbm, ⟨30, _⟩ => ⟨S1x2048x426, .bf16⟩
  | .hbm, ⟨31, _⟩ => ⟨S2048x426, .bf16⟩
  | .hbm, ⟨32, _⟩ => ⟨S2048x16, .bf16⟩
  | .hbm, ⟨33, _⟩ => ⟨S_, .bf16⟩
  | .hbm, ⟨34, _⟩ => ⟨S2048x112, .bf16⟩
  | .hbm, ⟨35, _⟩ => ⟨S2048x3584, .bf16⟩
  | .hbm, ⟨36, _⟩ => ⟨S2048x3584, .f32⟩
  | .hbm, ⟨37, _⟩ => ⟨S2048x2560, .f32⟩
  | .hbm, ⟨38, _⟩ => ⟨S2048x16, .f32⟩
  | .hbm, ⟨39, _⟩ => ⟨S2048x832, .f32⟩
  | .hbm, ⟨40, _⟩ => ⟨S2048x3408, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_cst : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst_0 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InYRefIdeal.lean ====
abbrev S2048x2048 : Shape := ⟨2, ![2048, 2048]⟩
abbrev S8x2048x426 : Shape := ⟨3, ![8, 2048, 426]⟩
abbrev S2048x8x426 : Shape := ⟨3, ![2048, 8, 426]⟩
abbrev S2048x3408 : Shape := ⟨2, ![2048, 3408]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x2048x426, .f32⟩
  | .hbm, ⟨2, _⟩ => ⟨S2048x8x426, .f32⟩
  | .hbm, ⟨3, _⟩ => ⟨S2048x3408, .f32⟩
  | .hbm, ⟨4, _⟩ => ⟨S2048x3408, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InW.lean ====
abbrev S2048x2048 : Shape := ⟨2, ![2048, 2048]⟩
abbrev S2048x3408 : Shape := ⟨2, ![2048, 3408]⟩
abbrev S2048x2560 : Shape := ⟨2, ![2048, 2560]⟩
abbrev S2048x832 : Shape := ⟨2, ![2048, 832]⟩
abbrev S_ : Shape := ⟨0, ![]⟩
abbrev S2048x64 : Shape := ⟨2, ![2048, 64]⟩
abbrev S2048x16 : Shape := ⟨2, ![2048, 16]⟩
abbrev S2048x112 : Shape := ⟨2, ![2048, 112]⟩
abbrev S2048x3584 : Shape := ⟨2, ![2048, 3584]⟩
abbrev S2048x1024 : Shape := ⟨2, ![2048, 1024]⟩
abbrev S2048x896 : Shape := ⟨2, ![2048, 896]⟩
abbrev S1024x896 : Shape := ⟨2, ![1024, 896]⟩
abbrev S2048x426 : Shape := ⟨2, ![2048, 426]⟩
abbrev S2048x4 : Shape := ⟨2, ![2048, 4]⟩
abbrev S2048x406 : Shape := ⟨2, ![2048, 406]⟩
abbrev S2048x362 : Shape := ⟨2, ![2048, 362]⟩
abbrev S1x2048x426 : Shape := ⟨3, ![1, 2048, 426]⟩
abbrev S8x2048x426 : Shape := ⟨3, ![8, 2048, 426]⟩

abbrev nBuf : Space → Nat
  | .hbm => 35
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x3408, .f32⟩
  | .hbm, ⟨2, _⟩ => ⟨S2048x2048, .bf16⟩
  | .hbm, ⟨3, _⟩ => ⟨S2048x2560, .f32⟩
  | .hbm, ⟨4, _⟩ => ⟨S2048x832, .f32⟩
  | .hbm, ⟨5, _⟩ => ⟨S_, .f32⟩
  | .hbm, ⟨6, _⟩ => ⟨S2048x64, .f32⟩
  | .hbm, ⟨7, _⟩ => ⟨S2048x16, .f32⟩
  | .hbm, ⟨8, _⟩ => ⟨S_, .f32⟩
  | .hbm, ⟨9, _⟩ => ⟨S2048x112, .f32⟩
  | .hbm, ⟨10, _⟩ => ⟨S2048x3584, .f32⟩
  | .hbm, ⟨11, _⟩ => ⟨S2048x3584, .bf16⟩
  | .hbm, ⟨12, _⟩ => ⟨S2048x3584, .bf16⟩
  | .hbm, ⟨13, _⟩ => ⟨S2048x426, .bf16⟩
  | .hbm, ⟨14, _⟩ => ⟨S2048x426, .bf16⟩
  | .hbm, ⟨15, _⟩ => ⟨S2048x426, .bf16⟩
  | .hbm, ⟨16, _⟩ => ⟨S2048x426, .bf16⟩
  | .hbm, ⟨17, _⟩ => ⟨S2048x426, .bf16⟩
  | .hbm, ⟨18, _⟩ => ⟨S2048x426, .bf16⟩
  | .hbm, ⟨19, _⟩ => ⟨S2048x4, .bf16⟩
  | .hbm, ⟨20, _⟩ => ⟨S2048x16, .bf16⟩
  | .hbm, ⟨21, _⟩ => ⟨S2048x406, .bf16⟩
  | .hbm, ⟨22, _⟩ => ⟨S2048x426, .bf16⟩
  | .hbm, ⟨23, _⟩ => ⟨S2048x362, .bf16⟩
  | .hbm, ⟨24, _⟩ => ⟨S2048x64, .bf16⟩
  | .hbm, ⟨25, _⟩ => ⟨S2048x426, .bf16⟩
  | .hbm, ⟨26, _⟩ => ⟨S1x2048x426, .bf16⟩
  | .hbm, ⟨27, _⟩ => ⟨S1x2048x426, .bf16⟩
  | .hbm, ⟨28, _⟩ => ⟨S1x2048x426, .bf16⟩
  | .hbm, ⟨29, _⟩ => ⟨S1x2048x426, .bf16⟩
  | .hbm, ⟨30, _⟩ => ⟨S1x2048x426, .bf16⟩
  | .hbm, ⟨31, _⟩ => ⟨S1x2048x426, .bf16⟩
  | .hbm, ⟨32, _⟩ => ⟨S1x2048x426, .bf16⟩
  | .hbm, ⟨33, _⟩ => ⟨S1x2048x426, .bf16⟩
  | .hbm, ⟨34, _⟩ => ⟨S8x2048x426, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S2048x2048 : Shape := ⟨2, ![2048, 2048]⟩
abbrev S2048x3408 : Shape := ⟨2, ![2048, 3408]⟩
abbrev S_ : Shape := ⟨0, ![]⟩
abbrev S8x2048x426 : Shape := ⟨3, ![8, 2048, 426]⟩
abbrev S2048x8x426 : Shape := ⟨3, ![2048, 8, 426]⟩
abbrev S3408x2048 : Shape := ⟨2, ![3408, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3408, .f32⟩
  | .hbm, ⟨2, _⟩ => ⟨S_, .f32⟩
  | .hbm, ⟨3, _⟩ => ⟨S8x2048x426, .f32⟩
  | .hbm, ⟨4, _⟩ => ⟨S2048x8x426, .f32⟩
  | .hbm, ⟨5, _⟩ => ⟨S2048x3408, .f32⟩
  | .hbm, ⟨6, _⟩ => ⟨S2048x3408, .f32⟩
  | .hbm, ⟨7, _⟩ => ⟨S3408x2048, .f32⟩
  | .hbm, ⟨8, _⟩ => ⟨S2048x3408, .f32⟩
  | .hbm, ⟨9, _⟩ => ⟨S2048x8x426, .f32⟩
  | .hbm, ⟨10, _⟩ => ⟨S8x2048x426, .f32⟩
  | .hbm, ⟨11, _⟩ => ⟨S8x2048x426, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InX.lean ====
abbrev S2048x3408 : Shape := ⟨2, ![2048, 3408]⟩
abbrev S8x2048x426 : Shape := ⟨3, ![8, 2048, 426]⟩
abbrev S_ : Shape := ⟨0, ![]⟩
abbrev S1x2048 : Shape := ⟨2, ![1, 2048]⟩
abbrev S2048x2560 : Shape := ⟨2, ![2048, 2560]⟩
abbrev S2048x832 : Shape := ⟨2, ![2048, 832]⟩
abbrev S2048x64 : Shape := ⟨2, ![2048, 64]⟩
abbrev S2048x16 : Shape := ⟨2, ![2048, 16]⟩
abbrev S2048x112 : Shape := ⟨2, ![2048, 112]⟩
abbrev S2048x3584 : Shape := ⟨2, ![2048, 3584]⟩
abbrev S1x2048x426 : Shape := ⟨3, ![1, 2048, 426]⟩
abbrev S2048x426 : Shape := ⟨2, ![2048, 426]⟩
abbrev S2048x4 : Shape := ⟨2, ![2048, 4]⟩
abbrev S2048x406 : Shape := ⟨2, ![2048, 406]⟩
abbrev S2048x362 : Shape := ⟨2, ![2048, 362]⟩
abbrev S2048x2048 : Shape := ⟨2, ![2048, 2048]⟩
abbrev S1024x1792 : Shape := ⟨2, ![1024, 1792]⟩
abbrev S1x1024 : Shape := ⟨2, ![1, 1024]⟩
abbrev S1024x1024 : Shape := ⟨2, ![1024, 1024]⟩

abbrev nBuf : Space → Nat
  | .hbm => 47
  | .vmem => 9
  | .smem => 0
  | _ => 0

abbrev bufTy : (tb : Table) → Fin (tcTables nBuf tb) → BufTy
  | .hbm, ⟨0, _⟩ => ⟨S2048x3408, .f32⟩
  | .hbm, ⟨1, _⟩ => ⟨S8x2048x426, .f32⟩
  | .hbm, ⟨2, _⟩ => ⟨S_, .f32⟩
  | .hbm, ⟨3, _⟩ => ⟨S1x2048, .f32⟩
  | .hbm, ⟨4, _⟩ => ⟨S2048x2560, .f32⟩
  | .hbm, ⟨5, _⟩ => ⟨S2048x832, .f32⟩
  | .hbm, ⟨6, _⟩ => ⟨S_, .f32⟩
  | .hbm, ⟨7, _⟩ => ⟨S2048x64, .f32⟩
  | .hbm, ⟨8, _⟩ => ⟨S2048x16, .f32⟩
  | .hbm, ⟨9, _⟩ => ⟨S_, .f32⟩
  | .hbm, ⟨10, _⟩ => ⟨S2048x112, .f32⟩
  | .hbm, ⟨11, _⟩ => ⟨S2048x3584, .f32⟩
  | .hbm, ⟨12, _⟩ => ⟨S2048x3584, .bf16⟩
  | .hbm, ⟨13, _⟩ => ⟨S8x2048x426, .bf16⟩
  | .hbm, ⟨14, _⟩ => ⟨S1x2048x426, .bf16⟩
  | .hbm, ⟨15, _⟩ => ⟨S2048x426, .bf16⟩
  | .hbm, ⟨16, _⟩ => ⟨S1x2048x426, .bf16⟩
  | .hbm, ⟨17, _⟩ => ⟨S2048x426, .bf16⟩
  | .hbm, ⟨18, _⟩ => ⟨S1x2048x426, .bf16⟩
  | .hbm, ⟨19, _⟩ => ⟨S2048x426, .bf16⟩
  | .hbm, ⟨20, _⟩ => ⟨S1x2048x426, .bf16⟩
  | .hbm, ⟨21, _⟩ => ⟨S2048x426, .bf16⟩
  | .hbm, ⟨22, _⟩ => ⟨S1x2048x426, .bf16⟩
  | .hbm, ⟨23, _⟩ => ⟨S2048x426, .bf16⟩
  | .hbm, ⟨24, _⟩ => ⟨S1x2048x426, .bf16⟩
  | .hbm, ⟨25, _⟩ => ⟨S2048x426, .bf16⟩
  | .hbm, ⟨26, _⟩ => ⟨S1x2048x426, .bf16⟩
  | .hbm, ⟨27, _⟩ => ⟨S2048x426, .bf16⟩
  | .hbm, ⟨28, _⟩ => ⟨S2048x4, .bf16⟩
  | .hbm, ⟨29, _⟩ => ⟨S1x2048x426, .bf16⟩
  | .hbm, ⟨30, _⟩ => ⟨S2048x426, .bf16⟩
  | .hbm, ⟨31, _⟩ => ⟨S2048x406, .bf16⟩
  | .hbm, ⟨32, _⟩ => ⟨S1x2048x426, .bf16⟩
  | .hbm, ⟨33, _⟩ => ⟨S2048x426, .bf16⟩
  | .hbm, ⟨34, _⟩ => ⟨S2048x362, .bf16⟩
  | .hbm, ⟨35, _⟩ => ⟨S1x2048x426, .bf16⟩
  | .hbm, ⟨36, _⟩ => ⟨S2048x426, .bf16⟩
  | .hbm, ⟨37, _⟩ => ⟨S2048x64, .bf16⟩
  | .hbm, ⟨38, _⟩ => ⟨S_, .bf16⟩
  | .hbm, ⟨39, _⟩ => ⟨S2048x64, .bf16⟩
  | .hbm, ⟨40, _⟩ => ⟨S1x2048x426, .bf16⟩
  | .hbm, ⟨41, _⟩ => ⟨S2048x426, .bf16⟩
  | .hbm, ⟨42, _⟩ => ⟨S2048x16, .bf16⟩
  | .hbm, ⟨43, _⟩ => ⟨S_, .bf16⟩
  | .hbm, ⟨44, _⟩ => ⟨S2048x112, .bf16⟩
  | .hbm, ⟨45, _⟩ => ⟨S2048x3584, .bf16⟩
  | .hbm, ⟨46, _⟩ => ⟨S2048x2048, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x3408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InXRefIdeal.lean ====
abbrev S2048x3408 : Shape := ⟨2, ![2048, 3408]⟩
abbrev S8x2048x426 : Shape := ⟨3, ![8, 2048, 426]⟩
abbrev S_ : Shape := ⟨0, ![]⟩
abbrev S2048x2048 : Shape := ⟨2, ![2048, 2048]⟩
abbrev S2048x8x426 : Shape := ⟨3, ![2048, 8, 426]⟩

abbrev nBuf : Space → Nat
  | .hbm => 8
  | .vmem => 0
  | .smem => 0
  | _ => 0

abbrev bufTy : (tb : Table) → Fin (tcTables nBuf tb) → BufTy
  | .hbm, ⟨0, _⟩ => ⟨S2048x3408, .f32⟩
  | .hbm, ⟨1, _⟩ => ⟨S8x2048x426, .f32⟩
  | .hbm, ⟨2, _⟩ => ⟨S_, .f32⟩
  | .hbm, ⟨3, _⟩ => ⟨S2048x2048, .f32⟩
  | .hbm, ⟨4, _⟩ => ⟨S2048x8x426, .f32⟩
  | .hbm, ⟨5, _⟩ => ⟨S2048x3408, .f32⟩
  | .hbm, ⟨6, _⟩ => ⟨S2048x3408, .f32⟩
  | .hbm, ⟨7, _⟩ => ⟨S2048x2048, .f32⟩
  | _, _ => ⟨S2048x3408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvY.lean ====
abbrev S2048x256 : Shape := ⟨2, ![2048, 256]⟩
abbrev S256x2048 : Shape := ⟨2, ![256, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x256, .bf16⟩
  | .hbm, ⟨3, _⟩ => ⟨S256x2048, .bf16⟩
  | .hbm, ⟨4, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvYRefIdeal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KvW.lean ====
abbrev S2048x256 : Shape := ⟨2, ![2048, 256]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S2048x2048, .bf16⟩
  | .hbm, ⟨4, _⟩ => ⟨S256x2048, .bf16⟩
  | .local _ .vmem, ⟨0, _⟩ => ⟨S2048x256, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvX.lean ====
abbrev S2048x2048 : Shape := ⟨2, ![2048, 2048]⟩
abbrev S256x2048 : Shape := ⟨2, ![256, 2048]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x2048, .bf16⟩
  | .hbm, ⟨3, _⟩ => ⟨S256x2048, .bf16⟩
  | .hbm, ⟨4, _⟩ => ⟨S2048x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvXRefIdeal.lean ====
abbrev S2048x2048 : Shape := ⟨2, ![2048, 2048]⟩
abbrev S256x2048 : Shape := ⟨2, ![256, 2048]⟩
abbrev S_ : Shape := ⟨0, ![]⟩
abbrev S2048x256 : Shape := ⟨2, ![2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S_, .f32⟩
  | .hbm, ⟨3, _⟩ => ⟨S2048x256, .f32⟩
  | .hbm, ⟨4, _⟩ => ⟨S2048x2048, .f32⟩
  | .hbm, ⟨5, _⟩ => ⟨S2048x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PleY.lean ====
abbrev S2048x256 : Shape := ⟨2, ![2048, 256]⟩
abbrev S256x2048 : Shape := ⟨2, ![256, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x256, .bf16⟩
  | .hbm, ⟨3, _⟩ => ⟨S256x2048, .bf16⟩
  | .hbm, ⟨4, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleYRefIdeal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PleW.lean ====
abbrev S2048x256 : Shape := ⟨2, ![2048, 256]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S2048x2048, .bf16⟩
  | .hbm, ⟨4, _⟩ => ⟨S256x2048, .bf16⟩
  | .local _ .vmem, ⟨0, _⟩ => ⟨S2048x256, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleWRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QY.lean ====
abbrev S2048x512 : Shape := ⟨2, ![2048, 512]⟩
abbrev S512x1536 : Shape := ⟨2, ![512, 1536]⟩
abbrev S512x8x192 : Shape := ⟨3, ![512, 8, 192]⟩
abbrev S_ : Shape := ⟨0, ![]⟩
abbrev S512x8x256 : Shape := ⟨3, ![512, 8, 256]⟩
abbrev S512x2048 : Shape := ⟨2, ![512, 2048]⟩
abbrev S2048x2048 : Shape := ⟨2, ![2048, 2048]⟩
abbrev S1024x512 : Shape := ⟨2, ![1024, 512]⟩
abbrev S512x1024 : Shape := ⟨2, ![512, 1024]⟩
abbrev S1024x1024 : Shape := ⟨2, ![1024, 1024]⟩
abbrev S2048x8x256 : Shape := ⟨3, ![2048, 8, 256]⟩
abbrev S2048x8x192 : Shape := ⟨3, ![2048, 8, 192]⟩
abbrev S2048x1536 : Shape := ⟨2, ![2048, 1536]⟩

abbrev nBuf : Space → Nat
  | .hbm => 13
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x512, .bf16⟩
  | .hbm, ⟨3, _⟩ => ⟨S512x1536, .bf16⟩
  | .hbm, ⟨4, _⟩ => ⟨S512x8x192, .bf16⟩
  | .hbm, ⟨5, _⟩ => ⟨S_, .i32⟩
  | .hbm, ⟨6, _⟩ => ⟨S_, .bf16⟩
  | .hbm, ⟨7, _⟩ => ⟨S512x8x256, .bf16⟩
  | .hbm, ⟨8, _⟩ => ⟨S512x2048, .bf16⟩
  | .hbm, ⟨9, _⟩ => ⟨S2048x2048, .f32⟩
  | .hbm, ⟨10, _⟩ => ⟨S2048x8x256, .f32⟩
  | .hbm, ⟨11, _⟩ => ⟨S2048x8x192, .f32⟩
  | .hbm, ⟨12, _⟩ => ⟨S2048x1536, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QYRefIdeal.lean ====
abbrev S2048x512 : Shape := ⟨2, ![2048, 512]⟩
abbrev S512x1536 : Shape := ⟨2, ![512, 1536]⟩
abbrev S2048x1536 : Shape := ⟨2, ![2048, 1536]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x1536, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QW.lean ====
abbrev S2048x512 : Shape := ⟨2, ![2048, 512]⟩
abbrev S2048x1536 : Shape := ⟨2, ![2048, 1536]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩
abbrev S512x8x256 : Shape := ⟨3, ![512, 8, 256]⟩
abbrev S512x8x192 : Shape := ⟨3, ![512, 8, 192]⟩
abbrev S512x1536 : Shape := ⟨2, ![512, 1536]⟩

abbrev nBuf : Space → Nat
  | .hbm => 13
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S2048x512, .bf16⟩
  | .hbm, ⟨3, _⟩ => ⟨S2048x1536, .bf16⟩
  | .hbm, ⟨4, _⟩ => ⟨S2048x8x192, .bf16⟩
  | .hbm, ⟨5, _⟩ => ⟨S_, .i32⟩
  | .hbm, ⟨6, _⟩ => ⟨S_, .bf16⟩
  | .hbm, ⟨7, _⟩ => ⟨S2048x8x256, .bf16⟩
  | .hbm, ⟨8, _⟩ => ⟨S2048x2048, .bf16⟩
  | .hbm, ⟨9, _⟩ => ⟨S512x2048, .bf16⟩
  | .hbm, ⟨10, _⟩ => ⟨S512x8x256, .bf16⟩
  | .hbm, ⟨11, _⟩ => ⟨S512x8x192, .bf16⟩
  | .hbm, ⟨12, _⟩ => ⟨S512x1536, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QWRefIdeal.lean ====
abbrev S2048x512 : Shape := ⟨2, ![2048, 512]⟩
abbrev S2048x1536 : Shape := ⟨2, ![2048, 1536]⟩
abbrev S_ : Shape := ⟨0, ![]⟩
abbrev S512x1536 : Shape := ⟨2, ![512, 1536]⟩
abbrev S1536x512 : Shape := ⟨2, ![1536, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S_, .f32⟩
  | .hbm, ⟨3, _⟩ => ⟨S512x1536, .f32⟩
  | .hbm, ⟨4, _⟩ => ⟨S2048x1536, .f32⟩
  | .hbm, ⟨5, _⟩ => ⟨S1536x512, .f32⟩
  | .hbm, ⟨6, _⟩ => ⟨S512x1536, .f32⟩
  | .hbm, ⟨7, _⟩ => ⟨S512x1536, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QX.lean ====
abbrev S2048x1536 : Shape := ⟨2, ![2048, 1536]⟩
abbrev S512x1536 : Shape := ⟨2, ![512, 1536]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩
abbrev S512x8x192 : Shape := ⟨3, ![512, 8, 192]⟩
abbrev S512x8x256 : Shape := ⟨3, ![512, 8, 256]⟩
abbrev S512x2048 : Shape := ⟨2, ![512, 2048]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 15
  | .vmem => 5
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S2048x1536, .bf16⟩
  | .hbm, ⟨3, _⟩ => ⟨S2048x8x192, .bf16⟩
  | .hbm, ⟨4, _⟩ => ⟨S_, .i32⟩
  | .hbm, ⟨5, _⟩ => ⟨S_, .bf16⟩
  | .hbm, ⟨6, _⟩ => ⟨S2048x8x256, .bf16⟩
  | .hbm, ⟨7, _⟩ => ⟨S2048x2048, .bf16⟩
  | .hbm, ⟨8, _⟩ => ⟨S512x1536, .bf16⟩
  | .hbm, ⟨9, _⟩ => ⟨S512x8x192, .bf16⟩
  | .hbm, ⟨10, _⟩ => ⟨S_, .i32⟩
  | .hbm, ⟨11, _⟩ => ⟨S_, .bf16⟩
  | .hbm, ⟨12, _⟩ => ⟨S512x8x256, .bf16⟩
  | .hbm, ⟨13, _⟩ => ⟨S512x2048, .bf16⟩
  | .hbm, ⟨14, _⟩ => ⟨S2048x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QXRefIdeal.lean ====
abbrev S2048x1536 : Shape := ⟨2, ![2048, 1536]⟩
abbrev S512x1536 : Shape := ⟨2, ![512, 1536]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S_, .f32⟩
  | .hbm, ⟨3, _⟩ => ⟨S2048x512, .f32⟩
  | .hbm, ⟨4, _⟩ => ⟨S2048x1536, .f32⟩
  | .hbm, ⟨5, _⟩ => ⟨S2048x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Base.lean ====
/- What the body of the attention gradient leaves at a grid point, as plain functions of the values it finds: windows of the blocks
   go through the stored payloads and come back as puts. -/
module

public import proofs.«01_k».proof.Proof.Gen.KernelIdeal.Skeleton
public import Idealize.ShloMosaic.Lib.VecWindow
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load at a unit rectangle of a buffer that holds `x` reads a window of `x`. -/
theorem ld {sp : Space} {s : Shape} {e : EltTy} (a : Memref sig .tc sp s e) (h : a.IsWhole) (x : Vec F s e)
    {off size : Fin s.rank → ℕ} (inb : ∀ b, off b + size b ≤ s.size b) :
    a.view.readAt (Elt F) (Rect.unit off size inb).toLoadRect (h.unread x) = VecWindow.window x off size inb := by
  rw [View.readAt_unit a.view _ inb rfl inb, h.read_unread]

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

/-- The inputs that the body reads after it has filled the row sums, and the row sums, held at their values. -/
def ins : sProp 𝕄 :=
  iprop(owns (c : Thread nD τ) arg2 fullShare x0 ∗ owns (c : Thread nD τ) arg3 fullShare x1 ∗ owns (c : Thread nD τ) arg4 fullShare x2 ∗ owns (c : Thread nD τ) arg6 fullShare x4 ∗ owns (c : Thread nD τ) arg7 fullShare x5 ∗ owns (c : Thread nD τ) arg11 fullShare D)

/-- The keys of the pair's first head. -/
abbrev kw0 := VecWindow.window x1 ![0, 0, 0] S1x512x256.size inb_S2x512x256_S1x512x256_0_0_0
/-- The keys of the pair's second head. -/
abbrev kw1 := VecWindow.window x1 ![1, 0, 0] S1x512x256.size inb_S2x512x256_S1x512x256_1_0_0
/-- The values of the pair's first head. -/
abbrev vw0 := VecWindow.window x2 ![0, 0, 0] S1x512x128.size inb_S2x512x128_S1x512x128_0_0_0
/-- The values of the pair's second head. -/
abbrev vw1 := VecWindow.window x2 ![1, 0, 0] S1x512x128.size inb_S2x512x128_S1x512x128_1_0_0

/-- The state before each trip over the later query blocks: the four accumulators and the query gradient. -/
abbrev St (F : FTy → Type) := (FVec F S512x256 .f32 × FVec F S512x128 .f32 × FVec F S512x256 .f32 × FVec F S512x128 .f32) × Vec F S2x2048x256 .f32

/-- The accumulators after one trip. -/
def tripAcc (k : Fin (k0_t1_loop i).trips) (a : FVec F S512x256 .f32 × FVec F S512x128 .f32 × FVec F S512x256 .f32 × FVec F S512x128 .f32) :
    FVec F S512x256 .f32 × FVec F S512x128 .f32 × FVec F S512x256 .f32 × FVec F S512x128 .f32 :=
  (k0_pay33 a.1 (kw0 x1) (vw0 x2) (VecWindow.window x0 (k0_off9 i k) S1x512x256.size (k0_off9_inb i k)) (VecWindow.window x4 (k0_off10 i k) S512x128.size (k0_off10_inb i k)) (VecWindow.window x5 (k0_off11 i k) S1x1x1x512.size (k0_off11_inb i k)) (VecWindow.window D (k0_off12 i k) S1x1x1x512.size (k0_off12_inb i k)),
   k0_pay31 a.2.1 (kw0 x1) (VecWindow.window x0 (k0_off9 i k) S1x512x256.size (k0_off9_inb i k)) (VecWindow.window x4 (k0_off10 i k) S512x128.size (k0_off10_inb i k)) (VecWindow.window x5 (k0_off11 i k) S1x1x1x512.size (k0_off11_inb i k)),
   k0_pay3 a.2.2.1 (k0_pay36 (VecWindow.window x0 (k0_off13 i k) S1x512x256.size (k0_off13_inb i k))) (k0_pay38 (kw1 x1) (VecWindow.window x0 (k0_off13 i k) S1x512x256.size (k0_off13_inb i k)) (VecWindow.window x5 (k0_off15 i k) S1x1x1x512.size (k0_off15_inb i k))) (k0_pay40 (vw1 x2) (VecWindow.window x4 (k0_off14 i k) S512x128.size (k0_off14_inb i k))) (k0_pay41 (VecWindow.window D (k0_off16 i k) S1x1x1x512.size (k0_off16_inb i k))),
   k0_pay39 a.2.2.2 (kw1 x1) (VecWindow.window x0 (k0_off13 i k) S1x512x256.size (k0_off13_inb i k)) (VecWindow.window x4 (k0_off14 i k) S512x128.size (k0_off14_inb i k)) (VecWindow.window x5 (k0_off15 i k) S1x1x1x512.size (k0_off15_inb i k)))

/-- The query gradient after one trip: the trip's block of each head of the pair is added to. -/
def tripQ (k : Fin (k0_t1_loop i).trips) : Vec F S2x2048x256 .f32 :=
  VecWindow.put (VecWindow.put Q (k0_off9 i k) S1x512x256.size
      (k0_pay34 (k0_pay27 (kw0 x1)) (k0_pay32 (kw0 x1) (vw0 x2) (VecWindow.window x0 (k0_off9 i k) S1x512x256.size (k0_off9_inb i k)) (VecWindow.window x4 (k0_off10 i k) S512x128.size (k0_off10_inb i k)) (VecWindow.window x5 (k0_off11 i k) S1x1x1x512.size (k0_off11_inb i k)) (VecWindow.window D (k0_off12 i k) S1x1x1x512.size (k0_off12_inb i k))) (VecWindow.window Q (k0_off9 i k) S1x512x256.size (k0_off9_inb i k))))
    (k0_off13 i k) S1x512x256.size
    (k0_pay4 (k0_pay35 (kw1 x1)) (k0_pay38 (kw1 x1) (VecWindow.window x0 (k0_off13 i k) S1x512x256.size (k0_off13_inb i k)) (VecWindow.window x5 (k0_off15 i k) S1x1x1x512.size (k0_off15_inb i k))) (k0_pay40 (vw1 x2) (VecWindow.window x4 (k0_off14 i k) S512x128.size (k0_off14_inb i k))) (k0_pay41 (VecWindow.window D (k0_off16 i k) S1x1x1x512.size (k0_off16_inb i k))) (VecWindow.window Q (k0_off13 i k) S1x512x256.size (k0_off13_inb i k)))

/-- The state after `n` trips from `s`. -/
def loopSt (s : St F) : ℕ → St F
  | 0 => s
  | n + 1 => if h : n < (k0_t1_loop i).trips then
      (tripAcc i x0 x1 x2 x4 x5 D ⟨n, h⟩ (loopSt s n).1, tripQ i x0 x1 x2 x4 x5 (loopSt s n).2 D ⟨n, h⟩) else loopSt s n

theorem loopSt_succ (s : St F) (n : ℕ) (h : n < (k0_t1_loop i).trips) :
    loopSt i x0 x1 x2 x4 x5 D s (n + 1)
      = (tripAcc i x0 x1 x2 x4 x5 D ⟨n, h⟩ (loopSt i x0 x1 x2 x4 x5 D s n).1, tripQ i x0 x1 x2 x4 x5 (loopSt i x0 x1 x2 x4 x5 D s n).2 D ⟨n, h⟩) := by
  rw [loopSt, dif_pos h]

/-- Queries of the diagonal block, first head: rows, their outputs' gradients and the row statistics read there. -/
abbrev qd0 := (VecWindow.window x0 (k0_off1 i) S1x512x256.size (k0_off1_inb i))
abbrev qd1 := (VecWindow.window x0 (k0_off5 i) S1x512x256.size (k0_off5_inb i))
abbrev dd0 := (VecWindow.window x4 (k0_off2 i) S512x128.size (k0_off2_inb i))
abbrev dd1 := (VecWindow.window x4 (k0_off6 i) S512x128.size (k0_off6_inb i))
abbrev ld0 := (VecWindow.window x5 (k0_off3 i) S1x1x1x512.size (k0_off3_inb i))
abbrev ld1 := (VecWindow.window x5 (k0_off7 i) S1x1x1x512.size (k0_off7_inb i))
abbrev sd0 := (VecWindow.window D (k0_off4 i) S1x1x1x512.size (k0_off4_inb i))
abbrev sd1 := (VecWindow.window D (k0_off8 i) S1x1x1x512.size (k0_off8_inb i))

/-- The query gradient after the first head's diagonal block. -/
def diagQ0 : Vec F S2x2048x256 .f32 :=
  VecWindow.put Q (k0_off1 i) S1x512x256.size
    (k0_pay71 (k0_pay62 (kw0 x1)) (k0_pay63 (vw0 x2)) (k0_pay65 (dd0 i x4)) (k0_pay66 (kw0 x1) (qd0 i x0)) (ld0 i x5) (sd0 i D) (VecWindow.window Q (k0_off1 i) S1x512x256.size (k0_off1_inb i)))

/-- The query gradient after both heads' diagonal blocks. -/
def diagQ : Vec F S2x2048x256 .f32 :=
  VecWindow.put (diagQ0 i x0 x1 x2 x4 x5 Q D) (k0_off5 i) S1x512x256.size
    (k0_pay1 (k0_pay80 (k0_pay72 (kw1 x1)) (k0_pay73 (vw1 x2)) (k0_pay74 (qd1 i x0)) (dd1 i x4) (ld1 i x5) (sd1 i D)
      (VecWindow.window (diagQ0 i x0 x1 x2 x4 x5 Q D) (k0_off5 i) S1x512x256.size (k0_off5_inb i))))

/-- The accumulators after both heads' diagonal blocks. -/
def diagAcc : FVec F S512x256 .f32 × FVec F S512x128 .f32 × FVec F S512x256 .f32 × FVec F S512x128 .f32 :=
  (k0_pay70 k0_pay58 (k0_pay63 (vw0 x2)) (k0_pay64 (qd0 i x0)) (k0_pay65 (dd0 i x4)) (k0_pay66 (kw0 x1) (qd0 i x0)) (ld0 i x5) (sd0 i D),
   k0_pay68 k0_pay59 (k0_pay65 (dd0 i x4)) (k0_pay66 (kw0 x1) (qd0 i x0)) (ld0 i x5),
   k0_pay79 k0_pay60 (k0_pay72 (kw1 x1)) (k0_pay73 (vw1 x2)) (k0_pay74 (qd1 i x0)) (dd1 i x4) (ld1 i x5) (sd1 i D),
   k0_pay77 k0_pay61 (k0_pay72 (kw1 x1)) (k0_pay74 (qd1 i x0)) (dd1 i x4) (ld1 i x5))

/-- The state at the end of a grid point. -/
def finSt : St F :=
  loopSt i x0 x1 x2 x4 x5 D (diagAcc i x0 x1 x2 x4 x5 D, diagQ i x0 x1 x2 x4 x5 Q D) (k0_t1_loop i).trips

/-- The row sums a pair of heads starts with, laid over whatever was there. -/
def fillD (B : Vec F S2x4x8x512 .f32) : Vec F S2x4x8x512 .f32 :=
  VecWindow.put (VecWindow.put (VecWindow.put (VecWindow.put (VecWindow.put (VecWindow.put (VecWindow.put (VecWindow.put B
    ![0, 0, 0, 0] S1x1x8x512.size (k0_pay15 (VecWindow.window x3 ![0, 0] S512x256.size inb_S2048x256_S512x256_0_0) (VecWindow.window x4 ![0, 0] S512x256.size inb_S2048x256_S512x256_0_0))) ![1, 0, 0, 0] S1x1x8x512.size (k0_pay16 (VecWindow.window x3 ![0, 0] S512x256.size inb_S2048x256_S512x256_0_0) (VecWindow.window x4 ![0, 0] S512x256.size inb_S2048x256_S512x256_0_0)))
    ![0, 1, 0, 0] S1x1x8x512.size (k0_pay18 (VecWindow.window x3 ![512, 0] S512x256.size inb_S2048x256_S512x256_512_0) (VecWindow.window x4 ![512, 0] S512x256.size inb_S2048x256_S512x256_512_0))) ![1, 1, 0, 0] S1x1x8x512.size (k0_pay20 k0_pay13 (k0_pay19 (VecWindow.window x3 ![512, 0] S512x256.size inb_S2048x256_S512x256_512_0) (VecWindow.window x4 ![512, 0] S512x256.size inb_S2048x256_S512x256_512_0)) (constant S8x512 .f32 0x00000000#32)))
    ![0, 2, 0, 0] S1x1x8x512.size (k0_pay22 k0_pay13 (VecWindow.window x3 ![1024, 0] S512x256.size inb_S2048x256_S512x256_1024_0) (VecWindow.window x4 ![1024, 0] S512x256.size inb_S2048x256_S512x256_1024_0))) ![1, 2, 0, 0] S1x1x8x512.size (k0_pay23 k0_pay13 (VecWindow.window x3 ![1024, 0] S512x256.size inb_S2048x256_S512x256_1024_0) (VecWindow.window x4 ![1024, 0] S512x256.size inb_S2048x256_S512x256_1024_0)))
    ![0, 3, 0, 0] S1x1x8x512.size (k0_pay25 k0_pay13 (VecWindow.window x3 ![1536, 0] S512x256.size inb_S2048x256_S512x256_1536_0) (VecWindow.window x4 ![1536, 0] S512x256.size inb_S2048x256_S512x256_1536_0))) ![1, 3, 0, 0] S1x1x8x512.size (k0_pay57 k0_pay13 (k0_pay26 (VecWindow.window x3 ![1536, 0] S512x256.size inb_S2048x256_S512x256_1536_0) (VecWindow.window x4 ![1536, 0] S512x256.size inb_S2048x256_S512x256_1536_0)) (constant S8x512 .f32 0x00000000#32))

/-- Two payloads, one per head of the pair, laid over whatever was there (width of a key). -/
def fill256 (B : Vec F S2x512x256 .f32) (a b : FVec F S512x256 .f32) : Vec F S2x512x256 .f32 :=
  VecWindow.put (VecWindow.put B ![0, 0, 0] S1x512x256.size (k0_pay8 a)) ![1, 0, 0] S1x512x256.size (k0_pay10 b)

/-- Two payloads, one per head of the pair, laid over whatever was there (width of a value). -/
def fill128 (B : Vec F S2x512x128 .f32) (a b : FVec F S512x128 .f32) : Vec F S2x512x128 .f32 :=
  VecWindow.put (VecWindow.put B ![0, 0, 0] S1x512x128.size (k0_pay9 a)) ![1, 0, 0] S1x512x128.size (k0_pay11 b)

/-- A put at equal contents apart from its window. -/
theorem put_congr {α : Type} {s : Shape} (x x' : s.Idx → α) (off size : Fin s.rank → ℕ) (w : ((a : Fin s.rank) → Fin (size a)) → α) (y : s.Idx)
    (h : (¬ ∀ a, off a ≤ (y a).val ∧ (y a).val < off a + size a) → x y = x' y) :
    VecWindow.put x off size w y = VecWindow.put x' off size w y := by
  unfold VecWindow.put
  split
  · rfl
  · next hn => exact h hn

/-- What the two payloads cover is everything. -/
theorem fill256_base (B B' : Vec F S2x512x256 .f32) (a b : FVec F S512x256 .f32) : fill256 B a b = fill256 B' a b := by
  funext y
  have h0 : (y 0).val < 2 := (y 0).isLt
  have h1 : (y 1).val < 512 := (y 1).isLt
  have h2 : (y 2).val < 256 := (y 2).isLt
  refine put_congr _ _ _ _ _ y fun n1 => put_congr _ _ _ _ _ y fun n0 => ?_
  exfalso
  rcases (by omega : (y 0).val = 0 ∨ (y 0).val = 1) with e | e
  · exact n0 (by intro a; fin_cases a <;> simp [S1x512x256] <;> omega)
  · exact n1 (by intro a; fin_cases a <;> simp [S1x512x256] <;> omega)

theorem fill128_base (B B' : Vec F S2x512x128 .f32) (a b : FVec F S512x128 .f32) : fill128 B a b = fill128 B' a b := by
  funext y
  have h0 : (y 0).val < 2 := (y 0).isLt
  have h1 : (y 1).val < 512 := (y 1).isLt
  have h2 : (y 2).val < 128 := (y 2).isLt
  refine put_congr _ _ _ _ _ y fun n1 => put_congr _ _ _ _ _ y fun n0 => ?_
  exfalso
  rcases (by omega : (y 0).val = 0 ∨ (y 0).val = 1) with e | e
  · exact n0 (by intro a; fin_cases a <;> simp [S1x512x128] <;> omega)
  · exact n1 (by intro a; fin_cases a <;> simp [S1x512x128] <;> omega)

/-- The eight row sums cover everything. -/
theorem fillD_base (B B' : Vec F S2x4x8x512 .f32) : fillD x3 x4 B = fillD x3 x4 B' := by
  funext y
  have h0 : (y 0).val < 2 := (y 0).isLt
  have h1 : (y 1).val < 4 := (y 1).isLt
  have h2 : (y 2).val < 8 := (y 2).isLt
  have h3 : (y 3).val < 512 := (y 3).isLt
  refine put_congr _ _ _ _ _ y fun n7 => put_congr _ _ _ _ _ y fun n6 => put_congr _ _ _ _ _ y fun n5 => put_congr _ _ _ _ _ y fun n4 =>
    put_congr _ _ _ _ _ y fun n3 => put_congr _ _ _ _ _ y fun n2 => put_congr _ _ _ _ _ y fun n1 => put_congr _ _ _ _ _ y fun n0 => ?_
  exfalso
  rcases (by omega : (y 0).val = 0 ∨ (y 0).val = 1) with e | e <;>
  rcases (by omega : (y 1).val = 0 ∨ (y 1).val = 1 ∨ (y 1).val = 2 ∨ (y 1).val = 3) with f | f | f | f
  · exact n0 (by intro a; fin_cases a <;> simp [S1x1x8x512] <;> omega)
  · exact n2 (by intro a; fin_cases a <;> simp [S1x1x8x512] <;> omega)
  · exact n4 (by intro a; fin_cases a <;> simp [S1x1x8x512] <;> omega)
  · exact n6 (by intro a; fin_cases a <;> simp [S1x1x8x512] <;> omega)
  · exact n1 (by intro a; fin_cases a <;> simp [S1x1x8x512] <;> omega)
  · exact n3 (by intro a; fin_cases a <;> simp [S1x1x8x512] <;> omega)
  · exact n5 (by intro a; fin_cases a <;> simp [S1x1x8x512] <;> omega)
  · exact n7 (by intro a; fin_cases a <;> simp [S1x1x8x512] <;> omega)

/-- Contents that nothing reads: zero everywhere. -/
def blank (s : Shape) : FVec F s .f32 := fun _ => Scalar.ofBits .f32 0x00000000#32

/-- The kernel's test that a pair of heads starts. -/
abbrev starts (i : grid0.Coords) : Prop := (Scalar.cmpi .ne (Scalar.extui (Scalar.cmpi .eq (BitVec.ofNat 32 (i 1).val) 0#32)) 0#32) = 1#1

/-- The query gradient a grid point starts from: cleared where a pair of heads starts. -/
def startQ [Decidable (starts i)] : Vec F S2x2048x256 .f32 := if starts i then k0_pay12 else Q

/-- The row sums a grid point works with: filled where a pair of heads starts. -/
def startD [Decidable (starts i)] : Vec F S2x4x8x512 .f32 := if starts i then fillD x3 x4 (blank _) else D

end Cert.KernelIdeal.Hand

end
-- ==== Proof.SegSums.lean ====
/- Filling the row sums and clearing the query gradient, each part run by itself. -/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

/-- The first part: the query gradient is cleared, three of the eight row sums are filled. -/
theorem part1_run (E : Set ℕ) (K : _ → sProp 𝕄) :
    iprop(owns (c : Thread nD τ) arg5 fullShare (x3) ∗ owns (c : Thread nD τ) arg6 fullShare (x4) ∗ owns (c : Thread nD τ) arg8 fullShare (Q) ∗ owns (c : Thread nD τ) arg11 fullShare (D)
      ∗ (iprop(owns (c : Thread nD τ) arg5 fullShare (x3) ∗ owns (c : Thread nD τ) arg6 fullShare (x4) ∗ owns (c : Thread nD τ) arg8 fullShare (k0_pay12) ∗ owns (c : Thread nD τ) arg11 fullShare (VecWindow.put (VecWindow.put (VecWindow.put (D) ![0, 0, 0, 0] S1x1x8x512.size (k0_pay15 (VecWindow.window x3 ![0, 0] S512x256.size inb_S2048x256_S512x256_0_0) (VecWindow.window x4 ![0, 0] S512x256.size inb_S2048x256_S512x256_0_0))) ![1, 0, 0, 0] S1x1x8x512.size (k0_pay16 (VecWindow.window x3 ![0, 0] S512x256.size inb_S2048x256_S512x256_0_0) (VecWindow.window x4 ![0, 0] S512x256.size inb_S2048x256_S512x256_0_0))) ![0, 1, 0, 0] S1x1x8x512.size (k0_pay18 (VecWindow.window x3 ![512, 0] S512x256.size inb_S2048x256_S512x256_512_0) (VecWindow.window x4 ![512, 0] S512x256.size inb_S2048x256_S512x256_512_0)))) -∗ K ⟨k0_pay13, k0_pay19 (VecWindow.window x3 ![512, 0] S512x256.size inb_S2048x256_S512x256_512_0) (VecWindow.window x4 ![512, 0] S512x256.size inb_S2048x256_S512x256_512_0), constant S8x512 .f32 0x00000000#32⟩))
    ⊢ wp frame (wpE (defs₀ (F := F)) Variants.none c none) E
        (k0_part1 i arg2 harg2 arg3 harg3 arg4 harg4 arg5 harg5 arg6 harg6 arg7 harg7 arg8 harg8 arg9 harg9 arg10 harg10 arg11 harg11) K := by
  rw [k0_part1_eq_skeleton]; unfold k0_part1_skel
  unfold owns
  iintro ⟨⟨%f5, %hf5, H5⟩, ⟨%f6, %hf6, H6⟩, ⟨%f8, %hf8, H8⟩, ⟨%f11, %hf11, H11⟩, Hk⟩
  obtain rfl := harg5.eq_unread hf5; obtain rfl := harg6.eq_unread hf6; obtain rfl := harg8.eq_unread hf8; obtain rfl := harg11.eq_unread hf11
  sl_exec
  sl_step
  delta part1_run.sl.cst_100
  simp only [ld]
  iapply Hk
  isplitl [H5]
  · iexists _; isplitr; · ipureintro; exact hf5
    iexact H5
  isplitl [H6]
  · iexists _; isplitr; · ipureintro; exact hf6
    iexact H6
  isplitl [H8]
  · iexists _; isplitr; swap; · iexact H8
    ipureintro
    rw [View.read_writes_full]
  iexists _; isplitr; swap; · iexact H11
  ipureintro
  simp only [View.read_writes_cons_put arg11.view _ _ _ _ rfl, View.writes_nil, harg11.read_unread]

/-- The second part: four more row sums are filled. -/
theorem part2_run (v159 : FVec F S512x128 .f32) (E : Set ℕ) (K : _ → sProp 𝕄) :
    iprop(owns (c : Thread nD τ) arg5 fullShare (x3) ∗ owns (c : Thread nD τ) arg6 fullShare (x4) ∗ owns (c : Thread nD τ) arg11 fullShare (D)
      ∗ (iprop(owns (c : Thread nD τ) arg5 fullShare (x3) ∗ owns (c : Thread nD τ) arg6 fullShare (x4) ∗ owns (c : Thread nD τ) arg11 fullShare (VecWindow.put (VecWindow.put (VecWindow.put (VecWindow.put (D) ![1, 1, 0, 0] S1x1x8x512.size (k0_pay20 k0_pay13 v159 (constant S8x512 .f32 0x00000000#32))) ![0, 2, 0, 0] S1x1x8x512.size (k0_pay22 k0_pay13 (VecWindow.window x3 ![1024, 0] S512x256.size inb_S2048x256_S512x256_1024_0) (VecWindow.window x4 ![1024, 0] S512x256.size inb_S2048x256_S512x256_1024_0))) ![1, 2, 0, 0] S1x1x8x512.size (k0_pay23 k0_pay13 (VecWindow.window x3 ![1024, 0] S512x256.size inb_S2048x256_S512x256_1024_0) (VecWindow.window x4 ![1024, 0] S512x256.size inb_S2048x256_S512x256_1024_0))) ![0, 3, 0, 0] S1x1x8x512.size (k0_pay25 k0_pay13 (VecWindow.window x3 ![1536, 0] S512x256.size inb_S2048x256_S512x256_1536_0) (VecWindow.window x4 ![1536, 0] S512x256.size inb_S2048x256_S512x256_1536_0)))) -∗ K ⟨k0_pay26 (VecWindow.window x3 ![1536, 0] S512x256.size inb_S2048x256_S512x256_1536_0) (VecWindow.window x4 ![1536, 0] S512x256.size inb_S2048x256_S512x256_1536_0), constant S8x512 .f32 0x00000000#32⟩))
    ⊢ wp frame (wpE (defs₀ (F := F)) Variants.none c none) E
        (k0_part2 i arg2 harg2 arg3 harg3 arg4 harg4 arg5 harg5 arg6 harg6 arg7 harg7 arg8 harg8 arg9 harg9 arg10 harg10 arg11 harg11 k0_pay13 v159 (constant S8x512 .f32 0x00000000#32)) K := by
  rw [k0_part2_eq_skeleton]; unfold k0_part2_skel
  unfold owns
  iintro ⟨⟨%f5, %hf5, H5⟩, ⟨%f6, %hf6, H6⟩, ⟨%f11, %hf11, H11⟩, Hk⟩
  obtain rfl := harg5.eq_unread hf5; obtain rfl := harg6.eq_unread hf6; obtain rfl := harg11.eq_unread hf11
  sl_exec
  sl_step
  delta part2_run.sl.cst_124
  simp only [ld]
  iapply Hk
  isplitl [H5]
  · iexists _; isplitr; · ipureintro; exact hf5
    iexact H5
  isplitl [H6]
  · iexists _; isplitr; · ipureintro; exact hf6
    iexact H6
  iexists _; isplitr; swap; · iexact H11
  ipureintro
  simp only [View.read_writes_cons_put arg11.view _ _ _ _ rfl, View.writes_nil, harg11.read_unread]

end Cert.KernelIdeal.Hand

end
-- ==== Proof.SegStart.lean ====
/- The start of a grid point, run by itself: where a pair of heads starts, and where one is continued. -/
module

public import proofs.«01_k».proof.Proof.SegSums

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

set_option maxHeartbeats 1000000 in
/-- The start of a grid point where no pair of heads starts: nothing is changed. -/
theorem part7_runB (hc : ¬ starts i) (E : Set ℕ) (K : _ → sProp 𝕄) :
    iprop(ins c arg2 arg3 arg4 arg6 arg7 arg11 x0 x1 x2 x4 x5 D ∗ owns (c : Thread nD τ) arg5 fullShare (x3) ∗ owns (c : Thread nD τ) arg8 fullShare (Q)
      ∗ (iprop(ins c arg2 arg3 arg4 arg6 arg7 arg11 x0 x1 x2 x4 x5 (D) ∗ owns (c : Thread nD τ) arg5 fullShare (x3) ∗ owns (c : Thread nD τ) arg8 fullShare (Q)) -∗
          K ⟨BitVec.ofNat 32 (i 1).val, k0_pay58, k0_pay59, k0_pay60, k0_pay61, Scalar.addi (BitVec.ofNat 32 (i 1).val) 1#32, Scalar.muli (BitVec.ofNat 32 (i 1).val) 512#32,
            k0_pay62 (kw0 x1), k0_pay63 (vw0 x2), k0_pay64 (qd0 i x0), k0_pay65 (dd0 i x4), k0_pay66 (kw0 x1) (qd0 i x0)⟩))
    ⊢ wp frame (wpE (defs₀ (F := F)) Variants.none c none) E
        (k0_part7 i arg2 harg2 arg3 harg3 arg4 harg4 arg5 harg5 arg6 harg6 arg7 harg7 arg8 harg8 arg9 harg9 arg10 harg10 arg11 harg11) K := by
  rw [k0_part7_eq_skeleton]; unfold k0_part7_skel
  dsimp only
  rw [dif_neg hc]
  unfold ins owns
  iintro ⟨⟨⟨%f2, %hf2, H2⟩, ⟨%f3, %hf3, H3⟩, ⟨%f4, %hf4, H4⟩, ⟨%f6, %hf6, H6⟩, ⟨%f7, %hf7, H7⟩, ⟨%f11, %hf11, H11⟩⟩, ⟨%f5, %hf5, H5⟩, ⟨%f8, %hf8, H8⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11
  sl_exec
  sl_step
  simp only [ld]
  iapply Hk
  isplitl [H2 H3 H4 H6 H7 H11]
  · isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H6]
    · iexists _; isplitr; · ipureintro; exact hf6
      iexact H6
    isplitl [H7]
    · iexists _; isplitr; · ipureintro; exact hf7
      iexact H7
    iexists _; isplitr; · ipureintro; exact hf11
    iexact H11
  isplitl [H5]
  · iexists _; isplitr; · ipureintro; exact hf5
    iexact H5
  · iexists _; isplitr; · ipureintro; exact hf8
    iexact H8

set_option maxHeartbeats 1000000 in
/-- The start of a grid point where a pair of heads starts: the query gradient is cleared and the row sums are filled. -/
theorem part7_runA (hc : starts i) (E : Set ℕ) (K : _ → sProp 𝕄) :
    iprop(ins c arg2 arg3 arg4 arg6 arg7 arg11 x0 x1 x2 x4 x5 D ∗ owns (c : Thread nD τ) arg5 fullShare (x3) ∗ owns (c : Thread nD τ) arg8 fullShare (Q)
      ∗ (iprop(ins c arg2 arg3 arg4 arg6 arg7 arg11 x0 x1 x2 x4 x5 (fillD x3 x4 D) ∗ owns (c : Thread nD τ) arg5 fullShare (x3) ∗ owns (c : Thread nD τ) arg8 fullShare (k0_pay12)) -∗
          K ⟨BitVec.ofNat 32 (i 1).val, k0_pay58, k0_pay59, k0_pay60, k0_pay61, Scalar.addi (BitVec.ofNat 32 (i 1).val) 1#32, Scalar.muli (BitVec.ofNat 32 (i 1).val) 512#32,
            k0_pay62 (kw0 x1), k0_pay63 (vw0 x2), k0_pay64 (qd0 i x0), k0_pay65 (dd0 i x4), k0_pay66 (kw0 x1) (qd0 i x0)⟩))
    ⊢ wp frame (wpE (defs₀ (F := F)) Variants.none c none) E
        (k0_part7 i arg2 harg2 arg3 harg3 arg4 harg4 arg5 harg5 arg6 harg6 arg7 harg7 arg8 harg8 arg9 harg9 arg10 harg10 arg11 harg11) K := by
  rw [k0_part7_eq_skeleton]; unfold k0_part7_skel
  dsimp only
  rw [dif_pos hc, wp_bind]
  unfold ins
  iintro ⟨⟨H2, H3, H4, H6, H7, H11⟩, H5, H8, Hk⟩
  iapply (part1_run c i arg2 harg2 arg3 harg3 arg4 harg4 arg5 harg5 arg6 harg6 arg7 harg7 arg8 harg8 arg9 harg9 arg10 harg10 arg11 harg11 x3 x4 Q D E)
  isplitl [H5]; · iexact H5
  isplitl [H6]; · iexact H6
  isplitl [H8]; · iexact H8
  isplitl [H11]; · iexact H11
  iintro ⟨H5, H6, H8, H11⟩
  dsimp only
  rw [wp_bind]
  iapply (part2_run c i arg2 harg2 arg3 harg3 arg4 harg4 arg5 harg5 arg6 harg6 arg7 harg7 arg8 harg8 arg9 harg9 arg10 harg10 arg11 harg11 x3 x4 _ _ E)
  isplitl [H5]; · iexact H5
  isplitl [H6]; · iexact H6
  isplitl [H11]; · iexact H11
  iintro ⟨H5, H6, H11⟩
  dsimp only
  unfold owns
  icases H2 with ⟨%f2, %hf2, H2⟩
  icases H3 with ⟨%f3, %hf3, H3⟩
  icases H4 with ⟨%f4, %hf4, H4⟩
  icases H6 with ⟨%f6, %hf6, H6⟩
  icases H11 with ⟨%f11, %hf11, H11⟩
  obtain rfl := harg2.eq_unread hf2; obtain rfl := harg3.eq_unread hf3; obtain rfl := harg4.eq_unread hf4; obtain rfl := harg6.eq_unread hf6; obtain rfl := harg11.eq_unread hf11
  sl_exec
  sl_step
  simp only [ld]
  iapply Hk
  isplitl [H2 H3 H4 H6 H7 H11]
  · isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H6]
    · iexists _; isplitr; · ipureintro; exact hf6
      iexact H6
    isplitl [H7]; · iexact H7
    iexists _; isplitr; swap; · iexact H11
    ipureintro
    rw [View.read_writes_cons_put arg11.view _ _ _ _ rfl, View.writes_nil, harg11.read_unread]
    rfl
  isplitl [H5]; · iexact H5
  iexact H8

end Cert.KernelIdeal.Hand

end
-- ==== Proof.SegDiag.lean ====
/- The parts of the body that work on the diagonal block, each run by itself. -/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

/-- The first head's diagonal block, from the scores on. -/
theorem part8_run (arg1 : BitVec 32) (v3 : FVec F S512x256 .f32) (v4 : FVec F S512x128 .f32) (v9 : BitVec 32) (v11 : FVec F S512x256 .bf16) (v13 : FVec F S512x128 .bf16) (v16 : FVec F S512x256 .bf16) (v19 : FVec F S512x128 .bf16) (v31 : FVec F S512x512 .f32)
    (E : Set ℕ) (K : _ → sProp 𝕄) :
    iprop(ins c arg2 arg3 arg4 arg6 arg7 arg11 x0 x1 x2 x4 x5 D ∗ owns (c : Thread nD τ) arg8 fullShare (Q)
      ∗ (iprop(ins c arg2 arg3 arg4 arg6 arg7 arg11 x0 x1 x2 x4 x5 D ∗ owns (c : Thread nD τ) arg8 fullShare (VecWindow.put Q (k0_off1 i) S1x512x256.size (k0_pay71 v11 v13 v19 v31 (ld0 i x5) (sd0 i D) (VecWindow.window Q (k0_off1 i) S1x512x256.size (k0_off1_inb i))))) -∗ K ⟨k0_pay68 v4 v19 v31 (ld0 i x5), k0_pay70 v3 v13 v16 v19 v31 (ld0 i x5) (sd0 i D), k0_pay72 (kw1 x1), k0_pay73 (vw1 x2), k0_pay74 (qd1 i x0)⟩))
    ⊢ wp frame (wpE (defs₀ (F := F)) Variants.none c none) E
        (k0_part8 i arg2 harg2 arg3 harg3 arg4 harg4 arg5 harg5 arg6 harg6 arg7 harg7 arg8 harg8 arg9 harg9 arg10 harg10 arg11 harg11 arg1 v3 v4 v9 v11 v13 v16 v19 v31) K := by
  simp only [k0_part8_eq_skeleton]; unfold k0_part8_skel
  unfold ins owns
  iintro ⟨⟨⟨%f2, %hf2, H2⟩, ⟨%f3, %hf3, H3⟩, ⟨%f4, %hf4, H4⟩, ⟨%f6, %hf6, H6⟩, ⟨%f7, %hf7, H7⟩, ⟨%f11, %hf11, H11⟩⟩, ⟨%f8, %hf8, H8⟩, Hk⟩
  obtain rfl := harg2.eq_unread hf2; obtain rfl := harg3.eq_unread hf3; obtain rfl := harg4.eq_unread hf4; obtain rfl := harg6.eq_unread hf6; obtain rfl := harg7.eq_unread hf7; obtain rfl := harg11.eq_unread hf11; obtain rfl := harg8.eq_unread hf8
  sl_exec
  sl_step
  simp only [ld]
  iapply Hk
  isplitl [H2 H3 H4 H6 H7 H11]
  · isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H6]
    · iexists _; isplitr; · ipureintro; exact hf6
      iexact H6
    isplitl [H7]
    · iexists _; isplitr; · ipureintro; exact hf7
      iexact H7
    iexists _; isplitr; · ipureintro; exact hf11
    iexact H11
  · iexists _; isplitr; swap; · iexact H8
    ipureintro
    rw [View.read_writes_cons_put arg8.view _ _ _ _ rfl, View.writes_nil, harg8.read_unread]

/-- The second head's diagonal block. -/
theorem part9_run (arg1 : BitVec 32) (v5 : FVec F S512x256 .f32) (v6 : FVec F S512x128 .f32) (v9 : BitVec 32) (v63 : FVec F S512x256 .bf16) (v65 : FVec F S512x128 .bf16) (v68 : FVec F S512x256 .bf16)
    (E : Set ℕ) (K : _ → sProp 𝕄) :
    iprop(ins c arg2 arg3 arg4 arg6 arg7 arg11 x0 x1 x2 x4 x5 D ∗ owns (c : Thread nD τ) arg8 fullShare (Q)
      ∗ (iprop(ins c arg2 arg3 arg4 arg6 arg7 arg11 x0 x1 x2 x4 x5 D ∗ owns (c : Thread nD τ) arg8 fullShare (Q)) -∗ K ⟨k0_pay77 v6 v63 v68 (dd1 i x4) (ld1 i x5), k0_pay79 v5 v63 v65 v68 (dd1 i x4) (ld1 i x5) (sd1 i D), k0_pay80 v63 v65 v68 (dd1 i x4) (ld1 i x5) (sd1 i D) (VecWindow.window Q (k0_off5 i) S1x512x256.size (k0_off5_inb i))⟩))
    ⊢ wp frame (wpE (defs₀ (F := F)) Variants.none c none) E
        (k0_part9 i arg2 harg2 arg3 harg3 arg4 harg4 arg5 harg5 arg6 harg6 arg7 harg7 arg8 harg8 arg9 harg9 arg10 harg10 arg11 harg11 arg1 v5 v6 v9 v63 v65 v68) K := by
  simp only [k0_part9_eq_skeleton]; unfold k0_part9_skel
  unfold ins owns
  iintro ⟨⟨⟨%f2, %hf2, H2⟩, ⟨%f3, %hf3, H3⟩, ⟨%f4, %hf4, H4⟩, ⟨%f6, %hf6, H6⟩, ⟨%f7, %hf7, H7⟩, ⟨%f11, %hf11, H11⟩⟩, ⟨%f8, %hf8, H8⟩, Hk⟩
  obtain rfl := harg2.eq_unread hf2; obtain rfl := harg3.eq_unread hf3; obtain rfl := harg4.eq_unread hf4; obtain rfl := harg6.eq_unread hf6; obtain rfl := harg7.eq_unread hf7; obtain rfl := harg11.eq_unread hf11; obtain rfl := harg8.eq_unread hf8
  sl_exec
  sl_step
  simp only [ld]
  iapply Hk
  isplitl [H2 H3 H4 H6 H7 H11]
  · isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H6]
    · iexists _; isplitr; · ipureintro; exact hf6
      iexact H6
    isplitl [H7]
    · iexists _; isplitr; · ipureintro; exact hf7
      iexact H7
    iexists _; isplitr; · ipureintro; exact hf11
    iexact H11
  · iexists _; isplitr; · ipureintro; exact hf8
    iexact H8

end Cert.KernelIdeal.Hand

end
-- ==== Proof.SegTrip.lean ====
/- One trip over a later query block, run by itself. -/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

set_option maxHeartbeats 1000000 in
/-- One trip: both heads' blocks of the query gradient and the four accumulators. -/
theorem trip_run (v7 : BitVec 32) (k : Fin (k0_t1_loop i).trips) (a : FVec F S512x256 .f32 × FVec F S512x128 .f32 × FVec F S512x256 .f32 × FVec F S512x128 .f32)
    (E : Set ℕ) (K : _ → sProp 𝕄) :
    iprop(ins c arg2 arg3 arg4 arg6 arg7 arg11 x0 x1 x2 x4 x5 D ∗ owns (c : Thread nD τ) arg8 fullShare (Q)
      ∗ (iprop(ins c arg2 arg3 arg4 arg6 arg7 arg11 x0 x1 x2 x4 x5 D ∗ owns (c : Thread nD τ) arg8 fullShare (tripQ i x0 x1 x2 x4 x5 Q D k)) -∗ K (tripAcc i x0 x1 x2 x4 x5 D k a)))
    ⊢ wp frame (wpE (defs₀ (F := F)) Variants.none c none) E
        (k0_t1_body i arg2 harg2 arg3 harg3 arg4 harg4 arg5 harg5 arg6 harg6 arg7 harg7 arg8 harg8 arg9 harg9 arg10 harg10 arg11 harg11 v7 k a) K := by
  obtain ⟨a1, a2, a3, a4⟩ := a
  unfold k0_t1_body
  simp only [k0_part3_eq_skeleton, k0_part4_eq_skeleton]
  unfold ins owns tripAcc
  dsimp only
  iintro ⟨⟨⟨%f2, %hf2, H2⟩, ⟨%f3, %hf3, H3⟩, ⟨%f4, %hf4, H4⟩, ⟨%f6, %hf6, H6⟩, ⟨%f7, %hf7, H7⟩, ⟨%f11, %hf11, H11⟩⟩, ⟨%f8, %hf8, H8⟩, Hk⟩
  obtain rfl := harg2.eq_unread hf2; obtain rfl := harg3.eq_unread hf3; obtain rfl := harg4.eq_unread hf4; obtain rfl := harg6.eq_unread hf6; obtain rfl := harg7.eq_unread hf7; obtain rfl := harg11.eq_unread hf11; obtain rfl := harg8.eq_unread hf8
  sl_exec
  sl_step
  delta trip_run.sl.r_1 trip_run.sl.r_3 trip_run.sl.r_5 trip_run.sl.r_6 trip_run.sl.r_7 trip_run.sl.r_8 trip_run.sl.r_9
  simp only [ld]
  iapply Hk
  isplitl [H2 H3 H4 H6 H7 H11]
  · isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H6]
    · iexists _; isplitr; · ipureintro; exact hf6
      iexact H6
    isplitl [H7]
    · iexists _; isplitr; · ipureintro; exact hf7
      iexact H7
    iexists _; isplitr; · ipureintro; exact hf11
    iexact H11
  · iexists _; isplitr; swap; · iexact H8
    ipureintro
    rw [View.read_writes_cons_put arg8.view _ _ _ _ rfl, View.read_writes_cons_put arg8.view _ _ _ _ rfl, View.writes_nil, harg8.read_unread]
    unfold tripQ
    delta trip_run.sl.r trip_run.sl.r_2 trip_run.sl.r_4 trip_run.sl.v213
    simp only [ld]

end Cert.KernelIdeal.Hand

end
-- ==== Proof.SegTail.lean ====
/- The end of the body, and the store between the diagonal block and the loop, each run by itself. -/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

/-- The stores at the end of the body. -/
def tailP (a : FVec F S512x256 .f32 × FVec F S512x128 .f32 × FVec F S512x256 .f32 × FVec F S512x128 .f32) : Prog (TpuEff nD τ sig (Elt F) Λ₀ .tc) PUnit := do
  let v121 : Vec F S1x512x256 .f32 ← Prog.lift (.load arg9 (Rect.unit (s := S2x512x256) ![0, 0, 0] S1x512x256.size inb_S2x512x256_S1x512x256_0_0_0).toLoadRect (View.loadsAt_vmem h_S1x512x256))
  Prog.lift (.store arg9 (Rect.unit (s := S2x512x256) ![0, 0, 0] S1x512x256.size inb_S2x512x256_S1x512x256_0_0_0) (k0_pay8 a.1) Finset.univ (View.stores_vmem_bits_univ h_S1x512x256 rfl) (.inl rfl))
  let v124 : Vec F S1x512x128 .f32 ← Prog.lift (.load arg10 (Rect.unit (s := S2x512x128) ![0, 0, 0] S1x512x128.size inb_S2x512x128_S1x512x128_0_0_0).toLoadRect (View.loadsAt_vmem h_S1x512x128))
  Prog.lift (.store arg10 (Rect.unit (s := S2x512x128) ![0, 0, 0] S1x512x128.size inb_S2x512x128_S1x512x128_0_0_0) (k0_pay9 a.2.1) Finset.univ (View.stores_vmem_bits_univ h_S1x512x128 rfl) (.inl rfl))
  let v127 : Vec F S1x512x256 .f32 ← Prog.lift (.load arg9 (Rect.unit (s := S2x512x256) ![1, 0, 0] S1x512x256.size inb_S2x512x256_S1x512x256_1_0_0).toLoadRect (View.loadsAt_vmem h_S1x512x256))
  Prog.lift (.store arg9 (Rect.unit (s := S2x512x256) ![1, 0, 0] S1x512x256.size inb_S2x512x256_S1x512x256_1_0_0) (k0_pay10 a.2.2.1) Finset.univ (View.stores_vmem_bits_univ h_S1x512x256 rfl) (.inl rfl))
  let v130 : Vec F S1x512x128 .f32 ← Prog.lift (.load arg10 (Rect.unit (s := S2x512x128) ![1, 0, 0] S1x512x128.size inb_S2x512x128_S1x512x128_1_0_0).toLoadRect (View.loadsAt_vmem h_S1x512x128))
  Prog.lift (.store arg10 (Rect.unit (s := S2x512x128) ![1, 0, 0] S1x512x128.size inb_S2x512x128_S1x512x128_1_0_0) (k0_pay11 a.2.2.2) Finset.univ (View.stores_vmem_bits_univ h_S1x512x128 rfl) (.inl rfl))
  pure ⟨⟩

include harg9 harg10 in
/-- The end of the body: the accumulators go to the key and value gradients, whatever these held. -/
theorem tail_run (a : FVec F S512x256 .f32 × FVec F S512x128 .f32 × FVec F S512x256 .f32 × FVec F S512x128 .f32) (E : Set ℕ) (K : PUnit → sProp 𝕄) :
    iprop((∃ d, owns (c : Thread nD τ) arg9 fullShare (d)) ∗ (∃ d, owns (c : Thread nD τ) arg10 fullShare (d))
      ∗ (iprop(owns (c : Thread nD τ) arg9 fullShare (fill256 (blank _) a.1 a.2.2.1) ∗ owns (c : Thread nD τ) arg10 fullShare (fill128 (blank _) a.2.1 a.2.2.2)) -∗ K ⟨⟩))
    ⊢ wp frame (wpE (defs₀ (F := F)) Variants.none c none) E (tailP arg9 arg10 a) K := by
  unfold tailP owns
  iintro ⟨⟨%d9, %f9, %hf9, H9⟩, ⟨%d10, %f10, %hf10, H10⟩, Hk⟩
  obtain rfl := harg9.eq_unread hf9; obtain rfl := harg10.eq_unread hf10
  sl_exec
  sl_step
  iapply Hk
  isplitl [H9]
  · iexists _; isplitr; swap; · iexact H9
    ipureintro
    rw [View.read_writes_cons_put arg9.view _ _ _ _ rfl, View.read_writes_cons_put arg9.view _ _ _ _ rfl, View.writes_nil, harg9.read_unread]
    exact fill256_base _ _ _ _
  · iexists _; isplitr; swap; · iexact H10
    ipureintro
    rw [View.read_writes_cons_put arg10.view _ _ _ _ rfl, View.read_writes_cons_put arg10.view _ _ _ _ rfl, View.writes_nil, harg10.read_unread]
    exact fill128_base _ _ _ _

/-- The store of the second head's diagonal block of the query gradient, and what comes after. -/
def midP (v109 : FVec F S512x256 .f32) (kk : Prog (TpuEff nD τ sig (Elt F) Λ₀ .tc) PUnit) : Prog (TpuEff nD τ sig (Elt F) Λ₀ .tc) PUnit := do
  let v111 : Vec F S1x512x256 .f32 ← Prog.lift (.load arg8 (Rect.unit (s := S2x2048x256) (k0_off5 i) S1x512x256.size (k0_off5_inb i)).toLoadRect (View.loadsAt_vmem h_S1x512x256))
  Prog.lift (.store arg8 (Rect.unit (s := S2x2048x256) (k0_off5 i) S1x512x256.size (k0_off5_inb i)) (k0_pay1 v109) Finset.univ (View.stores_vmem_bits_univ h_S1x512x256 rfl) (.inl rfl))
  kk

include harg8 in
/-- It leaves its payload there and goes on. -/
theorem mid_run (v109 : FVec F S512x256 .f32) (kk : Prog (TpuEff nD τ sig (Elt F) Λ₀ .tc) PUnit) (E : Set ℕ) (K : PUnit → sProp 𝕄) :
    iprop(owns (c : Thread nD τ) arg8 fullShare (Q) ∗ (owns (c : Thread nD τ) arg8 fullShare (VecWindow.put Q (k0_off5 i) S1x512x256.size (k0_pay1 v109)) -∗ wp frame (wpE (defs₀ (F := F)) Variants.none c none) E kk K))
    ⊢ wp frame (wpE (defs₀ (F := F)) Variants.none c none) E (midP i arg8 v109 kk) K := by
  unfold midP owns
  iintro ⟨⟨%f8, %hf8, H8⟩, Hk⟩
  obtain rfl := harg8.eq_unread hf8
  sl_exec
  iapply Hk
  iexists _; isplitr; swap; · iexact H8
  ipureintro
  rw [View.read_writes_cons_put arg8.view _ _ _ _ rfl, View.writes_nil, harg8.read_unread]

end Cert.KernelIdeal.Hand

end
-- ==== Proof.Body.lean ====
/- The whole body of the attention gradient at a grid point, from its parts. -/
module

public import proofs.«01_k».proof.Proof.SegStart
public import proofs.«01_k».proof.Proof.SegDiag
public import proofs.«01_k».proof.Proof.SegTrip
public import proofs.«01_k».proof.Proof.SegTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S2x2048x256 .bf16) (harg2 : arg2.IsWhole) (arg3 : Memref sig .tc .vmem S2x512x256 .bf16) (harg3 : arg3.IsWhole) (arg4 : Memref sig .tc .vmem S2x512x128 .bf16) (harg4 : arg4.IsWhole)
    (arg5 : Memref sig .tc .vmem S2048x256 .f32) (harg5 : arg5.IsWhole) (arg6 : Memref sig .tc .vmem S2048x256 .f32) (harg6 : arg6.IsWhole) (arg7 : Memref sig .tc .vmem S2x4x1x512 .f32) (harg7 : arg7.IsWhole)
    (arg8 : Memref sig .tc .vmem S2x2048x256 .f32) (harg8 : arg8.IsWhole) (arg9 : Memref sig .tc .vmem S2x512x256 .f32) (harg9 : arg9.IsWhole) (arg10 : Memref sig .tc .vmem S2x512x128 .f32) (harg10 : arg10.IsWhole)
    (arg11 : Memref sig .tc .vmem S2x4x8x512 .f32) (harg11 : arg11.IsWhole)

variable (x0 : Vec F S2x2048x256 .bf16) (x1 : Vec F S2x512x256 .bf16) (x2 : Vec F S2x512x128 .bf16) (x3 x4 : Vec F S2048x256 .f32) (x5 : Vec F S2x4x1x512 .f32)
  (Q : Vec F S2x2048x256 .f32) (D : Vec F S2x4x8x512 .f32)

/-- What holds before trip `n` of the loop over the later query blocks. -/
def loopI (s : St F) (n : ℕ) (acc : FVec F S512x256 .f32 × FVec F S512x128 .f32 × FVec F S512x256 .f32 × FVec F S512x128 .f32) : sProp 𝕄 :=
  iprop(⌜acc = (loopSt i x0 x1 x2 x4 x5 D s n).1⌝ ∗ ins c arg2 arg3 arg4 arg6 arg7 arg11 x0 x1 x2 x4 x5 D ∗ owns (c : Thread nD τ) arg8 fullShare (loopSt i x0 x1 x2 x4 x5 D s n).2)

/-- One trip carries it on. -/
theorem loop_step (v7 : BitVec 32) (s : St F) (E : Set ℕ) (k : Fin (k0_t1_loop i).trips) (acc : FVec F S512x256 .f32 × FVec F S512x128 .f32 × FVec F S512x256 .f32 × FVec F S512x128 .f32) :
    loopI c i arg2 arg3 arg4 arg6 arg7 arg8 arg11 x0 x1 x2 x4 x5 D s k.val acc
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 v7 k acc) (loopI c i arg2 arg3 arg4 arg6 arg7 arg8 arg11 x0 x1 x2 x4 x5 D s (k.val + 1)) := by
  unfold loopI
  iintro ⟨%ha, Hi, H8⟩
  subst ha
  iapply (trip_run c i arg2 harg2 arg3 harg3 arg4 harg4 arg5 harg5 arg6 harg6 arg7 harg7 arg8 harg8 arg9 harg9 arg10 harg10 arg11 harg11 x0 x1 x2 x4 x5 _ D v7 k _ E)
  isplitl [Hi]; · iexact Hi
  isplitl [H8]; · iexact H8
  iintro ⟨Hi, H8⟩
  rw [loopSt_succ i x0 x1 x2 x4 x5 D s k.val k.isLt]
  isplitr; · ipureintro; rfl
  isplitl [Hi]; · iexact Hi
  iexact H8

/-- The loop over the later query blocks runs its trips one after the other from the state it starts with. -/
theorem loop_run (v7 : BitVec 32) (s : St F) (E : Set ℕ) (K : _ → sProp 𝕄) :
    iprop(ins c arg2 arg3 arg4 arg6 arg7 arg11 x0 x1 x2 x4 x5 D ∗ owns (c : Thread nD τ) arg8 fullShare s.2
      ∗ (iprop(ins c arg2 arg3 arg4 arg6 arg7 arg11 x0 x1 x2 x4 x5 D ∗ owns (c : Thread nD τ) arg8 fullShare (loopSt i x0 x1 x2 x4 x5 D s (k0_t1_loop i).trips).2) -∗ K (loopSt i x0 x1 x2 x4 x5 D s (k0_t1_loop i).trips).1))
    ⊢ wp frame (wpE (defs₀ (F := F)) Variants.none c none) E (Scf.Loop.for (k0_t1_loop i) (k0_t1_ok i) s.1 (k0_t1_body i arg2 harg2 arg3 harg3 arg4 harg4 arg5 harg5 arg6 harg6 arg7 harg7 arg8 harg8 arg9 harg9 arg10 harg10 arg11 harg11 v7)) K := by
  iintro ⟨Hi, H8, Hk⟩
  iapply (Scf.wp_for Idealize.ShloMosaic.frame (wpE (defs₀ (F := F)) Variants.none c none) E (k0_t1_loop i).lb (k0_t1_loop i).ub (k0_t1_loop i).st (k0_t1_ok i) s.1 (k0_t1_body i arg2 harg2 arg3 harg3 arg4 harg4 arg5 harg5 arg6 harg6 arg7 harg7 arg8 harg8 arg9 harg9 arg10 harg10 arg11 harg11 v7) (loopI c i arg2 arg3 arg4 arg6 arg7 arg8 arg11 x0 x1 x2 x4 x5 D s) (loop_step c i arg2 harg2 arg3 harg3 arg4 harg4 arg5 harg5 arg6 harg6 arg7 harg7 arg8 harg8 arg9 harg9 arg10 harg10 arg11 harg11 x0 x1 x2 x4 x5 D v7 s E))
  isplitl [Hi H8]
  · unfold loopI
    isplitr; · ipureintro; rfl
    isplitl [Hi]; · iexact Hi
    iexact H8
  · iintro %acc HI
    unfold loopI
    icases HI with ⟨%ha, Hi, H8⟩
    subst ha
    iapply Hk
    isplitl [Hi]; · iexact Hi
    iexact H8

/-- The second loop makes no trips. -/
theorem t2_trips : ∀ i : grid0.Coords, (k0_t2_loop i).trips = 0 := by decide +kernel

set_option maxHeartbeats 1600000 in
/-- The whole body, from what its start leaves. -/
theorem body_of (Q' : Vec F S2x2048x256 .f32) (D' : Vec F S2x4x8x512 .f32) (E : Set ℕ)
    (h7 : ∀ K : _ → sProp 𝕄, iprop(ins c arg2 arg3 arg4 arg6 arg7 arg11 x0 x1 x2 x4 x5 D ∗ owns (c : Thread nD τ) arg5 fullShare (x3) ∗ owns (c : Thread nD τ) arg8 fullShare (Q)
      ∗ (iprop(ins c arg2 arg3 arg4 arg6 arg7 arg11 x0 x1 x2 x4 x5 D' ∗ owns (c : Thread nD τ) arg5 fullShare (x3) ∗ owns (c : Thread nD τ) arg8 fullShare (Q')) -∗
          K ⟨BitVec.ofNat 32 (i 1).val, k0_pay58, k0_pay59, k0_pay60, k0_pay61, Scalar.addi (BitVec.ofNat 32 (i 1).val) 1#32, Scalar.muli (BitVec.ofNat 32 (i 1).val) 512#32,
            k0_pay62 (kw0 x1), k0_pay63 (vw0 x2), k0_pay64 (qd0 i x0), k0_pay65 (dd0 i x4), k0_pay66 (kw0 x1) (qd0 i x0)⟩))
    ⊢ wp frame (wpE (defs₀ (F := F)) Variants.none c none) E (k0_part7 i arg2 harg2 arg3 harg3 arg4 harg4 arg5 harg5 arg6 harg6 arg7 harg7 arg8 harg8 arg9 harg9 arg10 harg10 arg11 harg11) K) (K : PUnit → sProp 𝕄) :
    iprop(ins c arg2 arg3 arg4 arg6 arg7 arg11 x0 x1 x2 x4 x5 D ∗ owns (c : Thread nD τ) arg5 fullShare (x3) ∗ owns (c : Thread nD τ) arg8 fullShare (Q) ∗ (∃ d, owns (c : Thread nD τ) arg9 fullShare (d)) ∗ (∃ d, owns (c : Thread nD τ) arg10 fullShare (d))
      ∗ (iprop(ins c arg2 arg3 arg4 arg6 arg7 arg11 x0 x1 x2 x4 x5 D' ∗ owns (c : Thread nD τ) arg5 fullShare (x3) ∗ owns (c : Thread nD τ) arg8 fullShare ((finSt i x0 x1 x2 x4 x5 Q' D').2) ∗ owns (c : Thread nD τ) arg9 fullShare (fill256 (blank _) (finSt i x0 x1 x2 x4 x5 Q' D').1.1 (finSt i x0 x1 x2 x4 x5 Q' D').1.2.2.1)
          ∗ owns (c : Thread nD τ) arg10 fullShare (fill128 (blank _) (finSt i x0 x1 x2 x4 x5 Q' D').1.2.1 (finSt i x0 x1 x2 x4 x5 Q' D').1.2.2.2)) -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K := by
  unfold finSt
  rw [cc0_attn_bwd_eq_skeleton]; unfold cc0_attn_bwd_skel
  rw [wp_bind]
  iintro ⟨Hi, H5, H8, H9, H10, Hk⟩
  iapply (h7 _)
  isplitl [Hi]; · iexact Hi
  isplitl [H5]; · iexact H5
  isplitl [H8]; · iexact H8
  iintro ⟨Hi, H5, H8⟩
  dsimp only
  rw [wp_bind]
  iapply (part8_run c i arg2 harg2 arg3 harg3 arg4 harg4 arg5 harg5 arg6 harg6 arg7 harg7 arg8 harg8 arg9 harg9 arg10 harg10 arg11 harg11 x0 x1 x2 x4 x5 Q' D' _ _ _ _ _ _ _ _ _ E)
  isplitl [Hi]; · iexact Hi
  isplitl [H8]; · iexact H8
  iintro ⟨Hi, H8⟩
  dsimp only
  rw [wp_bind]
  iapply (part9_run c i arg2 harg2 arg3 harg3 arg4 harg4 arg5 harg5 arg6 harg6 arg7 harg7 arg8 harg8 arg9 harg9 arg10 harg10 arg11 harg11 x0 x1 x2 x4 x5 _ D' _ _ _ _ _ _ _ E)
  isplitl [Hi]; · iexact Hi
  isplitl [H8]; · iexact H8
  iintro ⟨Hi, H8⟩
  dsimp only
  iapply (mid_run c i arg8 harg8 _ _ _ E)
  isplitl [H8]; · iexact H8
  iintro H8
  rw [wp_bind]
  iapply (loop_run c i arg2 harg2 arg3 harg3 arg4 harg4 arg5 harg5 arg6 harg6 arg7 harg7 arg8 harg8 arg9 harg9 arg10 harg10 arg11 harg11 x0 x1 x2 x4 x5 D' _ (diagAcc i x0 x1 x2 x4 x5 D', diagQ i x0 x1 x2 x4 x5 Q' D') E)
  isplitl [Hi]; · iexact Hi
  isplitl [H8]; · iexact H8
  iintro ⟨Hi, H8⟩
  dsimp only
  refine Scf.wp_for0_bind' _ _ _ _ _ _ _ _ _ (t2_trips i) _ _ _ ?_
  iintro ⟨⟨⟨⟨⟨H9, H10⟩, Hk⟩, H5⟩, Hi⟩, H8⟩
  iapply (tail_run c arg9 harg9 arg10 harg10 (loopSt i x0 x1 x2 x4 x5 D' (diagAcc i x0 x1 x2 x4 x5 D', diagQ i x0 x1 x2 x4 x5 Q' D') (k0_t1_loop i).trips).1 E)
  isplitl [H9]; · iexact H9
  isplitl [H10]; · iexact H10
  iintro ⟨H9, H10⟩
  iapply Hk
  isplitl [Hi]; · iexact Hi
  isplitl [H5]; · iexact H5
  isplitl [H8]; · iexact H8
  isplitl [H9]; · iexact H9
  iexact H10

/-- The body where a pair of heads starts: what it leaves does not depend on what the query gradient and the row sums held. -/
theorem body_A (hc : starts i) (E : Set ℕ) (K : PUnit → sProp 𝕄) :
    iprop(ins c arg2 arg3 arg4 arg6 arg7 arg11 x0 x1 x2 x4 x5 D ∗ owns (c : Thread nD τ) arg5 fullShare (x3) ∗ owns (c : Thread nD τ) arg8 fullShare (Q) ∗ (∃ d, owns (c : Thread nD τ) arg9 fullShare (d)) ∗ (∃ d, owns (c : Thread nD τ) arg10 fullShare (d))
      ∗ (iprop(ins c arg2 arg3 arg4 arg6 arg7 arg11 x0 x1 x2 x4 x5 (fillD x3 x4 (blank _)) ∗ owns (c : Thread nD τ) arg5 fullShare (x3) ∗ owns (c : Thread nD τ) arg8 fullShare ((finSt i x0 x1 x2 x4 x5 k0_pay12 (fillD x3 x4 (blank _))).2) ∗ owns (c : Thread nD τ) arg9 fullShare (fill256 (blank _) (finSt i x0 x1 x2 x4 x5 k0_pay12 (fillD x3 x4 (blank _))).1.1 (finSt i x0 x1 x2 x4 x5 k0_pay12 (fillD x3 x4 (blank _))).1.2.2.1)
          ∗ owns (c : Thread nD τ) arg10 fullShare (fill128 (blank _) (finSt i x0 x1 x2 x4 x5 k0_pay12 (fillD x3 x4 (blank _))).1.2.1 (finSt i x0 x1 x2 x4 x5 k0_pay12 (fillD x3 x4 (blank _))).1.2.2.2)) -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K :=
  body_of c i arg2 harg2 arg3 harg3 arg4 harg4 arg5 harg5 arg6 harg6 arg7 harg7 arg8 harg8 arg9 harg9 arg10 harg10 arg11 harg11 x0 x1 x2 x3 x4 x5 Q D k0_pay12 (fillD x3 x4 (blank _)) E
    (fun K => by rw [fillD_base x3 x4 (blank _) D]; exact part7_runA c i arg2 harg2 arg3 harg3 arg4 harg4 arg5 harg5 arg6 harg6 arg7 harg7 arg8 harg8 arg9 harg9 arg10 harg10 arg11 harg11 x0 x1 x2 x3 x4 x5 Q D hc E K) K

/-- The body where a pair of heads is continued. -/
theorem body_B (hc : ¬ starts i) (E : Set ℕ) (K : PUnit → sProp 𝕄) :
    iprop(ins c arg2 arg3 arg4 arg6 arg7 arg11 x0 x1 x2 x4 x5 D ∗ owns (c : Thread nD τ) arg5 fullShare (x3) ∗ owns (c : Thread nD τ) arg8 fullShare (Q) ∗ (∃ d, owns (c : Thread nD τ) arg9 fullShare (d)) ∗ (∃ d, owns (c : Thread nD τ) arg10 fullShare (d))
      ∗ (iprop(ins c arg2 arg3 arg4 arg6 arg7 arg11 x0 x1 x2 x4 x5 D ∗ owns (c : Thread nD τ) arg5 fullShare (x3) ∗ owns (c : Thread nD τ) arg8 fullShare ((finSt i x0 x1 x2 x4 x5 Q D).2) ∗ owns (c : Thread nD τ) arg9 fullShare (fill256 (blank _) (finSt i x0 x1 x2 x4 x5 Q D).1.1 (finSt i x0 x1 x2 x4 x5 Q D).1.2.2.1)
          ∗ owns (c : Thread nD τ) arg10 fullShare (fill128 (blank _) (finSt i x0 x1 x2 x4 x5 Q D).1.2.1 (finSt i x0 x1 x2 x4 x5 Q D).1.2.2.2)) -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K :=
  body_of c i arg2 harg2 arg3 harg3 arg4 harg4 arg5 harg5 arg6 harg6 arg7 harg7 arg8 harg8 arg9 harg9 arg10 harg10 arg11 harg11 x0 x1 x2 x3 x4 x5 Q D Q D E
    (fun K => part7_runB c i arg2 harg2 arg3 harg3 arg4 harg4 arg5 harg5 arg6 harg6 arg7 harg7 arg8 harg8 arg9 harg9 arg10 harg10 arg11 harg11 x0 x1 x2 x3 x4 x5 Q D hc E K) K

end Cert.KernelIdeal.Hand

end
-- ==== Proof.Data.lean ====
/- The attention gradient's run: what every buffer holds after every grid point, and the launch that follows from it. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A grid point starts a pair of heads exactly at the multiples of four. -/
theorem starts_iff : ∀ t : Fin cfg0.N, starts (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [starts, e1]
    word_cmp
   : ∀ t : Fin grid0.N, starts (grid0.coords t) ↔ t.val % 4 = 0)

/-- Window 0's current buffer at a point, and that it is a whole buffer. -/
abbrev buf0 (t : Fin cfg0.N) : Memref sig .tc .vmem S2x2048x256 .bf16 := win0_0.stage (cfg0.slots t 0)
theorem whole0 (t : Fin cfg0.N) : (buf0 t).IsWhole := hstage0_0 ((cfg0.slots t 0).cast nbuf0_0)
/-- Window 1's current buffer at a point, and that it is a whole buffer. -/
abbrev buf1 (t : Fin cfg0.N) : Memref sig .tc .vmem S2x512x256 .bf16 := win0_1.stage (cfg0.slots t 1)
theorem whole1 (t : Fin cfg0.N) : (buf1 t).IsWhole := hstage0_1 ((cfg0.slots t 1).cast nbuf0_1)
/-- Window 2's current buffer at a point, and that it is a whole buffer. -/
abbrev buf2 (t : Fin cfg0.N) : Memref sig .tc .vmem S2x512x128 .bf16 := win0_2.stage (cfg0.slots t 2)
theorem whole2 (t : Fin cfg0.N) : (buf2 t).IsWhole := hstage0_2 ((cfg0.slots t 2).cast nbuf0_2)
/-- Window 3's current buffer at a point, and that it is a whole buffer. -/
abbrev buf3 (t : Fin cfg0.N) : Memref sig .tc .vmem S2048x256 .f32 := win0_3.stage (cfg0.slots t 3)
theorem whole3 (t : Fin cfg0.N) : (buf3 t).IsWhole := hstage0_3 ((cfg0.slots t 3).cast nbuf0_3)
/-- Window 4's current buffer at a point, and that it is a whole buffer. -/
abbrev buf4 (t : Fin cfg0.N) : Memref sig .tc .vmem S2048x256 .f32 := win0_4.stage (cfg0.slots t 4)
theorem whole4 (t : Fin cfg0.N) : (buf4 t).IsWhole := hstage0_4 ((cfg0.slots t 4).cast nbuf0_4)
/-- Window 5's current buffer at a point, and that it is a whole buffer. -/
abbrev buf5 (t : Fin cfg0.N) : Memref sig .tc .vmem S2x4x1x512 .f32 := win0_5.stage (cfg0.slots t 5)
theorem whole5 (t : Fin cfg0.N) : (buf5 t).IsWhole := hstage0_5 ((cfg0.slots t 5).cast nbuf0_5)
/-- Window 6's current buffer at a point, and that it is a whole buffer. -/
abbrev buf6 (t : Fin cfg0.N) : Memref sig .tc .vmem S2x2048x256 .f32 := win0_6.stage (cfg0.slots t 6)
theorem whole6 (t : Fin cfg0.N) : (buf6 t).IsWhole := hstage0_6 ((cfg0.slots t 6).cast nbuf0_6)
/-- Window 7's current buffer at a point, and that it is a whole buffer. -/
abbrev buf7 (t : Fin cfg0.N) : Memref sig .tc .vmem S2x512x256 .f32 := win0_7.stage (cfg0.slots t 7)
theorem whole7 (t : Fin cfg0.N) : (buf7 t).IsWhole := hstage0_7 ((cfg0.slots t 7).cast nbuf0_7)
/-- Window 8's current buffer at a point, and that it is a whole buffer. -/
abbrev buf8 (t : Fin cfg0.N) : Memref sig .tc .vmem S2x512x128 .f32 := win0_8.stage (cfg0.slots t 8)
theorem whole8 (t : Fin cfg0.N) : (buf8 t).IsWhole := hstage0_8 ((cfg0.slots t 8).cast nbuf0_8)
/-- The scratch buffer that keeps the row sums between points. -/
abbrev keep : Memref sig .tc .vmem S2x4x8x512 .f32 := Memref.whole cc0_scratch0

/-- The launch's scoped rest is the scratch buffer at some contents and the generator register at some state. -/
theorem rest_eq (c : Dev nD) :
    (Pipeline.ΦA spec0 c : sProp 𝕄)
      = iprop(iprop((∃ d, owns (c : Thread nD τ) keep fullShare d)) ∗ (∃ r, prngReg c r)) := by
  unfold Pipeline.ΦA; rw [scopedRest0_eq]; simp only [keep, owns_whole]; try rfl

/-- After each point: the two accumulator pairs with the query gradient so far, and the row sums. -/
def outsAt (c : Dev nD) : (n : ℕ) → n < cfg0.N → St F × Vec F S2x4x8x512 .f32
  | 0, hn => (finSt (grid0.coords ⟨0, hn⟩) (iblk m c 0 ⟨0, hn⟩) (iblk m c 1 ⟨0, hn⟩) (iblk m c 2 ⟨0, hn⟩) (iblk m c 4 ⟨0, hn⟩) (iblk m c 5 ⟨0, hn⟩) k0_pay12 (fillD (iblk m c 3 ⟨0, hn⟩) (iblk m c 4 ⟨0, hn⟩) (blank _)), (fillD (iblk m c 3 ⟨0, hn⟩) (iblk m c 4 ⟨0, hn⟩) (blank _)))
  | n + 1, hn =>
    if (n + 1) % 4 = 0 then (finSt (grid0.coords ⟨n + 1, hn⟩) (iblk m c 0 ⟨n + 1, hn⟩) (iblk m c 1 ⟨n + 1, hn⟩) (iblk m c 2 ⟨n + 1, hn⟩) (iblk m c 4 ⟨n + 1, hn⟩) (iblk m c 5 ⟨n + 1, hn⟩) k0_pay12 (fillD (iblk m c 3 ⟨n + 1, hn⟩) (iblk m c 4 ⟨n + 1, hn⟩) (blank _)), (fillD (iblk m c 3 ⟨n + 1, hn⟩) (iblk m c 4 ⟨n + 1, hn⟩) (blank _)))
    else (finSt (grid0.coords ⟨n + 1, hn⟩) (iblk m c 0 ⟨n + 1, hn⟩) (iblk m c 1 ⟨n + 1, hn⟩) (iblk m c 2 ⟨n + 1, hn⟩) (iblk m c 4 ⟨n + 1, hn⟩) (iblk m c 5 ⟨n + 1, hn⟩) (outsAt c n (Nat.lt_of_succ_lt hn)).1.2 (outsAt c n (Nat.lt_of_succ_lt hn)).2,
      (outsAt c n (Nat.lt_of_succ_lt hn)).2)

theorem outsAt_A (c : Dev nD) (t : Fin cfg0.N) (h : t.val % 4 = 0) :
    outsAt m c t.val t.isLt = (finSt (grid0.coords t) (iblk m c 0 t) (iblk m c 1 t) (iblk m c 2 t) (iblk m c 4 t) (iblk m c 5 t) k0_pay12 (fillD (iblk m c 3 t) (iblk m c 4 t) (blank _)), (fillD (iblk m c 3 t) (iblk m c 4 t) (blank _))) := by
  obtain ⟨n, hn⟩ := t
  cases n with
  | zero => rfl
  | succ n => exact if_pos h

theorem outsAt_B (c : Dev nD) (t : Fin cfg0.N) (h : ¬ t.val % 4 = 0) :
    outsAt m c t.val t.isLt = (finSt (grid0.coords t) (iblk m c 0 t) (iblk m c 1 t) (iblk m c 2 t) (iblk m c 4 t) (iblk m c 5 t) (outsAt m c (t.val - 1) (Nat.lt_of_le_of_lt (Nat.sub_le _ _) t.isLt)).1.2 (outsAt m c (t.val - 1) (Nat.lt_of_le_of_lt (Nat.sub_le _ _) t.isLt)).2, (outsAt m c (t.val - 1) (Nat.lt_of_le_of_lt (Nat.sub_le _ _) t.isLt)).2) := by
  obtain ⟨n, hn⟩ := t
  cases n with
  | zero => exact absurd (Nat.zero_mod _) h
  | succ n => exact if_neg h

/-- What is held between points besides the windows: the scratch at the row sums the point before left. -/
def inv (c : Dev nD) : (n : ℕ) → n ≤ cfg0.N → sProp 𝕄
  | 0, _ => Pipeline.ΦA spec0 c
  | n + 1, hn => iprop(iprop(owns (c : Thread nD τ) keep fullShare (outsAt m c n hn).2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) keep fullShare (outsAt m c n hn).2) ∗ (∃ r, prngReg c r)) := rfl

theorem inv_pos (c : Dev nD) (n : ℕ) (h : n ≤ cfg0.N) (hz : n ≠ 0) :
    inv m c n h = iprop(iprop(owns (c : Thread nD τ) keep fullShare (outsAt m c (n - 1) (by omega)).2) ∗ (∃ r, prngReg c r)) := by
  cases n with
  | zero => exact absurd rfl hz
  | succ n => rfl

/-- The key gradient's block after a point. -/
def dkAt (c : Dev nD) (t : Fin cfg0.N) : Vec F S2x512x256 .f32 :=
  fill256 (blank _) (outsAt m c t.val t.isLt).1.1.1 (outsAt m c t.val t.isLt).1.1.2.2.1

/-- The value gradient's block after a point. -/
def dvAt (c : Dev nD) (t : Fin cfg0.N) : Vec F S2x512x128 .f32 :=
  fill128 (blank _) (outsAt m c t.val t.isLt).1.1.2.1 (outsAt m c t.val t.isLt).1.1.2.2.2

/-- The pipeline's proof data: the arrays as the launch finds them, and what every buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1.2
    | ⟨7, _⟩ => dkAt m c t
    | ⟨8, _⟩ => dvAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1.2 := by dsimp only [dats]
theorem after_7 (c : Dev nD) (t : Fin cfg0.N) : (dats m 0 c).after 7 t = dkAt m c t := by dsimp only [dats]
theorem after_8 (c : Dev nD) (t : Fin cfg0.N) : (dats m 0 c).after 8 t = dvAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A point that continues a pair of heads finds in the query gradient's buffer what the point before left. -/
theorem before_6 (c : Dev nD) (t : Fin cfg0.N) (h : ¬ t.val % 4 = 0) (d) :
    (dats m 0 c).before 6 t d = (outsAt m c (t.val - 1) (Nat.lt_of_le_of_lt (Nat.sub_le _ _) t.isLt)).1.2 := by
  rw [(dats m 0 c).before_out_kept 6 rfl t (fun e => h (by rw [e])) ?_ (fun _ => rfl) (fun _ _ => rfl) d]
  · exact after_6 m c _
  · rw [Bool.eq_false_iff]
    intro hf
    have := (flush0_6 _).mp hf
    dsimp only at this
    omega

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- What the body returns at a point. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 3200000 in
/-- The body at any point, from what the point before left to what this point leaves. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, after_8]
  unfold dkAt dvAt
  rw [show (dats m 0 c).Φ t.succ = inv m c (t.val + 1) t.isLt from rfl, inv_succ]
  by_cases h0 : t.val % 4 = 0
  · rw [outsAt_A m c t h0]
    by_cases hz : t.val = 0
    · rw [inv_castSucc m c t, inv_zero m c _ _ hz, rest_eq]
      iintro ⟨⟨⟨%e, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_A c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) keep (Memref.isWhole_whole _) (iblk m c 0 t) (iblk m c 1 t) (iblk m c 2 t) (iblk m c 3 t) (iblk m c 4 t) (iblk m c 5 t) _ _ ((starts_iff t).mpr h0) Set.univ _)
      isplitl [H0 H1 H2 H4 H5 HS]
      · unfold ins
        isplitl [H0]; · iexact H0
        isplitl [H1]; · iexact H1
        isplitl [H2]; · iexact H2
        isplitl [H4]; · iexact H4
        isplitl [H5]; · iexact H5
        iexact HS
      isplitl [H3]; · iexact H3
      isplitl [H6]; · iexact H6
      isplitl [H7]; · iexists _; iexact H7
      isplitl [H8]; · iexists _; iexact H8
      unfold ins
      iintro ⟨⟨H0, H1, H2, H4, H5, HS⟩, H3, H6, H7, H8⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [inv_castSucc m c t, inv_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_A c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) keep (Memref.isWhole_whole _) (iblk m c 0 t) (iblk m c 1 t) (iblk m c 2 t) (iblk m c 3 t) (iblk m c 4 t) (iblk m c 5 t) _ _ ((starts_iff t).mpr h0) Set.univ _)
      isplitl [H0 H1 H2 H4 H5 HS]
      · unfold ins
        isplitl [H0]; · iexact H0
        isplitl [H1]; · iexact H1
        isplitl [H2]; · iexact H2
        isplitl [H4]; · iexact H4
        isplitl [H5]; · iexact H5
        iexact HS
      isplitl [H3]; · iexact H3
      isplitl [H6]; · iexact H6
      isplitl [H7]; · iexists _; iexact H7
      isplitl [H8]; · iexists _; iexact H8
      unfold ins
      iintro ⟨⟨H0, H1, H2, H4, H5, HS⟩, H3, H6, H7, H8⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have hz : t.val ≠ 0 := fun e => h0 (by rw [e])
    rw [outsAt_B m c t h0, inv_castSucc m c t, inv_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [before_6 m c t h0]
    iapply (body_B c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) keep (Memref.isWhole_whole _) (iblk m c 0 t) (iblk m c 1 t) (iblk m c 2 t) (iblk m c 3 t) (iblk m c 4 t) (iblk m c 5 t) _ _ (fun h => h0 ((starts_iff t).mp h)) Set.univ _)
    isplitl [H0 H1 H2 H4 H5 HS]
    · unfold ins
      isplitl [H0]; · iexact H0
      isplitl [H1]; · iexact H1
      isplitl [H2]; · iexact H2
      isplitl [H4]; · iexact H4
      isplitl [H5]; · iexact H5
      iexact HS
    isplitl [H3]; · iexact H3
    isplitl [H6]; · iexact H6
    isplitl [H7]; · iexists _; iexact H7
    isplitl [H8]; · iexists _; iexact H8
    unfold ins
    iintro ⟨⟨H0, H1, H2, H4, H5, HS⟩, H3, H6, H7, H8⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The table of bodies at a point's buffers is the body at that point. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 16 := N_0
  rw [show (dats m 0 c).Φ (Fin.last cfg0.N) = inv m c cfg0.N (Nat.le_refl _) from rfl, inv_pos m c _ _ (by omega), rest_eq]
  iintro ⟨HS, Hg⟩
  isplitl [HS]
  · iexists _; iexact HS
  iexact Hg

set_option backward.isDefEq.respectTransparency.types false in
set_option maxHeartbeats 800000 in
/-- Every run ends, with the arrays at the contents the proof data computes and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Rest.lean ====
/- The reference leaves its arguments alone and its counters at zero. -/
module

public import proofs.«01_k».proof.Proof.Gen.ReferenceIdeal.Run
public import Idealize.ShloMosaic.Lib.Quiescent

@[expose] public section

noncomputable section

namespace Cert.ReferenceIdeal.Hand

open Idealize.ShloMosaic Idealize.SL.Sem

variable {F : FTy → Type} [FloatOps F]

/-- The reference has no counter at all, so each of them is zero at the end. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h =>
    ⟨fun c => (h c).2.2.2, sem_eq_zero_of_no_sems (by decide) _⟩) (Value.run m ρ)

end Cert.ReferenceIdeal.Hand
-- ==== Proof.HostLine.lean ====
/-
What the kernel's program holds when it calls the attention backward kernel: the padded queries and keys, the values,
the outputs of attention and the logarithm of each row's sum of exponentials.
-/
module
public import proofs.«01_k».proof.Proof.Gen.KernelIdeal.Frame
public import proofs.«01_k».proof.Proof.Gen.ReferenceIdeal.Read
public import Idealize.ShloMosaic.Lib.StableHlo.RunRead

@[expose] public section

set_option maxRecDepth 16384

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The arguments as the launch finds them. -/
abbrev a0 : S2048x8x192.Idx → EReal := m ((c : Thread nD τ).loc main_arg0)
abbrev a1 : S2048x8x192.Idx → EReal := m ((c : Thread nD τ).loc main_arg1)
abbrev a2 : S2048x8x128.Idx → EReal := m ((c : Thread nD τ).loc main_arg2)
abbrev a3 : S2048x2048.Idx → EReal := m ((c : Thread nD τ).loc main_arg3)

/-- Heads first, padded with zero columns. -/
noncomputable def padded (x : S2048x8x192.Idx → EReal) : S8x2048x256.Idx → EReal :=
  pad S8x2048x256 ![0, 0, 0] ![0, 0, 64] ![0, 0, 0] (transpose S8x2048x192 [1, 0, 2] x transposes_S2048x8x192_S8x2048x192_1_0_2)
    (sitofp (F := Ideal) .f32 (constantI S_ 32 0#32)) pads_S8x2048x192_S8x2048x256_000_000_0640 h_S_

set_option maxHeartbeats 4000000 in
theorem V_q : V (F := Ideal) m c main_v2 = padded (a0 m c) := by
  unfold V V0
  simp only [List.flatten_cons, List.flatten_nil, List.append_nil, List.cons_append, List.nil_append]
  after_reads_simp
  rfl

set_option maxHeartbeats 4000000 in
theorem V_k : V (F := Ideal) m c main_v5 = padded (a1 m c) := by
  unfold V V0
  simp only [List.flatten_cons, List.flatten_nil, List.append_nil, List.cons_append, List.nil_append]
  after_reads_simp
  rfl

set_option maxHeartbeats 4000000 in
theorem V_v : V (F := Ideal) m c main_v7 = transpose S8x2048x128 [1, 0, 2] (a2 m c) transposes_S2048x8x128_S8x2048x128_1_0_2 := by
  unfold V V0
  simp only [List.flatten_cons, List.flatten_nil, List.append_nil, List.cons_append, List.nil_append]
  after_reads_simp
  rfl

set_option maxHeartbeats 4000000 in
theorem V_s : V (F := Ideal) m c main_v43 = Cert.ReferenceIdeal.Read.val_main_v12_0 (F := Ideal) (a0 m c) (a1 m c) := by
  unfold V V0
  simp only [List.flatten_cons, List.flatten_nil, List.append_nil, List.cons_append, List.nil_append]
  after_reads_simp
  rfl

set_option maxHeartbeats 4000000 in
theorem V_o : V (F := Ideal) m c main_v32
    = shapeCast S2048x1024 (Cert.ReferenceIdeal.Read.val_main_v42 (F := Ideal) (a0 m c) (a1 m c) (a2 m c)) shapeCasts_S2048x8x128_S2048x1024 := by
  unfold V V0
  simp only [List.flatten_cons, List.flatten_nil, List.append_nil, List.cons_append, List.nil_append]
  after_reads_simp
  rfl

/-- The exponentials of the masked scores past their row's maximum. -/
noncomputable def expd (x0 x1 : S2048x8x192.Idx → EReal) : S8x2048x2048.Idx → EReal :=
  Host.exp (F := Ideal) (φ := .f32) (subf (F := Ideal) (φ := .f32) (Cert.ReferenceIdeal.Read.val_main_v12_0 (F := Ideal) x0 x1)
    (broadcastInDim S8x2048x2048 ![0, 1, 2] bcast_S8x2048x1_S8x2048x2048_0_1_2
      (broadcastInDim S8x2048x1 ![0, 1] bcast_S8x2048_S8x2048x1_0_1 (Cert.ReferenceIdeal.Read.val_main_v13 (F := Ideal) x0 x1))))

/-- Each row's logarithm of the sum of exponentials. -/
noncomputable def lseRow (x0 x1 : S2048x8x192.Idx → EReal) : S8x2048.Idx → EReal :=
  addf (F := Ideal) (φ := .f32) (Cert.ReferenceIdeal.Read.val_main_v13 (F := Ideal) x0 x1)
    (Host.log (F := Ideal) (φ := .f32) (Host.reduceAdd (F := Ideal) (φ := .f32) (expd x0 x1) (constant (F := Ideal) S_ .f32 0x00000000#32) reducesTo_S8x2048x2048_S8x2048_d2 h_S_))

set_option maxHeartbeats 4000000 in
theorem V_l : V (F := Ideal) m c main_v52 = shapeCast S8x4x1x512 (lseRow (a0 m c) (a1 m c)) shapeCasts_S8x2048_S8x4x1x512 := by
  unfold V V0
  simp only [List.flatten_cons, List.flatten_nil, List.append_nil, List.cons_append, List.nil_append]
  after_reads_simp
  rfl

end Cert.KernelIdeal.Hand

end
-- ==== Proof.Model.lean ====
/- The attention gradient over the reals: the softmax of masked scaled scores, its output's row sums, and the three gradients, with the
   sums cut into blocks of 512 as the kernel takes them. -/
module

public import Idealize.ShloMosaic.PureOps.Ideal.Laws
public import Idealize.ShloMosaic.Lib.ValueIdx

@[expose] public section

noncomputable section

namespace Cert.Grad

open Idealize.ShloMosaic Finset

/-- The scale of the scores, the value of its f32 literal. -/
def cs : ℝ := (Ideal.ofBits .f32 0x3D93CD3A#32).toReal

theorem ofBits_cs : Ideal.ofBits .f32 0x3D93CD3A#32 = (cs : EReal) := by
  have h : ∃ r : ℝ, Ideal.ofBits .f32 0x3D93CD3A#32 = (r : EReal) := by
    simp only [Ideal.ofBits, Ideal.ieee]
    simp [-EReal.coe_mul]
    try exact ⟨_, rfl⟩
  obtain ⟨r, hr⟩ := h
  unfold cs
  rw [hr, EReal.toReal_coe]

/-- The inputs as real functions of numbers — by head, position and coordinate; the output gradient by row and column — and each row's
    greatest score. -/
structure Model where
  /-- queries -/
  q : ℕ → ℕ → ℕ → ℝ
  /-- keys -/
  k : ℕ → ℕ → ℕ → ℝ
  /-- values -/
  v : ℕ → ℕ → ℕ → ℝ
  /-- the gradient of the two branches' outputs, side by side -/
  G : ℕ → ℕ → ℝ
  /-- the greatest score of a row -/
  mx : ℕ → ℕ → ℝ

namespace Model

variable (M : Model)

/-- The gradient of the attention output. -/
def g (h i d : ℕ) : ℝ := M.G i (1024 + (128 * h + d))
/-- The scaled score of query `i` and key `j`. -/
def sc (h i j : ℕ) : ℝ := (∑ d ∈ range 192, M.q h i d * M.k h j d) * cs
/-- Its exponential past the row's greatest, zero where masked. -/
def ex (h i j : ℕ) : ℝ := if j / 64 ≤ i / 64 then Real.exp (M.sc h i j - M.mx h i) else 0
/-- The row's sum of them. -/
def S (h i : ℕ) : ℝ := ∑ j ∈ range 2048, M.ex h i j
/-- The probability. -/
def pr (h i j : ℕ) : ℝ := M.ex h i j * (1 / M.S h i)
/-- The attention output. -/
def ov (h i d : ℕ) : ℝ := ∑ j ∈ range 2048, M.v h j d * M.pr h i j
/-- The gradient of a probability. -/
def dp (h i j : ℕ) : ℝ := ∑ d ∈ range 128, M.g h i d * M.v h j d
/-- The row sum of output times its gradient. -/
def dl (h i : ℕ) : ℝ := ∑ d ∈ range 128, M.ov h i d * M.g h i d
/-- The gradient of an unscaled score. -/
def ds (h i j : ℕ) : ℝ := M.pr h i j * (M.dp h i j - M.dl h i) * cs
/-- The gradient of the values. -/
def gv (h j d : ℕ) : ℝ := ∑ i ∈ range 2048, M.pr h i j * M.g h i d
/-- The gradient of the keys. -/
def gk (h j d : ℕ) : ℝ := ∑ i ∈ range 2048, M.ds h i j * M.q h i d
/-- The gradient of the queries. -/
def gq (h i d : ℕ) : ℝ := ∑ j ∈ range 2048, M.ds h i j * M.k h j d
/-- The row's logarithm of the sum of exponentials. -/
def lse (h i : ℕ) : ℝ := M.mx h i + Real.log (M.S h i)

theorem S_pos (h i : ℕ) (hi : i < 2048) : 0 < M.S h i := by
  unfold S
  refine Finset.sum_pos' (fun j _ => ?_) ⟨i, Finset.mem_range.2 hi, ?_⟩
  · unfold ex; split
    · exact (Real.exp_pos _).le
    · exact le_refl _
  · unfold ex; rw [if_pos (le_refl _)]; exact Real.exp_pos _

/-- Past the logarithm of the sum of exponentials, an unmasked score's exponential is the probability. -/
theorem exp_lse (h i j : ℕ) (hi : i < 2048) (hm : j / 64 ≤ i / 64) : Real.exp (M.sc h i j - M.lse h i) = M.pr h i j := by
  unfold pr ex lse
  rw [if_pos hm, ← sub_sub, Real.exp_sub, Real.exp_log (M.S_pos h i hi), mul_one_div]

theorem pr_masked (h i j : ℕ) (hm : ¬ j / 64 ≤ i / 64) : M.pr h i j = 0 := by
  unfold pr ex; rw [if_neg hm, zero_mul]

theorem ds_masked (h i j : ℕ) (hm : ¬ j / 64 ≤ i / 64) : M.ds h i j = 0 := by
  unfold ds; rw [M.pr_masked h i j hm, zero_mul, zero_mul]

/-- The row sum is the probabilities' mean of their gradients. -/
theorem dl_eq (h i : ℕ) : M.dl h i = ∑ j ∈ range 2048, M.dp h i j * M.pr h i j := by
  unfold dl ov dp
  simp only [Finset.sum_mul]
  rw [Finset.sum_comm]
  exact Finset.sum_congr rfl fun j _ => Finset.sum_congr rfl fun d _ => by ring

/-- The quotient rule's form of the score's gradient. -/
theorem ds_quot (h i j : ℕ) :
    ((M.dp h i j * (1 / M.S h i) + -(∑ l ∈ range 2048, M.dp h i l * (1 * (1 / (M.S h i * M.S h i))) * M.ex h i l)) * M.ex h i j) * cs = M.ds h i j := by
  have e : ∑ l ∈ range 2048, M.dp h i l * (1 * (1 / (M.S h i * M.S h i))) * M.ex h i l = M.dl h i * (1 / M.S h i) := by
    rw [dl_eq, Finset.sum_mul]
    refine Finset.sum_congr rfl fun l _ => ?_
    unfold pr
    rw [one_div, one_div, mul_inv]
    ring
  rw [e]; unfold ds pr; ring

/-! ## The sums in blocks -/

/-- One key block's part of a query gradient. -/
def tq (kj h i d : ℕ) : ℝ := ∑ r ∈ range 512, M.ds h i (512 * kj + r) * M.k h (512 * kj + r) d
/-- The key gradient's part from one query block. -/
def tk (b h j d : ℕ) : ℝ := ∑ x ∈ range 512, M.ds h (512 * b + x) j * M.q h (512 * b + x) d
/-- The value gradient's part from one query block. -/
def tv (b h j d : ℕ) : ℝ := ∑ x ∈ range 512, M.pr h (512 * b + x) j * M.g h (512 * b + x) d

theorem sum_blocks (f : ℕ → ℝ) : ∑ i ∈ range 2048, f i = ∑ b ∈ range 4, ∑ x ∈ range 512, f (512 * b + x) := by
  have key : ∀ n, ∑ i ∈ range (512 * n), f i = ∑ b ∈ range n, ∑ x ∈ range 512, f (512 * b + x) := by
    intro n
    induction n with
    | zero => simp
    | succ n ih => rw [Nat.mul_succ, Finset.sum_range_add, ih, Finset.sum_range_succ (fun b => ∑ x ∈ range 512, f (512 * b + x))]
  exact key 4

theorem gq_blocks (h i d : ℕ) : M.gq h i d = ∑ kj ∈ range 4, M.tq kj h i d := by
  unfold gq tq; exact sum_blocks fun j => M.ds h i j * M.k h j d

theorem gk_blocks (h j d : ℕ) : M.gk h j d = ∑ b ∈ range 4, M.tk b h j d := by
  unfold gk tk; exact sum_blocks fun i => M.ds h i j * M.q h i d

theorem gv_blocks (h j d : ℕ) : M.gv h j d = ∑ b ∈ range 4, M.tv b h j d := by
  unfold gv tv; exact sum_blocks fun i => M.pr h i j * M.g h i d

/-- A block of earlier queries has no part in a later key block's gradients. -/
theorem tq_early (kj h i d : ℕ) (hi : i / 512 < kj) : M.tq kj h i d = 0 := by
  unfold tq
  refine Finset.sum_eq_zero fun r _ => ?_
  rw [M.ds_masked h i _ (by omega), zero_mul]

theorem tk_early (b h j d : ℕ) (hb : b < j / 512) : M.tk b h j d = 0 := by
  unfold tk
  refine Finset.sum_eq_zero fun x hx => ?_
  have := Finset.mem_range.1 hx
  rw [M.ds_masked h _ j (by omega), zero_mul]

theorem tv_early (b h j d : ℕ) (hb : b < j / 512) : M.tv b h j d = 0 := by
  unfold tv
  refine Finset.sum_eq_zero fun x hx => ?_
  have := Finset.mem_range.1 hx
  rw [M.pr_masked h _ j (by omega), zero_mul]

theorem sum_late (f : ℕ → ℝ) (kj : ℕ) (hk : kj < 4) (h0 : ∀ b < kj, f b = 0) :
    ∑ b ∈ range 4, f b = ∑ n ∈ range (4 - kj), f (kj + n) := by
  have : 4 = kj + (4 - kj) := by omega
  conv_lhs => rw [this]
  rw [Finset.sum_range_add, Finset.sum_eq_zero (fun b hb => h0 b (Finset.mem_range.1 hb)), zero_add]

theorem gk_late (kj h r d : ℕ) (hk : kj < 4) (hr : r < 512) :
    M.gk h (512 * kj + r) d = ∑ n ∈ range (4 - kj), M.tk (kj + n) h (512 * kj + r) d := by
  rw [gk_blocks]
  exact sum_late (fun b => M.tk b h (512 * kj + r) d) kj hk fun b hb => M.tk_early b h _ d (by omega)

theorem gv_late (kj h r d : ℕ) (hk : kj < 4) (hr : r < 512) :
    M.gv h (512 * kj + r) d = ∑ n ∈ range (4 - kj), M.tv (kj + n) h (512 * kj + r) d := by
  rw [gv_blocks]
  exact sum_late (fun b => M.tv b h (512 * kj + r) d) kj hk fun b hb => M.tv_early b h _ d (by omega)

end Model

/-- A sum of real values is real. -/
theorem coe_sum (n : ℕ) (f : ℕ → ℝ) : ∑ k : Fin n, ((f k.val : ℝ) : EReal) = ((∑ k ∈ range n, f k : ℝ) : EReal) := by
  rw [Finset.sum_range]
  exact (map_sum (⟨⟨Real.toEReal, EReal.coe_zero⟩, EReal.coe_add⟩ : ℝ →+ EReal) (fun k : Fin n => f k.val) Finset.univ).symm

/-- A sum of products of real values is real. -/
theorem coe_sum_mul {n : ℕ} (L R : Fin n → EReal) (f g : ℕ → ℝ) (hL : ∀ k, L k = (f k.val : ℝ)) (hR : ∀ k, R k = (g k.val : ℝ)) :
    ∑ k : Fin n, L k * R k = ((∑ k ∈ range n, f k * g k : ℝ) : EReal) := by
  rw [← coe_sum]
  exact Finset.sum_congr rfl fun k _ => by rw [hL, hR, EReal.coe_mul]

end Cert.Grad

end
-- ==== Proof.Pay.lean ====
/- The payloads of the attention gradient's body at the ideal values: on blocks that hold the model's queries, keys, values, output
   gradients and row statistics, each is the model's quantity. -/
module

public import proofs.«01_k».proof.Proof.Base
public import proofs.«01_k».proof.Proof.Model
public import Idealize.ShloMosaic.Lib.Pipeline.Value
public import Idealize.ShloMosaic.PureOps.Ideal.Laws

@[expose] public section

set_option maxRecDepth 16384

noncomputable section

namespace Cert.KernelIdeal.Hand

open Cert.KernelIdeal Cert.KernelIdeal.Gen Cert.Grad
open Idealize.ShloMosaic Idealize.ShloMosaic.TcCoe Idealize.ShloMosaic.Tactic
open Finset

/-- A matrix product of real operands, at an output index: the real sum over the contracted axis. -/
theorem dot_real {sl sr so : Shape} {φ₁ φ₂ : FTy} (d : DotDims sl sr so) (n : ℕ) (hr : d.contr.rank = 1) (hs : d.contr.size ⟨0, by omega⟩ = n)
    (prec : Option ContractPrecision) (a : FVec Ideal sl φ₁) (b : FVec Ideal sr φ₂) (y : so.Idx) (f g : ℕ → ℝ)
    (ha : ∀ k : d.contr.Idx, a (d.lhsIdx y k) = ((f (k ⟨0, by omega⟩).val : ℝ) : EReal))
    (hb : ∀ k : d.contr.Idx, b (d.rhsIdx y k) = ((g (k ⟨0, by omega⟩).val : ℝ) : EReal)) :
    FloatOps.matmul d prec a b (constant so .f32 0x00000000#32) y = ((∑ k ∈ range n, f k * g k : ℝ) : EReal) := by
  rw [Ideal.matmul_constant_zero_apply, ← Equiv.sum_comp (ValueIdx.contrEquiv1 d n hr hs).symm]
  refine coe_sum_mul _ _ f g (fun k => ?_) (fun k => ?_)
  · rw [ha, ValueIdx.contrEquiv1_symm_val]
  · rw [hb, ValueIdx.contrEquiv1_symm_val]

/-! ## The products the body takes -/

/-- Scores: rows of keys against rows of queries. -/
theorem dot_nt256 {φ₁ φ₂ : FTy} (a : FVec Ideal S512x256 φ₁) (b : FVec Ideal S512x256 φ₂) (f g : ℕ → ℕ → ℝ)
    (ha : ∀ z, a z = ((f (z 0).val (z 1).val : ℝ) : EReal)) (hb : ∀ z, b z = ((g (z 0).val (z 1).val : ℝ) : EReal)) (y : S512x512.Idx) :
    FloatOps.matmul dot_S512x256_S512x256_S512x512_1_1_0_0_n_n none a b (constant S512x512 .f32 0x00000000#32) y
      = ((∑ k ∈ range 256, f (y 0).val k * g (y 1).val k : ℝ) : EReal) :=
  dot_real _ 256 rfl rfl _ a b y (fun k => f (y 0).val k) (fun k => g (y 1).val k)
    (fun k => by rw [ha]; rfl) (fun k => by rw [hb]; rfl)

/-- Probability gradients: rows of values against rows of output gradients. -/
theorem dot_nt128 {φ₁ φ₂ : FTy} (a : FVec Ideal S512x128 φ₁) (b : FVec Ideal S512x128 φ₂) (f g : ℕ → ℕ → ℝ)
    (ha : ∀ z, a z = ((f (z 0).val (z 1).val : ℝ) : EReal)) (hb : ∀ z, b z = ((g (z 0).val (z 1).val : ℝ) : EReal)) (y : S512x512.Idx) :
    FloatOps.matmul dot_S512x128_S512x128_S512x512_1_1_0_0_n_n none a b (constant S512x512 .f32 0x00000000#32) y
      = ((∑ k ∈ range 128, f (y 0).val k * g (y 1).val k : ℝ) : EReal) :=
  dot_real _ 128 rfl rfl _ a b y (fun k => f (y 0).val k) (fun k => g (y 1).val k)
    (fun k => by rw [ha]; rfl) (fun k => by rw [hb]; rfl)

/-- Value gradients: probabilities against output gradients. -/
theorem dot_nn128 {φ₁ φ₂ : FTy} (a : FVec Ideal S512x512 φ₁) (b : FVec Ideal S512x128 φ₂) (f g : ℕ → ℕ → ℝ)
    (ha : ∀ z, a z = ((f (z 0).val (z 1).val : ℝ) : EReal)) (hb : ∀ z, b z = ((g (z 0).val (z 1).val : ℝ) : EReal)) (y : S512x128.Idx) :
    FloatOps.matmul dot_S512x512_S512x128_S512x128_1_0_0_1_n_n none a b (constant S512x128 .f32 0x00000000#32) y
      = ((∑ k ∈ range 512, f (y 0).val k * g k (y 1).val : ℝ) : EReal) :=
  dot_real _ 512 rfl rfl _ a b y (fun k => f (y 0).val k) (fun k => g k (y 1).val)
    (fun k => by rw [ha]; rfl) (fun k => by rw [hb]; rfl)

/-- Key gradients: score gradients against queries. -/
theorem dot_nn256 {φ₁ φ₂ : FTy} (a : FVec Ideal S512x512 φ₁) (b : FVec Ideal S512x256 φ₂) (f g : ℕ → ℕ → ℝ)
    (ha : ∀ z, a z = ((f (z 0).val (z 1).val : ℝ) : EReal)) (hb : ∀ z, b z = ((g (z 0).val (z 1).val : ℝ) : EReal)) (y : S512x256.Idx) :
    FloatOps.matmul dot_S512x512_S512x256_S512x256_1_0_0_1_n_n none a b (constant S512x256 .f32 0x00000000#32) y
      = ((∑ k ∈ range 512, f (y 0).val k * g k (y 1).val : ℝ) : EReal) :=
  dot_real _ 512 rfl rfl _ a b y (fun k => f (y 0).val k) (fun k => g k (y 1).val)
    (fun k => by rw [ha]; rfl) (fun k => by rw [hb]; rfl)

/-- Query gradients: score gradients, transposed, against keys. -/
theorem dot_tn256 {φ₁ φ₂ : FTy} (a : FVec Ideal S512x512 φ₁) (b : FVec Ideal S512x256 φ₂) (f g : ℕ → ℕ → ℝ)
    (ha : ∀ z, a z = ((f (z 0).val (z 1).val : ℝ) : EReal)) (hb : ∀ z, b z = ((g (z 0).val (z 1).val : ℝ) : EReal)) (y : S512x256.Idx) :
    FloatOps.matmul dot_S512x512_S512x256_S512x256_0_0_1_1_n_n none a b (constant S512x256 .f32 0x00000000#32) y
      = ((∑ k ∈ range 512, f k (y 0).val * g k (y 1).val : ℝ) : EReal) :=
  dot_real _ 512 rfl rfl _ a b y (fun k => f k (y 0).val) (fun k => g k (y 1).val)
    (fun k => by rw [ha]; rfl) (fun k => by rw [hb]; rfl)

/-- Row sums: ones against the products of outputs and their gradients. -/
theorem dot_ones {φ₁ φ₂ : FTy} (prec : Option ContractPrecision) (a : FVec Ideal S8x128 φ₁) (b : FVec Ideal S512x128 φ₂) (g : ℕ → ℕ → ℝ)
    (ha : ∀ z, a z = ((1 : ℝ) : EReal)) (hb : ∀ z, b z = ((g (z 0).val (z 1).val : ℝ) : EReal)) (y : S8x512.Idx) :
    FloatOps.matmul dot_S8x128_S512x128_S8x512_1_1_0_0_n_n prec a b (constant S8x512 .f32 0x00000000#32) y
      = ((∑ k ∈ range 128, 1 * g (y 1).val k : ℝ) : EReal) :=
  dot_real _ 128 rfl rfl _ a b y (fun k => 1) (fun k => g (y 1).val k)
    (fun k => by rw [ha]) (fun k => by rw [hb]; rfl)

/-! ## Shape changes -/

theorem drop256 {α : Type} (x : S1x512x256.Idx → α) (h : S1x512x256.ShapeCasts S512x256) (f : ℕ → ℕ → α)
    (hx : ∀ z, x z = f (z 1).val (z 2).val) (y : S512x256.Idx) : shapeCast S512x256 x h y = f (y 0).val (y 1).val := by
  rw [shapeCast_apply x h y (fun a => match a with | ⟨0, _⟩ => ⟨0, Nat.one_pos⟩ | ⟨1, _⟩ => ⟨(y 0).val, (y 0).isLt⟩ | ⟨2, _⟩ => ⟨(y 1).val, (y 1).isLt⟩)
    (by rewrite [Shape.rowMajor_val_two, Shape.rowMajor_val_three]
        show (0 * 512 + (y 0).val) * 256 + (y 1).val = (y 0).val * 256 + (y 1).val; omega), hx]

theorem drop128 {α : Type} (x : S1x512x128.Idx → α) (h : S1x512x128.ShapeCasts S512x128) (f : ℕ → ℕ → α)
    (hx : ∀ z, x z = f (z 1).val (z 2).val) (y : S512x128.Idx) : shapeCast S512x128 x h y = f (y 0).val (y 1).val := by
  rw [shapeCast_apply x h y (fun a => match a with | ⟨0, _⟩ => ⟨0, Nat.one_pos⟩ | ⟨1, _⟩ => ⟨(y 0).val, (y 0).isLt⟩ | ⟨2, _⟩ => ⟨(y 1).val, (y 1).isLt⟩)
    (by rewrite [Shape.rowMajor_val_two, Shape.rowMajor_val_three]
        show (0 * 512 + (y 0).val) * 128 + (y 1).val = (y 0).val * 128 + (y 1).val; omega), hx]

theorem lift256 {α : Type} (x : S512x256.Idx → α) (h : S512x256.ShapeCasts S1x512x256) (f : ℕ → ℕ → α)
    (hx : ∀ z, x z = f (z 0).val (z 1).val) (y : S1x512x256.Idx) : shapeCast S1x512x256 x h y = f (y 1).val (y 2).val := by
  have h0 : (y 0).val < 1 := (y 0).isLt
  rw [shapeCast_apply x h y (fun a => match a with | ⟨0, _⟩ => ⟨(y 1).val, (y 1).isLt⟩ | ⟨1, _⟩ => ⟨(y 2).val, (y 2).isLt⟩)
    (by rewrite [Shape.rowMajor_val_two, Shape.rowMajor_val_three]
        show (y 1).val * 256 + (y 2).val = ((y 0).val * 512 + (y 1).val) * 256 + (y 2).val; omega), hx]

theorem lift128 {α : Type} (x : S512x128.Idx → α) (h : S512x128.ShapeCasts S1x512x128) (f : ℕ → ℕ → α)
    (hx : ∀ z, x z = f (z 0).val (z 1).val) (y : S1x512x128.Idx) : shapeCast S1x512x128 x h y = f (y 1).val (y 2).val := by
  have h0 : (y 0).val < 1 := (y 0).isLt
  rw [shapeCast_apply x h y (fun a => match a with | ⟨0, _⟩ => ⟨(y 1).val, (y 1).isLt⟩ | ⟨1, _⟩ => ⟨(y 2).val, (y 2).isLt⟩)
    (by rewrite [Shape.rowMajor_val_two, Shape.rowMajor_val_three]
        show (y 1).val * 128 + (y 2).val = ((y 0).val * 512 + (y 1).val) * 128 + (y 2).val; omega), hx]

theorem lift8 {α : Type} (x : S8x512.Idx → α) (h : S8x512.ShapeCasts S1x1x8x512) (f : ℕ → ℕ → α)
    (hx : ∀ z, x z = f (z 0).val (z 1).val) (y : S1x1x8x512.Idx) : shapeCast S1x1x8x512 x h y = f (y 2).val (y 3).val := by
  have h0 : (y 0).val < 1 := (y 0).isLt
  have h1 : (y 1).val < 1 := (y 1).isLt
  rw [shapeCast_apply x h y (fun a => match a with | ⟨0, _⟩ => ⟨(y 2).val, (y 2).isLt⟩ | ⟨1, _⟩ => ⟨(y 3).val, (y 3).isLt⟩)
    (by rewrite [Shape.rowMajor_val_two, Shape.rowMajor_val_four]
        show (y 2).val * 512 + (y 3).val = (((y 0).val * 1 + (y 1).val) * 8 + (y 2).val) * 512 + (y 3).val; omega), hx]

/-- A row statistic, spread over the block's keys. -/
theorem spread {α : Type} (x : S1x1x1x512.Idx → α) (h : S1x1x1x512.ShapeCasts S1x512) (hb : S1x512.Broadcasts S512x512) (f : ℕ → α)
    (hx : ∀ z, x z = f (z 3).val) (y : S512x512.Idx) : broadcastTo S512x512 (shapeCast S1x512 x h) hb y = f (y 1).val := by
  rw [broadcastTo_apply _ hb y (fun a => match a with | ⟨0, _⟩ => ⟨0, Nat.one_pos⟩ | ⟨1, _⟩ => ⟨(y 1).val, (y 1).isLt⟩)
    (fun a => match a with
      | ⟨0, _⟩ => by show 0 = if (1 : ℕ) = 1 then 0 else _; rw [if_pos rfl]
      | ⟨1, _⟩ => by show (y 1).val = if (512 : ℕ) = 1 then 0 else (y 1).val; rw [if_neg (by decide)])]
  rw [shapeCast_apply x h _ (fun a => match a with | ⟨0, _⟩ => ⟨0, Nat.one_pos⟩ | ⟨1, _⟩ => ⟨0, Nat.one_pos⟩ | ⟨2, _⟩ => ⟨0, Nat.one_pos⟩ | ⟨3, _⟩ => ⟨(y 1).val, (y 1).isLt⟩)
    (by rewrite [Shape.rowMajor_val_two, Shape.rowMajor_val_four]
        show ((0 * 1 + 0) * 1 + 0) * 512 + (y 1).val = 0 * 512 + (y 1).val; omega), hx]

end Cert.KernelIdeal.Hand

end
-- ==== Proof.PayVal.lean ====
/- What one block of queries adds, at the ideal values: probabilities, score gradients, and the three accumulators. -/
module

public import proofs.«01_k».proof.Proof.Pay

@[expose] public section

set_option maxRecDepth 16384

noncomputable section

namespace Cert.KernelIdeal.Hand

open Cert.KernelIdeal Cert.KernelIdeal.Gen Cert.Grad
open Idealize.ShloMosaic Idealize.ShloMosaic.TcCoe Idealize.ShloMosaic.Tactic
open Finset

variable (M : Model)

/-- The padded score: the columns past the head's width add nothing. -/
theorem sum_pad (hz : ∀ h i d, 192 ≤ d → M.q h i d = 0) (h i j : ℕ) :
    ∑ d ∈ range 256, M.k h j d * M.q h i d = ∑ d ∈ range 192, M.q h i d * M.k h j d := by
  rw [show 256 = 192 + 64 from rfl, Finset.sum_range_add, Finset.sum_eq_zero (s := range 64) (fun d _ => by rw [hz h i (192 + d) (by omega), mul_zero]),
    add_zero]
  exact Finset.sum_congr rfl fun d _ => mul_comm _ _

/-- Signed order of two small words. -/
theorem sle_small (a b : ℕ) (ha : a < 2048) (hb : b < 2048) :
    IntOp.cmpi .sle (BitVec.ofNat 32 a) (BitVec.ofNat 32 b) = if a ≤ b then 1#1 else 0#1 := by
  have h : (BitVec.ofNat 32 a).sle (BitVec.ofNat 32 b) = decide (a ≤ b) := by
    have ea : (BitVec.ofNat 32 a).toNat = a := by rw [BitVec.toNat_ofNat]; exact Nat.mod_eq_of_lt (by omega)
    have eb : (BitVec.ofNat 32 b).toNat = b := by rw [BitVec.toNat_ofNat]; exact Nat.mod_eq_of_lt (by omega)
    rw [BitVec.sle_eq_decide, BitVec.toInt_eq_toNat_of_lt (by rw [ea]; omega), BitVec.toInt_eq_toNat_of_lt (by rw [eb]; omega), ea, eb]
    simp
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

/-- A row number's chunk of 64. -/
theorem chunk_row : ∀ a : Fin 512, IntOp.shrsi .vector (BitVec.ofNat 32 a.val) 6#32 = BitVec.ofNat 32 (a.val / 64) := by
  decide +kernel

section
variable (hz : ∀ h i d, 192 ≤ d → M.q h i d = 0) (h b kj : ℕ) (hb : b < 4)
  (kw : Vec Ideal S1x512x256 .bf16) (hk : ∀ z, kw z = ((M.k h (512 * kj + (z 1).val) (z 2).val : ℝ) : EReal))
  (vw : Vec Ideal S1x512x128 .bf16) (hv : ∀ z, vw z = ((M.v h (512 * kj + (z 1).val) (z 2).val : ℝ) : EReal))
  (qw : Vec Ideal S1x512x256 .bf16) (hq : ∀ z, qw z = ((M.q h (512 * b + (z 1).val) (z 2).val : ℝ) : EReal))
  (gw : Vec Ideal S512x128 .f32) (hg : ∀ z, gw z = ((M.g h (512 * b + (z 0).val) (z 1).val : ℝ) : EReal))
  (lw : Vec Ideal S1x1x1x512 .f32) (hl : ∀ z, lw z = ((M.lse h (512 * b + (z 3).val) : ℝ) : EReal))
  (dw : Vec Ideal S1x1x1x512 .f32) (hd : ∀ z, dw z = ((M.dl h (512 * b + (z 3).val) : ℝ) : EReal))

include hk in
theorem pay27_val (y : S512x256.Idx) : k0_pay27 kw y = ((M.k h (512 * kj + (y 0).val) (y 1).val : ℝ) : EReal) :=
  drop256 kw _ (fun r d => ((M.k h (512 * kj + r) d : ℝ) : EReal)) hk y

include hq in
theorem pay28_val (y : S512x256.Idx) : k0_pay28 qw y = ((M.q h (512 * b + (y 0).val) (y 1).val : ℝ) : EReal) :=
  drop256 qw _ (fun r d => ((M.q h (512 * b + r) d : ℝ) : EReal)) hq y

include hg in
theorem pay29_val (y : S512x128.Idx) : k0_pay29 gw y = ((M.g h (512 * b + (y 0).val) (y 1).val : ℝ) : EReal) := hg y

include hz hk hq in
/-- A scaled score. -/
theorem score_val (y : S512x512.Idx) :
    mulf (matmul dot_S512x256_S512x256_S512x512_1_1_0_0_n_n none (k0_pay27 kw) (k0_pay28 qw) (constant S512x512 .f32 0x00000000#32))
      (broadcast S512x512 (Scalar.ofBits .f32 0x3D93CD3A#32)) y
      = ((M.sc h (512 * b + (y 1).val) (512 * kj + (y 0).val) : ℝ) : EReal) := by
  show FloatOps.matmul dot_S512x256_S512x256_S512x512_1_1_0_0_n_n none (k0_pay27 kw) (k0_pay28 qw) (constant S512x512 .f32 0x00000000#32) y
    * Ideal.ofBits .f32 0x3D93CD3A#32 = _
  rw [dot_nt256 (k0_pay27 kw) (k0_pay28 qw) (fun r d => M.k h (512 * kj + r) d) (fun x d => M.q h (512 * b + x) d)
    (pay27_val M h kj kw hk) (pay28_val M h b qw hq), ofBits_cs, sum_pad M hz, ← EReal.coe_mul]
  rfl

include hz hb hk hq hl in
/-- A later block's probabilities: no key of it is masked. -/
theorem pay30_val (hlt : kj < b) (y : S512x512.Idx) :
    k0_pay30 kw qw lw y = ((M.pr h (512 * b + (y 1).val) (512 * kj + (y 0).val) : ℝ) : EReal) := by
  have h0 : (y 0).val < 512 := (y 0).isLt
  have h1 : (y 1).val < 512 := (y 1).isLt
  show Ideal.exp (mulf (matmul dot_S512x256_S512x256_S512x512_1_1_0_0_n_n none (k0_pay27 kw) (k0_pay28 qw) (constant S512x512 .f32 0x00000000#32))
      (broadcast S512x512 (Scalar.ofBits .f32 0x3D93CD3A#32)) y
    - broadcastTo S512x512 (shapeCast S1x512 lw shapeCasts_S1x1x1x512_S1x512) broadcasts_S1x512_S512x512 y) = _
  rw [score_val M hz h b kj kw hk qw hq, spread lw _ _ (fun x => ((M.lse h (512 * b + x) : ℝ) : EReal)) hl, ← EReal.coe_sub, Ideal.exp_coe,
    M.exp_lse h _ _ (by omega) (by omega)]

include hz hb hk hq hl in
/-- The diagonal block's probabilities: a masked key's is zero. -/
theorem pay67_val (hbk : b = kj) (y : S512x512.Idx) :
    k0_pay67 (k0_pay66 kw qw) lw y = ((M.pr h (512 * b + (y 1).val) (512 * kj + (y 0).val) : ℝ) : EReal) := by
  have h0 : (y 0).val < 512 := (y 0).isLt
  have h1 : (y 1).val < 512 := (y 1).isLt
  show Ideal.exp (Scalar.select (IntOp.cmpi .sle (IntOp.shrsi .vector (iota .tc S512x512 32 [0] iota_S512x512_d0_w32 y) 6#32)
        (IntOp.shrsi .vector (iota .tc S512x512 32 [1] iota_S512x512_d1_w32 y) 6#32))
      (mulf (matmul dot_S512x256_S512x256_S512x512_1_1_0_0_n_n none (k0_pay27 kw) (k0_pay28 qw) (constant S512x512 .f32 0x00000000#32))
        (broadcast S512x512 (Scalar.ofBits .f32 0x3D93CD3A#32)) y) (Named.named κ "mask" 0xF149F2CA#32)
    - broadcastTo S512x512 (shapeCast S1x512 lw shapeCasts_S1x1x1x512_S1x512) broadcasts_S1x512_S512x512 y) = _
  rw [score_val M hz h b kj kw hk qw hq, spread lw _ _ (fun x => ((M.lse h (512 * b + x) : ℝ) : EReal)) hl,
    iota_single_apply, iota_single_apply, chunk_row ⟨(y 0).val, h0⟩, chunk_row ⟨(y 1).val, h1⟩, sle_small _ _ (by dsimp only; omega) (by dsimp only; omega)]
  dsimp only
  by_cases hm : (y 0).val / 64 ≤ (y 1).val / 64
  · rw [if_pos hm]
    show Ideal.exp (((M.sc h _ _ : ℝ) : EReal) - _) = _
    rw [← EReal.coe_sub, Ideal.exp_coe, M.exp_lse h _ _ (by omega) (by omega)]
  · rw [if_neg hm]
    have e : (Named.named κ "mask" (0xF149F2CA#32 : BitVec (FTy.bits .f32)) : Ideal .f32) = (⊥ : EReal) :=
      IdealRules.named_const.ideal_named_scalar _ _ _ _ rfl
    show Ideal.exp ((Named.named κ "mask" (0xF149F2CA#32 : BitVec (FTy.bits .f32)) : Ideal .f32) - _) = _
    rw [e, EReal.bot_sub, M.pr_masked h _ _ (by omega)]
    rfl

include hv hg hd in
/-- The score gradients of a block whose probabilities are known. -/
theorem ds_val (p : FVec Ideal S512x512 .f32) (hp : ∀ y, p y = ((M.pr h (512 * b + (y 1).val) (512 * kj + (y 0).val) : ℝ) : EReal)) (y : S512x512.Idx) :
    mulf (mulf p (subf (matmul dot_S512x128_S512x128_S512x512_1_1_0_0_n_n none (shapeCast S512x128 vw shapeCasts_S1x512x128_S512x128 : FVec Ideal S512x128 .bf16) (k0_pay29 gw)
        (constant S512x512 .f32 0x00000000#32))
      (broadcastTo S512x512 (shapeCast S1x512 dw shapeCasts_S1x1x1x512_S1x512) broadcasts_S1x512_S512x512)))
      (broadcast S512x512 (Scalar.ofBits .f32 0x3D93CD3A#32)) y
      = ((M.ds h (512 * b + (y 1).val) (512 * kj + (y 0).val) : ℝ) : EReal) := by
  show p y * (FloatOps.matmul dot_S512x128_S512x128_S512x512_1_1_0_0_n_n none (shapeCast S512x128 vw shapeCasts_S1x512x128_S512x128 : FVec Ideal S512x128 .bf16) (k0_pay29 gw)
        (constant S512x512 .f32 0x00000000#32) y
      - broadcastTo S512x512 (shapeCast S1x512 dw shapeCasts_S1x1x1x512_S1x512) broadcasts_S1x512_S512x512 y)
    * Ideal.ofBits .f32 0x3D93CD3A#32 = _
  rw [hp, spread dw _ _ (fun x => ((M.dl h (512 * b + x) : ℝ) : EReal)) hd,
    dot_nt128 (shapeCast S512x128 vw shapeCasts_S1x512x128_S512x128 : FVec Ideal S512x128 .bf16) (k0_pay29 gw) (fun r d => M.v h (512 * kj + r) d) (fun x d => M.g h (512 * b + x) d)
      (fun z => drop128 vw _ (fun r d => ((M.v h (512 * kj + r) d : ℝ) : EReal)) hv z) (pay29_val M h b gw hg), ofBits_cs,
    ← EReal.coe_sub, ← EReal.coe_mul, ← EReal.coe_mul]
  unfold Model.ds Model.dp
  rw [Finset.sum_congr rfl fun d _ => mul_comm (M.v h (512 * kj + (y 0).val) d) (M.g h (512 * b + (y 1).val) d)]

include hz hb hk hq hl hv hg hd in
theorem pay32_val (hlt : kj < b) (y : S512x512.Idx) :
    k0_pay32 kw vw qw gw lw dw y = ((M.ds h (512 * b + (y 1).val) (512 * kj + (y 0).val) : ℝ) : EReal) :=
  ds_val M h b kj vw hv gw hg dw hd (k0_pay30 kw qw lw) (pay30_val M hz h b kj hb kw hk qw hq lw hl hlt) y

include hz hb hk hq hl hv hg hd in
theorem pay69_val (hbk : b = kj) (y : S512x512.Idx) :
    k0_pay69 (k0_pay63 vw) (k0_pay65 gw) (k0_pay66 kw qw) lw dw y = ((M.ds h (512 * b + (y 1).val) (512 * kj + (y 0).val) : ℝ) : EReal) :=
  ds_val M h b kj vw hv gw hg dw hd (k0_pay67 (k0_pay66 kw qw) lw) (pay67_val M hz h b kj hb kw hk qw hq lw hl hbk) y

/-! ## The accumulators -/

include hg in
/-- The value gradient's step. -/
theorem dv_val (p : FVec Ideal S512x512 .f32) (hp : ∀ y, p y = ((M.pr h (512 * b + (y 1).val) (512 * kj + (y 0).val) : ℝ) : EReal))
    (a : FVec Ideal S512x128 .f32) (fa : ℕ → ℕ → ℝ) (ha : ∀ y, a y = ((fa (y 0).val (y 1).val : ℝ) : EReal)) (y : S512x128.Idx) :
    addf a (matmul dot_S512x512_S512x128_S512x128_1_0_0_1_n_n none (truncf .bf16 p bitsLt_bf16_f32) (k0_pay29 gw) (constant S512x128 .f32 0x00000000#32)) y
      = ((fa (y 0).val (y 1).val + M.tv b h (512 * kj + (y 0).val) (y 1).val : ℝ) : EReal) := by
  show a y + FloatOps.matmul dot_S512x512_S512x128_S512x128_1_0_0_1_n_n none (truncf .bf16 p bitsLt_bf16_f32) (k0_pay29 gw) (constant S512x128 .f32 0x00000000#32) y = _
  rw [ha, dot_nn128 (truncf .bf16 p bitsLt_bf16_f32) (k0_pay29 gw) (fun r x => M.pr h (512 * b + x) (512 * kj + r)) (fun x d => M.g h (512 * b + x) d)
    hp (pay29_val M h b gw hg), ← EReal.coe_add]
  rfl

include hq in
/-- The key gradient's step. -/
theorem dk_val (s : FVec Ideal S512x512 .bf16) (hs : ∀ y, s y = ((M.ds h (512 * b + (y 1).val) (512 * kj + (y 0).val) : ℝ) : EReal))
    (a : FVec Ideal S512x256 .f32) (fa : ℕ → ℕ → ℝ) (ha : ∀ y, a y = ((fa (y 0).val (y 1).val : ℝ) : EReal)) (y : S512x256.Idx) :
    addf a (matmul dot_S512x512_S512x256_S512x256_1_0_0_1_n_n none s (k0_pay28 qw) (constant S512x256 .f32 0x00000000#32)) y
      = ((fa (y 0).val (y 1).val + M.tk b h (512 * kj + (y 0).val) (y 1).val : ℝ) : EReal) := by
  show a y + FloatOps.matmul dot_S512x512_S512x256_S512x256_1_0_0_1_n_n none s (k0_pay28 qw) (constant S512x256 .f32 0x00000000#32) y = _
  rw [ha, dot_nn256 s (k0_pay28 qw) (fun r x => M.ds h (512 * b + x) (512 * kj + r)) (fun x d => M.q h (512 * b + x) d)
    hs (pay28_val M h b qw hq), ← EReal.coe_add]
  rfl

include hk in
/-- The query gradient's step. -/
theorem dq_val (s : FVec Ideal S512x512 .bf16) (hs : ∀ y, s y = ((M.ds h (512 * b + (y 1).val) (512 * kj + (y 0).val) : ℝ) : EReal))
    (w : Vec Ideal S1x512x256 .f32) (fw : ℕ → ℕ → ℝ) (hw : ∀ y, w y = ((fw (y 1).val (y 2).val : ℝ) : EReal)) (y : S1x512x256.Idx) :
    k0_pay34 (k0_pay27 kw) s w y = ((fw (y 1).val (y 2).val + M.tq kj h (512 * b + (y 1).val) (y 2).val : ℝ) : EReal) := by
  refine lift256 (addf (shapeCast S512x256 w shapeCasts_S1x512x256_S512x256)
    (matmul dot_S512x512_S512x256_S512x256_0_0_1_1_n_n none s (k0_pay27 kw) (constant S512x256 .f32 0x00000000#32))) shapeCasts_S512x256_S1x512x256 (fun x d => ((fw x d + M.tq kj h (512 * b + x) d : ℝ) : EReal)) (fun z => ?_) y
  show shapeCast S512x256 w shapeCasts_S1x512x256_S512x256 z
    + FloatOps.matmul dot_S512x512_S512x256_S512x256_0_0_1_1_n_n none s (k0_pay27 kw) (constant S512x256 .f32 0x00000000#32) z = _
  rw [drop256 w _ (fun x d => ((fw x d : ℝ) : EReal)) hw,
    dot_tn256 s (k0_pay27 kw) (fun r x => M.ds h (512 * b + x) (512 * kj + r)) (fun r d => M.k h (512 * kj + r) d)
      hs (pay27_val M h kj kw hk), ← EReal.coe_add]
  rfl

end

/-! ## Both heads of the pair, and the diagonal's payloads, in the forms above -/

section
variable (kw qw : Vec Ideal S1x512x256 .bf16) (vw : Vec Ideal S1x512x128 .bf16) (gw : Vec Ideal S512x128 .f32) (lw dw : Vec Ideal S1x1x1x512 .f32)
  (w : Vec Ideal S1x512x256 .f32) (a : FVec Ideal S512x256 .f32) (e : FVec Ideal S512x128 .f32)

theorem second_dk : k0_pay3 a (k0_pay36 qw) (k0_pay38 kw qw lw) (k0_pay40 vw gw) (k0_pay41 dw) = k0_pay33 a kw vw qw gw lw dw := rfl
theorem second_dv : k0_pay39 e kw qw gw lw = k0_pay31 e kw qw gw lw := rfl
theorem second_dq : k0_pay4 (k0_pay35 kw) (k0_pay38 kw qw lw) (k0_pay40 vw gw) (k0_pay41 dw) w = k0_pay34 (k0_pay27 kw) (k0_pay32 kw vw qw gw lw dw) w := rfl
theorem diag_dk : k0_pay79 a (k0_pay72 kw) (k0_pay73 vw) (k0_pay74 qw) gw lw dw
    = k0_pay70 a (k0_pay63 vw) (k0_pay64 qw) (k0_pay65 gw) (k0_pay66 kw qw) lw dw := rfl
theorem diag_dv : k0_pay77 e (k0_pay72 kw) (k0_pay74 qw) gw lw = k0_pay68 e (k0_pay65 gw) (k0_pay66 kw qw) lw := rfl
theorem diag_dq : k0_pay1 (k0_pay80 (k0_pay72 kw) (k0_pay73 vw) (k0_pay74 qw) gw lw dw w)
    = k0_pay71 (k0_pay62 kw) (k0_pay63 vw) (k0_pay65 gw) (k0_pay66 kw qw) lw dw w := rfl
theorem first_dq : k0_pay71 (k0_pay62 kw) (k0_pay63 vw) (k0_pay65 gw) (k0_pay66 kw qw) lw dw w
    = k0_pay34 (k0_pay27 kw) (k0_pay69 (k0_pay63 vw) (k0_pay65 gw) (k0_pay66 kw qw) lw dw) w := rfl
theorem first_dk : k0_pay70 a (k0_pay63 vw) (k0_pay64 qw) (k0_pay65 gw) (k0_pay66 kw qw) lw dw
    = addf a (matmul dot_S512x512_S512x256_S512x256_1_0_0_1_n_n none (k0_pay69 (k0_pay63 vw) (k0_pay65 gw) (k0_pay66 kw qw) lw dw) (k0_pay28 qw)
        (constant S512x256 .f32 0x00000000#32)) := rfl
theorem first_dv : k0_pay68 e (k0_pay65 gw) (k0_pay66 kw qw) lw
    = addf e (matmul dot_S512x512_S512x128_S512x128_1_0_0_1_n_n none (truncf .bf16 (k0_pay67 (k0_pay66 kw qw) lw) bitsLt_bf16_f32) (k0_pay29 gw)
        (constant S512x128 .f32 0x00000000#32)) := rfl
end

end Cert.KernelIdeal.Hand

end
-- ==== Proof.Vals.lean ====
/-
The reference's stages at real arguments: the chunk mask, the masked scaled scores, each row's greatest, the exponentials,
their sums, the probabilities and the attention output.
-/
module

public import proofs.«01_k».proof.Proof.Model
public import proofs.«01_k».proof.Proof.PayVal
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Cert.Grad
open Idealize.ShloMosaic Finset

/-- The model's inputs are the arguments' entries. -/
structure Reads (M : Model) (x0 x1 : S2048x8x192.Idx → EReal) (x2 : S2048x8x128.Idx → EReal) (x3 : S2048x2048.Idx → EReal) : Prop where
  q : ∀ z, x0 z = ((M.q (z 1).val (z 0).val (z 2).val : ℝ) : EReal)
  k : ∀ z, x1 z = ((M.k (z 1).val (z 0).val (z 2).val : ℝ) : EReal)
  v : ∀ z, x2 z = ((M.v (z 1).val (z 0).val (z 2).val : ℝ) : EReal)
  g : ∀ z, x3 z = ((M.G (z 0).val (z 1).val : ℝ) : EReal)

variable {M : Model} {x0 x1 : S2048x8x192.Idx → EReal} {x2 : S2048x8x128.Idx → EReal} {x3 : S2048x2048.Idx → EReal}

/-! ## Literals -/

theorem ofBits_one : Ideal.ofBits .f32 0x3F800000#32 = ((1 : ℝ) : EReal) := by
  simp [Ideal.ofBits, Ideal.ieee, -EReal.coe_mul]
  norm_num
theorem ofBits_zero : Ideal.ofBits .f32 0x00000000#32 = ((0 : ℝ) : EReal) := by
  simp [Ideal.ofBits, Ideal.ieee, -EReal.coe_mul]
theorem ofBits_bot : Ideal.ofBits .f32 0xFF800000#32 = ⊥ := by
  simp [Ideal.ofBits, Ideal.ieee, -EReal.coe_mul]
theorem ofBits_top : Ideal.ofBits .f32 0x7F800000#32 = ⊤ := by
  simp [Ideal.ofBits, Ideal.ieee, -EReal.coe_mul]

/-! ## The mask -/

/-- A position's chunk. -/
theorem chunk_val : ∀ n : Fin 2048, val_main_v6 (F := Ideal) (fun a => match a with | ⟨0, _⟩ => n) = BitVec.ofNat 32 (n.val / 64) := by
  decide +kernel

theorem v6_val (i : S2048.Idx) : val_main_v6 (F := Ideal) i = BitVec.ofNat 32 ((i 0).val / 64) := by
  have e : i = (fun a => match a with | ⟨0, _⟩ => (i 0 : Fin 2048)) := funext fun a => match a with | ⟨0, _⟩ => rfl
  rw [e]
  exact chunk_val (i 0)

theorem mask_val (z : S8x2048x2048.Idx) :
    val_main_v12_1 (F := Ideal) z = if (z 2).val / 64 ≤ (z 1).val / 64 then 1#1 else 0#1 := by
  have h1 : (z 1).val < 2048 := (z 1).isLt
  have h2 : (z 2).val < 2048 := (z 2).isLt
  rw [val_main_v12_1_apply, val_main_v11_apply, val_main_v9_apply, val_main_v10_apply, val_main_v7_apply, val_main_v8_apply, v6_val, v6_val]
  exact Cert.KernelIdeal.Hand.sle_small _ _ (by show (z 2).val / 64 < 2048; omega) (by show (z 1).val / 64 < 2048; omega)

/-! ## The scores -/

theorem v4_val (R : Reads M x0 x1 x2 x3) (z : S8x2048x2048.Idx) :
    val_main_v4 (F := Ideal) x0 x1 z = ((M.sc (z 0).val (z 1).val (z 2).val : ℝ) : EReal) := by
  rw [val_main_v4_apply, val_main_v2_apply, val_main_v3_apply, val_main_cst_apply, Ideal.mulf_def, Ideal.ofBits_def, ofBits_cs,
    coe_sum_mul _ _ (fun d => M.q (z 0).val (z 1).val d) (fun d => M.k (z 0).val (z 2).val d) (fun k => R.q _) (fun k => R.k _), ← EReal.coe_mul]
  rfl

theorem v12_val (R : Reads M x0 x1 x2 x3) (z : S8x2048x2048.Idx) :
    val_main_v12_0 (F := Ideal) x0 x1 z
      = if (z 2).val / 64 ≤ (z 1).val / 64 then ((M.sc (z 0).val (z 1).val (z 2).val : ℝ) : EReal) else ⊥ := by
  rw [val_main_v12_0_apply, mask_val, v4_val R, val_main_call1_v2_apply, val_main_call1_v0_apply, val_main_cst_0_apply, Ideal.ofBits_def, ofBits_bot]
  by_cases h : (z 2).val / 64 ≤ (z 1).val / 64
  · rw [if_pos h, if_pos h]; rfl
  · rw [if_neg h, if_neg h]; rfl

/-- A running maximum from a value below `⊤` of values below `⊤` is below `⊤`, and at least each of them. -/
theorem foldl_max {ι : Type} (f : ι → EReal) : ∀ (l : List ι) (b : EReal), b ≠ ⊤ → (∀ i ∈ l, f i ≠ ⊤) →
    l.foldl (fun r i => max r (f i)) b ≠ ⊤ ∧ b ≤ l.foldl (fun r i => max r (f i)) b ∧ ∀ i ∈ l, f i ≤ l.foldl (fun r i => max r (f i)) b := by
  intro l
  induction l with
  | nil => intro b hb _; exact ⟨hb, le_refl _, fun i hi => absurd hi (List.not_mem_nil)⟩
  | cons a l ih =>
    intro b hb hf
    have hm : max b (f a) ≠ ⊤ := by
      rcases max_choice b (f a) with h | h
      · rw [h]; exact hb
      · rw [h]; exact hf a (List.mem_cons_self)
    obtain ⟨h1, h2, h3⟩ := ih (max b (f a)) hm fun i hi => hf i (List.mem_cons_of_mem _ hi)
    refine ⟨h1, le_trans (le_max_left _ _) h2, fun i hi => ?_⟩
    rcases List.mem_cons.1 hi with rfl | hi
    · exact le_trans (le_max_right _ _) h2
    · exact h3 i hi

/-- Each row's greatest score is a real number. -/
theorem v13_real (R : Reads M x0 x1 x2 x3) (z : S8x2048.Idx) :
    val_main_v13 (F := Ideal) x0 x1 z = (((val_main_v13 (F := Ideal) x0 x1 z).toReal : ℝ) : EReal) := by
  have hv := v12_val R
  unfold val_main_v13
  generalize val_main_v12_0 (F := Ideal) x0 x1 = y at hv ⊢
  rw [Host.reduce_eq_foldl]
  have hy : ∀ i, y i ≠ ⊤ := fun i => by
    rw [hv]; split
    · exact EReal.coe_ne_top _
    · exact bot_ne_top
  have hb : val_main_cst_1 (F := Ideal) (Shape.Idx.first h_S_) ≠ ⊤ := by
    rw [val_main_cst_1_apply, Ideal.ofBits_def, ofBits_bot]; exact bot_ne_top
  obtain ⟨h1, -, h3⟩ := foldl_max y (((List.finRange S8x2048x2048.numel).map S8x2048x2048.rowMajor.symm).filter
    fun i => reducesTo_S8x2048x2048_S8x2048_d2.drop i = z) _ hb (fun i _ => hy i)
  refine (EReal.coe_toReal h1 fun hbot => ?_).symm
  let w : S8x2048x2048.Idx := fun a => match a with
    | ⟨0, _⟩ => ⟨(z 0).val, (z 0).isLt⟩
    | ⟨1, _⟩ => ⟨(z 1).val, (z 1).isLt⟩
    | ⟨2, _⟩ => ⟨(z 1).val, (z 1).isLt⟩
  have hw : reducesTo_S8x2048x2048_S8x2048_d2.drop w = z := funext fun b => match b with
    | ⟨0, _⟩ => Fin.ext (Shape.ReducesTo.drop_apply_val_of_eq reducesTo_S8x2048x2048_S8x2048_d2 w 0 0)
    | ⟨1, _⟩ => Fin.ext (Shape.ReducesTo.drop_apply_val_of_eq reducesTo_S8x2048x2048_S8x2048_d2 w 1 1)
  have hmem : w ∈ (((List.finRange S8x2048x2048.numel).map S8x2048x2048.rowMajor.symm).filter
      fun i => reducesTo_S8x2048x2048_S8x2048_d2.drop i = z) :=
    List.mem_filter.2 ⟨List.mem_map.2 ⟨S8x2048x2048.rowMajor w, List.mem_finRange _, Equiv.symm_apply_apply _ _⟩, by simp [hw]⟩
  have hle := h3 w hmem
  have hyw : y w = ((M.sc (z 0).val (z 1).val (z 1).val : ℝ) : EReal) := by
    rw [hv, if_pos (show (z 1).val / 64 ≤ (z 1).val / 64 from le_refl _)]
  rw [hyw] at hle
  exact absurd (le_bot_iff.1 (hbot ▸ hle)) (EReal.coe_ne_bot _)

/-! ## The softmax -/

variable (hm : ∀ z, val_main_v13 (F := Ideal) x0 x1 z = ((M.mx (z 0).val (z 1).val : ℝ) : EReal))

include hm in
theorem v20_val (z : S8x2048.Idx) : val_main_v20 (F := Ideal) x0 x1 z = ((M.mx (z 0).val (z 1).val : ℝ) : EReal) := by
  rw [val_main_v20_apply, hm, val_main_v19_apply, val_main_cst_3_apply, Ideal.maximumf_def, Ideal.ofBits_def, ofBits_bot, max_eq_right bot_le]

/-- The exponential of a masked score past a real. -/
theorem exp_masked (p : Prop) [Decidable p] (s r : ℝ) :
    Ideal.exp ((if p then (s : EReal) else ⊥) - (r : EReal)) = ((if p then Real.exp (s - r) else 0 : ℝ) : EReal) := by
  by_cases h : p
  · rw [if_pos h, if_pos h, ← EReal.coe_sub, Ideal.exp_coe]
  · rw [if_neg h, if_neg h, EReal.bot_sub, Ideal.exp_bot, EReal.coe_zero]

include hm in
theorem v33_val (R : Reads M x0 x1 x2 x3) (z : S8x2048x2048.Idx) :
    val_main_v33 (F := Ideal) x0 x1 z = ((M.ex (z 0).val (z 1).val (z 2).val : ℝ) : EReal) := by
  rw [val_main_v33_apply, val_main_v32_apply, val_main_v31_apply, val_main_v30_apply, v20_val hm, v12_val R, Ideal.subf_def, Ideal.hostUnary_exp_def,
    exp_masked]
  rfl

include hm in
theorem v34_val (R : Reads M x0 x1 x2 x3) (z : S8x2048.Idx) :
    val_main_v34 (F := Ideal) x0 x1 z = ((M.S (z 0).val (z 1).val : ℝ) : EReal) := by
  rw [val_main_v34_apply, val_main_cst_9_apply, Ideal.ofBits_def, ofBits_zero, EReal.coe_zero, zero_add,
    Finset.sum_congr rfl (fun k _ => v33_val hm R (idx_main_v34 z k))]
  exact coe_sum 2048 fun j => M.ex (z 0).val (z 1).val j

include hm in
theorem v35_val (R : Reads M x0 x1 x2 x3) (z : S8x2048x1.Idx) :
    val_main_v35 (F := Ideal) x0 x1 z = ((M.S (z 0).val (z 1).val : ℝ) : EReal) := by
  rw [val_main_v35_apply, v34_val hm R]

include hm in
theorem v37_val (R : Reads M x0 x1 x2 x3) (z : S8x2048x2048.Idx) :
    val_main_v37 (F := Ideal) x0 x1 z = ((M.pr (z 0).val (z 1).val (z 2).val : ℝ) : EReal) := by
  rw [val_main_v37_apply, v33_val hm R, val_main_v36_apply, v35_val hm R, Ideal.hostDivf_def, Ideal.div_coe (M.S_pos _ _ (z 1).isLt).ne', ← EReal.coe_mul]
  rfl

include hm in
theorem v42_val (R : Reads M x0 x1 x2 x3) (z : S2048x8x128.Idx) :
    val_main_v42 (F := Ideal) x0 x1 x2 z = ((M.ov (z 1).val (z 0).val (z 2).val : ℝ) : EReal) := by
  rw [val_main_v42_apply, val_main_v41_apply]
  exact coe_sum_mul _ _ (fun j => M.v (z 1).val j (z 2).val) (fun j => M.pr (z 1).val (z 0).val j) (fun k => R.v _) (fun k => v37_val hm R _)

end Cert.ReferenceIdeal.Hand
-- ==== Proof.RefVal.lean ====
/-
The reference's three gradients at real arguments.
-/
module

public import proofs.«01_k».proof.Proof.Vals

@[expose] public section

set_option maxRecDepth 16384

noncomputable section

namespace Cert.ReferenceIdeal.Hand

open Cert.ReferenceIdeal Cert.ReferenceIdeal.Gen Cert.ReferenceIdeal.Read Cert.Grad
open Idealize.ShloMosaic Finset

variable {M : Model} {x0 x1 : S2048x8x192.Idx → EReal} {x2 : S2048x8x128.Idx → EReal} {x3 : S2048x2048.Idx → EReal}

theorem v43_val (R : Reads M x0 x1 x2 x3) (z : S8x128x2048.Idx) :
    val_main_v43 (F := Ideal) x3 z = ((M.g (z 0).val (z 2).val (z 1).val : ℝ) : EReal) := by
  have h0 : (z 0).val < 8 := (z 0).isLt
  have h1 : (z 1).val < 128 := (z 1).isLt
  have h2 : (z 2).val < 2048 := (z 2).isLt
  rw [val_main_v43_apply, val_main_v1_apply, val_main_v0_apply, R.g]
  have e0 : (((z 2).val * 8 + (z 0).val) * 128 + (z 1).val) / 1024 = (z 2).val := by omega
  have e1 : 1024 + (((z 2).val * 8 + (z 0).val) * 128 + (z 1).val) % 1024 = 1024 + (128 * (z 0).val + (z 1).val) := by omega
  show ((M.G ((((z 2).val * 8 + (z 0).val) * 128 + (z 1).val) / 1024) (1024 + (((z 2).val * 8 + (z 0).val) * 128 + (z 1).val) % 1024) : ℝ) : EReal) = _
  rw [e0, e1]
  rfl

theorem v44_val (R : Reads M x0 x1 x2 x3) (z : S8x2048x2048.Idx) :
    val_main_v44 (F := Ideal) x2 x3 z = ((M.dp (z 0).val (z 1).val (z 2).val : ℝ) : EReal) := by
  rw [val_main_v44_apply]
  exact coe_sum_mul _ _ (fun d => M.g (z 0).val (z 1).val d) (fun d => M.v (z 0).val (z 2).val d) (fun k => v43_val R _) (fun k => R.v _)

variable (hm : ∀ z, val_main_v13 (F := Ideal) x0 x1 z = ((M.mx (z 0).val (z 1).val : ℝ) : EReal))

include hm in
theorem v46_val (R : Reads M x0 x1 x2 x3) (z : S2048x8x128.Idx) :
    val_main_v46 (F := Ideal) x0 x1 x3 z = ((M.gv (z 1).val (z 0).val (z 2).val : ℝ) : EReal) := by
  rw [val_main_v46_apply, val_main_v45_apply]
  refine (coe_sum_mul _ _ (fun i => M.g (z 1).val i (z 2).val) (fun i => M.pr (z 1).val i (z 0).val) (fun k => v43_val R _) (fun k => v37_val hm R _)).trans ?_
  exact congrArg _ (Finset.sum_congr rfl fun i _ => mul_comm _ _)

/-- One over the square of a row's sum. -/
def isq (M : Model) (h i : ℕ) : ℝ := 1 * (1 / (M.S h i * M.S h i))

include hm in
theorem v40_val (R : Reads M x0 x1 x2 x3) (z : S8x2048x1.Idx) :
    val_main_v40 (F := Ideal) x0 x1 z = ((isq M (z 0).val (z 1).val : ℝ) : EReal) := by
  have hS := (M.S_pos (z 0).val (z 1).val (z 1).isLt).ne'
  rw [val_main_v40_apply, val_main_v39_apply, val_main_cst_10_apply, val_main_v38_apply, v35_val hm R, Ideal.mulf_def, ← EReal.coe_mul, Ideal.hostDivf_def,
    Ideal.ofBits_def, ofBits_one, Ideal.div_coe (mul_ne_zero hS hS), ← EReal.coe_mul]
  rfl

include hm in
theorem v49_val (R : Reads M x0 x1 x2 x3) (z : S8x2048x2048.Idx) :
    val_main_v49 (F := Ideal) x0 x1 x2 x3 z
      = ((M.dp (z 0).val (z 1).val (z 2).val * isq M (z 0).val (z 1).val * M.ex (z 0).val (z 1).val (z 2).val : ℝ) : EReal) := by
  rw [val_main_v49_apply, val_main_v48_apply, val_main_v47_apply, v44_val R, v40_val hm R, v33_val hm R, Ideal.mulf_def, Ideal.mulf_def, ← EReal.coe_mul,
    ← EReal.coe_mul]

include hm in
theorem v50_val (R : Reads M x0 x1 x2 x3) (z : S8x2048.Idx) :
    val_main_v50 (F := Ideal) x0 x1 x2 x3 z
      = ((∑ j ∈ range 2048, M.dp (z 0).val (z 1).val j * isq M (z 0).val (z 1).val * M.ex (z 0).val (z 1).val j : ℝ) : EReal) := by
  rw [val_main_v50_apply, val_main_cst_11_apply, Ideal.ofBits_def, ofBits_zero, EReal.coe_zero, zero_add,
    Finset.sum_congr rfl (fun k _ => v49_val hm R (idx_main_v50 z k))]
  exact coe_sum 2048 fun j => M.dp (z 0).val (z 1).val j * isq M (z 0).val (z 1).val * M.ex (z 0).val (z 1).val j

include hm in
theorem v56_val (R : Reads M x0 x1 x2 x3) (z : S8x2048x2048.Idx) :
    val_main_v56 (F := Ideal) x0 x1 x2 x3 z
      = ((-(∑ j ∈ range 2048, M.dp (z 0).val (z 1).val j * isq M (z 0).val (z 1).val * M.ex (z 0).val (z 1).val j) : ℝ) : EReal) := by
  have h0 : (z 0).val < 8 := (z 0).isLt
  have h1 : (z 1).val < 2048 := (z 1).isLt
  rw [val_main_v56_apply, val_main_v55_apply, val_main_cst_12_apply, Ideal.ofBits_def, ofBits_zero, EReal.coe_zero, zero_add, Fin.sum_univ_one,
    val_main_v52_apply, val_main_v51_apply, v50_val hm R, Ideal.hostNegf_def, Ideal.negf_def, ← EReal.coe_neg]
  have e0 : (((z 0).val * 2048 + (z 1).val) * 1 + 0) / 2048 = (z 0).val := by omega
  have e1 : (((z 0).val * 2048 + (z 1).val) * 1 + 0) % 2048 = (z 1).val := by omega
  show ((-(∑ j ∈ range 2048, M.dp ((((z 0).val * 2048 + (z 1).val) * 1 + 0) / 2048) ((((z 0).val * 2048 + (z 1).val) * 1 + 0) % 2048) j
    * isq M ((((z 0).val * 2048 + (z 1).val) * 1 + 0) / 2048) ((((z 0).val * 2048 + (z 1).val) * 1 + 0) % 2048)
    * M.ex ((((z 0).val * 2048 + (z 1).val) * 1 + 0) / 2048) ((((z 0).val * 2048 + (z 1).val) * 1 + 0) % 2048) j) : ℝ) : EReal) = _
  rw [e0, e1]

include hm in
theorem v61_val (R : Reads M x0 x1 x2 x3) (z : S8x2048x2048.Idx) :
    val_main_v61 (F := Ideal) x0 x1 x2 x3 z = ((M.ds (z 0).val (z 1).val (z 2).val : ℝ) : EReal) := by
  rw [val_main_v61_apply, val_main_v60_apply, val_main_cst_13_apply, Ideal.mulf_def, Ideal.ofBits_def, ofBits_cs, val_main_v59_apply, mask_val]
  by_cases h : (z 2).val / 64 ≤ (z 1).val / 64
  · rw [if_pos h, show ∀ a b : EReal, Scalar.select (1#1) a b = a from fun _ _ => rfl, val_main_v58_apply, val_main_v57_apply, val_main_v54_apply,
      v44_val R, val_main_v53_apply, v35_val hm R, v56_val hm R, v33_val hm R, Ideal.mulf_def, Ideal.addf_def, Ideal.hostDivf_def,
      Ideal.div_coe (M.S_pos _ _ (z 1).isLt).ne', ← EReal.coe_mul, ← EReal.coe_add, ← EReal.coe_mul, ← EReal.coe_mul]
    exact congrArg _ (M.ds_quot _ _ _)
  · rw [if_neg h, show ∀ a b : EReal, Scalar.select (0#1) a b = b from fun _ _ => rfl, val_main_call2_v0_apply, val_main_call2_cst_apply, Ideal.ofBits_def,
      ofBits_zero, ← EReal.coe_mul, zero_mul, M.ds_masked _ _ _ h]

include hm in
theorem v63_val (R : Reads M x0 x1 x2 x3) (z : S2048x8x192.Idx) :
    val_main_v63 (F := Ideal) x0 x1 x2 x3 z = ((M.gk (z 1).val (z 0).val (z 2).val : ℝ) : EReal) := by
  rw [val_main_v63_apply, val_main_v62_apply]
  exact coe_sum_mul _ _ (fun i => M.ds (z 1).val i (z 0).val) (fun i => M.q (z 1).val i (z 2).val) (fun k => v61_val hm R _) (fun k => R.q _)

include hm in
theorem v65_val (R : Reads M x0 x1 x2 x3) (z : S2048x8x192.Idx) :
    val_main_v65 (F := Ideal) x0 x1 x2 x3 z = ((M.gq (z 1).val (z 0).val (z 2).val : ℝ) : EReal) := by
  rw [val_main_v65_apply, val_main_v64_apply]
  exact coe_sum_mul _ _ (fun j => M.ds (z 1).val (z 0).val j) (fun j => M.k (z 1).val j (z 2).val) (fun k => v61_val hm R _) (fun k => R.k _)

end Cert.ReferenceIdeal.Hand
-- ==== Proof.Win.lean ====
/-
The windows the attention backward kernel reads and writes, by coordinates.
-/
module
public import proofs.«01_k».proof.Proof.Base
public import proofs.«01_k».proof.Proof.Model

public section

set_option maxRecDepth 8000

namespace Cert.KernelIdeal.Hand

open Cert.KernelIdeal Cert.KernelIdeal.Gen Cert.Grad
open Idealize.ShloMosaic Idealize.ShloMosaic.TcCoe

/-! ## Offsets -/

theorem trips_eq : ∀ t : Fin grid0.N, (k0_t1_loop (grid0.coords t)).trips = 3 - t.val % 4 := by decide +kernel
theorem off1_eq : ∀ t : Fin grid0.N, k0_off1 (grid0.coords t) = ![0, 512 * (t.val % 4), 0] := by decide +kernel
theorem off2_eq : ∀ t : Fin grid0.N, k0_off2 (grid0.coords t) = ![512 * (t.val % 4), 128 * 0] := by decide +kernel
theorem off3_eq : ∀ t : Fin grid0.N, k0_off3 (grid0.coords t) = ![0, t.val % 4, 0, 0] := by decide +kernel
theorem off4_eq : ∀ t : Fin grid0.N, k0_off4 (grid0.coords t) = ![0, t.val % 4, 0, 0] := by decide +kernel
theorem off5_eq : ∀ t : Fin grid0.N, k0_off5 (grid0.coords t) = ![1, 512 * (t.val % 4), 0] := by decide +kernel
theorem off6_eq : ∀ t : Fin grid0.N, k0_off6 (grid0.coords t) = ![512 * (t.val % 4), 128 * 1] := by decide +kernel
theorem off7_eq : ∀ t : Fin grid0.N, k0_off7 (grid0.coords t) = ![1, t.val % 4, 0, 0] := by decide +kernel
theorem off8_eq : ∀ t : Fin grid0.N, k0_off8 (grid0.coords t) = ![1, t.val % 4, 0, 0] := by decide +kernel
theorem off9_eq : ∀ t : Fin grid0.N, ∀ k, k0_off9 (grid0.coords t) k = ![0, 512 * (t.val % 4 + 1 + k.val), 0] := by decide +kernel
theorem off10_eq : ∀ t : Fin grid0.N, ∀ k, k0_off10 (grid0.coords t) k = ![512 * (t.val % 4 + 1 + k.val), 128 * 0] := by decide +kernel
theorem off11_eq : ∀ t : Fin grid0.N, ∀ k, k0_off11 (grid0.coords t) k = ![0, t.val % 4 + 1 + k.val, 0, 0] := by decide +kernel
theorem off12_eq : ∀ t : Fin grid0.N, ∀ k, k0_off12 (grid0.coords t) k = ![0, t.val % 4 + 1 + k.val, 0, 0] := by decide +kernel
theorem off13_eq : ∀ t : Fin grid0.N, ∀ k, k0_off13 (grid0.coords t) k = ![1, 512 * (t.val % 4 + 1 + k.val), 0] := by decide +kernel
theorem off14_eq : ∀ t : Fin grid0.N, ∀ k, k0_off14 (grid0.coords t) k = ![512 * (t.val % 4 + 1 + k.val), 128 * 1] := by decide +kernel
theorem off15_eq : ∀ t : Fin grid0.N, ∀ k, k0_off15 (grid0.coords t) k = ![1, t.val % 4 + 1 + k.val, 0, 0] := by decide +kernel
theorem off16_eq : ∀ t : Fin grid0.N, ∀ k, k0_off16 (grid0.coords t) k = ![1, t.val % 4 + 1 + k.val, 0, 0] := by decide +kernel

/-! ## Reads -/

section
variable {α : Type} (f : ℕ → ℕ → ℕ → α) (f4 : ℕ → ℕ → ℕ → ℕ → α) (f2 : ℕ → ℕ → α)

theorem win_q (x : S2x2048x256.Idx → α) (hx : ∀ z, x z = f (z 0).val (z 1).val (z 2).val) (off : Fin 3 → ℕ) (inb) (e b : ℕ)
    (ho : off = ![e, 512 * b, 0]) (z : S1x512x256.Idx) :
    VecWindow.window x off S1x512x256.size inb z = f e (512 * b + (z 1).val) (z 2).val := by
  subst ho
  have h0 : (z 0).val < 1 := (z 0).isLt
  refine (hx _).trans ?_
  show f (e + 1 * (z 0).val) (512 * b + 1 * (z 1).val) (0 + 1 * (z 2).val) = _
  rw [show e + 1 * (z 0).val = e by omega, one_mul, one_mul, zero_add]

theorem win_k (x : S2x512x256.Idx → α) (hx : ∀ z, x z = f (z 0).val (z 1).val (z 2).val) (off : Fin 3 → ℕ) (inb) (e : ℕ)
    (ho : off = ![e, 0, 0]) (z : S1x512x256.Idx) :
    VecWindow.window x off S1x512x256.size inb z = f e (z 1).val (z 2).val := by
  subst ho
  have h0 : (z 0).val < 1 := (z 0).isLt
  refine (hx _).trans ?_
  show f (e + 1 * (z 0).val) (0 + 1 * (z 1).val) (0 + 1 * (z 2).val) = _
  rw [show e + 1 * (z 0).val = e by omega, one_mul, one_mul, zero_add, zero_add]

theorem win_v (x : S2x512x128.Idx → α) (hx : ∀ z, x z = f (z 0).val (z 1).val (z 2).val) (off : Fin 3 → ℕ) (inb) (e : ℕ)
    (ho : off = ![e, 0, 0]) (z : S1x512x128.Idx) :
    VecWindow.window x off S1x512x128.size inb z = f e (z 1).val (z 2).val := by
  subst ho
  have h0 : (z 0).val < 1 := (z 0).isLt
  refine (hx _).trans ?_
  show f (e + 1 * (z 0).val) (0 + 1 * (z 1).val) (0 + 1 * (z 2).val) = _
  rw [show e + 1 * (z 0).val = e by omega, one_mul, one_mul, zero_add, zero_add]

theorem win_g (x : S2048x256.Idx → α) (hx : ∀ z, x z = f ((z 1).val / 128) (z 0).val ((z 1).val % 128)) (off : Fin 2 → ℕ) (inb) (e b : ℕ)
    (ho : off = ![512 * b, 128 * e]) (z : S512x128.Idx) :
    VecWindow.window x off S512x128.size inb z = f e (512 * b + (z 0).val) (z 1).val := by
  subst ho
  have h1 : (z 1).val < 128 := (z 1).isLt
  refine (hx _).trans ?_
  show f ((128 * e + 1 * (z 1).val) / 128) (512 * b + 1 * (z 0).val) ((128 * e + 1 * (z 1).val) % 128) = _
  rw [show (128 * e + 1 * (z 1).val) / 128 = e by omega, show (128 * e + 1 * (z 1).val) % 128 = (z 1).val by omega, one_mul]

theorem win_w (x : S2048x256.Idx → α) (hx : ∀ z, x z = f2 (z 0).val (z 1).val) (off : Fin 2 → ℕ) (inb) (b : ℕ)
    (ho : off = ![512 * b, 0]) (z : S512x256.Idx) :
    VecWindow.window x off S512x256.size inb z = f2 (512 * b + (z 0).val) (z 1).val := by
  subst ho
  refine (hx _).trans ?_
  show f2 (512 * b + 1 * (z 0).val) (0 + 1 * (z 1).val) = _
  rw [one_mul, one_mul, zero_add]

theorem win_l (x : S2x4x1x512.Idx → α) (hx : ∀ z, x z = f (z 0).val (z 1).val (z 3).val) (off : Fin 4 → ℕ) (inb) (e b : ℕ)
    (ho : off = ![e, b, 0, 0]) (z : S1x1x1x512.Idx) :
    VecWindow.window x off S1x1x1x512.size inb z = f e b (z 3).val := by
  subst ho
  have h0 : (z 0).val < 1 := (z 0).isLt
  have h1 : (z 1).val < 1 := (z 1).isLt
  refine (hx _).trans ?_
  show f (e + 1 * (z 0).val) (b + 1 * (z 1).val) (0 + 1 * (z 3).val) = _
  rw [show e + 1 * (z 0).val = e by omega, show b + 1 * (z 1).val = b by omega, one_mul, zero_add]

theorem win_d (x : S2x4x8x512.Idx → α) (hx : ∀ z, x z = f (z 0).val (z 1).val (z 3).val) (off : Fin 4 → ℕ) (inb) (e b : ℕ)
    (ho : off = ![e, b, 0, 0]) (z : S1x1x1x512.Idx) :
    VecWindow.window x off S1x1x1x512.size inb z = f e b (z 3).val := by
  subst ho
  have h0 : (z 0).val < 1 := (z 0).isLt
  have h1 : (z 1).val < 1 := (z 1).isLt
  refine (hx _).trans ?_
  show f (e + 1 * (z 0).val) (b + 1 * (z 1).val) (0 + 1 * (z 3).val) = _
  rw [show e + 1 * (z 0).val = e by omega, show b + 1 * (z 1).val = b by omega, one_mul, zero_add]

end

/-! ## Writes -/

/-- A block of one head written over an array: it grows there by `t`. -/
theorem put_q (Q : Vec Ideal S2x2048x256 .f32) (fQ t : ℕ → ℕ → ℕ → ℝ) (off : Fin 3 → ℕ) (e b : ℕ) (ho : off = ![e, 512 * b, 0])
    (hQ : ∀ z, Q z = ((fQ (z 0).val (z 1).val (z 2).val : ℝ) : EReal)) (w : Vec Ideal S1x512x256 .f32)
    (hw : ∀ y, w y = ((fQ e (512 * b + (y 1).val) (y 2).val + t e (512 * b + (y 1).val) (y 2).val : ℝ) : EReal)) (z : S2x2048x256.Idx) :
    VecWindow.put Q off S1x512x256.size w z
      = ((fQ (z 0).val (z 1).val (z 2).val + (if (z 0).val = e ∧ (z 1).val / 512 = b then t (z 0).val (z 1).val (z 2).val else 0) : ℝ) : EReal) := by
  subst ho
  have h1 : (z 2).val < 256 := (z 2).isLt
  unfold VecWindow.put
  split
  · next h =>
    have a0 := h 0
    have a1 := h 1
    change e ≤ (z 0).val ∧ (z 0).val < e + 1 at a0
    change 512 * b ≤ (z 1).val ∧ (z 1).val < 512 * b + 512 at a1
    rw [if_pos ⟨by omega, by omega⟩]
    refine (hw _).trans ?_
    show ((fQ e (512 * b + ((z 1).val - 512 * b)) ((z 2).val - 0) + t e (512 * b + ((z 1).val - 512 * b)) ((z 2).val - 0) : ℝ) : EReal) = _
    rw [show 512 * b + ((z 1).val - 512 * b) = (z 1).val by omega, show e = (z 0).val by omega, Nat.sub_zero]
  · next h =>
    rw [if_neg, add_zero, hQ]
    rintro ⟨e0, e1⟩
    refine h fun a => ?_
    match a with
    | ⟨0, _⟩ => show e ≤ (z 0).val ∧ (z 0).val < e + 1; omega
    | ⟨1, _⟩ => show 512 * b ≤ (z 1).val ∧ (z 1).val < 512 * b + 512; omega
    | ⟨2, _⟩ => show 0 ≤ (z 2).val ∧ (z 2).val < 0 + 256; omega

/-- Both heads' blocks written: everything is known. -/
theorem fill256_val (B : Vec Ideal S2x512x256 .f32) (a b : FVec Ideal S512x256 .f32) (f : ℕ → ℕ → ℕ → EReal)
    (ha : ∀ y, k0_pay8 a y = f 0 (y 1).val (y 2).val) (hb : ∀ y, k0_pay10 b y = f 1 (y 1).val (y 2).val) (z : S2x512x256.Idx) :
    fill256 B a b z = f (z 0).val (z 1).val (z 2).val := by
  have h0 : (z 0).val < 2 := (z 0).isLt
  have h1 : (z 1).val < 512 := (z 1).isLt
  have h2 : (z 2).val < 256 := (z 2).isLt
  unfold fill256 VecWindow.put
  split
  · next h =>
    have a0 := h 0
    change 1 ≤ (z 0).val ∧ (z 0).val < 1 + 1 at a0
    refine (hb _).trans ?_
    show f 1 ((z 1).val - 0) ((z 2).val - 0) = _
    rw [show (z 0).val = 1 by omega, Nat.sub_zero, Nat.sub_zero]
  · next h =>
    have a0 : (z 0).val = 0 := by
      by_contra hc
      refine h fun a => ?_
      match a with
      | ⟨0, _⟩ => show 1 ≤ (z 0).val ∧ (z 0).val < 1 + 1; omega
      | ⟨1, _⟩ => show 0 ≤ (z 1).val ∧ (z 1).val < 0 + 512; omega
      | ⟨2, _⟩ => show 0 ≤ (z 2).val ∧ (z 2).val < 0 + 256; omega
    rw [dif_pos (fun a => by
      match a with
      | ⟨0, _⟩ => show 0 ≤ (z 0).val ∧ (z 0).val < 0 + 1; omega
      | ⟨1, _⟩ => show 0 ≤ (z 1).val ∧ (z 1).val < 0 + 512; omega
      | ⟨2, _⟩ => show 0 ≤ (z 2).val ∧ (z 2).val < 0 + 256; omega)]
    refine (ha _).trans ?_
    show f 0 ((z 1).val - 0) ((z 2).val - 0) = _
    rw [a0, Nat.sub_zero, Nat.sub_zero]

theorem fill128_val (B : Vec Ideal S2x512x128 .f32) (a b : FVec Ideal S512x128 .f32) (f : ℕ → ℕ → ℕ → EReal)
    (ha : ∀ y, k0_pay9 a y = f 0 (y 1).val (y 2).val) (hb : ∀ y, k0_pay11 b y = f 1 (y 1).val (y 2).val) (z : S2x512x128.Idx) :
    fill128 B a b z = f (z 0).val (z 1).val (z 2).val := by
  have h0 : (z 0).val < 2 := (z 0).isLt
  have h1 : (z 1).val < 512 := (z 1).isLt
  have h2 : (z 2).val < 128 := (z 2).isLt
  unfold fill128 VecWindow.put
  split
  · next h =>
    have a0 := h 0
    change 1 ≤ (z 0).val ∧ (z 0).val < 1 + 1 at a0
    refine (hb _).trans ?_
    show f 1 ((z 1).val - 0) ((z 2).val - 0) = _
    rw [show (z 0).val = 1 by omega, Nat.sub_zero, Nat.sub_zero]
  · next h =>
    have a0 : (z 0).val = 0 := by
      by_contra hc
      refine h fun a => ?_
      match a with
      | ⟨0, _⟩ => show 1 ≤ (z 0).val ∧ (z 0).val < 1 + 1; omega
      | ⟨1, _⟩ => show 0 ≤ (z 1).val ∧ (z 1).val < 0 + 512; omega
      | ⟨2, _⟩ => show 0 ≤ (z 2).val ∧ (z 2).val < 0 + 128; omega
    rw [dif_pos (fun a => by
      match a with
      | ⟨0, _⟩ => show 0 ≤ (z 0).val ∧ (z 0).val < 0 + 1; omega
      | ⟨1, _⟩ => show 0 ≤ (z 1).val ∧ (z 1).val < 0 + 512; omega
      | ⟨2, _⟩ => show 0 ≤ (z 2).val ∧ (z 2).val < 0 + 128; omega)]
    refine (ha _).trans ?_
    show f 0 ((z 1).val - 0) ((z 2).val - 0) = _
    rw [a0, Nat.sub_zero, Nat.sub_zero]

/-- A row of sums put over an array of which the rest is known outside a set of (head, block) pairs still to come. -/
theorem put_d (B : Vec Ideal S2x4x8x512 .f32) (f : ℕ → ℕ → ℕ → EReal) (P : ℕ → ℕ → Prop) (off : Fin 4 → ℕ) (e b : ℕ) (ho : off = ![e, b, 0, 0])
    (hB : ∀ z : S2x4x8x512.Idx, P (z 0).val (z 1).val → B z = f (z 0).val (z 1).val (z 3).val) (w : Vec Ideal S1x1x8x512 .f32)
    (hw : ∀ y, w y = f e b (y 3).val) (z : S2x4x8x512.Idx) (hz : P (z 0).val (z 1).val ∨ ((z 0).val = e ∧ (z 1).val = b)) :
    VecWindow.put B off S1x1x8x512.size w z = f (z 0).val (z 1).val (z 3).val := by
  subst ho
  have h2 : (z 2).val < 8 := (z 2).isLt
  have h3 : (z 3).val < 512 := (z 3).isLt
  unfold VecWindow.put
  split
  · next h =>
    have a0 := h 0
    have a1 := h 1
    change e ≤ (z 0).val ∧ (z 0).val < e + 1 at a0
    change b ≤ (z 1).val ∧ (z 1).val < b + 1 at a1
    refine (hw _).trans ?_
    show f e b ((z 3).val - 0) = _
    rw [show (z 0).val = e by omega, show (z 1).val = b by omega, Nat.sub_zero]
  · next h =>
    refine hB z (hz.resolve_right ?_)
    rintro ⟨e0, e1⟩
    refine h fun a => ?_
    match a with
    | ⟨0, _⟩ => show e ≤ (z 0).val ∧ (z 0).val < e + 1; omega
    | ⟨1, _⟩ => show b ≤ (z 1).val ∧ (z 1).val < b + 1; omega
    | ⟨2, _⟩ => show 0 ≤ (z 2).val ∧ (z 2).val < 0 + 8; omega
    | ⟨3, _⟩ => show 0 ≤ (z 3).val ∧ (z 3).val < 0 + 512; omega

end Cert.KernelIdeal.Hand

end
-- ==== Proof.Loop.lean ====
/-
What a grid point of the attention backward kernel leaves, over the reals: the query gradient with the point's
key block added, and the sums of the key and value gradients over the query blocks from the diagonal on.
-/
module
public import proofs.«01_k».proof.Proof.Win
public import proofs.«01_k».proof.Proof.PayVal

public section

set_option maxRecDepth 8000

namespace Cert.KernelIdeal.Hand

open Cert.KernelIdeal Cert.KernelIdeal.Gen Cert.Grad
open Idealize.ShloMosaic Idealize.ShloMosaic.TcCoe
open Finset

/-- What the blocks of a grid point hold, for pair `p` of heads and key block `kj`. -/
structure Blocks (M : Model) (p kj : ℕ) (x0 : Vec Ideal S2x2048x256 .bf16) (x1 : Vec Ideal S2x512x256 .bf16) (x2 : Vec Ideal S2x512x128 .bf16)
    (x3 x4 : Vec Ideal S2048x256 .f32) (x5 : Vec Ideal S2x4x1x512 .f32) : Prop where
  q : ∀ z, x0 z = ((M.q (2 * p + (z 0).val) (z 1).val (z 2).val : ℝ) : EReal)
  k : ∀ z, x1 z = ((M.k (2 * p + (z 0).val) (512 * kj + (z 1).val) (z 2).val : ℝ) : EReal)
  v : ∀ z, x2 z = ((M.v (2 * p + (z 0).val) (512 * kj + (z 1).val) (z 2).val : ℝ) : EReal)
  o : ∀ z, x3 z = ((M.ov (2 * p + (z 1).val / 128) (z 0).val ((z 1).val % 128) : ℝ) : EReal)
  g : ∀ z, x4 z = ((M.g (2 * p + (z 1).val / 128) (z 0).val ((z 1).val % 128) : ℝ) : EReal)
  l : ∀ z, x5 z = ((M.lse (2 * p + (z 0).val) (512 * (z 1).val + (z 3).val) : ℝ) : EReal)

/-- The row sums held for pair `p`. -/
def Sums (M : Model) (p : ℕ) (D : Vec Ideal S2x4x8x512 .f32) : Prop :=
  ∀ z, D z = ((M.dl (2 * p + (z 0).val) (512 * (z 1).val + (z 3).val) : ℝ) : EReal)

abbrev Acc := FVec Ideal S512x256 .f32 × FVec Ideal S512x128 .f32 × FVec Ideal S512x256 .f32 × FVec Ideal S512x128 .f32

/-- The accumulators after the diagonal and `n` later query blocks. -/
structure AccVal (M : Model) (p kj n : ℕ) (a : Acc) : Prop where
  k0 : ∀ y, a.1 y = ((∑ m ∈ range (n + 1), M.tk (kj + m) (2 * p + 0) (512 * kj + (y 0).val) (y 1).val : ℝ) : EReal)
  v0 : ∀ y, a.2.1 y = ((∑ m ∈ range (n + 1), M.tv (kj + m) (2 * p + 0) (512 * kj + (y 0).val) (y 1).val : ℝ) : EReal)
  k1 : ∀ y, a.2.2.1 y = ((∑ m ∈ range (n + 1), M.tk (kj + m) (2 * p + 1) (512 * kj + (y 0).val) (y 1).val : ℝ) : EReal)
  v1 : ∀ y, a.2.2.2 y = ((∑ m ∈ range (n + 1), M.tv (kj + m) (2 * p + 1) (512 * kj + (y 0).val) (y 1).val : ℝ) : EReal)

theorem zero256 (y : S512x256.Idx) : (k0_pay58 : FVec Ideal S512x256 .f32) y = ((0 : ℝ) : EReal) := Ideal.ofBits_zero_f32
theorem zero128 (y : S512x128.Idx) : (k0_pay59 : FVec Ideal S512x128 .f32) y = ((0 : ℝ) : EReal) := Ideal.ofBits_zero_f32
theorem zero256' (y : S512x256.Idx) : (k0_pay60 : FVec Ideal S512x256 .f32) y = ((0 : ℝ) : EReal) := Ideal.ofBits_zero_f32
theorem zero128' (y : S512x128.Idx) : (k0_pay61 : FVec Ideal S512x128 .f32) y = ((0 : ℝ) : EReal) := Ideal.ofBits_zero_f32

section
variable (M : Model) (hz : ∀ h i d, 192 ≤ d → M.q h i d = 0) (p : ℕ) (t : Fin grid0.N)
  (x0 : Vec Ideal S2x2048x256 .bf16) (x1 : Vec Ideal S2x512x256 .bf16) (x2 : Vec Ideal S2x512x128 .bf16)
  (x3 x4 : Vec Ideal S2048x256 .f32) (x5 : Vec Ideal S2x4x1x512 .f32)
  (H : Blocks M p (t.val % 4) x0 x1 x2 x3 x4 x5) (D : Vec Ideal S2x4x8x512 .f32) (hD : Sums M p D)

include H in
theorem blk_q (e b : ℕ) (off inb) (ho : off = ![e, 512 * b, 0]) (z : S1x512x256.Idx) :
    VecWindow.window x0 off S1x512x256.size inb z = ((M.q (2 * p + e) (512 * b + (z 1).val) (z 2).val : ℝ) : EReal) :=
  win_q (fun a i d => ((M.q (2 * p + a) i d : ℝ) : EReal)) x0 H.q off inb e b ho z

include H in
theorem blk_k (e : ℕ) (off inb) (ho : off = ![e, 0, 0]) (z : S1x512x256.Idx) :
    VecWindow.window x1 off S1x512x256.size inb z = ((M.k (2 * p + e) (512 * (t.val % 4) + (z 1).val) (z 2).val : ℝ) : EReal) :=
  win_k (fun a i d => ((M.k (2 * p + a) (512 * (t.val % 4) + i) d : ℝ) : EReal)) x1 H.k off inb e ho z

include H in
theorem blk_v (e : ℕ) (off inb) (ho : off = ![e, 0, 0]) (z : S1x512x128.Idx) :
    VecWindow.window x2 off S1x512x128.size inb z = ((M.v (2 * p + e) (512 * (t.val % 4) + (z 1).val) (z 2).val : ℝ) : EReal) :=
  win_v (fun a i d => ((M.v (2 * p + a) (512 * (t.val % 4) + i) d : ℝ) : EReal)) x2 H.v off inb e ho z

include H in
theorem blk_g (e b : ℕ) (off inb) (ho : off = ![512 * b, 128 * e]) (z : S512x128.Idx) :
    VecWindow.window x4 off S512x128.size inb z = ((M.g (2 * p + e) (512 * b + (z 0).val) (z 1).val : ℝ) : EReal) :=
  win_g (fun a i d => ((M.g (2 * p + a) i d : ℝ) : EReal)) x4 H.g off inb e b ho z

include H in
theorem blk_l (e b : ℕ) (off inb) (ho : off = ![e, b, 0, 0]) (z : S1x1x1x512.Idx) :
    VecWindow.window x5 off S1x1x1x512.size inb z = ((M.lse (2 * p + e) (512 * b + (z 3).val) : ℝ) : EReal) :=
  win_l (fun a b r => ((M.lse (2 * p + a) (512 * b + r) : ℝ) : EReal)) x5 H.l off inb e b ho z

include hD in
theorem blk_d (e b : ℕ) (off inb) (ho : off = ![e, b, 0, 0]) (z : S1x1x1x512.Idx) :
    VecWindow.window D off S1x1x1x512.size inb z = ((M.dl (2 * p + e) (512 * b + (z 3).val) : ℝ) : EReal) :=
  win_d (fun a b r => ((M.dl (2 * p + a) (512 * b + r) : ℝ) : EReal)) D hD off inb e b ho z

include hz H hD in
theorem diagAcc_val : AccVal M p (t.val % 4) 0 (diagAcc (grid0.coords t) x0 x1 x2 x4 x5 D) where
  k0 y := by
    refine (dk_val M (2 * p + 0) (t.val % 4) (t.val % 4) _ (blk_q M p t x0 x1 x2 x3 x4 x5 H 0 _ _ (k0_off1_inb _) (off1_eq t)) _
      (pay69_val M hz (2 * p + 0) (t.val % 4) (t.val % 4) (Nat.mod_lt _ (by decide)) _ (blk_k M p t x0 x1 x2 x3 x4 x5 H 0 _ _ rfl)
        _ (blk_v M p t x0 x1 x2 x3 x4 x5 H 0 _ _ rfl) _ (blk_q M p t x0 x1 x2 x3 x4 x5 H 0 _ _ (k0_off1_inb _) (off1_eq t))
        _ (blk_g M p t x0 x1 x2 x3 x4 x5 H 0 _ _ (k0_off2_inb _) (off2_eq t)) _ (blk_l M p t x0 x1 x2 x3 x4 x5 H 0 _ _ (k0_off3_inb _) (off3_eq t))
        _ (blk_d M p D hD 0 _ _ (k0_off4_inb _) (off4_eq t)) rfl)
      _ (fun _ _ => 0) zero256 y).trans ?_
    rw [Finset.sum_range_one, zero_add]; rfl
  v0 y := by
    refine (dv_val M (2 * p + 0) (t.val % 4) (t.val % 4) _ (blk_g M p t x0 x1 x2 x3 x4 x5 H 0 _ _ (k0_off2_inb _) (off2_eq t)) _
      (pay67_val M hz (2 * p + 0) (t.val % 4) (t.val % 4) (Nat.mod_lt _ (by decide)) _ (blk_k M p t x0 x1 x2 x3 x4 x5 H 0 _ _ rfl)
        _ (blk_q M p t x0 x1 x2 x3 x4 x5 H 0 _ _ (k0_off1_inb _) (off1_eq t))
        _ (blk_l M p t x0 x1 x2 x3 x4 x5 H 0 _ _ (k0_off3_inb _) (off3_eq t)) rfl)
      _ (fun _ _ => 0) zero128 y).trans ?_
    rw [Finset.sum_range_one, zero_add]; rfl
  k1 y := by
    refine (dk_val M (2 * p + 1) (t.val % 4) (t.val % 4) _ (blk_q M p t x0 x1 x2 x3 x4 x5 H 1 _ _ (k0_off5_inb _) (off5_eq t)) _
      (pay69_val M hz (2 * p + 1) (t.val % 4) (t.val % 4) (Nat.mod_lt _ (by decide)) _ (blk_k M p t x0 x1 x2 x3 x4 x5 H 1 _ _ rfl)
        _ (blk_v M p t x0 x1 x2 x3 x4 x5 H 1 _ _ rfl) _ (blk_q M p t x0 x1 x2 x3 x4 x5 H 1 _ _ (k0_off5_inb _) (off5_eq t))
        _ (blk_g M p t x0 x1 x2 x3 x4 x5 H 1 _ _ (k0_off6_inb _) (off6_eq t)) _ (blk_l M p t x0 x1 x2 x3 x4 x5 H 1 _ _ (k0_off7_inb _) (off7_eq t))
        _ (blk_d M p D hD 1 _ _ (k0_off8_inb _) (off8_eq t)) rfl)
      _ (fun _ _ => 0) zero256' y).trans ?_
    rw [Finset.sum_range_one, zero_add]; rfl
  v1 y := by
    refine (dv_val M (2 * p + 1) (t.val % 4) (t.val % 4) _ (blk_g M p t x0 x1 x2 x3 x4 x5 H 1 _ _ (k0_off6_inb _) (off6_eq t)) _
      (pay67_val M hz (2 * p + 1) (t.val % 4) (t.val % 4) (Nat.mod_lt _ (by decide)) _ (blk_k M p t x0 x1 x2 x3 x4 x5 H 1 _ _ rfl)
        _ (blk_q M p t x0 x1 x2 x3 x4 x5 H 1 _ _ (k0_off5_inb _) (off5_eq t))
        _ (blk_l M p t x0 x1 x2 x3 x4 x5 H 1 _ _ (k0_off7_inb _) (off7_eq t)) rfl)
      _ (fun _ _ => 0) zero128' y).trans ?_
    rw [Finset.sum_range_one, zero_add]; rfl

include hz H hD in
theorem tripAcc_val (n : ℕ) (hn : n < (k0_t1_loop (grid0.coords t)).trips) (a : Acc) (ha : AccVal M p (t.val % 4) n a) :
    AccVal M p (t.val % 4) (n + 1) (tripAcc (grid0.coords t) x0 x1 x2 x4 x5 D ⟨n, hn⟩ a) := by
  have hb : t.val % 4 + 1 + n < 4 := by have := trips_eq t; omega
  exact {
  k0 := fun y => by
    refine (dk_val M (2 * p + 0) (t.val % 4 + 1 + n) (t.val % 4) _ (blk_q M p t x0 x1 x2 x3 x4 x5 H 0 _ _ (k0_off9_inb _ _) (off9_eq t ⟨n, hn⟩)) _
      (pay32_val M hz (2 * p + 0) (t.val % 4 + 1 + n) (t.val % 4) hb _ (blk_k M p t x0 x1 x2 x3 x4 x5 H 0 _ _ rfl)
        _ (blk_v M p t x0 x1 x2 x3 x4 x5 H 0 _ _ rfl) _ (blk_q M p t x0 x1 x2 x3 x4 x5 H 0 _ _ (k0_off9_inb _ _) (off9_eq t ⟨n, hn⟩))
        _ (blk_g M p t x0 x1 x2 x3 x4 x5 H 0 _ _ (k0_off10_inb _ _) (off10_eq t ⟨n, hn⟩)) _ (blk_l M p t x0 x1 x2 x3 x4 x5 H 0 _ _ (k0_off11_inb _ _) (off11_eq t ⟨n, hn⟩))
        _ (blk_d M p D hD 0 _ _ (k0_off12_inb _ _) (off12_eq t ⟨n, hn⟩)) (by omega))
      _ (fun r d => ∑ m ∈ range (n + 1), M.tk (t.val % 4 + m) (2 * p + 0) (512 * (t.val % 4) + r) d) ha.k0 y).trans ?_
    rw [Finset.sum_range_succ _ (n + 1), show t.val % 4 + (n + 1) = t.val % 4 + 1 + n by omega]
  v0 := fun y => by
    refine (dv_val M (2 * p + 0) (t.val % 4 + 1 + n) (t.val % 4) _ (blk_g M p t x0 x1 x2 x3 x4 x5 H 0 _ _ (k0_off10_inb _ _) (off10_eq t ⟨n, hn⟩)) _
      (pay30_val M hz (2 * p + 0) (t.val % 4 + 1 + n) (t.val % 4) hb _ (blk_k M p t x0 x1 x2 x3 x4 x5 H 0 _ _ rfl)
        _ (blk_q M p t x0 x1 x2 x3 x4 x5 H 0 _ _ (k0_off9_inb _ _) (off9_eq t ⟨n, hn⟩))
        _ (blk_l M p t x0 x1 x2 x3 x4 x5 H 0 _ _ (k0_off11_inb _ _) (off11_eq t ⟨n, hn⟩)) (by omega))
      _ (fun r d => ∑ m ∈ range (n + 1), M.tv (t.val % 4 + m) (2 * p + 0) (512 * (t.val % 4) + r) d) ha.v0 y).trans ?_
    rw [Finset.sum_range_succ _ (n + 1), show t.val % 4 + (n + 1) = t.val % 4 + 1 + n by omega]
  k1 := fun y => by
    refine (dk_val M (2 * p + 1) (t.val % 4 + 1 + n) (t.val % 4) _ (blk_q M p t x0 x1 x2 x3 x4 x5 H 1 _ _ (k0_off13_inb _ _) (off13_eq t ⟨n, hn⟩)) _
      (pay32_val M hz (2 * p + 1) (t.val % 4 + 1 + n) (t.val % 4) hb _ (blk_k M p t x0 x1 x2 x3 x4 x5 H 1 _ _ rfl)
        _ (blk_v M p t x0 x1 x2 x3 x4 x5 H 1 _ _ rfl) _ (blk_q M p t x0 x1 x2 x3 x4 x5 H 1 _ _ (k0_off13_inb _ _) (off13_eq t ⟨n, hn⟩))
        _ (blk_g M p t x0 x1 x2 x3 x4 x5 H 1 _ _ (k0_off14_inb _ _) (off14_eq t ⟨n, hn⟩)) _ (blk_l M p t x0 x1 x2 x3 x4 x5 H 1 _ _ (k0_off15_inb _ _) (off15_eq t ⟨n, hn⟩))
        _ (blk_d M p D hD 1 _ _ (k0_off16_inb _ _) (off16_eq t ⟨n, hn⟩)) (by omega))
      _ (fun r d => ∑ m ∈ range (n + 1), M.tk (t.val % 4 + m) (2 * p + 1) (512 * (t.val % 4) + r) d) ha.k1 y).trans ?_
    rw [Finset.sum_range_succ _ (n + 1), show t.val % 4 + (n + 1) = t.val % 4 + 1 + n by omega]
  v1 := fun y => by
    refine (dv_val M (2 * p + 1) (t.val % 4 + 1 + n) (t.val % 4) _ (blk_g M p t x0 x1 x2 x3 x4 x5 H 1 _ _ (k0_off14_inb _ _) (off14_eq t ⟨n, hn⟩)) _
      (pay30_val M hz (2 * p + 1) (t.val % 4 + 1 + n) (t.val % 4) hb _ (blk_k M p t x0 x1 x2 x3 x4 x5 H 1 _ _ rfl)
        _ (blk_q M p t x0 x1 x2 x3 x4 x5 H 1 _ _ (k0_off13_inb _ _) (off13_eq t ⟨n, hn⟩))
        _ (blk_l M p t x0 x1 x2 x3 x4 x5 H 1 _ _ (k0_off15_inb _ _) (off15_eq t ⟨n, hn⟩)) (by omega))
      _ (fun r d => ∑ m ∈ range (n + 1), M.tv (t.val % 4 + m) (2 * p + 1) (512 * (t.val % 4) + r) d) ha.v1 y).trans ?_
    rw [Finset.sum_range_succ _ (n + 1), show t.val % 4 + (n + 1) = t.val % 4 + 1 + n by omega] }

/-- Two heads' blocks added one after the other. -/
theorem both (f : ℕ → ℕ → ℕ → ℝ) (g : ℕ → ℕ → ℕ → ℝ) (b e i d : ℕ) (he : e < 2) :
    f e i d + (if e = 0 ∧ i / 512 = b then g e i d else 0) + (if e = 1 ∧ i / 512 = b then g e i d else 0)
      = f e i d + (if i / 512 = b then g e i d else 0) := by
  by_cases hi : i / 512 = b <;> rcases (by omega : e = 0 ∨ e = 1) with rfl | rfl <;> simp [hi]

variable (Q : Vec Ideal S2x2048x256 .f32) (fQ : ℕ → ℕ → ℕ → ℝ) (hQ : ∀ z, Q z = ((fQ (z 0).val (z 1).val (z 2).val : ℝ) : EReal))

include hz H hD hQ in
theorem diagQ_val (z : S2x2048x256.Idx) : diagQ (grid0.coords t) x0 x1 x2 x4 x5 Q D z
      = ((fQ (z 0).val (z 1).val (z 2).val + (if (z 1).val / 512 = t.val % 4 then M.tq (t.val % 4) (2 * p + (z 0).val) (z 1).val (z 2).val else 0) : ℝ) : EReal) := by
  have h1 : ∀ z, diagQ0 (grid0.coords t) x0 x1 x2 x4 x5 Q D z = _ :=
    put_q Q fQ (fun e i d => M.tq (t.val % 4) (2 * p + e) i d) _ 0 (t.val % 4) (off1_eq t) hQ _ fun y =>
      dq_val M (2 * p + 0) (t.val % 4) (t.val % 4) _ (blk_k M p t x0 x1 x2 x3 x4 x5 H 0 _ _ rfl) _
        (pay69_val M hz (2 * p + 0) (t.val % 4) (t.val % 4) (Nat.mod_lt _ (by decide)) _ (blk_k M p t x0 x1 x2 x3 x4 x5 H 0 _ _ rfl)
          _ (blk_v M p t x0 x1 x2 x3 x4 x5 H 0 _ _ rfl) _ (blk_q M p t x0 x1 x2 x3 x4 x5 H 0 _ _ (k0_off1_inb _) (off1_eq t))
          _ (blk_g M p t x0 x1 x2 x3 x4 x5 H 0 _ _ (k0_off2_inb _) (off2_eq t)) _ (blk_l M p t x0 x1 x2 x3 x4 x5 H 0 _ _ (k0_off3_inb _) (off3_eq t))
          _ (blk_d M p D hD 0 _ _ (k0_off4_inb _) (off4_eq t)) rfl)
        _ (fun x d => fQ 0 (512 * (t.val % 4) + x) d)
        (win_q (fun e i d => ((fQ e i d : ℝ) : EReal)) Q hQ _ (k0_off1_inb _) 0 (t.val % 4) (off1_eq t)) y
  refine (put_q (diagQ0 (grid0.coords t) x0 x1 x2 x4 x5 Q D)
    (fun e i d => fQ e i d + (if e = 0 ∧ i / 512 = t.val % 4 then M.tq (t.val % 4) (2 * p + e) i d else 0))
    (fun e i d => M.tq (t.val % 4) (2 * p + e) i d) _ 1 (t.val % 4) (off5_eq t) h1 _ (fun y =>
      dq_val M (2 * p + 1) (t.val % 4) (t.val % 4) _ (blk_k M p t x0 x1 x2 x3 x4 x5 H 1 _ _ rfl) _
        (pay69_val M hz (2 * p + 1) (t.val % 4) (t.val % 4) (Nat.mod_lt _ (by decide)) _ (blk_k M p t x0 x1 x2 x3 x4 x5 H 1 _ _ rfl)
          _ (blk_v M p t x0 x1 x2 x3 x4 x5 H 1 _ _ rfl) _ (blk_q M p t x0 x1 x2 x3 x4 x5 H 1 _ _ (k0_off5_inb _) (off5_eq t))
          _ (blk_g M p t x0 x1 x2 x3 x4 x5 H 1 _ _ (k0_off6_inb _) (off6_eq t)) _ (blk_l M p t x0 x1 x2 x3 x4 x5 H 1 _ _ (k0_off7_inb _) (off7_eq t))
          _ (blk_d M p D hD 1 _ _ (k0_off8_inb _) (off8_eq t)) rfl)
        _ (fun x d => fQ 1 (512 * (t.val % 4) + x) d + (if 1 = 0 ∧ (512 * (t.val % 4) + x) / 512 = t.val % 4 then M.tq (t.val % 4) (2 * p + 1) (512 * (t.val % 4) + x) d else 0))
        (win_q (fun e i d => ((fQ e i d + (if e = 0 ∧ i / 512 = t.val % 4 then M.tq (t.val % 4) (2 * p + e) i d else 0) : ℝ) : EReal)) _ h1 _
          (k0_off5_inb _) 1 (t.val % 4) (off5_eq t)) y) z).trans ?_
  rw [both fQ (fun e i d => M.tq (t.val % 4) (2 * p + e) i d) _ _ _ _ (z 0).isLt]

include hz H hD hQ in
theorem tripQ_val (n : ℕ) (hn : n < (k0_t1_loop (grid0.coords t)).trips) (z : S2x2048x256.Idx) :
    tripQ (grid0.coords t) x0 x1 x2 x4 x5 Q D ⟨n, hn⟩ z
      = ((fQ (z 0).val (z 1).val (z 2).val + (if (z 1).val / 512 = t.val % 4 + 1 + n then M.tq (t.val % 4) (2 * p + (z 0).val) (z 1).val (z 2).val else 0) : ℝ) : EReal) := by
  have hb : t.val % 4 + 1 + n < 4 := by have := trips_eq t; omega
  have h1 := put_q Q fQ (fun e i d => M.tq (t.val % 4) (2 * p + e) i d) _ 0 (t.val % 4 + 1 + n) (off9_eq t ⟨n, hn⟩) hQ _ fun y =>
      dq_val M (2 * p + 0) (t.val % 4 + 1 + n) (t.val % 4) _ (blk_k M p t x0 x1 x2 x3 x4 x5 H 0 _ inb_S2x512x256_S1x512x256_0_0_0 rfl) _
        (pay32_val M hz (2 * p + 0) (t.val % 4 + 1 + n) (t.val % 4) hb _ (blk_k M p t x0 x1 x2 x3 x4 x5 H 0 _ inb_S2x512x256_S1x512x256_0_0_0 rfl)
          _ (blk_v M p t x0 x1 x2 x3 x4 x5 H 0 _ inb_S2x512x128_S1x512x128_0_0_0 rfl) _ (blk_q M p t x0 x1 x2 x3 x4 x5 H 0 _ _ (k0_off9_inb _ _) (off9_eq t ⟨n, hn⟩))
          _ (blk_g M p t x0 x1 x2 x3 x4 x5 H 0 _ _ (k0_off10_inb _ _) (off10_eq t ⟨n, hn⟩)) _ (blk_l M p t x0 x1 x2 x3 x4 x5 H 0 _ _ (k0_off11_inb _ _) (off11_eq t ⟨n, hn⟩))
          _ (blk_d M p D hD 0 _ _ (k0_off12_inb _ _) (off12_eq t ⟨n, hn⟩)) (by omega))
        _ (fun x d => fQ 0 (512 * (t.val % 4 + 1 + n) + x) d)
        (win_q (fun e i d => ((fQ e i d : ℝ) : EReal)) Q hQ _ (k0_off9_inb _ _) 0 (t.val % 4 + 1 + n) (off9_eq t ⟨n, hn⟩)) y
  refine (put_q _
    (fun e i d => fQ e i d + (if e = 0 ∧ i / 512 = t.val % 4 + 1 + n then M.tq (t.val % 4) (2 * p + e) i d else 0))
    (fun e i d => M.tq (t.val % 4) (2 * p + e) i d) _ 1 (t.val % 4 + 1 + n) (off13_eq t ⟨n, hn⟩) h1 _ (fun y => ?_) z).trans ?_
  · refine (dq_val M (2 * p + 1) (t.val % 4 + 1 + n) (t.val % 4) _ (blk_k M p t x0 x1 x2 x3 x4 x5 H 1 _ _ rfl) _
        (pay32_val M hz (2 * p + 1) (t.val % 4 + 1 + n) (t.val % 4) hb _ (blk_k M p t x0 x1 x2 x3 x4 x5 H 1 _ _ rfl)
          _ (blk_v M p t x0 x1 x2 x3 x4 x5 H 1 _ _ rfl) _ (blk_q M p t x0 x1 x2 x3 x4 x5 H 1 _ _ (k0_off13_inb _ _) (off13_eq t ⟨n, hn⟩))
          _ (blk_g M p t x0 x1 x2 x3 x4 x5 H 1 _ _ (k0_off14_inb _ _) (off14_eq t ⟨n, hn⟩)) _ (blk_l M p t x0 x1 x2 x3 x4 x5 H 1 _ _ (k0_off15_inb _ _) (off15_eq t ⟨n, hn⟩))
          _ (blk_d M p D hD 1 _ _ (k0_off16_inb _ _) (off16_eq t ⟨n, hn⟩)) (by omega))
        _ (fun x d => fQ 1 (512 * (t.val % 4 + 1 + n) + x) d)
        (win_q (fun e i d => ((fQ e i d : ℝ) : EReal)) Q hQ _ (k0_off13_inb _ _) 1 (t.val % 4 + 1 + n) (off13_eq t ⟨n, hn⟩)) y).trans ?_
    rw [if_neg (fun c => absurd c.1 (by decide)), add_zero]
  · rw [both fQ (fun e i d => M.tq (t.val % 4) (2 * p + e) i d) _ _ _ _ (z 0).isLt]

include hz H hD hQ in
/-- The state after the diagonal and `n` trips. -/
theorem loop_val (n : ℕ) (hn : n ≤ (k0_t1_loop (grid0.coords t)).trips) :
    AccVal M p (t.val % 4) n (loopSt (grid0.coords t) x0 x1 x2 x4 x5 D (diagAcc (grid0.coords t) x0 x1 x2 x4 x5 D, diagQ (grid0.coords t) x0 x1 x2 x4 x5 Q D) n).1 ∧
    ∀ z : S2x2048x256.Idx, (loopSt (grid0.coords t) x0 x1 x2 x4 x5 D (diagAcc (grid0.coords t) x0 x1 x2 x4 x5 D, diagQ (grid0.coords t) x0 x1 x2 x4 x5 Q D) n).2 z
      = ((fQ (z 0).val (z 1).val (z 2).val + (if t.val % 4 ≤ (z 1).val / 512 ∧ (z 1).val / 512 ≤ t.val % 4 + n then M.tq (t.val % 4) (2 * p + (z 0).val) (z 1).val (z 2).val else 0) : ℝ) : EReal) := by
  induction n with
  | zero =>
    refine ⟨diagAcc_val M hz p t x0 x1 x2 x3 x4 x5 H D hD, fun z => (diagQ_val M hz p t x0 x1 x2 x3 x4 x5 H D hD Q fQ hQ z).trans ?_⟩
    congr 3
    exact propext ⟨fun h => by omega, fun h => by omega⟩
  | succ n ih =>
    obtain ⟨ha, hq⟩ := ih (by omega)
    rw [loopSt_succ _ _ _ _ _ _ _ _ _ (by omega)]
    refine ⟨tripAcc_val M hz p t x0 x1 x2 x3 x4 x5 H D hD n (by omega) _ ha, fun z => ?_⟩
    refine (tripQ_val M hz p t x0 x1 x2 x3 x4 x5 H D hD _
      (fun e i d => fQ e i d + (if t.val % 4 ≤ i / 512 ∧ i / 512 ≤ t.val % 4 + n then M.tq (t.val % 4) (2 * p + e) i d else 0)) hq n (by omega) z).trans ?_
    congr 1
    dsimp only
    by_cases h1 : (z 1).val / 512 = t.val % 4 + 1 + n
    · rw [if_pos h1, if_neg (by omega), if_pos (by omega), add_zero]
    · rw [if_neg h1, add_zero]
      by_cases h2 : t.val % 4 ≤ (z 1).val / 512 ∧ (z 1).val / 512 ≤ t.val % 4 + n
      · rw [if_pos h2, if_pos (by omega)]
      · rw [if_neg h2, if_neg (by omega)]

include hz H hD hQ in
/-- What a grid point leaves. -/
theorem fin_val :
    AccVal M p (t.val % 4) (3 - t.val % 4) (finSt (grid0.coords t) x0 x1 x2 x4 x5 Q D).1 ∧
    ∀ z : S2x2048x256.Idx, (finSt (grid0.coords t) x0 x1 x2 x4 x5 Q D).2 z
      = ((fQ (z 0).val (z 1).val (z 2).val + M.tq (t.val % 4) (2 * p + (z 0).val) (z 1).val (z 2).val : ℝ) : EReal) := by
  obtain ⟨ha, hq⟩ := loop_val M hz p t x0 x1 x2 x3 x4 x5 H D hD Q fQ hQ _ le_rfl
  refine ⟨by rw [← trips_eq]; exact ha, fun z => (hq z).trans ?_⟩
  have h1 : (z 1).val < 2048 := (z 1).isLt
  have h4 : t.val % 4 < 4 := Nat.mod_lt _ (by decide)
  rw [trips_eq]
  by_cases h : t.val % 4 ≤ (z 1).val / 512
  · rw [if_pos ⟨h, by omega⟩]
  · rw [if_neg (fun c => h c.1), M.tq_early _ _ _ _ (by omega)]

/-! ## The row sums -/

include H in
/-- One row of sums, from a slice of the products of outputs and their gradients. -/
theorem row_val (e b : ℕ) (off : Fin 2 → ℕ) (ho : off = ![512 * b, 0]) (inb) (so : Fin 2 → ℕ) (hso : so = ![0, 128 * e]) (hs : S512x256.Slices so S512x128) (y : S1x1x8x512.Idx) :
    shapeCast S1x1x8x512 (matmul dot_S8x128_S512x128_S8x512_1_1_0_0_n_n (some .fp32) (k0_pay13 (F := Ideal))
      (extractStridedSlice S512x128 so (k0_pay14 (VecWindow.window x3 off S512x256.size inb) (VecWindow.window x4 off S512x256.size inb)) hs)
      (constant S8x512 .f32 0x00000000#32)) shapeCasts_S8x512_S1x1x8x512 y
      = ((M.dl (2 * p + e) (512 * b + (y 3).val) : ℝ) : EReal) := by
  refine lift8 _ _ (fun _ r => ((M.dl (2 * p + e) (512 * b + r) : ℝ) : EReal)) (fun z => ?_) y
  have hone : ∀ z, (k0_pay13 : FVec Ideal S8x128 .f32) z = ((1 : ℝ) : EReal) := fun z => by
    show Ideal.ofBits .f32 0x3F800000#32 = _
    simp [Ideal.ofBits, Ideal.ieee, -EReal.coe_mul]; norm_num
  refine (dot_ones (some .fp32) k0_pay13 _ (fun r d => M.ov (2 * p + e) (512 * b + r) d * M.g (2 * p + e) (512 * b + r) d) hone (fun w => ?_) z).trans ?_
  · subst hso
    have hw1 : (w 1).val < 128 := (w 1).isLt
    rw [extractStridedSlice_apply _ _ hs w (fun a => match a with | ⟨0, _⟩ => ⟨(w 0).val, (w 0).isLt⟩ | ⟨1, _⟩ => ⟨128 * e + (w 1).val, by
      have := hs.2 ⟨1, by decide⟩; change 128 * e + 128 ≤ 256 at this; change _ < 256; omega⟩)
      (fun a => match a with
        | ⟨0, _⟩ => by show (w 0).val = 0 + (w 0).val; omega
        | ⟨1, _⟩ => rfl)]
    show shapeCast S512x256 (VecWindow.window x3 off S512x256.size inb) shapeCasts_S512x256_S512x256 _ * VecWindow.window x4 off S512x256.size inb _ = _
    rw [shapeCast_apply _ shapeCasts_S512x256_S512x256 _ _ rfl,
      win_w (fun i j => ((M.ov (2 * p + j / 128) i (j % 128) : ℝ) : EReal)) x3 H.o off inb b ho,
      win_w (fun i j => ((M.g (2 * p + j / 128) i (j % 128) : ℝ) : EReal)) x4 H.g off inb b ho, ← EReal.coe_mul]
    show ((M.ov (2 * p + (128 * e + (w 1).val) / 128) (512 * b + (w 0).val) ((128 * e + (w 1).val) % 128)
      * M.g (2 * p + (128 * e + (w 1).val) / 128) (512 * b + (w 0).val) ((128 * e + (w 1).val) % 128) : ℝ) : EReal) = _
    rw [show (128 * e + (w 1).val) / 128 = e by omega, show (128 * e + (w 1).val) % 128 = (w 1).val by omega]
  · simp only [one_mul]; rfl

include H in
/-- The eight rows of sums. -/
theorem fillD_val (B : Vec Ideal S2x4x8x512 .f32) : Sums M p (fillD x3 x4 B) := fun z => by
  have h0 : (z 0).val < 2 := (z 0).isLt
  have h1 : (z 1).val < 4 := (z 1).isLt
  let f : ℕ → ℕ → ℕ → EReal := fun e b r => ((M.dl (2 * p + e) (512 * b + r) : ℝ) : EReal)
  have row : ∀ e b off ho inb so hso hs y, _ := row_val M p t x0 x1 x2 x3 x4 x5 H
  refine put_d _ f (fun e b => e < 2 ∧ 2 * b + e < 7) _ 1 3 rfl (fun z hz => ?_) _ (row 1 3 _ rfl _ _ rfl slices_S512x256_o0_128_S512x128) z (by omega)
  refine put_d _ f (fun e b => e < 2 ∧ 2 * b + e < 6) _ 0 3 rfl (fun z hz => ?_) _ (row 0 3 _ rfl _ _ rfl slices_S512x256_o0_0_S512x128) z (by omega)
  refine put_d _ f (fun e b => e < 2 ∧ 2 * b + e < 5) _ 1 2 rfl (fun z hz => ?_) _ (row 1 2 _ rfl _ _ rfl slices_S512x256_o0_128_S512x128) z (by omega)
  refine put_d _ f (fun e b => e < 2 ∧ 2 * b + e < 4) _ 0 2 rfl (fun z hz => ?_) _ (row 0 2 _ rfl _ _ rfl slices_S512x256_o0_0_S512x128) z (by omega)
  refine put_d _ f (fun e b => e < 2 ∧ 2 * b + e < 3) _ 1 1 rfl (fun z hz => ?_) _ (row 1 1 _ rfl _ _ rfl slices_S512x256_o0_128_S512x128) z (by omega)
  refine put_d _ f (fun e b => e < 2 ∧ 2 * b + e < 2) _ 0 1 rfl (fun z hz => ?_) _ (row 0 1 _ rfl _ _ rfl slices_S512x256_o0_0_S512x128) z (by omega)
  refine put_d _ f (fun e b => e < 2 ∧ 2 * b + e < 1) _ 1 0 rfl (fun z hz => ?_) _ (row 1 0 _ rfl _ _ rfl slices_S512x256_o0_128_S512x128) z (by omega)
  exact put_d _ f (fun e b => False) _ 0 0 rfl (fun z hz => hz.elim) _ (row 0 0 _ rfl _ _ rfl slices_S512x256_o0_0_S512x128) z (by omega)

end

end Cert.KernelIdeal.Hand

end
-- ==== Proof.Blk.lean ====
/-
The kernel's input blocks at real arguments.
-/
module

public import proofs.«01_k».proof.Proof.HostLine
public import proofs.«01_k».proof.Proof.RefVal
public import proofs.«01_k».proof.Proof.Loop
public import Idealize.ShloMosaic.Lib.Pipeline.ValueKit

@[expose] public section

set_option maxRecDepth 16384

noncomputable section

namespace Cert.KernelIdeal.Hand

open Cert.KernelIdeal Cert.KernelIdeal.Gen Cert.Grad
open Idealize.ShloMosaic Idealize.ShloMosaic.TcCoe
open Cert.ReferenceIdeal.Hand (Reads v20_val v33_val v34_val v42_val)
open Cert.ReferenceIdeal.Read (val_main_v13 val_main_v20 val_main_v30 val_main_v31 val_main_v32 val_main_v33 val_main_v34 val_main_v42 val_main_cst_9)

/-! ## The arrays the host lines leave -/

/-- The padded array, where the model is zero past the head's width. -/
theorem padded_val (x : S2048x8x192.Idx → EReal) (f : ℕ → ℕ → ℕ → ℝ) (hx : ∀ z, x z = ((f (z 1).val (z 0).val (z 2).val : ℝ) : EReal))
    (hw : ∀ h i d, 192 ≤ d → f h i d = 0) (z : S8x2048x256.Idx) : padded x z = ((f (z 0).val (z 1).val (z 2).val : ℝ) : EReal) := by
  have h0 : (z 0).val < 8 := (z 0).isLt
  have h1 : (z 1).val < 2048 := (z 1).isLt
  have h2 : (z 2).val < 256 := (z 2).isLt
  unfold padded pad
  by_cases h : (z 2).val < 192
  · have hin : ∀ a : Fin S8x2048x192.rank, (![0, 0, 0] : Fin 3 → ℕ) a ≤ (z a).val ∧ ((z a).val - (![0, 0, 0] : Fin 3 → ℕ) a) % ((![0, 0, 0] : Fin 3 → ℕ) a + 1) = 0
        ∧ ((z a).val - (![0, 0, 0] : Fin 3 → ℕ) a) / ((![0, 0, 0] : Fin 3 → ℕ) a + 1) < S8x2048x192.size a := fun a => match a with
      | ⟨0, _⟩ => ⟨Nat.zero_le _, Nat.mod_one _, by show ((z 0).val - 0) / (0 + 1) < 8; omega⟩
      | ⟨1, _⟩ => ⟨Nat.zero_le _, Nat.mod_one _, by show ((z 1).val - 0) / (0 + 1) < 2048; omega⟩
      | ⟨2, _⟩ => ⟨Nat.zero_le _, Nat.mod_one _, by show ((z 2).val - 0) / (0 + 1) < 192; omega⟩
    refine (dif_pos hin).trans ?_
    rw [transpose_apply [1, 0, 2] x transposes_S2048x8x192_S8x2048x192_1_0_2 _
      (fun a => match a with | ⟨0, _⟩ => ⟨(z 1).val, h1⟩ | ⟨1, _⟩ => ⟨(z 0).val, h0⟩ | ⟨2, _⟩ => ⟨(z 2).val, h⟩)
      (fun b => match b with
        | ⟨0, _⟩ => by show (z 0).val = ((z 0).val - 0) / (0 + 1); omega
        | ⟨1, _⟩ => by show (z 1).val = ((z 1).val - 0) / (0 + 1); omega
        | ⟨2, _⟩ => by show (z 2).val = ((z 2).val - 0) / (0 + 1); omega), hx]
  · refine (dif_neg (fun hin => h ?_)).trans ?_
    · have := (hin 2).2.2
      have e : ((z 2).val - 0) / (0 + 1) < 192 := this
      omega
    · rw [hw _ _ _ (by omega)]
      show (((0#32 : BitVec 32).toInt : ℝ) : EReal) = _
      norm_num

variable {M : Model} {x0 x1 : S2048x8x192.Idx → EReal} {x2 : S2048x8x128.Idx → EReal} {x3 : S2048x2048.Idx → EReal}
variable (hm : ∀ z, val_main_v13 (F := Ideal) x0 x1 z = ((M.mx (z 0).val (z 1).val : ℝ) : EReal))

include hm in
theorem expd_eq : expd x0 x1 = val_main_v33 (F := Ideal) x0 x1 := by
  have e : val_main_v20 (F := Ideal) x0 x1 = val_main_v13 (F := Ideal) x0 x1 := funext fun z => (v20_val hm z).trans (hm z).symm
  unfold expd val_main_v33 val_main_v32 val_main_v31 val_main_v30
  rw [e]

theorem log_row (w r : FVec Ideal S8x2048 .f32) (z : S8x2048.Idx) :
    addf (F := Ideal) (φ := .f32) w (Host.log (F := Ideal) (φ := .f32) r) z = (w z : EReal) + Ideal.log (r z) := rfl

include hm in
theorem lseRow_val (R : Reads M x0 x1 x2 x3) (z : S8x2048.Idx) : lseRow x0 x1 z = ((M.lse (z 0).val (z 1).val : ℝ) : EReal) := by
  have e : lseRow x0 x1 z = val_main_v13 (F := Ideal) x0 x1 z + Ideal.log (val_main_v34 (F := Ideal) x0 x1 z) := by
    unfold lseRow
    rw [expd_eq hm]
    unfold val_main_v34 val_main_cst_9
    generalize val_main_v33 (F := Ideal) x0 x1 = y
    generalize val_main_v13 (F := Ideal) x0 x1 = w
    rw [log_row]
  rw [e, hm, v34_val hm R, Ideal.log_coe, if_neg (not_le.2 (M.S_pos _ _ (z 1).isLt)), ← EReal.coe_add]
  rfl

include hm in
theorem lse4_val (R : Reads M x0 x1 x2 x3) (z : S8x4x1x512.Idx) :
    (shapeCast S8x4x1x512 (lseRow x0 x1) shapeCasts_S8x2048_S8x4x1x512 : S8x4x1x512.Idx → EReal) z
      = ((M.lse (z 0).val (512 * (z 1).val + (z 3).val) : ℝ) : EReal) := by
  have h0 : (z 0).val < 8 := (z 0).isLt
  have h1 : (z 1).val < 4 := (z 1).isLt
  have h2 : (z 2).val < 1 := (z 2).isLt
  have h3 : (z 3).val < 512 := (z 3).isLt
  rw [shapeCast_apply (lseRow x0 x1) shapeCasts_S8x2048_S8x4x1x512 z
    (fun a => match a with | ⟨0, _⟩ => ⟨(z 0).val, h0⟩ | ⟨1, _⟩ => ⟨512 * (z 1).val + (z 3).val, by show 512 * (z 1).val + (z 3).val < 2048; omega⟩)
    (by rewrite [Shape.rowMajor_val_two, Shape.rowMajor_val_four]
        show (z 0).val * 2048 + (512 * (z 1).val + (z 3).val) = (((z 0).val * 4 + (z 1).val) * 1 + (z 2).val) * 512 + (z 3).val
        omega), lseRow_val hm R]

include hm in
theorem out_val (R : Reads M x0 x1 x2 x3) (z : S2048x1024.Idx) :
    (shapeCast S2048x1024 (val_main_v42 (F := Ideal) x0 x1 x2) shapeCasts_S2048x8x128_S2048x1024 : S2048x1024.Idx → EReal) z
      = ((M.ov ((z 1).val / 128) (z 0).val ((z 1).val % 128) : ℝ) : EReal) := by
  have h0 : (z 0).val < 2048 := (z 0).isLt
  have h1 : (z 1).val < 1024 := (z 1).isLt
  have hd : (z 1).val / 128 < 8 := by omega
  have hr : (z 1).val % 128 < 128 := by omega
  have hv := v42_val hm R
  generalize val_main_v42 (F := Ideal) x0 x1 x2 = y at hv ⊢
  rw [shapeCast_apply y shapeCasts_S2048x8x128_S2048x1024 z
    (fun a => match a with | ⟨0, _⟩ => ⟨(z 0).val, h0⟩ | ⟨1, _⟩ => ⟨(z 1).val / 128, hd⟩ | ⟨2, _⟩ => ⟨(z 1).val % 128, hr⟩)
    (by rewrite [Shape.rowMajor_val_two, Shape.rowMajor_val_three]
        show ((z 0).val * 8 + (z 1).val / 128) * 128 + (z 1).val % 128 = (z 0).val * 1024 + (z 1).val
        omega), hv]

theorem vals_val (R : Reads M x0 x1 x2 x3) (z : S8x2048x128.Idx) :
    (transpose S8x2048x128 [1, 0, 2] x2 transposes_S2048x8x128_S8x2048x128_1_0_2 : S8x2048x128.Idx → EReal) z
      = ((M.v (z 0).val (z 1).val (z 2).val : ℝ) : EReal) := by
  rw [transpose_apply [1, 0, 2] x2 transposes_S2048x8x128_S8x2048x128_1_0_2 z
      (fun a => match a with | ⟨0, _⟩ => ⟨(z 1).val, (z 1).isLt⟩ | ⟨1, _⟩ => ⟨(z 0).val, (z 0).isLt⟩ | ⟨2, _⟩ => ⟨(z 2).val, (z 2).isLt⟩)
      (fun b => match b with | ⟨0, _⟩ => rfl | ⟨1, _⟩ => rfl | ⟨2, _⟩ => rfl), R.v]

/-! ## The index maps -/

theorem ix0 : ∀ t : Fin cfg0.N, win0_0.index t = ![t.val / 4, 0, 0] := (by decide +kernel : ∀ t : Fin grid0.N, _)
theorem ix1 : ∀ t : Fin cfg0.N, win0_1.index t = ![t.val / 4, t.val % 4, 0] := (by decide +kernel : ∀ t : Fin grid0.N, _)
theorem ix2 : ∀ t : Fin cfg0.N, win0_2.index t = ![t.val / 4, t.val % 4, 0] := (by decide +kernel : ∀ t : Fin grid0.N, _)
theorem ix3 : ∀ t : Fin cfg0.N, win0_3.index t = ![0, t.val / 4] := (by decide +kernel : ∀ t : Fin grid0.N, _)
theorem ix4 : ∀ t : Fin cfg0.N, win0_4.index t = ![0, 4 + t.val / 4] := (by decide +kernel : ∀ t : Fin grid0.N, _)
theorem ix5 : ∀ t : Fin cfg0.N, win0_5.index t = ![t.val / 4, 0, 0, 0] := (by decide +kernel : ∀ t : Fin grid0.N, _)
theorem ix6 : ∀ t : Fin cfg0.N, win0_6.index t = ![t.val / 4, 0, 0] := (by decide +kernel : ∀ t : Fin grid0.N, _)
theorem ix7 : ∀ t : Fin cfg0.N, win0_7.index t = ![t.val / 4, t.val % 4, 0] := (by decide +kernel : ∀ t : Fin grid0.N, _)
theorem ix8 : ∀ t : Fin cfg0.N, win0_8.index t = ![t.val / 4, t.val % 4, 0] := (by decide +kernel : ∀ t : Fin grid0.N, _)

/-! ## The blocks -/

variable (m : (ℓ : Loc nD τ sig) → Buf (Elt Ideal) ℓ) (c : Dev nD)

/-- The model reads the arguments as launched, and is zero past the head's width. -/
structure Fits (M : Model) : Prop where
  reads : Reads M (a0 m c) (a1 m c) (a2 m c) (a3 m c)
  mx : ∀ z, val_main_v13 (F := Ideal) (a0 m c) (a1 m c) z = ((M.mx (z 0).val (z 1).val : ℝ) : EReal)
  qw : ∀ h i d, 192 ≤ d → M.q h i d = 0
  kw : ∀ h i d, 192 ≤ d → M.k h i d = 0

variable {m c}

/-- A read through a window's block is the array at the block's place. -/
theorem rd0 (t : Fin cfg0.N) (X : S8x2048x256.Idx → EReal) (z : S2x2048x256.Idx) :
    (win0_0.blk t).view.read (Elt Ideal) X z = X ((win0_0.blk t).view.emb z) := rfl
theorem ib0 (t : Fin cfg0.N) :
    (iblk m c 0 t : S2x2048x256.Idx → EReal) = (win0_0.blk t).view.read (Elt Ideal) (V (F := Ideal) m c main_v2) := rfl
theorem rd1 (t : Fin cfg0.N) (X : S8x2048x256.Idx → EReal) (z : S2x512x256.Idx) :
    (win0_1.blk t).view.read (Elt Ideal) X z = X ((win0_1.blk t).view.emb z) := rfl
theorem ib1 (t : Fin cfg0.N) :
    (iblk m c 1 t : S2x512x256.Idx → EReal) = (win0_1.blk t).view.read (Elt Ideal) (V (F := Ideal) m c main_v5) := rfl
theorem rd2 (t : Fin cfg0.N) (X : S8x2048x128.Idx → EReal) (z : S2x512x128.Idx) :
    (win0_2.blk t).view.read (Elt Ideal) X z = X ((win0_2.blk t).view.emb z) := rfl
theorem ib2 (t : Fin cfg0.N) :
    (iblk m c 2 t : S2x512x128.Idx → EReal) = (win0_2.blk t).view.read (Elt Ideal) (V (F := Ideal) m c main_v7) := rfl
theorem rd3 (t : Fin cfg0.N) (X : S2048x1024.Idx → EReal) (z : S2048x256.Idx) :
    (win0_3.blk t).view.read (Elt Ideal) X z = X ((win0_3.blk t).view.emb z) := rfl
theorem ib3 (t : Fin cfg0.N) :
    (iblk m c 3 t : S2048x256.Idx → EReal) = (win0_3.blk t).view.read (Elt Ideal) (V (F := Ideal) m c main_v32) := rfl
theorem rd4 (t : Fin cfg0.N) (X : S2048x2048.Idx → EReal) (z : S2048x256.Idx) :
    (win0_4.blk t).view.read (Elt Ideal) X z = X ((win0_4.blk t).view.emb z) := rfl
theorem ib4 (t : Fin cfg0.N) :
    (iblk m c 4 t : S2048x256.Idx → EReal) = (win0_4.blk t).view.read (Elt Ideal) (V (F := Ideal) m c main_arg3) := rfl
theorem rd5 (t : Fin cfg0.N) (X : S8x4x1x512.Idx → EReal) (z : S2x4x1x512.Idx) :
    (win0_5.blk t).view.read (Elt Ideal) X z = X ((win0_5.blk t).view.emb z) := rfl
theorem ib5 (t : Fin cfg0.N) :
    (iblk m c 5 t : S2x4x1x512.Idx → EReal) = (win0_5.blk t).view.read (Elt Ideal) (V (F := Ideal) m c main_v52) := rfl

theorem in_q (f : Fits m c M) (t : Fin cfg0.N) (z : S2x2048x256.Idx) :
    (iblk m c 0 t : S2x2048x256.Idx → EReal) z = ((M.q (2 * (t.val / 4) + (z 0).val) (z 1).val (z 2).val : ℝ) : EReal) := by
  have e : (iblk m c 0 t : S2x2048x256.Idx → EReal) z = V (F := Ideal) m c main_v2 ((win0_0.blk t).view.emb z) :=
    (congrFun (ib0 t) z).trans (rd0 t _ z)
  have e0 : ((win0_0.blk t).view.emb z 0).val = 2 * (t.val / 4) + (z 0).val := by blk_simp [ix0] <;> simp <;> omega
  have e1 : ((win0_0.blk t).view.emb z 1).val = (z 1).val := by blk_simp [ix0] <;> simp <;> omega
  have e2 : ((win0_0.blk t).view.emb z 2).val = (z 2).val := by blk_simp [ix0] <;> simp <;> omega
  rw [e, V_q, padded_val _ M.q f.reads.q f.qw]
  rw [← e0, ← e1, ← e2]

theorem in_k (f : Fits m c M) (t : Fin cfg0.N) (z : S2x512x256.Idx) :
    (iblk m c 1 t : S2x512x256.Idx → EReal) z = ((M.k (2 * (t.val / 4) + (z 0).val) (512 * (t.val % 4) + (z 1).val) (z 2).val : ℝ) : EReal) := by
  have e : (iblk m c 1 t : S2x512x256.Idx → EReal) z = V (F := Ideal) m c main_v5 ((win0_1.blk t).view.emb z) :=
    (congrFun (ib1 t) z).trans (rd1 t _ z)
  have e0 : ((win0_1.blk t).view.emb z 0).val = 2 * (t.val / 4) + (z 0).val := by blk_simp [ix1] <;> simp <;> omega
  have e1 : ((win0_1.blk t).view.emb z 1).val = 512 * (t.val % 4) + (z 1).val := by blk_simp [ix1] <;> simp <;> omega
  have e2 : ((win0_1.blk t).view.emb z 2).val = (z 2).val := by blk_simp [ix1] <;> simp <;> omega
  rw [e, V_k, padded_val _ M.k f.reads.k f.kw]
  rw [← e0, ← e1, ← e2]

theorem in_v (f : Fits m c M) (t : Fin cfg0.N) (z : S2x512x128.Idx) :
    (iblk m c 2 t : S2x512x128.Idx → EReal) z = ((M.v (2 * (t.val / 4) + (z 0).val) (512 * (t.val % 4) + (z 1).val) (z 2).val : ℝ) : EReal) := by
  have e : (iblk m c 2 t : S2x512x128.Idx → EReal) z = V (F := Ideal) m c main_v7 ((win0_2.blk t).view.emb z) :=
    (congrFun (ib2 t) z).trans (rd2 t _ z)
  have e0 : ((win0_2.blk t).view.emb z 0).val = 2 * (t.val / 4) + (z 0).val := by blk_simp [ix2] <;> simp <;> omega
  have e1 : ((win0_2.blk t).view.emb z 1).val = 512 * (t.val % 4) + (z 1).val := by blk_simp [ix2] <;> simp <;> omega
  have e2 : ((win0_2.blk t).view.emb z 2).val = (z 2).val := by blk_simp [ix2] <;> simp <;> omega
  rw [e, V_v, vals_val f.reads]
  rw [← e0, ← e1, ← e2]

theorem in_o (f : Fits m c M) (t : Fin cfg0.N) (z : S2048x256.Idx) :
    (iblk m c 3 t : S2048x256.Idx → EReal) z = ((M.ov (2 * (t.val / 4) + (z 1).val / 128) (z 0).val ((z 1).val % 128) : ℝ) : EReal) := by
  have e : (iblk m c 3 t : S2048x256.Idx → EReal) z = V (F := Ideal) m c main_v32 ((win0_3.blk t).view.emb z) :=
    (congrFun (ib3 t) z).trans (rd3 t _ z)
  have e0 : ((win0_3.blk t).view.emb z 0).val = (z 0).val := by blk_simp [ix3] <;> simp <;> omega
  have e1 : ((win0_3.blk t).view.emb z 1).val = 256 * (t.val / 4) + (z 1).val := by blk_simp [ix3] <;> simp <;> omega
  rw [e, V_o, out_val f.mx f.reads]
  rw [e0, e1, show (256 * (t.val / 4) + (z 1).val) / 128 = 2 * (t.val / 4) + (z 1).val / 128 by omega,
    show (256 * (t.val / 4) + (z 1).val) % 128 = (z 1).val % 128 by omega]

theorem in_g (f : Fits m c M) (t : Fin cfg0.N) (z : S2048x256.Idx) :
    (iblk m c 4 t : S2048x256.Idx → EReal) z = ((M.g (2 * (t.val / 4) + (z 1).val / 128) (z 0).val ((z 1).val % 128) : ℝ) : EReal) := by
  have e : (iblk m c 4 t : S2048x256.Idx → EReal) z = V (F := Ideal) m c main_arg3 ((win0_4.blk t).view.emb z) :=
    (congrFun (ib4 t) z).trans (rd4 t _ z)
  have e0 : ((win0_4.blk t).view.emb z 0).val = (z 0).val := by blk_simp [ix4] <;> simp <;> omega
  have e1 : ((win0_4.blk t).view.emb z 1).val = 1024 + (256 * (t.val / 4) + (z 1).val) := by blk_simp [ix4] <;> simp <;> omega
  rw [e, V_main_arg3]
  refine (f.reads.g _).trans ?_
  unfold Model.g
  rw [e0, e1, show 128 * (2 * (t.val / 4) + (z 1).val / 128) + (z 1).val % 128 = 256 * (t.val / 4) + (z 1).val by omega]

theorem in_l (f : Fits m c M) (t : Fin cfg0.N) (z : S2x4x1x512.Idx) :
    (iblk m c 5 t : S2x4x1x512.Idx → EReal) z = ((M.lse (2 * (t.val / 4) + (z 0).val) (512 * (z 1).val + (z 3).val) : ℝ) : EReal) := by
  have e : (iblk m c 5 t : S2x4x1x512.Idx → EReal) z = V (F := Ideal) m c main_v52 ((win0_5.blk t).view.emb z) :=
    (congrFun (ib5 t) z).trans (rd5 t _ z)
  have e0 : ((win0_5.blk t).view.emb z 0).val = 2 * (t.val / 4) + (z 0).val := by blk_simp [ix5] <;> simp <;> omega
  have e1 : ((win0_5.blk t).view.emb z 1).val = (z 1).val := by blk_simp [ix5] <;> simp <;> omega
  have e3 : ((win0_5.blk t).view.emb z 3).val = (z 3).val := by blk_simp [ix5] <;> simp <;> omega
  rw [e, V_l, lse4_val f.mx f.reads]
  rw [← e0, ← e1, ← e3]

/-- A point's blocks are the model's. -/
theorem blocks (f : Fits m c M) (t : Fin cfg0.N) :
    Blocks M (t.val / 4) (t.val % 4) (iblk m c 0 t) (iblk m c 1 t) (iblk m c 2 t) (iblk m c 3 t) (iblk m c 4 t) (iblk m c 5 t) :=
  ⟨in_q f t, in_k f t, in_v f t, in_o f t, in_g f t, in_l f t⟩

end Cert.KernelIdeal.Hand
-- ==== Proof.Pts.lean ====
/-
What the kernel holds after every grid point, and the blocks it writes back.
-/
module

public import proofs.«01_k».proof.Proof.Blk
public import proofs.«01_k».proof.Proof.Win
public import proofs.«01_k».proof.Proof.Data

@[expose] public section

set_option maxRecDepth 16384

noncomputable section

namespace Cert.KernelIdeal.Hand

open Cert.KernelIdeal Cert.KernelIdeal.Gen Cert.Grad Finset
open Idealize.ShloMosaic Idealize.ShloMosaic.TcCoe

variable {m : (ℓ : Loc nD τ sig) → Buf (Elt Ideal) ℓ} {c : Dev nD} {M : Model}

theorem pay12_zero (z : S2x2048x256.Idx) : (k0_pay12 : FVec Ideal S2x2048x256 .f32) z = ((0 : ℝ) : EReal) := Ideal.ofBits_zero_f32

/-- The state after point `n`, in terms of the model. -/
structure PtVal (M : Model) (n : ℕ) (s : St Ideal × Vec Ideal S2x4x8x512 .f32) : Prop where
  sums : Sums M (n / 4) s.2
  acc : AccVal M (n / 4) (n % 4) (3 - n % 4) s.1.1
  dq : ∀ z : S2x2048x256.Idx, s.1.2 z
    = ((∑ j ∈ range (n % 4 + 1), M.tq j (2 * (n / 4) + (z 0).val) (z 1).val (z 2).val : ℝ) : EReal)

/-- The first key block of a pair starts from nothing. -/
theorem pt_first (f : Fits m c M) (t : Fin cfg0.N) (h : t.val % 4 = 0) : PtVal M t.val (outsAt m c t.val t.isLt) := by
  have hD := fillD_val M (t.val / 4) t _ _ _ _ _ _ (blocks f t) (blank (F := Ideal) S2x4x8x512)
  obtain ⟨ha, hq⟩ := fin_val M f.qw (t.val / 4) t _ _ _ _ _ _ (blocks f t) _ hD (k0_pay12 (F := Ideal)) (fun _ _ _ => 0) (fun z => pay12_zero z)
  rw [outsAt_A m c t h]
  refine ⟨hD, ha, fun z => (hq z).trans ?_⟩
  rw [h, sum_range_one, zero_add]

/-- A later key block adds its part. -/
theorem pt_next (f : Fits m c M) (t : Fin cfg0.N) (h : ¬ t.val % 4 = 0)
    (ih : PtVal M (t.val - 1) (outsAt m c (t.val - 1) (Nat.lt_of_le_of_lt (Nat.sub_le _ _) t.isLt))) :
    PtVal M t.val (outsAt m c t.val t.isLt) := by
  have e1 : (t.val - 1) / 4 = t.val / 4 := by omega
  have e2 : (t.val - 1) % 4 + 1 = t.val % 4 := by omega
  obtain ⟨hD, _, hQ⟩ := ih
  rw [e1] at hD
  rw [e1, e2] at hQ
  rw [outsAt_B m c t h]
  generalize outsAt m c (t.val - 1) (Nat.lt_of_le_of_lt (Nat.sub_le _ _) t.isLt) = s at hD hQ ⊢
  obtain ⟨ha, hq⟩ := fin_val M f.qw (t.val / 4) t _ _ _ _ _ _ (blocks f t) _ hD s.1.2
    (fun e i d => ∑ j ∈ range (t.val % 4), M.tq j (2 * (t.val / 4) + e) i d) hQ
  refine ⟨hD, ha, fun z => (hq z).trans ?_⟩
  rw [sum_range_succ]

theorem pt_val (f : Fits m c M) : (n : ℕ) → (hn : n < cfg0.N) → PtVal M n (outsAt m c n hn)
  | 0, hn => pt_first f ⟨0, hn⟩ rfl
  | n + 1, hn => by
    by_cases h : (n + 1) % 4 = 0
    · exact pt_first f ⟨n + 1, hn⟩ h
    · exact pt_next f ⟨n + 1, hn⟩ h (pt_val f n (Nat.lt_of_succ_lt hn))

/-- The query gradient's block at a pair's last point. -/
theorem dqAt_val (f : Fits m c M) (t : Fin cfg0.N) (h : t.val % 4 = 3) (z : S2x2048x256.Idx) :
    (outsAt m c t.val t.isLt).1.2 z = ((M.gq (2 * (t.val / 4) + (z 0).val) (z 1).val (z 2).val : ℝ) : EReal) := by
  rw [(pt_val f t.val t.isLt).dq z, h, M.gq_blocks]

/-- The key gradient's block at every point. -/
theorem dkAt_val (f : Fits m c M) (t : Fin cfg0.N) (z : S2x512x256.Idx) :
    dkAt m c t z = ((M.gk (2 * (t.val / 4) + (z 0).val) (512 * (t.val % 4) + (z 1).val) (z 2).val : ℝ) : EReal) := by
  have h4 : t.val % 4 < 4 := Nat.mod_lt _ (by decide)
  have h1 : (z 1).val < 512 := (z 1).isLt
  have ha := (pt_val f t.val t.isLt).acc
  unfold dkAt
  generalize (outsAt m c t.val t.isLt).1.1 = a at ha ⊢
  refine (fill256_val _ _ _ (fun e r d => ((∑ n ∈ range (3 - t.val % 4 + 1), M.tk (t.val % 4 + n) (2 * (t.val / 4) + e)
    (512 * (t.val % 4) + r) d : ℝ) : EReal)) (fun y => ?_) (fun y => ?_) z).trans ?_
  · exact lift256 a.1 _ (fun r d => ((∑ n ∈ range (3 - t.val % 4 + 1), M.tk (t.val % 4 + n) (2 * (t.val / 4) + 0)
      (512 * (t.val % 4) + r) d : ℝ) : EReal)) (fun y => ha.k0 y) y
  · exact lift256 a.2.2.1 _ (fun r d => ((∑ n ∈ range (3 - t.val % 4 + 1), M.tk (t.val % 4 + n) (2 * (t.val / 4) + 1)
      (512 * (t.val % 4) + r) d : ℝ) : EReal)) (fun y => ha.k1 y) y
  · rw [M.gk_late _ _ _ _ h4 h1, show 4 - t.val % 4 = 3 - t.val % 4 + 1 by omega]

/-- The value gradient's block at every point. -/
theorem dvAt_val (f : Fits m c M) (t : Fin cfg0.N) (z : S2x512x128.Idx) :
    dvAt m c t z = ((M.gv (2 * (t.val / 4) + (z 0).val) (512 * (t.val % 4) + (z 1).val) (z 2).val : ℝ) : EReal) := by
  have h4 : t.val % 4 < 4 := Nat.mod_lt _ (by decide)
  have h1 : (z 1).val < 512 := (z 1).isLt
  have ha := (pt_val f t.val t.isLt).acc
  unfold dvAt
  generalize (outsAt m c t.val t.isLt).1.1 = a at ha ⊢
  refine (fill128_val _ _ _ (fun e r d => ((∑ n ∈ range (3 - t.val % 4 + 1), M.tv (t.val % 4 + n) (2 * (t.val / 4) + e)
    (512 * (t.val % 4) + r) d : ℝ) : EReal)) (fun y => ?_) (fun y => ?_) z).trans ?_
  · exact lift128 a.2.1 _ (fun r d => ((∑ n ∈ range (3 - t.val % 4 + 1), M.tv (t.val % 4 + n) (2 * (t.val / 4) + 0)
      (512 * (t.val % 4) + r) d : ℝ) : EReal)) (fun y => ha.v0 y) y
  · exact lift128 a.2.2.2 _ (fun r d => ((∑ n ∈ range (3 - t.val % 4 + 1), M.tv (t.val % 4 + n) (2 * (t.val / 4) + 1)
      (512 * (t.val % 4) + r) d : ℝ) : EReal)) (fun y => ha.v1 y) y
  · rw [M.gv_late _ _ _ _ h4 h1, show 4 - t.val % 4 = 3 - t.val % 4 + 1 by omega]

end Cert.KernelIdeal.Hand
-- ==== Proof.Arr.lean ====
/-
The arrays the kernel writes, and the results cut from them.
-/
module

public import proofs.«01_k».proof.Proof.Pts

@[expose] public section

set_option maxRecDepth 16384

noncomputable section

namespace Cert.KernelIdeal.Hand

open Cert.KernelIdeal Cert.KernelIdeal.Gen Cert.Grad Finset
open Idealize.ShloMosaic Idealize.ShloMosaic.TcCoe

variable {m : (ℓ : Loc nD τ sig) → Buf (Elt Ideal) ℓ} {c : Dev nD} {M : Model}

/-- The query gradient's array. -/
theorem arr_q (f : Fits m c M) : (dats m 0 c).arrAt 6 cfg0.N
    = fun z : S8x2048x256.Idx => ((M.gq (z 0).val (z 1).val (z 2).val : ℝ) : EReal) := by
  refine (dats m 0 c).arrAt_eq_of_covers 6 _ (by decide +kernel) fun t hf y => ?_
  have h3 : t.val % 4 = 3 := (flush0_6 t).mp hf
  blk_simp
  rw [after_6]
  refine (dqAt_val f t h3 y).trans ?_
  have e0 : win0_6.index t 0 * 2 + (y 0).val = 2 * (t.val / 4) + (y 0).val := by
    rw [ix6]; show t.val / 4 * 2 + (y 0).val = _; omega
  have e1 : win0_6.index t 1 * 2048 + (y 1).val = (y 1).val := by
    rw [ix6]; show 0 * 2048 + (y 1).val = _; omega
  have e2 : win0_6.index t 2 * 256 + (y 2).val = (y 2).val := by
    rw [ix6]; show 0 * 256 + (y 2).val = _; omega
  rw [e0, e1, e2]

/-- The key gradient's array. -/
theorem arr_k (f : Fits m c M) : (dats m 0 c).arrAt 7 cfg0.N
    = fun z : S8x2048x256.Idx => ((M.gk (z 0).val (z 1).val (z 2).val : ℝ) : EReal) := by
  refine (dats m 0 c).arrAt_eq_of_covers 7 _ (by decide +kernel) fun t hf y => ?_
  blk_simp
  rw [after_7]
  refine (dkAt_val f t y).trans ?_
  have e0 : win0_7.index t 0 * 2 + (y 0).val = 2 * (t.val / 4) + (y 0).val := by
    rw [ix7]; show t.val / 4 * 2 + (y 0).val = _; omega
  have e1 : win0_7.index t 1 * 512 + (y 1).val = 512 * (t.val % 4) + (y 1).val := by
    rw [ix7]; show t.val % 4 * 512 + (y 1).val = _; omega
  have e2 : win0_7.index t 2 * 256 + (y 2).val = (y 2).val := by
    rw [ix7]; show 0 * 256 + (y 2).val = _; omega
  rw [e0, e1, e2]

/-- The value gradient's array. -/
theorem arr_v (f : Fits m c M) : (dats m 0 c).arrAt 8 cfg0.N
    = fun z : S8x2048x128.Idx => ((M.gv (z 0).val (z 1).val (z 2).val : ℝ) : EReal) := by
  refine (dats m 0 c).arrAt_eq_of_covers 8 _ (by decide +kernel) fun t hf y => ?_
  blk_simp
  rw [after_8]
  refine (dvAt_val f t y).trans ?_
  have e0 : win0_8.index t 0 * 2 + (y 0).val = 2 * (t.val / 4) + (y 0).val := by
    rw [ix8]; show t.val / 4 * 2 + (y 0).val = _; omega
  have e1 : win0_8.index t 1 * 512 + (y 1).val = 512 * (t.val % 4) + (y 1).val := by
    rw [ix8]; show t.val % 4 * 512 + (y 1).val = _; omega
  have e2 : win0_8.index t 2 * 128 + (y 2).val = (y 2).val := by
    rw [ix8]; show 0 * 128 + (y 2).val = _; omega
  rw [e0, e1, e2]

/-! ## The results -/

/-- The columns past the head's width dropped, then positions first. -/
theorem cut_val (x : S8x2048x256.Idx → EReal) (f : ℕ → ℕ → ℕ → EReal) (hx : ∀ z, x z = f (z 0).val (z 1).val (z 2).val)
    (z : S2048x8x192.Idx) :
    transpose S2048x8x192 [1, 0, 2] (extractStridedSlice S8x2048x192 ![0, 0, 0] x slices_S8x2048x256_S8x2048x192_0_0_0)
      transposes_S8x2048x192_S2048x8x192_1_0_2 z = f (z 1).val (z 0).val (z 2).val := by
  refine (hx _).trans ?_
  show f (0 + (z 1).val) (0 + (z 0).val) (0 + (z 2).val) = _
  rw [Nat.zero_add, Nat.zero_add, Nat.zero_add]

theorem turn_val (x : S8x2048x128.Idx → EReal) (f : ℕ → ℕ → ℕ → EReal) (hx : ∀ z, x z = f (z 0).val (z 1).val (z 2).val)
    (z : S2048x8x128.Idx) :
    transpose S2048x8x128 [1, 0, 2] x transposes_S8x2048x128_S2048x8x128_1_0_2 z = f (z 1).val (z 0).val (z 2).val :=
  hx _

theorem arr_inj : Function.Injective (Pipeline.arrRef spec0) := by decide

/-- The three results, in terms of the arrays the kernel writes. -/
theorem tail_q : Pipeline.afterTail₀ cfgs (dats m) 0 (V0 m) [hostOps1] c main_v55
    = transpose S2048x8x192 [1, 0, 2] (extractStridedSlice S8x2048x192 ![0, 0, 0]
        ((dats m 0 c).arrAt 6 cfg0.N : S8x2048x256.Idx → EReal) slices_S8x2048x256_S8x2048x192_0_0_0)
        transposes_S8x2048x192_S2048x8x192_1_0_2 := by
  have h := Pipeline.withArrays_arr spec0 arr_inj c (V0 m c) (fun w => (dats m 0 c).arrAt w cfg0.N) 6
  rw [← h]
  unfold Pipeline.afterTail₀
  generalize Pipeline.withArrays _ c (V0 m c) _ = W
  simp only [List.flatten_cons, List.flatten_nil, List.append_nil]
  after_reads_simp

theorem tail_k : Pipeline.afterTail₀ cfgs (dats m) 0 (V0 m) [hostOps1] c main_v57
    = transpose S2048x8x192 [1, 0, 2] (extractStridedSlice S8x2048x192 ![0, 0, 0]
        ((dats m 0 c).arrAt 7 cfg0.N : S8x2048x256.Idx → EReal) slices_S8x2048x256_S8x2048x192_0_0_0)
        transposes_S8x2048x192_S2048x8x192_1_0_2 := by
  have h := Pipeline.withArrays_arr spec0 arr_inj c (V0 m c) (fun w => (dats m 0 c).arrAt w cfg0.N) 7
  rw [← h]
  unfold Pipeline.afterTail₀
  generalize Pipeline.withArrays _ c (V0 m c) _ = W
  simp only [List.flatten_cons, List.flatten_nil, List.append_nil]
  after_reads_simp

theorem tail_v : Pipeline.afterTail₀ cfgs (dats m) 0 (V0 m) [hostOps1] c main_v58
    = transpose S2048x8x128 [1, 0, 2] ((dats m 0 c).arrAt 8 cfg0.N : S8x2048x128.Idx → EReal)
        transposes_S8x2048x128_S2048x8x128_1_0_2 := by
  have h := Pipeline.withArrays_arr spec0 arr_inj c (V0 m c) (fun w => (dats m 0 c).arrAt w cfg0.N) 8
  rw [← h]
  unfold Pipeline.afterTail₀
  generalize Pipeline.withArrays _ c (V0 m c) _ = W
  simp only [List.flatten_cons, List.flatten_nil, List.append_nil]
  after_reads_simp

/-- The results are the model's gradients. -/
theorem res_q (f : Fits m c M) (z : S2048x8x192.Idx) :
    (Pipeline.afterTail₀ cfgs (dats m) 0 (V0 m) [hostOps1] c main_v55 : S2048x8x192.Idx → EReal) z
      = ((M.gq (z 1).val (z 0).val (z 2).val : ℝ) : EReal) := by
  rw [tail_q, arr_q f]
  exact cut_val _ (fun h i d => ((M.gq h i d : ℝ) : EReal)) (fun _ => rfl) z

theorem res_k (f : Fits m c M) (z : S2048x8x192.Idx) :
    (Pipeline.afterTail₀ cfgs (dats m) 0 (V0 m) [hostOps1] c main_v57 : S2048x8x192.Idx → EReal) z
      = ((M.gk (z 1).val (z 0).val (z 2).val : ℝ) : EReal) := by
  rw [tail_k, arr_k f]
  exact cut_val _ (fun h i d => ((M.gk h i d : ℝ) : EReal)) (fun _ => rfl) z

theorem res_v (f : Fits m c M) (z : S2048x8x128.Idx) :
    (Pipeline.afterTail₀ cfgs (dats m) 0 (V0 m) [hostOps1] c main_v58 : S2048x8x128.Idx → EReal) z
      = ((M.gv (z 1).val (z 0).val (z 2).val : ℝ) : EReal) := by
  rw [tail_v, arr_v f]
  exact turn_val _ (fun h i d => ((M.gv h i d : ℝ) : EReal)) (fun _ => rfl) z

end Cert.KernelIdeal.Hand
-- ==== Proof.Finite.lean ====
/-
What the precondition says: every entry of every argument is a real number.
-/
module

public import proofs.«01_k».proof.Proof.Vals
public import proofs.«01_k».proof.Proof.Gen.Pre_finite
public import Idealize.ShloMosaic.Lib.ReduceAll

@[expose] public section

set_option maxRecDepth 16384

noncomputable section

namespace Cert.ReferenceIdeal.Hand

open Idealize.ShloMosaic Cert.Grad Cert.ReferenceIdeal.Read

instance : Subsingleton Cert.Pre_finite.S_.Idx := ⟨fun a b => funext fun i => i.elim0⟩

/-- A value whose absolute value is below `⊤` is a real. -/
theorem real_of_abs (x : EReal) (h : max x (-x) < ⊤) : x = ((x.toReal : ℝ) : EReal) := by
  refine (EReal.coe_toReal (fun e => ?_) (fun e => ?_)).symm
  · rw [e, max_eq_left le_top] at h; exact lt_irrefl _ h
  · rw [e, EReal.neg_bot, max_eq_right bot_le] at h; exact lt_irrefl _ h

/-- The test of one argument: where it holds every entry is a real. -/
theorem entry_real {s : Shape} {axes : List (Fin s.rank)} (x : FVec Ideal s .f32) (hb : Cert.Pre_finite.S_.BroadcastsInDim s (![] : Fin 0 → Fin s.rank))
    (h : s.ReducesTo axes Cert.Pre_finite.S_) (hu : 0 < Cert.Pre_finite.S_.numel) (j : Cert.Pre_finite.S_.Idx)
    (e : Host.reduce IntOp.andi (cmpf .olt (Host.absf x) (broadcastInDim s ![] hb (constant (F := Ideal) Cert.Pre_finite.S_ .f32 0x7F800000#32)))
      (constantI Cert.Pre_finite.S_ 1 1#1) h hu j = 1#1) (z : s.Idx) : x z = (((x z).toReal : ℝ) : EReal) := by
  have hz := Host.reduce_andi_all _ _ h hu j e z
  have hc : Ideal.cmp .olt (max (x z) (-(x z))) (Ideal.ofBits .f32 0x7F800000#32) = 1#1 := hz
  rw [ofBits_top] at hc
  refine real_of_abs _ ?_
  by_contra hn
  have : Ideal.cmp .olt (max (x z) (-(x z))) ⊤ = 0#1 := by
    show BitVec.ofBool (decide _) = _
    rw [decide_eq_false hn]; rfl
  rw [this] at hc
  exact absurd hc (by decide)

theorem finite_real (x0 x1 : FVec Ideal Cert.Pre_finite.S2048x8x192 .f32) (x2 : FVec Ideal Cert.Pre_finite.S2048x8x128 .f32)
    (x3 : FVec Ideal Cert.Pre_finite.S2048x2048 .f32) (h : Cert.Pre_finite.fn (F := Ideal) x0 x1 x2 x3 = fun _ => 1#1) :
    (∀ z, x0 z = (((x0 z).toReal : ℝ) : EReal)) ∧ (∀ z, x1 z = (((x1 z).toReal : ℝ) : EReal))
      ∧ (∀ z, x2 z = (((x2 z).toReal : ℝ) : EReal)) ∧ (∀ z, x3 z = (((x3 z).toReal : ℝ) : EReal)) := by
  have e := congrFun h (fun a => a.elim0)
  unfold Cert.Pre_finite.fn Cert.Pre_finite.fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨entry_real x0 _ _ _ _ e0, entry_real x1 _ _ _ _ e1, entry_real x2 _ _ _ _ e2, entry_real x3 _ _ _ _ e3⟩

/-- The model of the arguments: their entries inside the arrays, zero outside. -/
def model (x0 x1 : S2048x8x192.Idx → EReal) (x2 : S2048x8x128.Idx → EReal) (x3 : S2048x2048.Idx → EReal) : Model where
  q h i d := if H : h < 8 ∧ i < 2048 ∧ d < 192 then
    (x0 fun a => match a with | ⟨0, _⟩ => ⟨i, H.2.1⟩ | ⟨1, _⟩ => ⟨h, H.1⟩ | ⟨2, _⟩ => ⟨d, H.2.2⟩).toReal else 0
  k h i d := if H : h < 8 ∧ i < 2048 ∧ d < 192 then
    (x1 fun a => match a with | ⟨0, _⟩ => ⟨i, H.2.1⟩ | ⟨1, _⟩ => ⟨h, H.1⟩ | ⟨2, _⟩ => ⟨d, H.2.2⟩).toReal else 0
  v h i d := if H : h < 8 ∧ i < 2048 ∧ d < 128 then
    (x2 fun a => match a with | ⟨0, _⟩ => ⟨i, H.2.1⟩ | ⟨1, _⟩ => ⟨h, H.1⟩ | ⟨2, _⟩ => ⟨d, H.2.2⟩).toReal else 0
  G i j := if H : i < 2048 ∧ j < 2048 then
    (x3 fun a => match a with | ⟨0, _⟩ => ⟨i, H.1⟩ | ⟨1, _⟩ => ⟨j, H.2⟩).toReal else 0
  mx h i := if H : h < 8 ∧ i < 2048 then
    (val_main_v13 (F := Ideal) x0 x1 fun a => match a with | ⟨0, _⟩ => ⟨h, H.1⟩ | ⟨1, _⟩ => ⟨i, H.2⟩).toReal else 0

variable {x0 x1 : S2048x8x192.Idx → EReal} {x2 : S2048x8x128.Idx → EReal} {x3 : S2048x2048.Idx → EReal}

theorem reads (h : Cert.Pre_finite.fn (F := Ideal) x0 x1 x2 x3 = fun _ => 1#1) : Reads (model x0 x1 x2 x3) x0 x1 x2 x3 := by
  obtain ⟨h0, h1, h2, h3⟩ := finite_real x0 x1 x2 x3 h
  constructor
  · intro z
    have H : (z 1).val < 8 ∧ (z 0).val < 2048 ∧ (z 2).val < 192 := ⟨(z 1).isLt, (z 0).isLt, (z 2).isLt⟩
    refine (h0 z).trans (congrArg (fun r : ℝ => (r : EReal)) ?_)
    refine ((dif_pos H).trans (congrArg (fun y => (x0 y).toReal) ?_)).symm
    exact funext fun a => match a with | ⟨0, _⟩ => rfl | ⟨1, _⟩ => rfl | ⟨2, _⟩ => rfl
  · intro z
    have H : (z 1).val < 8 ∧ (z 0).val < 2048 ∧ (z 2).val < 192 := ⟨(z 1).isLt, (z 0).isLt, (z 2).isLt⟩
    refine (h1 z).trans (congrArg (fun r : ℝ => (r : EReal)) ?_)
    refine ((dif_pos H).trans (congrArg (fun y => (x1 y).toReal) ?_)).symm
    exact funext fun a => match a with | ⟨0, _⟩ => rfl | ⟨1, _⟩ => rfl | ⟨2, _⟩ => rfl
  · intro z
    have H : (z 1).val < 8 ∧ (z 0).val < 2048 ∧ (z 2).val < 128 := ⟨(z 1).isLt, (z 0).isLt, (z 2).isLt⟩
    refine (h2 z).trans (congrArg (fun r : ℝ => (r : EReal)) ?_)
    refine ((dif_pos H).trans (congrArg (fun y => (x2 y).toReal) ?_)).symm
    exact funext fun a => match a with | ⟨0, _⟩ => rfl | ⟨1, _⟩ => rfl | ⟨2, _⟩ => rfl
  · intro z
    have H : (z 0).val < 2048 ∧ (z 1).val < 2048 := ⟨(z 0).isLt, (z 1).isLt⟩
    refine (h3 z).trans (congrArg (fun r : ℝ => (r : EReal)) ?_)
    refine ((dif_pos H).trans (congrArg (fun y => (x3 y).toReal) ?_)).symm
    exact funext fun a => match a with | ⟨0, _⟩ => rfl | ⟨1, _⟩ => rfl

theorem reads_mx (h : Cert.Pre_finite.fn (F := Ideal) x0 x1 x2 x3 = fun _ => 1#1) (z : S8x2048.Idx) :
    val_main_v13 (F := Ideal) x0 x1 z = (((model x0 x1 x2 x3).mx (z 0).val (z 1).val : ℝ) : EReal) := by
  have key : ∀ y : S8x2048.Idx → EReal, (if H : (z 0).val < 8 ∧ (z 1).val < 2048 then
      (y fun a => match a with | ⟨0, _⟩ => ⟨(z 0).val, H.1⟩ | ⟨1, _⟩ => ⟨(z 1).val, H.2⟩).toReal else 0) = (y z).toReal := fun y => by
    refine (dif_pos ⟨(z 0).isLt, (z 1).isLt⟩).trans (congrArg (fun w => (y w).toReal) ?_)
    exact funext fun a => match a with | ⟨0, _⟩ => rfl | ⟨1, _⟩ => rfl
  exact (v13_real (reads h) z).trans (congrArg (fun r : ℝ => (r : EReal)) (key _).symm)

/-- Past the head's width the model's queries and keys are zero. -/
theorem model_q_wide (h i d : ℕ) (hd : 192 ≤ d) : (model x0 x1 x2 x3).q h i d = 0 := by
  exact dif_neg fun H => absurd H.2.2 (by omega)
theorem model_k_wide (h i d : ℕ) (hd : 192 ≤ d) : (model x0 x1 x2 x3).k h i d = 0 := by
  exact dif_neg fun H => absurd H.2.2 (by omega)

end Cert.ReferenceIdeal.Hand
-- ==== Proof.Alg.lean ====
/-
On finite arguments the kernel's three results are the reference's.
-/
module

public import proofs.«01_k».proof.Defs
public import proofs.«01_k».proof.Proof.Arr
public import proofs.«01_k».proof.Proof.Finite
public import proofs.«01_k».proof.Proof.Rest

@[expose] public section

set_option maxRecDepth 16384

noncomputable section

namespace Cert.KernelIdeal.Hand

open Cert.KernelIdeal Cert.KernelIdeal.Gen Cert.Grad
open Idealize.ShloMosaic Idealize.ShloMosaic.TcCoe Idealize.SL.Sem
open Cert.ReferenceIdeal.Hand (Reads model reads reads_mx model_q_wide model_k_wide v46_val v63_val v65_val)
open Cert.ReferenceIdeal.Read (val_main_v46 val_main_v63 val_main_v65 val_main_v46_eq val_main_v63_eq val_main_v65_eq)

variable {m : (ℓ : Loc nD τ sig) → Buf (Elt Ideal) ℓ} {c : Dev nD}

/-- Finite arguments are read by a model. -/
theorem fits (h : Cert.Pre_finite.fn (F := Ideal) (a0 m c) (a1 m c) (a2 m c) (a3 m c) = fun _ => 1#1) :
    Fits m c (model (a0 m c) (a1 m c) (a2 m c) (a3 m c)) :=
  ⟨reads h, reads_mx h, fun h' i d hd => model_q_wide h' i d hd, fun h' i d hd => model_k_wide h' i d hd⟩

variable (h : Cert.Pre_finite.fn (F := Ideal) (a0 m c) (a1 m c) (a2 m c) (a3 m c) = fun _ => 1#1)
include h

theorem same_q : (Pipeline.afterTail₀ cfgs (dats m) 0 (V0 m) [hostOps1] c main_v55 : S2048x8x192.Idx → EReal)
    = val_main_v65 (F := Ideal) (a0 m c) (a1 m c) (a2 m c) (a3 m c) :=
  funext fun z => (res_q (fits h) z).trans (v65_val (fits h).mx (fits h).reads z).symm

theorem same_k : (Pipeline.afterTail₀ cfgs (dats m) 0 (V0 m) [hostOps1] c main_v57 : S2048x8x192.Idx → EReal)
    = val_main_v63 (F := Ideal) (a0 m c) (a1 m c) (a2 m c) (a3 m c) :=
  funext fun z => (res_k (fits h) z).trans (v63_val (fits h).mx (fits h).reads z).symm

theorem same_v : (Pipeline.afterTail₀ cfgs (dats m) 0 (V0 m) [hostOps1] c main_v58 : S2048x8x128.Idx → EReal)
    = val_main_v46 (F := Ideal) (a0 m c) (a1 m c) (a3 m c) :=
  funext fun z => (res_v (fits h) z).trans (v46_val (fits h).mx (fits h).reads z).symm

omit h

/-- Every buffer the run's post names, read at the three results. -/
theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55) = Pipeline.afterTail₀ cfgs (dats m) 0 (V0 m) [hostOps1] c main_v55
      ∧ r.2.mem ((c.tc : Thread nD τ).loc main_v57) = Pipeline.afterTail₀ cfgs (dats m) 0 (V0 m) [hostOps1] c main_v57
      ∧ r.2.mem ((c.tc : Thread nD τ).loc main_v58) = Pipeline.afterTail₀ cfgs (dats m) 0 (V0 m) [hostOps1] c main_v58) :=
  (θ_run defs _ _).mono (fun _ h c =>
    ⟨(h.1 c).2 main_v55 (Pipeline.mem_restRefs_of main_v55 (by decide) (by decide)),
     (h.1 c).2 main_v57 (Pipeline.mem_restRefs_of main_v57 (by decide) (by decide)),
     (h.1 c).2 main_v58 (Pipeline.mem_restRefs_of main_v58 (by decide) (by decide))⟩) (run_main m ρ)

end Cert.KernelIdeal.Hand

namespace Cert

open Idealize.ShloMosaic Idealize.ShloMosaic.TcCoe Idealize.SL.Sem
open Cert.KernelIdeal.Hand Cert.ReferenceIdeal.Read

theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) :=
  fun m ρ m' ρ' hpre hag =>
    ⟨fun c => val_main_v65 (F := Ideal) (a0 m c) (a1 m c) (a2 m c) (a3 m c),
     fun c => val_main_v63 (F := Ideal) (a0 m c) (a1 m c) (a2 m c) (a3 m c),
     fun c => val_main_v46 (F := Ideal) (a0 m c) (a1 m c) (a3 m c),
     (θ_run _ _ _).mono (fun r h c => ⟨(h.1 c).1.trans (same_q (hpre c)), (h.1 c).2.1.trans (same_k (hpre c)),
       (h.1 c).2.2.trans (same_v (hpre c)), h.2.1 c⟩)
       (θ_run_and (run_vals m ρ) (Cert.KernelIdeal.Hand.frame m ρ)),
     (θ_run _ _ _).mono (fun r h c => by
       obtain ⟨h0, h1, h2, h3⟩ := h c
       obtain ⟨g0, g1, g2, g3⟩ := hag c
       refine ⟨h0.trans ((val_main_v65_eq m' c).trans ?_), h1.trans ((val_main_v63_eq m' c).trans ?_),
         h2.trans ((val_main_v46_eq m' c).trans ?_), h3⟩
       · rw [g0, g1, g2, g3]
       · rw [g0, g1, g2, g3]
       · rw [g0, g1, g3]) (Cert.ReferenceIdeal.Value.run m' ρ')⟩

end Cert
-- ==== Proof.Prod.lean ====
/-
A product of two blocks is a sum of products, entry by entry.
-/
module

public import Idealize.ShloMosaic.PureOps.Ideal
public import Idealize.ShloMosaic.PureOps.Ideal.Laws
public import Idealize.ShloMosaic.Lib.ValueIdx
public import Idealize.ShloMosaic.Lib.Pipeline.ValueKit

@[expose] public section

noncomputable section

namespace Cert.Prod

open Idealize.ShloMosaic

/-- A product over one contracted axis of `n` places, added into zeros. -/
theorem dot_sum {sl sr so : Shape} {φ₁ φ₂ : FTy} (d : DotDims sl sr so) (n : ℕ) (hr : d.contr.rank = 1)
    (hs : d.contr.size ⟨0, by omega⟩ = n) (prec : Option ContractPrecision) (a : FVec Ideal sl φ₁) (b : FVec Ideal sr φ₂) (y : so.Idx)
    (L : Fin n → sl.Idx) (R : Fin n → sr.Idx)
    (hL : ∀ k : d.contr.Idx, d.lhsIdx y k = L ((k ⟨0, by omega⟩).cast hs))
    (hR : ∀ k : d.contr.Idx, d.rhsIdx y k = R ((k ⟨0, by omega⟩).cast hs)) :
    FloatOps.matmul d prec a b (constant so .f32 0x00000000#32) y = ∑ k : Fin n, a (L k) * b (R k) := by
  rw [Ideal.matmul_constant_zero_apply, ← Equiv.sum_comp (ValueIdx.contrEquiv1 d n hr hs).symm]
  refine Finset.sum_congr rfl fun k _ => ?_
  have hk : (((ValueIdx.contrEquiv1 d n hr hs).symm k) ⟨0, by omega⟩).cast hs = k :=
    Fin.ext (ValueIdx.contrEquiv1_symm_val d n hr hs k)
  rw [hL, hR, hk]

end Cert.Prod
-- ==== Proof.DownXVal.lean ====
/-
The gradient of the down projection's input: the kernel's array is the reference's.
-/
module

public import proofs.«01_k».proof.Defs
public import proofs.«01_k».proof.Proof.Prod
public import proofs.«01_k».proof.Proof.Gen.DownXIdeal.Value
public import proofs.«01_k».proof.Proof.Gen.DownXRefIdeal.Run
public import proofs.«01_k».proof.Proof.Gen.DownXRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.DownXIdeal.Hand

open Cert.DownXIdeal Cert.DownXIdeal.Gen
open Idealize.ShloMosaic Idealize.ShloMosaic.TcCoe Idealize.SL.Sem
open Cert.DownXRefIdeal.Read (val_main_v2 val_main_v2_apply val_main_v2_eq)

variable (m : (ℓ : Loc nD τ sig) → Buf (Elt Ideal) ℓ) (c : Dev nD)

/-- The arguments as launched. -/
def a0 : S2048x2048.Idx → EReal := m ((c : Thread nD τ).loc main_arg0)
def a1 : S5632x2048.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_w : (V (F := Ideal) m c main_v1 : S5632x2048.Idx → EReal) = a1 m c := by
  unfold V a1
  after_reads_simp
  rfl

theorem ix0 : ∀ t : Fin cfg0.N, win0_0.index t = ![t.val / 4, 0] := (by decide +kernel : ∀ t : Fin grid0.N, _)
theorem ix1 : ∀ t : Fin cfg0.N, win0_1.index t = ![t.val % 4, 0] := (by decide +kernel : ∀ t : Fin grid0.N, _)
theorem ix2 : ∀ t : Fin cfg0.N, win0_2.index t = ![t.val / 4, t.val % 4] := (by decide +kernel : ∀ t : Fin grid0.N, _)

/-! ## One block -/

/-- The block's place in the left operand, and in the right one, at term `k` of a sum. -/
abbrev L (y : S1024x1408.Idx) (k : Fin 2048) : S1024x2048.Idx := fun a => match a with | ⟨0, _⟩ => ⟨(y 0).val, (y 0).isLt⟩ | ⟨1, _⟩ => k
abbrev R (y : S1024x1408.Idx) (k : Fin 2048) : S1408x2048.Idx := fun a => match a with | ⟨0, _⟩ => ⟨(y 1).val, (y 1).isLt⟩ | ⟨1, _⟩ => k

theorem pay (a : S1024x2048.Idx → EReal) (b : S1408x2048.Idx → EReal) (y : S1024x1408.Idx) :
    k0_pay1 (F := Ideal) a b y = ∑ k : Fin 2048, a (L y k) * b (R y k) := by
  unfold k0_pay1
  rw [shapeCast_self, shapeCast_self]
  exact Cert.Prod.dot_sum _ 2048 rfl rfl none a b y (L y) (R y)
    (fun k => funext fun a => match a with | ⟨0, _⟩ => rfl | ⟨1, _⟩ => rfl)
    (fun k => funext fun a => match a with | ⟨0, _⟩ => rfl | ⟨1, _⟩ => rfl)

theorem arr : (dats m 0 c).arrAt 2 cfg0.N = val_main_v2 (F := Ideal) (a0 m c) (a1 m c) := by
  refine (dats m 0 c).arrAt_eq_of_covers 2 _ (by decide +kernel) fun t hf y => ?_
  blk_simp
  rw [after0_2]
  frame_out
  rw [pay, val_main_v2_apply]
  refine Fin.sum_fin_congr fun k => ?_
  congr 1
  · blk_simp [iblk]
    rw [V_x]
    blk_ext [ix0, ix2]
  · blk_simp [iblk]
    rw [V_w]
    blk_ext [ix1, ix2]

end Cert.DownXIdeal.Hand

namespace Cert.DownXRefIdeal.Hand

open Cert.DownXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.DownXRefIdeal.Hand

namespace Cert

open Idealize.ShloMosaic Idealize.ShloMosaic.TcCoe Idealize.SL.Sem
open Cert.DownXIdeal.Hand Cert.DownXRefIdeal.Read

theorem algebraic_down_x : algebraic_DownXIdeal_DownXRefIdeal (hDownXIdeal := Cert.DownXIdeal.Gen.facts)
    (hDownXRefIdeal := Cert.DownXRefIdeal.Gen.facts) :=
  fun m ρ m' ρ' hpre hag =>
    ⟨fun c => val_main_v2 (F := Ideal) (a0 m c) (a1 m c),
     (θ_run _ _ _).mono (fun r h c => ⟨(h c).1.trans arr, (h c).2⟩) (Cert.DownXIdeal.Value.run_blocks m ρ),
     (θ_run _ _ _).mono (fun r h c => ⟨(h c).1.trans ((val_main_v2_eq _ _).trans
       (congrArg₂ (val_main_v2 (F := Ideal)) (hag c).1 (hag c).2)), (h c).2⟩) (Cert.DownXRefIdeal.Value.run m' ρ')⟩

end Cert
-- ==== Proof.DownWVal.lean ====
/-
The gradient of the down projection's weight: the kernel's array is the reference's.
-/
module

public import proofs.«01_k».proof.Defs
public import proofs.«01_k».proof.Proof.Prod
public import proofs.«01_k».proof.Proof.Gen.DownWIdeal.Value
public import proofs.«01_k».proof.Proof.Gen.DownWRefIdeal.Run
public import proofs.«01_k».proof.Proof.Gen.DownWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.DownWIdeal.Hand

open Cert.DownWIdeal Cert.DownWIdeal.Gen
open Idealize.ShloMosaic Idealize.ShloMosaic.TcCoe Idealize.SL.Sem
open Cert.DownWRefIdeal.Read (val_main_v3 val_main_v4 val_main_v4_apply val_main_v3_apply val_main_v2_apply val_main_v4_eq)

variable (m : (ℓ : Loc nD τ sig) → Buf (Elt Ideal) ℓ) (c : Dev nD)

/-- The arguments as launched. -/
def a0 : S2048x5632.Idx → EReal := m ((c : Thread nD τ).loc main_arg0)
def a1 : S2048x2048.Idx → EReal := m ((c : Thread nD τ).loc main_arg1)

variable {m c}

/-! ## The arrays the kernel reads -/

theorem V_x : (V (F := Ideal) m c main_v0 : S2048x5632.Idx → EReal) = a0 m c := by
  unfold V a0
  after_reads_simp
  rfl
theorem V_w : (V (F := Ideal) m c main_v1 : S2048x2048.Idx → EReal) = a1 m c := by
  unfold V a1
  after_reads_simp
  rfl

theorem ix0 : ∀ t : Fin cfg0.N, win0_0.index t = ![0, t.val / 2] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)

/-! ## One block -/

/-- The block's place in the left operand, and in the right one, at term `k` of a sum. -/
abbrev L (y : S1408x1024.Idx) (k : Fin 2048) : S2048x1408.Idx := fun a => match a with | ⟨0, _⟩ => k | ⟨1, _⟩ => ⟨(y 0).val, (y 0).isLt⟩
abbrev R (y : S1408x1024.Idx) (k : Fin 2048) : S2048x1024.Idx := fun a => match a with | ⟨0, _⟩ => k | ⟨1, _⟩ => ⟨(y 1).val, (y 1).isLt⟩

theorem pay (a : S2048x1408.Idx → EReal) (b : S2048x1024.Idx → EReal) (y : S1408x1024.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

/-- The reference's array, with each product's factors in the kernel's order. -/
theorem ref_val (x0 : S2048x5632.Idx → EReal) (x1 : S2048x2048.Idx → EReal) (z : S5632x2048.Idx) :
    val_main_v4 (F := Ideal) x0 x1 z = ∑ k : Fin 2048,
      x0 (Cert.DownWRefIdeal.Read.ridx_main_v2 (Cert.DownWRefIdeal.Read.idx_main_v3 z) k)
        * x1 (Cert.DownWRefIdeal.Read.lidx_main_v2 (Cert.DownWRefIdeal.Read.idx_main_v3 z) k) := by
  refine (val_main_v4_apply (F := Ideal) x0 x1 z).trans ?_
  refine Eq.trans (?_ : _ = val_main_v3 (F := Ideal) x0 x1 z) ?_
  · rfl
  rw [val_main_v3_apply, val_main_v2_apply]
  exact Finset.sum_congr rfl fun k _ => mul_comm _ _

theorem arr : (dats m 0 c).arrAt 2 cfg0.N = val_main_v4 (F := Ideal) (a0 m c) (a1 m c) := by
  refine (dats m 0 c).arrAt_eq_of_covers 2 _ (by decide +kernel) fun t hf y => ?_
  blk_simp
  rw [after0_2]
  frame_out
  rw [pay, ref_val]
  refine Fin.sum_fin_congr fun k => ?_
  congr 1
  · blk_simp [iblk]
    rw [V_x]
    blk_ext [ix0, ix2]
  · blk_simp [iblk]
    rw [V_w]
    blk_ext [ix1, ix2]

end Cert.DownWIdeal.Hand

namespace Cert.DownWRefIdeal.Hand

open Cert.DownWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.DownWRefIdeal.Hand

namespace Cert

open Idealize.ShloMosaic Idealize.ShloMosaic.TcCoe Idealize.SL.Sem
open Cert.DownWIdeal.Hand Cert.DownWRefIdeal.Read

theorem algebraic_down_w : algebraic_DownWIdeal_DownWRefIdeal (hDownWIdeal := Cert.DownWIdeal.Gen.facts)
    (hDownWRefIdeal := Cert.DownWRefIdeal.Gen.facts) :=
  fun m ρ m' ρ' hpre hag =>
    ⟨fun c => val_main_v4 (F := Ideal) (a0 m c) (a1 m c),
     (θ_run _ _ _).mono (fun r h c => ⟨(h c).1.trans arr, (h c).2⟩) (Cert.DownWIdeal.Value.run_blocks m ρ),
     (θ_run _ _ _).mono (fun r h c => ⟨(h c).1.trans ((val_main_v4_eq _ _).trans
       (congrArg₂ (val_main_v4 (F := Ideal)) (hag c).1 (hag c).2)), (h c).2⟩) (Cert.DownWRefIdeal.Value.run m' ρ')⟩

end Cert
-- ==== Proof.UpWVal.lean ====
/-
The gradient of the up projection's weight: the kernel's array is the reference's.
-/
module

public import proofs.«01_k».proof.Defs
public import proofs.«01_k».proof.Proof.Prod
public import proofs.«01_k».proof.Proof.Gen.UpWIdeal.Value
public import proofs.«01_k».proof.Proof.Gen.UpWRefIdeal.Run
public import proofs.«01_k».proof.Proof.Gen.UpWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.UpWIdeal.Hand

open Cert.UpWIdeal Cert.UpWIdeal.Gen
open Idealize.ShloMosaic Idealize.ShloMosaic.TcCoe Idealize.SL.Sem
open Cert.UpWRefIdeal.Read (val_main_v7 val_main_v8 val_main_v8_apply val_main_v7_apply val_main_v6_apply val_main_v5_apply val_main_v4_apply val_main_v8_eq)

variable (m : (ℓ : Loc nD τ sig) → Buf (Elt Ideal) ℓ) (c : Dev nD)

/-- The arguments as launched. -/
def a0 : S2048x2048.Idx → EReal := m ((c : Thread nD τ).loc main_arg0)
def a1 : S2048x11264.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl

/-- The columns with each gate's eighth beside its other half's. -/
def paired (x : S2048x11264.Idx → EReal) : S2048x11264.Idx → EReal :=
  shapeCast S2048x11264 (transpose S2048x4x2x1408 [0, 2, 1, 3] (shapeCast S2048x2x4x1408 x shapeCasts_S2048x11264_S2048x2x4x1408)
    transposes_S2048x2x4x1408_S2048x4x2x1408_0_2_1_3) shapeCasts_S2048x4x2x1408_S2048x11264

theorem V_w : (V (F := Ideal) m c main_v4 : S2048x11264.Idx → EReal) = paired (a1 m c) := by
  unfold V a1 paired
  after_reads_simp
  rfl

/-- Where a column of the paired array comes from. -/
abbrev pidx (z : S2048x11264.Idx) : S2048x11264.Idx := fun a => match a with
  | ⟨0, _⟩ => ⟨(z 0).val, (z 0).isLt⟩
  | ⟨1, _⟩ => ⟨((z 1).val / 1408 % 2 * 4 + (z 1).val / 1408 / 2) * 1408 + (z 1).val % 1408, by
      have h : (z 1).val < 11264 := (z 1).isLt
      show ((z 1).val / 1408 % 2 * 4 + (z 1).val / 1408 / 2) * 1408 + (z 1).val % 1408 < 11264; omega⟩

theorem paired_val (x : S2048x11264.Idx → EReal) (z : S2048x11264.Idx) : paired x z = x (pidx z) := by
  have h0 : (z 0).val < 2048 := (z 0).isLt
  have h1 : (z 1).val < 11264 := (z 1).isLt
  unfold paired
  rw [shapeCast_apply _ shapeCasts_S2048x4x2x1408_S2048x11264 z
    (fun a => match a with
      | ⟨0, _⟩ => ⟨(z 0).val, h0⟩ | ⟨1, _⟩ => ⟨(z 1).val / 1408 / 2, by show (z 1).val / 1408 / 2 < 4; omega⟩
      | ⟨2, _⟩ => ⟨(z 1).val / 1408 % 2, by show (z 1).val / 1408 % 2 < 2; omega⟩ | ⟨3, _⟩ => ⟨(z 1).val % 1408, by show (z 1).val % 1408 < 1408; omega⟩)
    (by rewrite [Shape.rowMajor_val_two, Shape.rowMajor_val_four]
        show (((z 0).val * 4 + (z 1).val / 1408 / 2) * 2 + (z 1).val / 1408 % 2) * 1408 + (z 1).val % 1408 = (z 0).val * 11264 + (z 1).val
        omega),
    transpose_apply [0, 2, 1, 3] _ transposes_S2048x2x4x1408_S2048x4x2x1408_0_2_1_3 _
    (fun a => match a with
      | ⟨0, _⟩ => ⟨(z 0).val, h0⟩ | ⟨1, _⟩ => ⟨(z 1).val / 1408 % 2, by show (z 1).val / 1408 % 2 < 2; omega⟩
      | ⟨2, _⟩ => ⟨(z 1).val / 1408 / 2, by show (z 1).val / 1408 / 2 < 4; omega⟩ | ⟨3, _⟩ => ⟨(z 1).val % 1408, by show (z 1).val % 1408 < 1408; omega⟩)
    (fun b => match b with | ⟨0, _⟩ => rfl | ⟨1, _⟩ => rfl | ⟨2, _⟩ => rfl | ⟨3, _⟩ => rfl),
    shapeCast_apply x shapeCasts_S2048x11264_S2048x2x4x1408 _ (pidx z)
    (by rewrite [Shape.rowMajor_val_two, Shape.rowMajor_val_four]
        show (z 0).val * 11264 + (((z 1).val / 1408 % 2 * 4 + (z 1).val / 1408 / 2) * 1408 + (z 1).val % 1408)
          = (((z 0).val * 2 + (z 1).val / 1408 % 2) * 4 + (z 1).val / 1408 / 2) * 1408 + (z 1).val % 1408
        omega)]

theorem ix0 : ∀ t : Fin cfg0.N, win0_0.index t = ![0, t.val / 8] := (by decide +kernel : ∀ t : Fin grid0.N, _)
theorem ix1 : ∀ t : Fin cfg0.N, win0_1.index t = ![0, t.val % 8] := (by decide +kernel : ∀ t : Fin grid0.N, _)
theorem ix2 : ∀ t : Fin cfg0.N, win0_2.index t = ![t.val % 8 % 2 * 4 + t.val % 8 / 2, t.val / 8, 0] :=
  (by decide +kernel : ∀ t : Fin grid0.N, _)

/-! ## One block -/

/-- The block's place in the left operand, and in the right one, at term `k` of a sum. -/
abbrev L (y : S1x1024x1408.Idx) (k : Fin 2048) : S2048x1024.Idx := fun a => match a with | ⟨0, _⟩ => k | ⟨1, _⟩ => ⟨(y 1).val, (y 1).isLt⟩
abbrev R (y : S1x1024x1408.Idx) (k : Fin 2048) : S2048x1408.Idx := fun a => match a with | ⟨0, _⟩ => k | ⟨1, _⟩ => ⟨(y 2).val, (y 2).isLt⟩

theorem pay (a : S2048x1024.Idx → EReal) (b : S2048x1408.Idx → EReal) (y : S1x1024x1408.Idx) :
    k0_pay1 (F := Ideal) a b y = ∑ k : Fin 2048, a (L y k) * b (R y k) := by
  have h0 : (y 0).val < 1 := (y 0).isLt
  unfold k0_pay1
  rw [shapeCast_self, shapeCast_self]
  rw [shapeCast_apply _ shapeCasts_S1024x1408_S1x1024x1408 y
    (fun a => match a with | ⟨0, _⟩ => ⟨(y 1).val, (y 1).isLt⟩ | ⟨1, _⟩ => ⟨(y 2).val, (y 2).isLt⟩)
    (by rewrite [Shape.rowMajor_val_two, Shape.rowMajor_val_three]
        show (y 1).val * 1408 + (y 2).val = ((y 0).val * 1024 + (y 1).val) * 1408 + (y 2).val
        omega)]
  exact Cert.Prod.dot_sum (φ₁ := .bf16) (φ₂ := .bf16) _ 2048 rfl rfl none a b _ (L y) (R y)
    (fun k => funext fun a => match a with | ⟨0, _⟩ => rfl | ⟨1, _⟩ => rfl)
    (fun k => funext fun a => match a with | ⟨0, _⟩ => rfl | ⟨1, _⟩ => rfl)

open Cert.UpWRefIdeal.Read (idx_main_v7 idx_main_v6 idx_main_v5 lidx_main_v4 ridx_main_v4) in
/-- The reference's array, with each product's factors in the kernel's order. -/
theorem ref_val (x0 : S2048x2048.Idx → EReal) (x1 : S2048x11264.Idx → EReal) (z : S8x2048x1408.Idx) :
    val_main_v8 (F := Ideal) x0 x1 z = ∑ k : Fin 2048,
      x0 (ridx_main_v4 (idx_main_v5 (idx_main_v6 (idx_main_v7 z))) k) * x1 (lidx_main_v4 (idx_main_v5 (idx_main_v6 (idx_main_v7 z))) k) := by
  refine (val_main_v8_apply (F := Ideal) x0 x1 z).trans ?_
  refine Eq.trans (?_ : _ = val_main_v7 (F := Ideal) x0 x1 z) ?_
  · rfl
  rw [val_main_v7_apply, val_main_v6_apply, val_main_v5_apply, val_main_v4_apply]
  exact Finset.sum_congr rfl fun k _ => mul_comm _ _

theorem arr : (dats m 0 c).arrAt 2 cfg0.N = val_main_v8 (F := Ideal) (a0 m c) (a1 m c) := by
  refine (dats m 0 c).arrAt_eq_of_covers 2 _ (by decide +kernel) fun t hf y => ?_
  blk_simp
  rw [after0_2]
  frame_out
  rw [pay, ref_val]
  refine Fin.sum_fin_congr fun k => ?_
  congr 1
  · blk_simp [iblk]
    rw [V_x]
    blk_ext [ix0, ix2]
  · blk_simp [iblk]
    rw [V_w, paired_val]
    blk_ext [ix1, ix2]
    rw [show (t.val % 8 * 1408 + (y 2).val) / 1408 = t.val % 8 by omega,
      show (t.val % 8 * 1408 + (y 2).val) % 1408 = (y 2).val by omega]
    omega

end Cert.UpWIdeal.Hand

namespace Cert.UpWRefIdeal.Hand

open Cert.UpWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.UpWRefIdeal.Hand

namespace Cert

open Idealize.ShloMosaic Idealize.ShloMosaic.TcCoe Idealize.SL.Sem
open Cert.UpWIdeal.Hand Cert.UpWRefIdeal.Read

theorem algebraic_up_w : algebraic_UpWIdeal_UpWRefIdeal (hUpWIdeal := Cert.UpWIdeal.Gen.facts)
    (hUpWRefIdeal := Cert.UpWRefIdeal.Gen.facts) :=
  fun m ρ m' ρ' hpre hag =>
    ⟨fun c => val_main_v8 (F := Ideal) (a0 m c) (a1 m c),
     (θ_run _ _ _).mono (fun r h c => ⟨(h c).1.trans arr, (h c).2⟩) (Cert.UpWIdeal.Value.run_blocks m ρ),
     (θ_run _ _ _).mono (fun r h c => ⟨(h c).1.trans ((val_main_v8_eq _ _).trans
       (congrArg₂ (val_main_v8 (F := Ideal)) (hag c).1 (hag c).2)), (h c).2⟩) (Cert.UpWRefIdeal.Value.run m' ρ')⟩

end Cert
-- ==== Proof.UpXVal.lean ====
/-
The gradient of the up projection's input: the kernel's array is the reference's.
-/
module

public import proofs.«01_k».proof.Defs
public import proofs.«01_k».proof.Proof.UpWVal
public import Idealize.ShloMosaic.Lib.Pipeline.ReadBack
public import proofs.«01_k».proof.Proof.Gen.UpXIdeal.Value
public import proofs.«01_k».proof.Proof.Gen.UpXRefIdeal.Run
public import proofs.«01_k».proof.Proof.Gen.UpXRefIdeal.Read

@[expose] public section

set_option maxRecDepth 16384

noncomputable section

namespace Cert.UpXIdeal.Hand

open Cert.UpXIdeal Cert.UpXIdeal.Gen
open Idealize.ShloMosaic Idealize.ShloMosaic.TcCoe Idealize.SL.Sem
open Cert.UpWIdeal.Hand (paired pidx paired_val)
open Cert.UpXRefIdeal.Read (val_main_v4 val_main_v4_apply val_main_v2_apply val_main_v1_apply val_main_v4_eq)

variable (m : (ℓ : Loc nD τ sig) → Buf (Elt Ideal) ℓ) (c : Dev nD)

/-- The arguments as launched. -/
def a0 : S2048x11264.Idx → EReal := m ((c : Thread nD τ).loc main_arg0)
def a1 : S8x2048x1408.Idx → EReal := m ((c : Thread nD τ).loc main_arg1)

variable {m c}

/-! ## The arrays the kernel reads -/

theorem V_du : (V (F := Ideal) m c main_v4 : S2048x11264.Idx → EReal) = paired (a0 m c) := by
  unfold V a0 paired
  after_reads_simp
  rfl
theorem V_w : (V (F := Ideal) m c main_v5 : S8x2048x1408.Idx → EReal) = a1 m c := by
  unfold V a1
  after_reads_simp
  rfl
theorem V_zero (z : S1x2048.Idx) : (V (F := Ideal) m c main_v0 : S1x2048.Idx → EReal) z = (0 : EReal) := by
  have e : (V (F := Ideal) m c main_v0 : S1x2048.Idx → EReal) = fun _ => (0 : EReal) := by
    unfold V
    after_reads_simp
    funext z
    exact Ideal.ofBits_zero_f32
  rw [e]

theorem ix0 : ∀ t : Fin cfg0.N, win0_0.index t = ![0, t.val % 8] := (by decide +kernel : ∀ t : Fin grid0.N, _)
theorem ix1 : ∀ t : Fin cfg0.N, win0_1.index t = ![t.val % 8 % 2 * 4 + t.val % 8 / 2, t.val / 8, 0] :=
  (by decide +kernel : ∀ t : Fin grid0.N, _)
theorem ix2 : ∀ t : Fin cfg0.N, win0_2.index t = ![0, t.val / 8] := (by decide +kernel : ∀ t : Fin grid0.N, _)
theorem ix3 : ∀ t : Fin cfg0.N, win0_3.index t = ![0, t.val / 8] := (by decide +kernel : ∀ t : Fin grid0.N, _)

/-! ## One block -/

/-- The block's place in the left operand, and in the right one, at term `k` of a sum. -/
abbrev L (y : S2048x1024.Idx) (k : Fin 1408) : S2048x1408.Idx := fun a => match a with | ⟨0, _⟩ => ⟨(y 0).val, (y 0).isLt⟩ | ⟨1, _⟩ => k
abbrev R (y : S2048x1024.Idx) (k : Fin 1408) : S1x1024x1408.Idx := fun a => match a with
  | ⟨0, _⟩ => ⟨0, Nat.one_pos⟩ | ⟨1, _⟩ => ⟨(y 1).val, (y 1).isLt⟩ | ⟨2, _⟩ => k

/-- The sum a point adds. -/
def part (a : S2048x1408.Idx → EReal) (b : S1x1024x1408.Idx → EReal) (y : S2048x1024.Idx) : EReal :=
  ∑ k : Fin 1408, a (L y k) * b (R y k)

theorem pay1 (a : S2048x1408.Idx → EReal) (b : S1x1024x1408.Idx → EReal) (y : S2048x1024.Idx) :
    k0_pay1 (F := Ideal) a b y = part a b y := by
  unfold k0_pay1 part
  rw [shapeCast_self, shapeCast_self]
  refine (Cert.Prod.dot_sum (φ₁ := .bf16) (φ₂ := .bf16) _ 1408 rfl rfl none a _ y (L y)
    (fun k a => match a with | ⟨0, _⟩ => ⟨(y 1).val, (y 1).isLt⟩ | ⟨1, _⟩ => k)
    (fun k => funext fun a => match a with | ⟨0, _⟩ => rfl | ⟨1, _⟩ => rfl)
    (fun k => funext fun a => match a with | ⟨0, _⟩ => rfl | ⟨1, _⟩ => rfl)).trans ?_
  refine Finset.sum_congr rfl fun k _ => ?_
  rw [shapeCast_apply b shapeCasts_S1x1024x1408_S1024x1408 _ (R y k)
    (by rewrite [Shape.rowMajor_val_two, Shape.rowMajor_val_three]
        show (0 * 1024 + (y 1).val) * 1408 + k.val = (y 1).val * 1408 + k.val
        omega)]

theorem pay2 (a : S2048x1408.Idx → EReal) (b : S1x1024x1408.Idx → EReal) (y : S2048x1024.Idx) :
    k0_pay2 (F := Ideal) a b y = part a b y := by
  unfold k0_pay2
  rw [shapeCast_self]
  exact pay1 a b y

theorem pay3 (a : S2048x1408.Idx → EReal) (b : S1x1024x1408.Idx → EReal) (s : S2048x1024.Idx → EReal) (y : S2048x1024.Idx) :
    k0_pay3 (F := Ideal) a b s y = s y + part a b y := by
  unfold k0_pay3
  rw [shapeCast_self]
  exact congrArg (s y + ·) (pay1 a b y)

theorem pay4 (s : S2048x1024.Idx → EReal) (r : S1x1024.Idx → EReal) (hr : ∀ z, r z = 0) (y : S2048x1024.Idx) :
    k0_pay4 (F := Ideal) s r y = s y := by
  unfold k0_pay4
  rw [shapeCast_self]
  refine (congrArg (s y + ·) (hr _)).trans (add_zero _)

/-! ## The accumulator -/

theorem zeros (t : Fin cfg0.N) (z : S1x1024.Idx) : (iblk m c 2 t : S1x1024.Idx → EReal) z = (0 : EReal) := by
  blk_simp [iblk]
  exact V_zero _

/-- The term point `t` adds to the accumulator. -/
def term (m : (ℓ : Loc nD τ sig) → Buf (Elt Ideal) ℓ) (c : Dev nD) (t : Fin cfg0.N) (y : S2048x1024.Idx) : EReal :=
  part (iblk m c 0 t) (iblk m c 1 t) y

theorem acc_first (t : Fin cfg0.N) (h : t.val % 8 = 0) (y : S2048x1024.Idx) :
    (outsAt0 (F := Ideal) m c t.val t.isLt).2 y = (0 : EReal) + term m c t y := by
  rw [outsAt0_A m c t h (by omega) (by omega)]
  frame_out
  rw [pay2, zero_add]
  rfl

theorem acc_next (t : Fin cfg0.N) (h : ¬t.val % 8 = 0) (y : S2048x1024.Idx) :
    ((outsAt0 (F := Ideal) m c t.val t.isLt).2 y : EReal)
      = (outsAt0 (F := Ideal) m c (t.val - 1) (Nat.lt_of_le_of_lt (Nat.sub_le _ _) t.isLt)).2 y + term m c t y := by
  by_cases h7 : t.val % 8 = 7
  · rw [outsAt0_C m c t h (by omega) h7]
    frame_out
    simp only [read_unread_whole]
    rw [pay3]
    rfl
  · rw [outsAt0_B m c t h (by omega) h7]
    frame_out
    simp only [read_unread_whole]
    rw [pay3]
    rfl

theorem out_last (t : Fin cfg0.N) (h : t.val % 8 = 7) (y : S2048x1024.Idx) :
    (outsAt0 (F := Ideal) m c t.val t.isLt).1 y = (outsAt0 (F := Ideal) m c t.val t.isLt).2 y := by
  rw [outsAt0_C m c t (by omega) (by omega) h]
  frame_out
  rw [pay4 _ _ (zeros t)]

/-! ## The array -/

/-- The order the blocks of columns come in. -/
def perm : Fin 8 ≃ Fin 8 where
  toFun s := ⟨s.val % 2 * 4 + s.val / 2, by omega⟩
  invFun p := ⟨p.val % 4 * 2 + p.val / 4, by omega⟩
  left_inv s := Fin.ext (by show (s.val % 2 * 4 + s.val / 2) % 4 * 2 + (s.val % 2 * 4 + s.val / 2) / 4 = s.val; omega)
  right_inv p := Fin.ext (by show (p.val % 4 * 2 + p.val / 4) % 2 * 4 + (p.val % 4 * 2 + p.val / 4) / 2 = p.val; omega)

open Cert.UpXRefIdeal.Read (lidx_main_v4 ridx_main_v4 idx_main_v2 idx_main_v1) in
/-- The reference's array, its sum cut into the eight blocks in the kernel's order. -/
theorem ref_val (x0 : S2048x11264.Idx → EReal) (x1 : S8x2048x1408.Idx → EReal) (z : S2048x2048.Idx) :
    val_main_v4 (F := Ideal) x0 x1 z = ∑ s : Fin 8, ∑ k : Fin 1408,
      x0 (fun a => match a with
        | ⟨0, _⟩ => ⟨(z 0).val, (z 0).isLt⟩
        | ⟨1, _⟩ => ⟨(perm s).val * 1408 + k.val, by have := (perm s).isLt; show (perm s).val * 1408 + k.val < 11264; omega⟩)
      * x1 (fun a => match a with | ⟨0, _⟩ => perm s | ⟨1, _⟩ => ⟨(z 1).val, (z 1).isLt⟩ | ⟨2, _⟩ => k) := by
  have h1 : (z 1).val < 2048 := (z 1).isLt
  rw [val_main_v4_apply]
  refine Eq.trans (Eq.symm ?_) (Equiv.sum_comp perm (fun p : Fin 8 => ∑ k : Fin 1408,
      x0 (fun a => match a with
        | ⟨0, _⟩ => ⟨(z 0).val, (z 0).isLt⟩
        | ⟨1, _⟩ => ⟨p.val * 1408 + k.val, by have := p.isLt; show p.val * 1408 + k.val < 11264; omega⟩)
      * x1 (fun a => match a with | ⟨0, _⟩ => p | ⟨1, _⟩ => ⟨(z 1).val, (z 1).isLt⟩ | ⟨2, _⟩ => k))).symm
  refine Fin.sum_mul_add_congr fun p k hl => ?_
  rw [val_main_v2_apply, val_main_v1_apply]
  congr 1
  refine congrArg x1 (funext fun a => Fin.ext ?_)
  match a with
  | ⟨0, _⟩ => show p.val = ((z 1).val * 11264 + (p.val * 1408 + k.val)) / 1408 % 8; omega
  | ⟨1, _⟩ => show (z 1).val = ((z 1).val * 11264 + (p.val * 1408 + k.val)) / 11264; omega
  | ⟨2, _⟩ => show k.val = ((z 1).val * 11264 + (p.val * 1408 + k.val)) % 1408; omega

theorem arr : (dats m 0 c).arrAt 3 cfg0.N = val_main_v4 (F := Ideal) (a0 m c) (a1 m c) := by
  refine (dats m 0 c).arrAt_eq_of_covers 3 _ (by decide +kernel) fun t hf y => ?_
  have h7 : t.val % 8 = 7 := (flush0_3 t).mp hf
  blk_simp
  rw [after0_3, out_last t h7, Pipeline.eq_sum_fin_of_reset_step_apply_of_flush (fun n h => (outsAt0 (F := Ideal) m c n h).2) 8
    (fun _ => (0 : EReal)) (term m c) acc_first acc_next t h7 y, ref_val]
  refine (zero_add (M := EReal) _).trans (Fin.sum_fin_congr fun s => ?_)
  unfold term part
  refine Fin.sum_fin_congr fun k => ?_
  have hs : (8 * (t.val / 8) + s.val) % 8 = s.val := by omega
  have hd : (8 * (t.val / 8) + s.val) / 8 = t.val / 8 := by omega
  congr 1
  · blk_simp [iblk]
    rw [V_du, paired_val]
    blk_ext [ix0, ix3]
    rw [hs, show (s.val * 1408 + (L y k 1).val) / 1408 = s.val from by show (s.val * 1408 + k.val) / 1408 = s.val; omega,
      show (s.val * 1408 + (L y k 1).val) % 1408 = k.val from by show (s.val * 1408 + k.val) % 1408 = k.val; omega]
    rfl
  · blk_simp [iblk]
    rw [V_w]
    blk_ext [ix1, ix3]
    rw [hs]
    rfl

end Cert.UpXIdeal.Hand

namespace Cert.UpXRefIdeal.Hand

open Cert.UpXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.UpXRefIdeal.Hand

namespace Cert

open Idealize.ShloMosaic Idealize.ShloMosaic.TcCoe Idealize.SL.Sem
open Cert.UpXIdeal.Hand Cert.UpXRefIdeal.Read

theorem algebraic_up_x : algebraic_UpXIdeal_UpXRefIdeal (hUpXIdeal := Cert.UpXIdeal.Gen.facts)
    (hUpXRefIdeal := Cert.UpXRefIdeal.Gen.facts) :=
  fun m ρ m' ρ' hpre hag =>
    ⟨fun c => val_main_v4 (F := Ideal) (a0 m c) (a1 m c),
     (θ_run _ _ _).mono (fun r h c => ⟨(h c).1.trans arr, (h c).2⟩) (Cert.UpXIdeal.Value.run_blocks m ρ),
     (θ_run _ _ _).mono (fun r h c => ⟨(h c).1.trans ((val_main_v4_eq _ _).trans
       (congrArg₂ (val_main_v4 (F := Ideal)) (hag c).1 (hag c).2)), (h c).2⟩) (Cert.UpXRefIdeal.Value.run m' ρ')⟩

end Cert
-- ==== Proof.UpYVal.lean ====
/-
The up projection: the kernel's array, its columns put back in order, is the reference's.
-/
module

public import proofs.«01_k».proof.Defs
public import proofs.«01_k».proof.Proof.Prod
public import proofs.«01_k».proof.Proof.UpWVal
public import proofs.«01_k».proof.Proof.Gen.UpYIdeal.Frame
public import proofs.«01_k».proof.Proof.Gen.UpYRefIdeal.Run
public import proofs.«01_k».proof.Proof.Gen.UpYRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.UpYIdeal.Hand

open Cert.UpYIdeal Cert.UpYIdeal.Gen
open Idealize.ShloMosaic Idealize.ShloMosaic.TcCoe Idealize.SL.Sem
open Cert.UpYRefIdeal.Read (val_main_v2 val_main_v2_apply val_main_v1_apply val_main_v0_apply val_main_v2_eq)
open Cert.UpWIdeal.Hand (pidx)

variable (m : (ℓ : Loc nD τ sig) → Buf (Elt Ideal) ℓ) (c : Dev nD)

/-- The arguments as launched. -/
def a0 : S2048x2048.Idx → EReal := m ((c : Thread nD τ).loc main_arg0)
def a1 : S8x2048x1408.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_w : (V (F := Ideal) m c main_v1 : S8x2048x1408.Idx → EReal) = a1 m c := by
  unfold V a1
  after_reads_simp
  rfl

theorem ix0 : ∀ t : Fin cfg0.N, win0_0.index t = ![t.val / 8, 0] := (by decide +kernel : ∀ t : Fin grid0.N, _)
theorem ix1 : ∀ t : Fin cfg0.N, win0_1.index t = ![t.val % 8 % 2 * 4 + t.val % 8 / 2, 0, 0] :=
  (by decide +kernel : ∀ t : Fin grid0.N, _)
theorem ix2 : ∀ t : Fin cfg0.N, win0_2.index t = ![t.val / 8, t.val % 8] := (by decide +kernel : ∀ t : Fin grid0.N, _)

/-! ## One block -/

/-- The block's place in the left operand, and in the right one, at term `k` of a sum. -/
abbrev L (y : S1024x1408.Idx) (k : Fin 2048) : S1024x2048.Idx := fun a => match a with | ⟨0, _⟩ => ⟨(y 0).val, (y 0).isLt⟩ | ⟨1, _⟩ => k
abbrev R (y : S1024x1408.Idx) (k : Fin 2048) : S2048x1408.Idx := fun a => match a with | ⟨0, _⟩ => k | ⟨1, _⟩ => ⟨(y 1).val, (y 1).isLt⟩
abbrev R3 (y : S1024x1408.Idx) (k : Fin 2048) : S1x2048x1408.Idx := fun a => match a with
  | ⟨0, _⟩ => ⟨0, by show 0 < 1; omega⟩ | ⟨1, _⟩ => k | ⟨2, _⟩ => ⟨(y 1).val, (y 1).isLt⟩

theorem pay (a : S1024x2048.Idx → EReal) (b : S1x2048x1408.Idx → EReal) (y : S1024x1408.Idx) :
    k0_pay1 (F := Ideal) a b y = ∑ k : Fin 2048, a (L y k) * b (R3 y k) := by
  unfold k0_pay1
  rw [shapeCast_self, shapeCast_self]
  refine (Cert.Prod.dot_sum _ 2048 rfl rfl none a (shapeCast S2048x1408 b shapeCasts_S1x2048x1408_S2048x1408) y (L y) (R y)
    (fun k => funext fun a => match a with | ⟨0, _⟩ => rfl | ⟨1, _⟩ => rfl)
    (fun k => funext fun a => match a with | ⟨0, _⟩ => rfl | ⟨1, _⟩ => rfl)).trans ?_
  refine Fin.sum_fin_congr fun k => ?_
  congr 1
  exact shapeCast_apply b shapeCasts_S1x2048x1408_S2048x1408 (R y k) (R3 y k)
    (by rewrite [Shape.rowMajor_val_two, Shape.rowMajor_val_three]
        show (0 * 2048 + k.val) * 1408 + (y 1).val = k.val * 1408 + (y 1).val
        omega)

/-- The array the kernel writes has the reference's columns in the paired order. -/
theorem arr : (dats m 0 c).arrAt 2 cfg0.N = fun z : S2048x11264.Idx => val_main_v2 (F := Ideal) (a0 m c) (a1 m c) (pidx z) := by
  refine (dats m 0 c).arrAt_eq_of_covers 2 _ (by decide +kernel) fun t hf y => ?_
  have hy : (y 1).val < 1408 := (y 1).isLt
  have ht : t.val < 16 := t.isLt
  blk_simp
  rw [after0_2]
  frame_out
  rw [pay, val_main_v2_apply]
  refine Fin.sum_fin_congr fun k => ?_
  have hk : k.val < 2048 := k.isLt
  congr 1
  · blk_simp [iblk]
    rw [V_x]
    blk_ext [ix0, ix2]
  · rw [val_main_v1_apply, val_main_v0_apply]
    blk_simp [iblk]
    rw [V_w]
    blk_ext [ix1, ix2] <;>
      rw [show (t.val % 8 * 1408 + (y 1).val) / 1408 = t.val % 8 by omega,
        show (t.val % 8 * 1408 + (y 1).val) % 1408 = (y 1).val by omega]
    · omega
    · show k.val = _
      omega

/-! ## The columns put back -/

/-- The host's rearrangement of the kernel's array: gate and value columns, paired block by block, apart again. -/
def apart (x : S2048x11264.Idx → EReal) : S2048x11264.Idx → EReal :=
  shapeCast S2048x11264 (transpose S2048x2x4x1408 [0, 2, 1, 3] (shapeCast S2048x4x2x1408 x shapeCasts_S2048x11264_S2048x4x2x1408)
    transposes_S2048x4x2x1408_S2048x2x4x1408_0_2_1_3) shapeCasts_S2048x2x4x1408_S2048x11264

/-- Where a column of the result stands in the kernel's array. -/
abbrev qidx (z : S2048x11264.Idx) : S2048x11264.Idx := fun a => match a with
  | ⟨0, _⟩ => ⟨(z 0).val, (z 0).isLt⟩
  | ⟨1, _⟩ => ⟨((z 1).val / 1408 % 4 * 2 + (z 1).val / 1408 / 4) * 1408 + (z 1).val % 1408, by
      have h : (z 1).val < 11264 := (z 1).isLt
      show ((z 1).val / 1408 % 4 * 2 + (z 1).val / 1408 / 4) * 1408 + (z 1).val % 1408 < 11264; omega⟩

theorem apart_val (x : S2048x11264.Idx → EReal) (z : S2048x11264.Idx) : apart x z = x (qidx z) := by
  have h0 : (z 0).val < 2048 := (z 0).isLt
  have h1 : (z 1).val < 11264 := (z 1).isLt
  unfold apart
  rw [shapeCast_apply _ shapeCasts_S2048x2x4x1408_S2048x11264 z
    (fun a => match a with
      | ⟨0, _⟩ => ⟨(z 0).val, h0⟩ | ⟨1, _⟩ => ⟨(z 1).val / 1408 / 4, by show (z 1).val / 1408 / 4 < 2; omega⟩
      | ⟨2, _⟩ => ⟨(z 1).val / 1408 % 4, by show (z 1).val / 1408 % 4 < 4; omega⟩ | ⟨3, _⟩ => ⟨(z 1).val % 1408, by show (z 1).val % 1408 < 1408; omega⟩)
    (by rewrite [Shape.rowMajor_val_two, Shape.rowMajor_val_four]
        show (((z 0).val * 2 + (z 1).val / 1408 / 4) * 4 + (z 1).val / 1408 % 4) * 1408 + (z 1).val % 1408 = (z 0).val * 11264 + (z 1).val
        omega),
    transpose_apply [0, 2, 1, 3] _ transposes_S2048x4x2x1408_S2048x2x4x1408_0_2_1_3 _
    (fun a => match a with
      | ⟨0, _⟩ => ⟨(z 0).val, h0⟩ | ⟨1, _⟩ => ⟨(z 1).val / 1408 % 4, by show (z 1).val / 1408 % 4 < 4; omega⟩
      | ⟨2, _⟩ => ⟨(z 1).val / 1408 / 4, by show (z 1).val / 1408 / 4 < 2; omega⟩ | ⟨3, _⟩ => ⟨(z 1).val % 1408, by show (z 1).val % 1408 < 1408; omega⟩)
    (fun b => match b with | ⟨0, _⟩ => rfl | ⟨1, _⟩ => rfl | ⟨2, _⟩ => rfl | ⟨3, _⟩ => rfl),
    shapeCast_apply x shapeCasts_S2048x11264_S2048x4x2x1408 _ (qidx z)
    (by rewrite [Shape.rowMajor_val_two, Shape.rowMajor_val_four]
        show (z 0).val * 11264 + (((z 1).val / 1408 % 4 * 2 + (z 1).val / 1408 / 4) * 1408 + (z 1).val % 1408)
          = (((z 0).val * 4 + (z 1).val / 1408 % 4) * 2 + (z 1).val / 1408 / 4) * 1408 + (z 1).val % 1408
        omega)]

/-- Putting a column back and pairing it again leaves it where it was. -/
theorem pidx_qidx (z : S2048x11264.Idx) : pidx (qidx z) = z := by
  have h1 : (z 1).val < 11264 := (z 1).isLt
  refine funext fun a => Fin.ext ?_
  match a with
  | ⟨0, _⟩ => rfl
  | ⟨1, _⟩ =>
    show ((((z 1).val / 1408 % 4 * 2 + (z 1).val / 1408 / 4) * 1408 + (z 1).val % 1408) / 1408 % 2 * 4
        + (((z 1).val / 1408 % 4 * 2 + (z 1).val / 1408 / 4) * 1408 + (z 1).val % 1408) / 1408 / 2) * 1408
      + (((z 1).val / 1408 % 4 * 2 + (z 1).val / 1408 / 4) * 1408 + (z 1).val % 1408) % 1408 = (z 1).val
    omega

theorem arr_inj : Function.Injective (Pipeline.arrRef spec0) := by decide

/-- The result, in terms of the array the kernel writes. -/
theorem tail : Pipeline.afterTail₀ cfgs (dats m) 0 (V0 m) [hostOps1] c main_v5
    = apart ((dats m 0 c).arrAt 2 cfg0.N) := by
  have h := Pipeline.withArrays_arr spec0 arr_inj c (V0 m c) (fun w => (dats m 0 c).arrAt w cfg0.N) 2
  rw [← h]
  unfold Pipeline.afterTail₀ apart
  generalize Pipeline.withArrays _ c (V0 m c) _ = W
  simp only [List.flatten_cons, List.flatten_nil, List.append_nil]
  after_reads_simp
  rfl

theorem same : Pipeline.afterTail₀ cfgs (dats m) 0 (V0 m) [hostOps1] c main_v5 = val_main_v2 (F := Ideal) (a0 m c) (a1 m c) := by
  rw [tail, arr]
  refine funext fun z => (apart_val _ z).trans ?_
  show val_main_v2 (F := Ideal) (a0 m c) (a1 m c) (pidx (qidx z)) = _
  rw [pidx_qidx]

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = Pipeline.afterTail₀ cfgs (dats m) 0 (V0 m) [hostOps1] c main_v5) :=
  (θ_run defs _ _).mono (fun _ h c => (h c).2 main_v5 (Pipeline.mem_restRefs_of main_v5 (by decide) (by decide))) (run_main m ρ)

end Cert.UpYIdeal.Hand

namespace Cert.UpYRefIdeal.Hand

open Cert.UpYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.UpYRefIdeal.Hand

namespace Cert

open Idealize.ShloMosaic Idealize.ShloMosaic.TcCoe Idealize.SL.Sem
open Cert.UpYIdeal.Hand Cert.UpYRefIdeal.Read

theorem algebraic_up_y : algebraic_UpYIdeal_UpYRefIdeal (hUpYIdeal := Cert.UpYIdeal.Gen.facts)
    (hUpYRefIdeal := Cert.UpYRefIdeal.Gen.facts) :=
  fun m ρ m' ρ' hpre hag =>
    ⟨fun c => val_main_v2 (F := Ideal) (a0 m c) (a1 m c),
     (θ_run _ _ _).mono (fun r h c => ⟨(h.1 c).trans same, h.2.1 c⟩) (θ_run_and (run_vals m ρ) (Cert.UpYIdeal.Gen.frame m ρ)),
     (θ_run _ _ _).mono (fun r h c => ⟨(h c).1.trans ((val_main_v2_eq _ _).trans
       (congrArg₂ (val_main_v2 (F := Ideal)) (hag c).1 (hag c).2)), (h c).2⟩) (Cert.UpYRefIdeal.Value.run m' ρ')⟩

end Cert
-- ==== Proof.DownYVal.lean ====
/-
The down projection, added to the stream: the kernel's array is the reference's.
-/
module

public import proofs.«01_k».proof.Defs
public import proofs.«01_k».proof.Proof.Prod
public import Idealize.ShloMosaic.Lib.Pipeline.ReadBack
public import proofs.«01_k».proof.Proof.Gen.DownYIdeal.Value
public import proofs.«01_k».proof.Proof.Gen.DownYRefIdeal.Run
public import proofs.«01_k».proof.Proof.Gen.DownYRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.DownYIdeal.Hand

open Cert.DownYIdeal Cert.DownYIdeal.Gen
open Idealize.ShloMosaic Idealize.ShloMosaic.TcCoe Idealize.SL.Sem
open Cert.DownYRefIdeal.Read (val_main_v1 val_main_v1_apply val_main_v0_apply val_main_v1_eq)

variable (m : (ℓ : Loc nD τ sig) → Buf (Elt Ideal) ℓ) (c : Dev nD)

/-- The arguments as launched. -/
def a0 : S2048x5632.Idx → EReal := m ((c : Thread nD τ).loc main_arg0)
def a1 : S5632x2048.Idx → EReal := m ((c : Thread nD τ).loc main_arg1)
def a2 : S2048x2048.Idx → EReal := m ((c : Thread nD τ).loc main_arg2)

variable {m c}

/-! ## The arrays the kernel reads -/

theorem V_x : (V (F := Ideal) m c main_v0 : S2048x5632.Idx → EReal) = a0 m c := by
  unfold V a0
  after_reads_simp
  rfl
theorem V_w : (V (F := Ideal) m c main_v1 : S5632x2048.Idx → EReal) = a1 m c := by
  unfold V a1
  after_reads_simp
  rfl
theorem V_add : (V (F := Ideal) m c main_arg2 : S2048x2048.Idx → EReal) = a2 m c := V_main_arg2 m c

theorem ix0 : ∀ t : Fin cfg0.N, win0_0.index t = ![t.val / 4, t.val % 2] := (by decide +kernel : ∀ t : Fin grid0.N, _)
theorem ix1 : ∀ t : Fin cfg0.N, win0_1.index t = ![t.val % 2, t.val / 2 % 2] := (by decide +kernel : ∀ t : Fin grid0.N, _)
theorem ix2 : ∀ t : Fin cfg0.N, win0_2.index t = ![t.val / 4, t.val / 2 % 2] := (by decide +kernel : ∀ t : Fin grid0.N, _)
theorem ix3 : ∀ t : Fin cfg0.N, win0_3.index t = ![t.val / 4, t.val / 2 % 2] := (by decide +kernel : ∀ t : Fin grid0.N, _)

/-! ## One block -/

/-- The block's place in the left operand, and in the right one, at term `k` of a sum. -/
abbrev L (y : S1024x1024.Idx) (k : Fin 2816) : S1024x2816.Idx := fun a => match a with | ⟨0, _⟩ => ⟨(y 0).val, (y 0).isLt⟩ | ⟨1, _⟩ => k
abbrev R (y : S1024x1024.Idx) (k : Fin 2816) : S2816x1024.Idx := fun a => match a with | ⟨0, _⟩ => k | ⟨1, _⟩ => ⟨(y 1).val, (y 1).isLt⟩

/-- The sum a point adds. -/
def part (a : S1024x2816.Idx → EReal) (b : S2816x1024.Idx → EReal) (y : S1024x1024.Idx) : EReal :=
  ∑ k : Fin 2816, a (L y k) * b (R y k)

theorem pay1 (a : S1024x2816.Idx → EReal) (b : S2816x1024.Idx → EReal) (y : S1024x1024.Idx) :
    k0_pay1 (F := Ideal) a b y = part a b y := by
  unfold k0_pay1 part
  rw [shapeCast_self, shapeCast_self]
  exact Cert.Prod.dot_sum (φ₁ := .bf16) (φ₂ := .bf16) _ 2816 rfl rfl none a b y (L y) (R y)
    (fun k => funext fun a => match a with | ⟨0, _⟩ => rfl | ⟨1, _⟩ => rfl)
    (fun k => funext fun a => match a with | ⟨0, _⟩ => rfl | ⟨1, _⟩ => rfl)

theorem pay2 (a : S1024x2816.Idx → EReal) (b : S2816x1024.Idx → EReal) (y : S1024x1024.Idx) :
    k0_pay2 (F := Ideal) a b y = part a b y := by
  unfold k0_pay2
  rw [shapeCast_self]
  exact pay1 a b y

theorem pay3 (a : S1024x2816.Idx → EReal) (b : S2816x1024.Idx → EReal) (s : S1024x1024.Idx → EReal) (y : S1024x1024.Idx) :
    k0_pay3 (F := Ideal) a b s y = s y + part a b y := by
  unfold k0_pay3
  rw [shapeCast_self]
  exact congrArg (s y + ·) (pay1 a b y)

/-! ## The accumulator -/

/-- The term point `t` adds to the accumulator. -/
def term (m : (ℓ : Loc nD τ sig) → Buf (Elt Ideal) ℓ) (c : Dev nD) (t : Fin cfg0.N) (y : S1024x1024.Idx) : EReal :=
  part (iblk m c 0 t) (iblk m c 1 t) y

theorem acc_first (t : Fin cfg0.N) (h : t.val % 2 = 0) (y : S1024x1024.Idx) :
    (outsAt0 (F := Ideal) m c t.val t.isLt).2 y = (0 : EReal) + term m c t y := by
  rw [outsAt0_A m c t h (by omega) (by omega)]
  frame_out
  rw [pay2, zero_add]
  rfl

theorem acc_next (t : Fin cfg0.N) (h : ¬t.val % 2 = 0) (y : S1024x1024.Idx) :
    ((outsAt0 (F := Ideal) m c t.val t.isLt).2 y : EReal)
      = (outsAt0 (F := Ideal) m c (t.val - 1) (Nat.lt_of_le_of_lt (Nat.sub_le _ _) t.isLt)).2 y + term m c t y := by
  rw [outsAt0_B m c t h (by omega) (by omega)]
  frame_out
  simp only [read_unread_whole]
  rw [pay3]
  rfl

theorem out_last (t : Fin cfg0.N) (h : t.val % 2 = 1) (y : S1024x1024.Idx) :
    (outsAt0 (F := Ideal) m c t.val t.isLt).1 y
      = ((outsAt0 (F := Ideal) m c t.val t.isLt).2 y : EReal) + (iblk m c 2 t : S1024x1024.Idx → EReal) y := by
  rw [outsAt0_B m c t (by omega) h h]
  frame_out
  rfl

/-! ## The array -/

open Cert.DownYRefIdeal.Read (lidx_main_v0 ridx_main_v0) in
/-- The reference's array, its sum cut into the kernel's two halves. -/
theorem ref_val (x0 : S2048x5632.Idx → EReal) (x1 : S5632x2048.Idx → EReal) (x2 : S2048x2048.Idx → EReal) (z : S2048x2048.Idx) :
    val_main_v1 (F := Ideal) x0 x1 x2 z = (∑ s : Fin 2, ∑ k : Fin 2816,
      x0 (fun a => match a with
        | ⟨0, _⟩ => ⟨(z 0).val, (z 0).isLt⟩
        | ⟨1, _⟩ => ⟨s.val * 2816 + k.val, by have := s.isLt; show s.val * 2816 + k.val < 5632; omega⟩)
      * x1 (fun a => match a with
        | ⟨0, _⟩ => ⟨s.val * 2816 + k.val, by have := s.isLt; show s.val * 2816 + k.val < 5632; omega⟩
        | ⟨1, _⟩ => ⟨(z 1).val, (z 1).isLt⟩)) + x2 z := by
  refine (val_main_v1_apply (F := Ideal) x0 x1 x2 z).trans ((add_comm (x2 z : EReal) _).trans (congrArg (fun s : EReal => s + x2 z) ?_))
  rw [val_main_v0_apply]
  refine Eq.symm ?_
  refine Fin.sum_mul_add_congr fun p k hl => ?_
  rfl

theorem arr : (dats m 0 c).arrAt 3 cfg0.N = val_main_v1 (F := Ideal) (a0 m c) (a1 m c) (a2 m c) := by
  refine (dats m 0 c).arrAt_eq_of_covers 3 _ (by decide +kernel) fun t hf y => ?_
  have h1 : t.val % 2 = 1 := (flush0_3 t).mp hf
  blk_simp
  rw [after0_3, out_last t h1, Pipeline.eq_sum_fin_of_reset_step_apply_of_flush (fun n h => (outsAt0 (F := Ideal) m c n h).2) 2
    (fun _ => (0 : EReal)) (term m c) acc_first acc_next t h1 y, ref_val]
  refine congrArg₂ (fun p q : EReal => p + q) ((zero_add (M := EReal) _).trans (Fin.sum_fin_congr fun s => ?_)) ?_
  · have hs : (2 * (t.val / 2) + s.val) % 2 = s.val := by omega
    unfold term part
    refine Fin.sum_fin_congr fun k => congrArg₂ (fun p q : EReal => p * q) ?_ ?_
    · blk_simp [iblk]
      rw [V_x]
      blk_ext [ix0, ix3]
      rw [hs]
    · blk_simp [iblk]
      rw [V_w]
      blk_ext [ix1, ix3]
      rw [hs]
  · blk_simp [iblk]
    rw [V_add]
    blk_ext [ix2, ix3]

end Cert.DownYIdeal.Hand

namespace Cert.DownYRefIdeal.Hand

open Cert.DownYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Value.run m ρ)

end Cert.DownYRefIdeal.Hand

namespace Cert

open Idealize.ShloMosaic Idealize.ShloMosaic.TcCoe Idealize.SL.Sem
open Cert.DownYIdeal.Hand Cert.DownYRefIdeal.Read

theorem algebraic_down_y : algebraic_DownYIdeal_DownYRefIdeal (hDownYIdeal := Cert.DownYIdeal.Gen.facts)
    (hDownYRefIdeal := Cert.DownYRefIdeal.Gen.facts) :=
  fun m ρ m' ρ' hpre hag =>
    ⟨fun c => val_main_v1 (F := Ideal) (a0 m c) (a1 m c) (a2 m c),
     (θ_run _ _ _).mono (fun r h c => ⟨(h c).1.trans arr, (h c).2⟩) (Cert.DownYIdeal.Value.run_blocks m ρ),
     (θ_run _ _ _).mono (fun r h c => ⟨(h c).1.trans ((val_main_v1_eq _ _ _).trans
       (congr (congrArg₂ (val_main_v1 (F := Ideal)) (hag c).1 (hag c).2.1) (hag c).2.2)), (h c).2⟩) (Cert.DownYRefIdeal.Value.run m' ρ')⟩

end Cert
-- ==== Proof.GateYVal.lean ====
/-
The gate projection with its bias: the kernel's array is the reference's.
-/
module

public import proofs.«01_k».proof.Defs
public import proofs.«01_k».proof.Proof.Prod
public import proofs.«01_k».proof.Proof.Gen.GateYIdeal.Value
public import proofs.«01_k».proof.Proof.Gen.GateYRefIdeal.Run
public import proofs.«01_k».proof.Proof.Gen.GateYRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.GateYIdeal.Hand

open Cert.GateYIdeal Cert.GateYIdeal.Gen
open Idealize.ShloMosaic Idealize.ShloMosaic.TcCoe Idealize.SL.Sem
open Cert.GateYRefIdeal.Read (val_main_v4 val_main_v4_apply val_main_v3_apply val_main_v2_apply val_main_v1_apply val_main_v0_apply val_main_v4_eq)

variable (m : (ℓ : Loc nD τ sig) → Buf (Elt Ideal) ℓ) (c : Dev nD)

/-- The arguments as launched. -/
def a0 : S2048x2048.Idx → EReal := m ((c : Thread nD τ).loc main_arg0)
def a1 : S2048x2048.Idx → EReal := m ((c : Thread nD τ).loc main_arg1)
def a2 : S1x2048.Idx → EReal := m ((c : Thread nD τ).loc main_arg2)

variable {m c}

/-! ## The arrays the kernel reads -/

theorem V_x : (V (F := Ideal) m c main_v0 : S2048x2048.Idx → EReal) = a0 m c := by
  unfold V a0
  after_reads_simp
  rfl
theorem V_w : (V (F := Ideal) m c main_v1 : S2048x2048.Idx → EReal) = a1 m c := by
  unfold V a1
  after_reads_simp
  rfl
theorem V_add : (V (F := Ideal) m c main_arg2 : S1x2048.Idx → EReal) = a2 m c := V_main_arg2 m c

theorem ix0 : ∀ t : Fin cfg0.N, win0_0.index t = ![t.val / 2, 0] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![0, t.val % 2] := (by decide +kernel : ∀ t : Fin grid0.N, _)
theorem ix3 : ∀ t : Fin cfg0.N, win0_3.index t = ![t.val / 2, t.val % 2] := (by decide +kernel : ∀ t : Fin grid0.N, _)

/-! ## One block -/

/-- The block's place in the left operand, and in the right one, at term `k` of a sum. -/
abbrev L (y : S1024x1024.Idx) (k : Fin 2048) : S1024x2048.Idx := fun a => match a with | ⟨0, _⟩ => ⟨(y 0).val, (y 0).isLt⟩ | ⟨1, _⟩ => k
abbrev R (y : S1024x1024.Idx) (k : Fin 2048) : S2048x1024.Idx := fun a => match a with | ⟨0, _⟩ => k | ⟨1, _⟩ => ⟨(y 1).val, (y 1).isLt⟩

abbrev B (y : S1024x1024.Idx) : S1x1024.Idx := fun a => match a with | ⟨0, _⟩ => ⟨0, Nat.one_pos⟩ | ⟨1, _⟩ => ⟨(y 1).val, (y 1).isLt⟩

theorem pay (a : S1024x2048.Idx → EReal) (b : S2048x1024.Idx → EReal) (d : S1x1024.Idx → EReal) (y : S1024x1024.Idx) :
    k0_pay1 (F := Ideal) a b d y = (∑ k : Fin 2048, a (L y k) * b (R y k)) + d (B y) := by
  unfold k0_pay1
  rw [shapeCast_self, shapeCast_self]
  refine congrArg₂ (fun p q : EReal => p + q) (Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl))
    (broadcastTo_apply d broadcasts_S1x1024_S1024x1024 y (B y) (fun a => match a with | ⟨0, _⟩ => rfl | ⟨1, _⟩ => rfl))

open Cert.GateYRefIdeal.Read (idx_main_v1 idx_main_v2 idx_main_v3 lidx_main_v0 ridx_main_v0) in
/-- The reference's array, at an entry. -/
theorem ref_val (x0 x1 : S2048x2048.Idx → EReal) (x2 : S1x2048.Idx → EReal) (z : S2048x2048.Idx) :
    val_main_v4 (F := Ideal) x0 x1 x2 z = (∑ k : Fin 2048, x0 (lidx_main_v0 z k) * x1 (ridx_main_v0 z k))
      + x2 (idx_main_v1 (idx_main_v2 (idx_main_v3 z))) := by
  refine (val_main_v4_apply (F := Ideal) x0 x1 x2 z).trans ?_
  rw [val_main_v0_apply, val_main_v3_apply, val_main_v2_apply, val_main_v1_apply]
  rfl

theorem arr : (dats m 0 c).arrAt 3 cfg0.N = val_main_v4 (F := Ideal) (a0 m c) (a1 m c) (a2 m c) := by
  refine (dats m 0 c).arrAt_eq_of_covers 3 _ (by decide +kernel) fun t hf y => ?_
  blk_simp
  rw [after0_3]
  frame_out
  rw [pay, ref_val]
  refine congrArg₂ (fun p q : EReal => p + q) (Fin.sum_fin_congr fun k => congrArg₂ (fun p q : EReal => p * q) ?_ ?_) ?_
  · blk_simp [iblk]
    rw [V_x]
    blk_ext [ix0, ix3]
  · blk_simp [iblk]
    rw [V_w]
    blk_ext [ix1, ix3]
  · blk_simp [iblk]
    rw [V_add]
    blk_ext [ix2, ix3]

end Cert.GateYIdeal.Hand

namespace Cert.GateYRefIdeal.Hand

open Cert.GateYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Value.run m ρ)

end Cert.GateYRefIdeal.Hand

namespace Cert

open Idealize.ShloMosaic Idealize.ShloMosaic.TcCoe Idealize.SL.Sem
open Cert.GateYIdeal.Hand Cert.GateYRefIdeal.Read

theorem algebraic_gate_y : algebraic_GateYIdeal_GateYRefIdeal (hGateYIdeal := Cert.GateYIdeal.Gen.facts)
    (hGateYRefIdeal := Cert.GateYRefIdeal.Gen.facts) :=
  fun m ρ m' ρ' hpre hag =>
    ⟨fun c => val_main_v4 (F := Ideal) (a0 m c) (a1 m c) (a2 m c),
     (θ_run _ _ _).mono (fun r h c => ⟨(h c).1.trans arr, (h c).2⟩) (Cert.GateYIdeal.Value.run_blocks m ρ),
     (θ_run _ _ _).mono (fun r h c => ⟨(h c).1.trans ((val_main_v4_eq _ _ _).trans
       (congr (congrArg₂ (val_main_v4 (F := Ideal)) (hag c).1 (hag c).2.1) (hag c).2.2)), (h c).2⟩) (Cert.GateYRefIdeal.Value.run m' ρ')⟩

end Cert
-- ==== Proof.GateWVal.lean ====
/-
The gradient of the gate projection's weight: the kernel's array is the reference's.
-/
module

public import proofs.«01_k».proof.Defs
public import proofs.«01_k».proof.Proof.Prod
public import proofs.«01_k».proof.Proof.Gen.GateWIdeal.Value
public import proofs.«01_k».proof.Proof.Gen.GateWRefIdeal.Run
public import proofs.«01_k».proof.Proof.Gen.GateWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.GateWIdeal.Hand

open Cert.GateWIdeal Cert.GateWIdeal.Gen
open Idealize.ShloMosaic Idealize.ShloMosaic.TcCoe Idealize.SL.Sem
open Cert.GateWRefIdeal.Read (val_main_v3 val_main_v3_apply val_main_v2_apply val_main_v4 val_main_v4_apply val_main_v4_eq)

variable (m : (ℓ : Loc nD τ sig) → Buf (Elt Ideal) ℓ) (c : Dev nD)

/-- The arguments as launched. -/
def a0 : S2048x2048.Idx → EReal := m ((c : Thread nD τ).loc main_arg0)
def a1 : S2048x2048.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_w : (V (F := Ideal) m c main_v1 : S2048x2048.Idx → EReal) = a1 m c := by
  unfold V a1
  after_reads_simp
  rfl

theorem ix0 : ∀ t : Fin cfg0.N, win0_0.index t = ![0, t.val / 2] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)

/-! ## One block -/

/-- The block's place in the left operand, and in the right one, at term `k` of a sum. -/
abbrev L (y : S1024x1024.Idx) (k : Fin 2048) : S2048x1024.Idx := fun a => match a with | ⟨0, _⟩ => k | ⟨1, _⟩ => ⟨(y 0).val, (y 0).isLt⟩
abbrev R (y : S1024x1024.Idx) (k : Fin 2048) : S2048x1024.Idx := fun a => match a with | ⟨0, _⟩ => k | ⟨1, _⟩ => ⟨(y 1).val, (y 1).isLt⟩

theorem pay (a b : S2048x1024.Idx → EReal) (y : S1024x1024.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

open Cert.GateWRefIdeal.Read (idx_main_v3 lidx_main_v2 ridx_main_v2) in
/-- The reference's array, with each product's factors in the kernel's order. -/
theorem ref_val (x0 x1 : S2048x2048.Idx → EReal) (z : S2048x2048.Idx) :
    val_main_v4 (F := Ideal) x0 x1 z = ∑ k : Fin 2048, x0 (ridx_main_v2 (idx_main_v3 z) k) * x1 (lidx_main_v2 (idx_main_v3 z) k) := by
  refine (val_main_v4_apply (F := Ideal) x0 x1 z).trans ?_
  refine Eq.trans (?_ : _ = val_main_v3 (F := Ideal) x0 x1 z) ?_
  · rfl
  rw [val_main_v3_apply, val_main_v2_apply]
  exact Finset.sum_congr rfl fun k _ => mul_comm _ _

theorem arr : (dats m 0 c).arrAt 2 cfg0.N = val_main_v4 (F := Ideal) (a0 m c) (a1 m c) := by
  refine (dats m 0 c).arrAt_eq_of_covers 2 _ (by decide +kernel) fun t hf y => ?_
  blk_simp
  rw [after0_2]
  frame_out
  rw [pay, ref_val]
  refine Fin.sum_fin_congr fun k => ?_
  congr 1
  · blk_simp [iblk]
    rw [V_x]
    blk_ext [ix0, ix2]
  · blk_simp [iblk]
    rw [V_w]
    blk_ext [ix1, ix2]

end Cert.GateWIdeal.Hand

namespace Cert.GateWRefIdeal.Hand

open Cert.GateWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.GateWRefIdeal.Hand

namespace Cert

open Idealize.ShloMosaic Idealize.ShloMosaic.TcCoe Idealize.SL.Sem
open Cert.GateWIdeal.Hand Cert.GateWRefIdeal.Read

theorem algebraic_gate_w : algebraic_GateWIdeal_GateWRefIdeal (hGateWIdeal := Cert.GateWIdeal.Gen.facts)
    (hGateWRefIdeal := Cert.GateWRefIdeal.Gen.facts) :=
  fun m ρ m' ρ' hpre hag =>
    ⟨fun c => val_main_v4 (F := Ideal) (a0 m c) (a1 m c),
     (θ_run _ _ _).mono (fun r h c => ⟨(h c).1.trans arr, (h c).2⟩) (Cert.GateWIdeal.Value.run_blocks m ρ),
     (θ_run _ _ _).mono (fun r h c => ⟨(h c).1.trans ((val_main_v4_eq _ _).trans
       (congrArg₂ (val_main_v4 (F := Ideal)) (hag c).1 (hag c).2)), (h c).2⟩) (Cert.GateWRefIdeal.Value.run m' ρ')⟩

end Cert
-- ==== Proof.GateXVal.lean ====
/-
The gradient of the gate projection's input: the kernel's array is the reference's.
-/
module

public import proofs.«01_k».proof.Defs
public import proofs.«01_k».proof.Proof.Prod
public import proofs.«01_k».proof.Proof.Gen.GateXIdeal.Value
public import proofs.«01_k».proof.Proof.Gen.GateXRefIdeal.Run
public import proofs.«01_k».proof.Proof.Gen.GateXRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.GateXIdeal.Hand

open Cert.GateXIdeal Cert.GateXIdeal.Gen
open Idealize.ShloMosaic Idealize.ShloMosaic.TcCoe Idealize.SL.Sem
open Cert.GateXRefIdeal.Read (val_main_v2 val_main_v2_apply val_main_v2_eq)

variable (m : (ℓ : Loc nD τ sig) → Buf (Elt Ideal) ℓ) (c : Dev nD)

/-- The arguments as launched. -/
def a0 : S2048x2048.Idx → EReal := m ((c : Thread nD τ).loc main_arg0)
def a1 : S2048x2048.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_w : (V (F := Ideal) m c main_v1 : S2048x2048.Idx → EReal) = a1 m c := by
  unfold V a1
  after_reads_simp
  rfl

theorem ix0 : ∀ t : Fin cfg0.N, win0_0.index t = ![t.val / 2, 0] := (by decide +kernel : ∀ t : Fin grid0.N, _)
theorem ix1 : ∀ t : Fin cfg0.N, win0_1.index t = ![t.val % 2, 0] := (by decide +kernel : ∀ t : Fin grid0.N, _)
theorem ix2 : ∀ t : Fin cfg0.N, win0_2.index t = ![t.val / 2, t.val % 2] := (by decide +kernel : ∀ t : Fin grid0.N, _)

/-! ## One block -/

/-- The block's place in the left operand, and in the right one, at term `k` of a sum. -/
abbrev L (y : S1024x1024.Idx) (k : Fin 2048) : S1024x2048.Idx := fun a => match a with | ⟨0, _⟩ => ⟨(y 0).val, (y 0).isLt⟩ | ⟨1, _⟩ => k
abbrev R (y : S1024x1024.Idx) (k : Fin 2048) : S1024x2048.Idx := fun a => match a with | ⟨0, _⟩ => ⟨(y 1).val, (y 1).isLt⟩ | ⟨1, _⟩ => k

theorem pay (a b : S1024x2048.Idx → EReal) (y : S1024x1024.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

theorem arr : (dats m 0 c).arrAt 2 cfg0.N = val_main_v2 (F := Ideal) (a0 m c) (a1 m c) := by
  refine (dats m 0 c).arrAt_eq_of_covers 2 _ (by decide +kernel) fun t hf y => ?_
  blk_simp
  rw [after0_2]
  frame_out
  rw [pay, val_main_v2_apply]
  refine Fin.sum_fin_congr fun k => ?_
  congr 1
  · blk_simp [iblk]
    rw [V_x]
    blk_ext [ix0, ix2]
  · blk_simp [iblk]
    rw [V_w]
    blk_ext [ix1, ix2]

end Cert.GateXIdeal.Hand

namespace Cert.GateXRefIdeal.Hand

open Cert.GateXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.GateXRefIdeal.Hand

namespace Cert

open Idealize.ShloMosaic Idealize.ShloMosaic.TcCoe Idealize.SL.Sem
open Cert.GateXIdeal.Hand Cert.GateXRefIdeal.Read

theorem algebraic_gate_x : algebraic_GateXIdeal_GateXRefIdeal (hGateXIdeal := Cert.GateXIdeal.Gen.facts)
    (hGateXRefIdeal := Cert.GateXRefIdeal.Gen.facts) :=
  fun m ρ m' ρ' hpre hag =>
    ⟨fun c => val_main_v2 (F := Ideal) (a0 m c) (a1 m c),
     (θ_run _ _ _).mono (fun r h c => ⟨(h c).1.trans arr, (h c).2⟩) (Cert.GateXIdeal.Value.run_blocks m ρ),
     (θ_run _ _ _).mono (fun r h c => ⟨(h c).1.trans ((val_main_v2_eq _ _).trans
       (congrArg₂ (val_main_v2 (F := Ideal)) (hag c).1 (hag c).2)), (h c).2⟩) (Cert.GateXRefIdeal.Value.run m' ρ')⟩

end Cert
-- ==== Proof.OutSVal.lean ====
/-
The output projection of the state-space half, added to the stream: the kernel's array is the reference's.
-/
module

public import proofs.«01_k».proof.Defs
public import proofs.«01_k».proof.Proof.Prod
public import proofs.«01_k».proof.Proof.Gen.OutSIdeal.Value
public import proofs.«01_k».proof.Proof.Gen.OutSRefIdeal.Run
public import proofs.«01_k».proof.Proof.Gen.OutSRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.OutSIdeal.Hand

open Cert.OutSIdeal Cert.OutSIdeal.Gen
open Idealize.ShloMosaic Idealize.ShloMosaic.TcCoe Idealize.SL.Sem
open Cert.OutSRefIdeal.Read (val_main_v2 val_main_v2_apply val_main_v1_apply val_main_v0_apply val_main_v2_eq)

variable (m : (ℓ : Loc nD τ sig) → Buf (Elt Ideal) ℓ) (c : Dev nD)

/-- The arguments as launched. -/
def a0 : S2048x1024.Idx → EReal := m ((c : Thread nD τ).loc main_arg0)
def a1 : S2048x2048.Idx → EReal := m ((c : Thread nD τ).loc main_arg1)
def a2 : S2048x2048.Idx → EReal := m ((c : Thread nD τ).loc main_arg2)

variable {m c}

/-! ## The arrays the kernel reads -/

theorem V_x : (V (F := Ideal) m c main_v0 : S2048x1024.Idx → EReal) = a0 m c := by
  unfold V a0
  after_reads_simp
  rfl
theorem V_w : (V (F := Ideal) m c main_v1 : S2048x2048.Idx → EReal) = a1 m c := by
  unfold V a1
  after_reads_simp
  rfl
theorem V_add : (V (F := Ideal) m c main_arg2 : S2048x2048.Idx → EReal) = a2 m c := V_main_arg2 m c

theorem ix0 : ∀ t : Fin cfg0.N, win0_0.index t = ![t.val / 2, 0] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)
theorem ix3 : ∀ t : Fin cfg0.N, win0_3.index t = ![t.val / 2, t.val % 2] := (by decide +kernel : ∀ t : Fin grid0.N, _)

/-! ## One block -/

/-- The block's place in the left operand, and in the right one, at term `k` of a sum. -/
abbrev L (y : S1024x1024.Idx) (k : Fin 1024) : S1024x1024.Idx := fun a => match a with | ⟨0, _⟩ => ⟨(y 0).val, (y 0).isLt⟩ | ⟨1, _⟩ => k
abbrev R (y : S1024x1024.Idx) (k : Fin 1024) : S1024x1024.Idx := fun a => match a with | ⟨0, _⟩ => k | ⟨1, _⟩ => ⟨(y 1).val, (y 1).isLt⟩

theorem pay (a b d : S1024x1024.Idx → EReal) (y : S1024x1024.Idx) :
    k0_pay1 (F := Ideal) a b d y = (∑ k : Fin 1024, a (L y k) * b (R y k)) + d y := by
  unfold k0_pay1
  rw [shapeCast_self, shapeCast_self]
  exact congrArg (fun s : EReal => s + d y) (Cert.Prod.dot_sum (φ₁ := .bf16) (φ₂ := .bf16) _ 1024 rfl rfl none a b y (L y) (R y)
    (fun k => funext fun a => match a with | ⟨0, _⟩ => rfl | ⟨1, _⟩ => rfl)
    (fun k => funext fun a => match a with | ⟨0, _⟩ => rfl | ⟨1, _⟩ => rfl))

open Cert.OutSRefIdeal.Read (idx_main_v0 lidx_main_v1 ridx_main_v1) in
/-- The reference's array, the sum before the stream. -/
theorem ref_val (x0 : S2048x1024.Idx → EReal) (x1 x2 : S2048x2048.Idx → EReal) (z : S2048x2048.Idx) :
    val_main_v2 (F := Ideal) x0 x1 x2 z = (∑ k : Fin 1024, x0 (lidx_main_v1 z k) * x1 (idx_main_v0 (ridx_main_v1 z k))) + x2 z := by
  refine (val_main_v2_apply (F := Ideal) x0 x1 x2 z).trans ((add_comm (x2 z : EReal) _).trans (congrArg (fun s : EReal => s + x2 z) ?_))
  rw [val_main_v1_apply]
  exact Finset.sum_congr rfl fun k _ => by rw [val_main_v0_apply]

theorem arr : (dats m 0 c).arrAt 3 cfg0.N = val_main_v2 (F := Ideal) (a0 m c) (a1 m c) (a2 m c) := by
  refine (dats m 0 c).arrAt_eq_of_covers 3 _ (by decide +kernel) fun t hf y => ?_
  blk_simp
  rw [after0_3]
  frame_out
  rw [pay, ref_val]
  refine congrArg₂ (fun p q : EReal => p + q) (Fin.sum_fin_congr fun k => congrArg₂ (fun p q : EReal => p * q) ?_ ?_) ?_
  · blk_simp [iblk]
    rw [V_x]
    blk_ext [ix0, ix3]
  · blk_simp [iblk]
    rw [V_w]
    blk_ext [ix1, ix3]
  · blk_simp [iblk]
    rw [V_add]
    blk_ext [ix2, ix3]

end Cert.OutSIdeal.Hand

namespace Cert.OutSRefIdeal.Hand

open Cert.OutSRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Value.run m ρ)

end Cert.OutSRefIdeal.Hand

namespace Cert

open Idealize.ShloMosaic Idealize.ShloMosaic.TcCoe Idealize.SL.Sem
open Cert.OutSIdeal.Hand Cert.OutSRefIdeal.Read

theorem algebraic_out_s : algebraic_OutSIdeal_OutSRefIdeal (hOutSIdeal := Cert.OutSIdeal.Gen.facts)
    (hOutSRefIdeal := Cert.OutSRefIdeal.Gen.facts) :=
  fun m ρ m' ρ' hpre hag =>
    ⟨fun c => val_main_v2 (F := Ideal) (a0 m c) (a1 m c) (a2 m c),
     (θ_run _ _ _).mono (fun r h c => ⟨(h c).1.trans arr, (h c).2⟩) (Cert.OutSIdeal.Value.run_blocks m ρ),
     (θ_run _ _ _).mono (fun r h c => ⟨(h c).1.trans ((val_main_v2_eq _ _ _).trans
       (congr (congrArg₂ (val_main_v2 (F := Ideal)) (hag c).1 (hag c).2.1) (hag c).2.2)), (h c).2⟩) (Cert.OutSRefIdeal.Value.run m' ρ')⟩

end Cert
-- ==== Proof.OutMVal.lean ====
/-
The output projection of the attention's half, added to the stream: the kernel's array is the reference's.
-/
module

public import proofs.«01_k».proof.Defs
public import proofs.«01_k».proof.Proof.Prod
public import proofs.«01_k».proof.Proof.Gen.OutMIdeal.Value
public import proofs.«01_k».proof.Proof.Gen.OutMRefIdeal.Run
public import proofs.«01_k».proof.Proof.Gen.OutMRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.OutMIdeal.Hand

open Cert.OutMIdeal Cert.OutMIdeal.Gen
open Idealize.ShloMosaic Idealize.ShloMosaic.TcCoe Idealize.SL.Sem
open Cert.OutMRefIdeal.Read (val_main_v2 val_main_v2_apply val_main_v1_apply val_main_v0_apply val_main_v2_eq)

variable (m : (ℓ : Loc nD τ sig) → Buf (Elt Ideal) ℓ) (c : Dev nD)

/-- The arguments as launched. -/
def a0 : S2048x1024.Idx → EReal := m ((c : Thread nD τ).loc main_arg0)
def a1 : S2048x2048.Idx → EReal := m ((c : Thread nD τ).loc main_arg1)
def a2 : S2048x2048.Idx → EReal := m ((c : Thread nD τ).loc main_arg2)

variable {m c}

/-! ## The arrays the kernel reads -/

theorem V_x : (V (F := Ideal) m c main_v0 : S2048x1024.Idx → EReal) = a0 m c := by
  unfold V a0
  after_reads_simp
  rfl
theorem V_w : (V (F := Ideal) m c main_v1 : S2048x2048.Idx → EReal) = a1 m c := by
  unfold V a1
  after_reads_simp
  rfl
theorem V_add : (V (F := Ideal) m c main_arg2 : S2048x2048.Idx → EReal) = a2 m c := V_main_arg2 m c

theorem ix0 : ∀ t : Fin cfg0.N, win0_0.index t = ![t.val / 2, 0] := (by decide +kernel : ∀ t : Fin grid0.N, _)
theorem ix1 : ∀ t : Fin cfg0.N, win0_1.index t = ![1, t.val % 2] := (by decide +kernel : ∀ t : Fin grid0.N, _)
theorem ix2 : ∀ t : Fin cfg0.N, win0_2.index t = ![t.val / 2, t.val % 2] := (by decide +kernel : ∀ t : Fin grid0.N, _)
theorem ix3 : ∀ t : Fin cfg0.N, win0_3.index t = ![t.val / 2, t.val % 2] := (by decide +kernel : ∀ t : Fin grid0.N, _)

/-! ## One block -/

/-- The block's place in the left operand, and in the right one, at term `k` of a sum. -/
abbrev L (y : S1024x1024.Idx) (k : Fin 1024) : S1024x1024.Idx := fun a => match a with | ⟨0, _⟩ => ⟨(y 0).val, (y 0).isLt⟩ | ⟨1, _⟩ => k
abbrev R (y : S1024x1024.Idx) (k : Fin 1024) : S1024x1024.Idx := fun a => match a with | ⟨0, _⟩ => k | ⟨1, _⟩ => ⟨(y 1).val, (y 1).isLt⟩

theorem pay (a b d : S1024x1024.Idx → EReal) (y : S1024x1024.Idx) :
    k0_pay1 (F := Ideal) a b d y = (∑ k : Fin 1024, a (L y k) * b (R y k)) + d y := by
  unfold k0_pay1
  rw [shapeCast_self, shapeCast_self]
  exact congrArg (fun s : EReal => s + d y) (Cert.Prod.dot_sum (φ₁ := .bf16) (φ₂ := .bf16) _ 1024 rfl rfl none a b y (L y) (R y)
    (fun k => funext fun a => match a with | ⟨0, _⟩ => rfl | ⟨1, _⟩ => rfl)
    (fun k => funext fun a => match a with | ⟨0, _⟩ => rfl | ⟨1, _⟩ => rfl))

open Cert.OutMRefIdeal.Read (idx_main_v0 lidx_main_v1 ridx_main_v1) in
/-- The reference's array, the sum before the stream. -/
theorem ref_val (x0 : S2048x1024.Idx → EReal) (x1 x2 : S2048x2048.Idx → EReal) (z : S2048x2048.Idx) :
    val_main_v2 (F := Ideal) x0 x1 x2 z = (∑ k : Fin 1024, x0 (lidx_main_v1 z k) * x1 (idx_main_v0 (ridx_main_v1 z k))) + x2 z := by
  refine (val_main_v2_apply (F := Ideal) x0 x1 x2 z).trans ((add_comm (x2 z : EReal) _).trans (congrArg (fun s : EReal => s + x2 z) ?_))
  rw [val_main_v1_apply]
  exact Finset.sum_congr rfl fun k _ => by rw [val_main_v0_apply]

theorem arr : (dats m 0 c).arrAt 3 cfg0.N = val_main_v2 (F := Ideal) (a0 m c) (a1 m c) (a2 m c) := by
  refine (dats m 0 c).arrAt_eq_of_covers 3 _ (by decide +kernel) fun t hf y => ?_
  blk_simp
  rw [after0_3]
  frame_out
  rw [pay, ref_val]
  refine congrArg₂ (fun p q : EReal => p + q) (Fin.sum_fin_congr fun k => congrArg₂ (fun p q : EReal => p * q) ?_ ?_) ?_
  · blk_simp [iblk]
    rw [V_x]
    blk_ext [ix0, ix3]
  · blk_simp [iblk]
    rw [V_w]
    blk_ext [ix1, ix3]
  · blk_simp [iblk]
    rw [V_add]
    blk_ext [ix2, ix3]

end Cert.OutMIdeal.Hand

namespace Cert.OutMRefIdeal.Hand

open Cert.OutMRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) _⟩) (Value.run m ρ)

end Cert.OutMRefIdeal.Hand

namespace Cert

open Idealize.ShloMosaic Idealize.ShloMosaic.TcCoe Idealize.SL.Sem
open Cert.OutMIdeal.Hand Cert.OutMRefIdeal.Read

theorem algebraic_out_m : algebraic_OutMIdeal_OutMRefIdeal (hOutMIdeal := Cert.OutMIdeal.Gen.facts)
    (hOutMRefIdeal := Cert.OutMRefIdeal.Gen.facts) :=
  fun m ρ m' ρ' hpre hag =>
    ⟨fun c => val_main_v2 (F := Ideal) (a0 m c) (a1 m c) (a2 m c),
     (θ_run _ _ _).mono (fun r h c => ⟨(h c).1.trans arr, (h c).2⟩) (Cert.OutMIdeal.Value.run_blocks m ρ),
     (θ_run _ _ _).mono (fun r h c => ⟨(h c).1.trans ((val_main_v2_eq _ _ _).trans
       (congr (congrArg₂ (val_main_v2 (F := Ideal)) (hag c).1 (hag c).2.1) (hag c).2.2)), (h c).2⟩) (Cert.OutMRefIdeal.Value.run m' ρ')⟩

end Cert
-- ==== Proof.OutWVal.lean ====
/-
The gradient of the output projection's weight, half of its rows: the kernel's array is the reference's.
-/
module

public import proofs.«01_k».proof.Defs
public import proofs.«01_k».proof.Proof.Prod
public import proofs.«01_k».proof.Proof.Gen.OutWIdeal.Value
public import proofs.«01_k».proof.Proof.Gen.OutWRefIdeal.Run
public import proofs.«01_k».proof.Proof.Gen.OutWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.OutWIdeal.Hand

open Cert.OutWIdeal Cert.OutWIdeal.Gen
open Idealize.ShloMosaic Idealize.ShloMosaic.TcCoe Idealize.SL.Sem
open Cert.OutWRefIdeal.Read (val_main_v3 val_main_v3_apply val_main_v2_apply val_main_v4 val_main_v4_apply val_main_v4_eq)

variable (m : (ℓ : Loc nD τ sig) → Buf (Elt Ideal) ℓ) (c : Dev nD)

/-- The arguments as launched. -/
def a0 : S2048x1024.Idx → EReal := m ((c : Thread nD τ).loc main_arg0)
def a1 : S2048x2048.Idx → EReal := m ((c : Thread nD τ).loc main_arg1)

variable {m c}

/-! ## The arrays the kernel reads -/

theorem V_x : (V (F := Ideal) m c main_v0 : S2048x1024.Idx → EReal) = a0 m c := by
  unfold V a0
  after_reads_simp
  rfl
theorem V_w : (V (F := Ideal) m c main_v1 : S2048x2048.Idx → EReal) = a1 m c := by
  unfold V a1
  after_reads_simp
  rfl

theorem ix0 : ∀ t : Fin cfg0.N, win0_0.index t = ![0, t.val / 2] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)

/-! ## One block -/

/-- The block's place in the left operand, and in the right one, at term `k` of a sum. -/
abbrev L (y : S1024x1024.Idx) (k : Fin 2048) : S2048x1024.Idx := fun a => match a with | ⟨0, _⟩ => k | ⟨1, _⟩ => ⟨(y 0).val, (y 0).isLt⟩
abbrev R (y : S1024x1024.Idx) (k : Fin 2048) : S2048x1024.Idx := fun a => match a with | ⟨0, _⟩ => k | ⟨1, _⟩ => ⟨(y 1).val, (y 1).isLt⟩

theorem pay (a b : S2048x1024.Idx → EReal) (y : S1024x1024.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

open Cert.OutWRefIdeal.Read (idx_main_v3 lidx_main_v2 ridx_main_v2) in
/-- The reference's array, with each product's factors in the kernel's order. -/
theorem ref_val (x0 : S2048x1024.Idx → EReal) (x1 : S2048x2048.Idx → EReal) (z : S1024x2048.Idx) :
    val_main_v4 (F := Ideal) x0 x1 z = ∑ k : Fin 2048, x0 (ridx_main_v2 (idx_main_v3 z) k) * x1 (lidx_main_v2 (idx_main_v3 z) k) := by
  refine (val_main_v4_apply (F := Ideal) x0 x1 z).trans ?_
  refine Eq.trans (?_ : _ = val_main_v3 (F := Ideal) x0 x1 z) ?_
  · rfl
  rw [val_main_v3_apply, val_main_v2_apply]
  exact Finset.sum_congr rfl fun k _ => mul_comm _ _

theorem arr : (dats m 0 c).arrAt 2 cfg0.N = val_main_v4 (F := Ideal) (a0 m c) (a1 m c) := by
  refine (dats m 0 c).arrAt_eq_of_covers 2 _ (by decide +kernel) fun t hf y => ?_
  blk_simp
  rw [after0_2]
  frame_out
  rw [pay, ref_val]
  refine Fin.sum_fin_congr fun k => ?_
  congr 1
  · blk_simp [iblk]
    rw [V_x]
    blk_ext [ix0, ix2]
  · blk_simp [iblk]
    rw [V_w]
    blk_ext [ix1, ix2]

end Cert.OutWIdeal.Hand

namespace Cert.OutWRefIdeal.Hand

open Cert.OutWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.OutWRefIdeal.Hand

namespace Cert

open Idealize.ShloMosaic Idealize.ShloMosaic.TcCoe Idealize.SL.Sem
open Cert.OutWIdeal.Hand Cert.OutWRefIdeal.Read

theorem algebraic_out_w : algebraic_OutWIdeal_OutWRefIdeal (hOutWIdeal := Cert.OutWIdeal.Gen.facts)
    (hOutWRefIdeal := Cert.OutWRefIdeal.Gen.facts) :=
  fun m ρ m' ρ' hpre hag =>
    ⟨fun c => val_main_v4 (F := Ideal) (a0 m c) (a1 m c),
     (θ_run _ _ _).mono (fun r h c => ⟨(h c).1.trans arr, (h c).2⟩) (Cert.OutWIdeal.Value.run_blocks m ρ),
     (θ_run _ _ _).mono (fun r h c => ⟨(h c).1.trans ((val_main_v4_eq _ _).trans
       (congrArg₂ (val_main_v4 (F := Ideal)) (hag c).1 (hag c).2)), (h c).2⟩) (Cert.OutWRefIdeal.Value.run m' ρ')⟩

end Cert
-- ==== Proof.Cols.lean ====
/-
The input projection's columns: their order in the kernel's arrays, with two gaps of zeros, and in the reference's.
-/
module

public import proofs.«01_k».proof.Defs
public import proofs.«01_k».proof.Proof.Gen.InYIdeal.Frame
public import proofs.«01_k».proof.Proof.Gen.InXIdeal.Frame
public import Idealize.ShloMosaic.Lib.Pipeline.ValueKit
public import Idealize.ShloMosaic.PureOps.Ideal.Laws

@[expose] public section

set_option maxRecDepth 16384

noncomputable section

namespace Cert.Cols

open Idealize.ShloMosaic

/-- Pieces side by side, read at a column that one piece holds. -/
theorem cat2 {r n w : ℕ} (xs : List ((s : Shape) × (s.Idx → EReal)))
    (h : Shape.Concatenates (xs.map (·.1)) ⟨2, ![r, n]⟩ 1) (z : (⟨2, ![r, n]⟩ : Shape).Idx) (k : ℕ) (hk : k < xs.length)
    (x : (⟨2, ![r, w]⟩ : Shape).Idx → EReal) (hx : xs[k] = ⟨⟨2, ![r, w]⟩, x⟩) (pre : ℕ)
    (hp : (((xs.take k).map (·.1)).map fun s : Shape => if h : s.rank = (⟨2, ![r, n]⟩ : Shape).rank
      then s.size ((1 : Fin (⟨2, ![r, n]⟩ : Shape).rank).cast h.symm) else 0).sum = pre)
    (i : (⟨2, ![r, w]⟩ : Shape).Idx) (h0 : (i 0).val = (z 0).val) (h1 : pre + (i 1).val = (z 1).val) :
    concatenate ⟨2, ![r, n]⟩ 1 xs h z = x i :=
  concatenate_apply_piece 1 xs h z k hk ⟨2, ![r, w]⟩ x hx rfl pre hp i
    (fun b hb => match b with | ⟨0, _⟩ => h0 | ⟨1, _⟩ => absurd rfl hb) h1

/-- A cut of columns, read at a place. -/
theorem cut2 {r n w : ℕ} (o : ℕ) (x : (⟨2, ![r, n]⟩ : Shape).Idx → EReal)
    (h : (⟨2, ![r, n]⟩ : Shape).Slices ![0, o] ⟨2, ![r, w]⟩) (z : (⟨2, ![r, w]⟩ : Shape).Idx) (i : (⟨2, ![r, n]⟩ : Shape).Idx)
    (h0 : (i 0).val = (z 0).val) (h1 : (i 1).val = o + (z 1).val) :
    extractStridedSlice ⟨2, ![r, w]⟩ ![0, o] x h z = x i :=
  congrArg x (funext fun a => Fin.ext (match a with
    | ⟨0, _⟩ => (Nat.zero_add _).trans h0.symm
    | ⟨1, _⟩ => h1.symm))

/-- Where the reference's column `c` stands in the kernel's arrays. -/
def place (c : ℕ) : ℕ := if c < 2560 then c else if c < 2576 then c + 896 else c - 16

theorem place_lt {c : ℕ} (h : c < 3408) : place c < 3584 := by
  unfold place
  split_ifs <;> omega

theorem place_inj {c d : ℕ} (hc : c < 3408) (hd : d < 3408) (h : place c = place d) : c = d := by
  unfold place at h
  split_ifs at h <;> omega

end Cert.Cols

namespace Cert.Cols

open Cert.InYIdeal Cert.InYIdeal.Gen
open Idealize.ShloMosaic Idealize.ShloMosaic.TcCoe

/-! ## The weight -/

/-- One shard of the weight. -/
abbrev shard (g : S8x2048x426.Idx → EReal) (j : ℕ) (h : S8x2048x426.Slices ![j, 0, 0] S1x2048x426) : S2048x426.Idx → EReal :=
  shapeCast S2048x426 (extractStridedSlice S1x2048x426 ![j, 0, 0] g h) shapeCasts_S1x2048x426_S2048x426

theorem shard_val (g : S8x2048x426.Idx → EReal) (j : ℕ) (h : S8x2048x426.Slices ![j, 0, 0] S1x2048x426) (z : S2048x426.Idx)
    (i : S8x2048x426.Idx) (h0 : (i 0).val = j) (h1 : (i 1).val = (z 0).val) (h2 : (i 2).val = (z 1).val) :
    shard g j h z = g i := by
  unfold shard
  rw [shapeCast_apply _ shapeCasts_S1x2048x426_S2048x426 z
    (fun a => match a with | ⟨0, _⟩ => ⟨0, by show 0 < 1; omega⟩ | ⟨1, _⟩ => ⟨(z 0).val, (z 0).isLt⟩ | ⟨2, _⟩ => ⟨(z 1).val, (z 1).isLt⟩)
    (by rewrite [Shape.rowMajor_val_two, Shape.rowMajor_val_three]
        show (0 * 2048 + (z 0).val) * 426 + (z 1).val = (z 0).val * 426 + (z 1).val
        omega)]
  exact congrArg g (funext fun a => Fin.ext (match a with
    | ⟨0, _⟩ => h0.symm
    | ⟨1, _⟩ => (Nat.zero_add _).trans h1.symm
    | ⟨2, _⟩ => (Nat.zero_add _).trans h2.symm))

/-- The host's arrangement of the weight's shards. -/
def padW (g : S8x2048x426.Idx → EReal) : S2048x3584.Idx → EReal :=
  concatenate S2048x3584 1
    [⟨S2048x426, shard g 0 slices_S8x2048x426_S1x2048x426_0_0_0⟩, ⟨S2048x426, shard g 1 slices_S8x2048x426_S1x2048x426_1_0_0⟩,
     ⟨S2048x426, shard g 2 slices_S8x2048x426_S1x2048x426_2_0_0⟩, ⟨S2048x426, shard g 3 slices_S8x2048x426_S1x2048x426_3_0_0⟩,
     ⟨S2048x426, shard g 4 slices_S8x2048x426_S1x2048x426_4_0_0⟩, ⟨S2048x426, shard g 5 slices_S8x2048x426_S1x2048x426_5_0_0⟩,
     ⟨S2048x4, extractStridedSlice S2048x4 ![0, 0] (shard g 6 slices_S8x2048x426_S1x2048x426_6_0_0) slices_S2048x426_S2048x4_0_0⟩,
     ⟨S2048x406, extractStridedSlice S2048x406 ![0, 20] (shard g 6 slices_S8x2048x426_S1x2048x426_6_0_0) slices_S2048x426_S2048x406_0_20⟩,
     ⟨S2048x362, extractStridedSlice S2048x362 ![0, 0] (shard g 7 slices_S8x2048x426_S1x2048x426_7_0_0) slices_S2048x426_S2048x362_0_0⟩,
     ⟨S2048x64, extractStridedSlice S2048x64 ![0, 362] (shard g 7 slices_S8x2048x426_S1x2048x426_7_0_0) slices_S2048x426_S2048x64_0_362⟩,
     ⟨S2048x64, broadcastInDim S2048x64 ![] bcast_S_S2048x64 (constant (F := Ideal) S_ .bf16 0x0000#16)⟩,
     ⟨S2048x16, extractStridedSlice S2048x16 ![0, 4] (shard g 6 slices_S8x2048x426_S1x2048x426_6_0_0) slices_S2048x426_S2048x16_0_4⟩,
     ⟨S2048x112, broadcastInDim S2048x112 ![] bcast_S_S2048x112 (constant (F := Ideal) S_ .bf16 0x0000#16)⟩]
    concatenates_S2048x426_S2048x426_S2048x426_S2048x426_S2048x426_S2048x426_S2048x4_S2048x406_S2048x362_S2048x64_S2048x64_S2048x16_S2048x112_S2048x3584_d1

/-- Row `k` and column `c` of the whole weight, in its shards. -/
abbrev wix (k c : ℕ) (hk : k < 2048) (hc : c < 3408) : S8x2048x426.Idx := fun a => match a with
  | ⟨0, _⟩ => ⟨c / 426, by show c / 426 < 8; omega⟩ | ⟨1, _⟩ => ⟨k, hk⟩ | ⟨2, _⟩ => ⟨c % 426, by show c % 426 < 426; omega⟩

/-- A place in a block of `w` columns. -/
abbrev at2 {w : ℕ} (k c : ℕ) (hk : k < 2048) (hc : c < w) : (⟨2, ![2048, w]⟩ : Shape).Idx := fun a => match a with
  | ⟨0, _⟩ => ⟨k, hk⟩ | ⟨1, _⟩ => ⟨c, hc⟩

/-- A cut of a shard's columns holds the whole weight's. -/
theorem cut_shard (g : S8x2048x426.Idx → EReal) {c : ℕ} (k : ℕ) (hk : k < 2048) (hc : c < 3408) (j o w : ℕ)
    (h : S8x2048x426.Slices ![j, 0, 0] S1x2048x426) (hs : S2048x426.Slices ![0, o] ⟨2, ![2048, w]⟩) (d : ℕ) (hd : d < w)
    (e : j * 426 + o + d = c) (he : o + d < 426) :
    extractStridedSlice ⟨2, ![2048, w]⟩ ![0, o] (shard g j h) hs (at2 k d hk hd) = g (wix k c hk hc) :=
  (cut2 o _ hs _ (at2 k (o + d) hk he) rfl rfl).trans
    (shard_val g j h _ _ (by show c / 426 = j; omega) rfl (by show c % 426 = o + d; omega))

theorem padW_a (g : S8x2048x426.Idx → EReal) (z : S2048x3584.Idx) (c : ℕ) (hc : c < 3408) (h : c < 2556) (hz : (z 1).val = c) :
    padW g z = g (wix (z 0).val c (z 0).isLt hc) := by
  have hk : (z 0).val < 2048 := (z 0).isLt
  unfold padW
  have hm : c % 426 < 426 := by omega
  have key : ∀ (j : ℕ) (h : S8x2048x426.Slices ![j, 0, 0] S1x2048x426), c / 426 = j →
      shard g j h (at2 (z 0).val (c % 426) hk hm) = g (wix (z 0).val c hk hc) :=
    fun j h e => shard_val g j h _ _ e rfl rfl
  obtain e | e | e | e | e | e : c / 426 = 0 ∨ c / 426 = 1 ∨ c / 426 = 2 ∨ c / 426 = 3 ∨ c / 426 = 4 ∨ c / 426 = 5 := by omega
  · exact (cat2 _ _ z 0 (by show 0 < 13; omega) _ rfl 0 rfl (at2 (z 0).val (c % 426) hk hm) rfl (by show 0 + c % 426 = _; omega)).trans (key _ _ e)
  · exact (cat2 _ _ z 1 (by show 1 < 13; omega) _ rfl 426 rfl (at2 (z 0).val (c % 426) hk hm) rfl (by show 426 + c % 426 = _; omega)).trans (key _ _ e)
  · exact (cat2 _ _ z 2 (by show 2 < 13; omega) _ rfl 852 rfl (at2 (z 0).val (c % 426) hk hm) rfl (by show 852 + c % 426 = _; omega)).trans (key _ _ e)
  · exact (cat2 _ _ z 3 (by show 3 < 13; omega) _ rfl 1278 rfl (at2 (z 0).val (c % 426) hk hm) rfl (by show 1278 + c % 426 = _; omega)).trans (key _ _ e)
  · exact (cat2 _ _ z 4 (by show 4 < 13; omega) _ rfl 1704 rfl (at2 (z 0).val (c % 426) hk hm) rfl (by show 1704 + c % 426 = _; omega)).trans (key _ _ e)
  · exact (cat2 _ _ z 5 (by show 5 < 13; omega) _ rfl 2130 rfl (at2 (z 0).val (c % 426) hk hm) rfl (by show 2130 + c % 426 = _; omega)).trans (key _ _ e)

theorem padW_b (g : S8x2048x426.Idx → EReal) (z : S2048x3584.Idx) (c : ℕ) (hc : c < 3408) (h : 2556 ≤ c ∧ c < 2560) (hz : (z 1).val = c) :
    padW g z = g (wix (z 0).val c (z 0).isLt hc) := by
  have hk : (z 0).val < 2048 := (z 0).isLt
  unfold padW
  exact (cat2 _ _ z 6 (by show 6 < 13; omega) _ rfl 2556 rfl (at2 (w := 4) (z 0).val (c - 2556) hk (by omega)) rfl (by show 2556 + (c - 2556) = _; omega)).trans
    (cut_shard g _ hk hc 6 0 4 _ _ (c - 2556) (by omega) (by omega) (by omega))

theorem padW_c (g : S8x2048x426.Idx → EReal) (z : S2048x3584.Idx) (c : ℕ) (hc : c < 3408) (h : 2560 ≤ c ∧ c < 2576) (hz : (z 1).val = c + 896) :
    padW g z = g (wix (z 0).val c (z 0).isLt hc) := by
  have hk : (z 0).val < 2048 := (z 0).isLt
  unfold padW
  exact (cat2 _ _ z 11 (by show 11 < 13; omega) _ rfl 3456 rfl (at2 (w := 16) (z 0).val (c - 2560) hk (by omega)) rfl (by show 3456 + (c - 2560) = _; omega)).trans
    (cut_shard g _ hk hc 6 4 16 _ _ (c - 2560) (by omega) (by omega) (by omega))

theorem padW_d (g : S8x2048x426.Idx → EReal) (z : S2048x3584.Idx) (c : ℕ) (hc : c < 3408) (h : 2576 ≤ c ∧ c < 2982) (hz : (z 1).val = c - 16) :
    padW g z = g (wix (z 0).val c (z 0).isLt hc) := by
  have hk : (z 0).val < 2048 := (z 0).isLt
  unfold padW
  exact (cat2 _ _ z 7 (by show 7 < 13; omega) _ rfl 2560 rfl (at2 (w := 406) (z 0).val (c - 2576) hk (by omega)) rfl (by show 2560 + (c - 2576) = _; omega)).trans
    (cut_shard g _ hk hc 6 20 406 _ _ (c - 2576) (by omega) (by omega) (by omega))

theorem padW_e (g : S8x2048x426.Idx → EReal) (z : S2048x3584.Idx) (c : ℕ) (hc : c < 3408) (h : 2982 ≤ c ∧ c < 3344) (hz : (z 1).val = c - 16) :
    padW g z = g (wix (z 0).val c (z 0).isLt hc) := by
  have hk : (z 0).val < 2048 := (z 0).isLt
  unfold padW
  exact (cat2 _ _ z 8 (by show 8 < 13; omega) _ rfl 2966 rfl (at2 (w := 362) (z 0).val (c - 2982) hk (by omega)) rfl (by show 2966 + (c - 2982) = _; omega)).trans
    (cut_shard g _ hk hc 7 0 362 _ _ (c - 2982) (by omega) (by omega) (by omega))

theorem padW_f (g : S8x2048x426.Idx → EReal) (z : S2048x3584.Idx) (c : ℕ) (hc : c < 3408) (h : 3344 ≤ c) (hz : (z 1).val = c - 16) :
    padW g z = g (wix (z 0).val c (z 0).isLt hc) := by
  have hk : (z 0).val < 2048 := (z 0).isLt
  unfold padW
  exact (cat2 _ _ z 9 (by show 9 < 13; omega) _ rfl 3328 rfl (at2 (w := 64) (z 0).val (c - 3344) hk (by omega)) rfl (by show 3328 + (c - 3344) = _; omega)).trans
    (cut_shard g _ hk hc 7 362 64 _ _ (c - 3344) (by omega) (by omega) (by omega))

/-- The arranged weight holds the whole weight's column `c` at its place. -/
theorem padW_val (g : S8x2048x426.Idx → EReal) (z : S2048x3584.Idx) (c : ℕ) (hc : c < 3408) (hz : (z 1).val = place c) :
    padW g z = g (wix (z 0).val c (z 0).isLt hc) := by
  unfold place at hz
  split_ifs at hz with h1 h2
  · by_cases h : c < 2556
    · exact padW_a g z c hc h hz
    · exact padW_b g z c hc ⟨by omega, h1⟩ hz
  · exact padW_c g z c hc ⟨by omega, h2⟩ hz
  · by_cases h3 : c < 2982
    · exact padW_d g z c hc ⟨by omega, h3⟩ hz
    · by_cases h4 : c < 3344
      · exact padW_e g z c hc ⟨by omega, h4⟩ hz
      · exact padW_f g z c hc (by omega) hz

/-- Off the weight's columns the arranged weight is zero. -/
theorem padW_zero (g : S8x2048x426.Idx → EReal) (z : S2048x3584.Idx) (h : 3392 ≤ (z 1).val) (h' : (z 1).val < 3456 ∨ 3472 ≤ (z 1).val) :
    padW g z = 0 := by
  have hk : (z 0).val < 2048 := (z 0).isLt
  have h1 : (z 1).val < 3584 := (z 1).isLt
  unfold padW
  by_cases c0 : (z 1).val < 3456
  · exact (cat2 _ _ z 10 (by show 10 < 13; omega) _ rfl 3392 rfl (at2 (w := 64) (z 0).val ((z 1).val - 3392) hk (by omega)) rfl
      (by show 3392 + ((z 1).val - 3392) = _; omega)).trans (Ideal.ofBits_zero .bf16)
  · exact (cat2 _ _ z 12 (by show 12 < 13; omega) _ rfl 3472 rfl (at2 (w := 112) (z 0).val ((z 1).val - 3472) hk (by omega)) rfl
      (by show 3472 + ((z 1).val - 3472) = _; omega)).trans (Ideal.ofBits_zero .bf16)

end Cert.Cols
-- ==== Proof.InYVal.lean ====
/-
The input projection: the kernel's array, its columns put in order, is the reference's.
-/
module

public import proofs.«01_k».proof.Defs
public import proofs.«01_k».proof.Proof.Prod
public import proofs.«01_k».proof.Proof.Cols
public import proofs.«01_k».proof.Proof.Gen.InYIdeal.Frame
public import proofs.«01_k».proof.Proof.Gen.InYRefIdeal.Run
public import proofs.«01_k».proof.Proof.Gen.InYRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.InYIdeal.Hand

open Cert.InYIdeal Cert.InYIdeal.Gen Cert.Cols
open Idealize.ShloMosaic Idealize.ShloMosaic.TcCoe Idealize.SL.Sem
open Cert.InYRefIdeal.Read (val_main_v2 val_main_v2_apply val_main_v1_apply val_main_v0_apply val_main_v2_eq)

variable (m : (ℓ : Loc nD τ sig) → Buf (Elt Ideal) ℓ) (c : Dev nD)

/-- The arguments as launched. -/
def a0 : S2048x2048.Idx → EReal := m ((c : Thread nD τ).loc main_arg0)
def a1 : S8x2048x426.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_w : (V (F := Ideal) m c main_v31 : S2048x3584.Idx → EReal) = padW (a1 m c) := by
  unfold V a1
  after_reads_simp
  rfl

theorem ix0 : ∀ t : Fin cfg0.N, win0_0.index t = ![t.val / 4, 0] := (by decide +kernel : ∀ t : Fin grid0.N, _)
theorem ix1 : ∀ t : Fin cfg0.N, win0_1.index t = ![0, t.val % 4] := (by decide +kernel : ∀ t : Fin grid0.N, _)
theorem ix2 : ∀ t : Fin cfg0.N, win0_2.index t = ![t.val / 4, t.val % 4] := (by decide +kernel : ∀ t : Fin grid0.N, _)

/-! ## One block -/

/-- The block's place in the left operand, and in the right one, at term `k` of a sum. -/
abbrev L (y : S1024x896.Idx) (k : Fin 2048) : S1024x2048.Idx := fun a => match a with | ⟨0, _⟩ => ⟨(y 0).val, (y 0).isLt⟩ | ⟨1, _⟩ => k
abbrev R (y : S1024x896.Idx) (k : Fin 2048) : S2048x896.Idx := fun a => match a with | ⟨0, _⟩ => k | ⟨1, _⟩ => ⟨(y 1).val, (y 1).isLt⟩

theorem pay (a : S1024x2048.Idx → EReal) (b : S2048x896.Idx → EReal) (y : S1024x896.Idx) :
    k0_pay1 (F := Ideal) a b y = ∑ k : Fin 2048, a (L y k) * b (R y k) := by
  unfold k0_pay1
  rw [shapeCast_self, shapeCast_self]
  exact Cert.Prod.dot_sum _ 2048 rfl rfl none a b y (L y) (R y)
    (fun k => funext fun a => match a with | ⟨0, _⟩ => rfl | ⟨1, _⟩ => rfl)
    (fun k => funext fun a => match a with | ⟨0, _⟩ => rfl | ⟨1, _⟩ => rfl)

/-- The product with the arranged weight. -/
def prod (x : S2048x2048.Idx → EReal) (w : S2048x3584.Idx → EReal) (z : S2048x3584.Idx) : EReal :=
  ∑ k : Fin 2048, x (at2 (z 0).val k.val (z 0).isLt k.isLt) * w (at2 k.val (z 1).val k.isLt (z 1).isLt)

theorem arr : (dats m 0 c).arrAt 2 cfg0.N = prod (a0 m c) (padW (a1 m c)) := by
  refine (dats m 0 c).arrAt_eq_of_covers 2 _ (by decide +kernel) fun t hf y => ?_
  blk_simp
  rw [after0_2]
  frame_out
  rw [pay]
  unfold prod
  refine Fin.sum_fin_congr fun k => ?_
  congr 1
  · blk_simp [iblk]
    rw [V_x]
    blk_ext [ix0, ix2]
  · blk_simp [iblk]
    rw [V_w]
    blk_ext [ix1, ix2]

/-! ## The columns put in order -/

/-- The host's arrangement of the kernel's columns in the reference's order. -/
def inOrder (u : S2048x3584.Idx → EReal) : S2048x3408.Idx → EReal :=
  concatenate S2048x3408 1
    [⟨S2048x2560, extractStridedSlice S2048x2560 ![0, 0] u slices_S2048x3584_S2048x2560_0_0⟩,
     ⟨S2048x16, extractStridedSlice S2048x16 ![0, 3456] u slices_S2048x3584_S2048x16_0_3456⟩,
     ⟨S2048x832, extractStridedSlice S2048x832 ![0, 2560] u slices_S2048x3584_S2048x832_0_2560⟩]
    concatenates_S2048x2560_S2048x16_S2048x832_S2048x3408_d1

theorem inOrder_val (u : S2048x3584.Idx → EReal) (z : S2048x3408.Idx) :
    inOrder u z = u (at2 (z 0).val (place (z 1).val) (z 0).isLt (place_lt (z 1).isLt)) := by
  have hk : (z 0).val < 2048 := (z 0).isLt
  have h1 : (z 1).val < 3408 := (z 1).isLt
  unfold inOrder
  by_cases c1 : (z 1).val < 2560
  · exact (cat2 _ _ z 0 (by show 0 < 3; omega) _ rfl 0 rfl (at2 (w := 2560) (z 0).val (z 1).val hk c1) rfl
      (by show 0 + (z 1).val = _; omega)).trans
      (cut2 0 u _ _ _ rfl (by show place (z 1).val = 0 + (z 1).val; unfold place; rw [if_pos c1]; omega))
  by_cases c2 : (z 1).val < 2576
  · exact (cat2 _ _ z 1 (by show 1 < 3; omega) _ rfl 2560 rfl (at2 (w := 16) (z 0).val ((z 1).val - 2560) hk (by omega)) rfl
      (by show 2560 + ((z 1).val - 2560) = _; omega)).trans
      (cut2 3456 u _ _ _ rfl (by show place (z 1).val = 3456 + ((z 1).val - 2560); unfold place; rw [if_neg c1, if_pos c2]; omega))
  · exact (cat2 _ _ z 2 (by show 2 < 3; omega) _ rfl 2576 rfl (at2 (w := 832) (z 0).val ((z 1).val - 2576) hk (by omega)) rfl
      (by show 2576 + ((z 1).val - 2576) = _; omega)).trans
      (cut2 2560 u _ _ _ rfl (by show place (z 1).val = 2560 + ((z 1).val - 2576); unfold place; rw [if_neg c1, if_neg c2]; omega))

/-- The reference's whole weight, column by column in its shards. -/
theorem whole_val (g : S8x2048x426.Idx → EReal) (i : S2048x3408.Idx) :
    Cert.InYRefIdeal.Read.val_main_v1 (F := Ideal) g i = g (wix (i 0).val (i 1).val (i 0).isLt (i 1).isLt) := by
  have h0 : (i 0).val < 2048 := (i 0).isLt
  have h1 : (i 1).val < 3408 := (i 1).isLt
  rw [val_main_v1_apply, val_main_v0_apply]
  exact congrArg g (funext fun a => Fin.ext (match a with
    | ⟨0, _⟩ => by show ((i 0).val * 3408 + (i 1).val) / 426 % 8 = (i 1).val / 426; omega
    | ⟨1, _⟩ => by show ((i 0).val * 3408 + (i 1).val) / 3408 = (i 0).val; omega
    | ⟨2, _⟩ => by show ((i 0).val * 3408 + (i 1).val) % 426 = (i 1).val % 426; omega))

theorem arr_inj : Function.Injective (Pipeline.arrRef spec0) := by decide

/-- The result, in terms of the array the kernel writes. -/
theorem tail : Pipeline.afterTail₀ cfgs (dats m) 0 (V0 m) [hostOps1] c main_v36
    = inOrder ((dats m 0 c).arrAt 2 cfg0.N) := by
  have h := Pipeline.withArrays_arr spec0 arr_inj c (V0 m c) (fun w => (dats m 0 c).arrAt w cfg0.N) 2
  rw [← h]
  unfold Pipeline.afterTail₀ inOrder
  generalize Pipeline.withArrays _ c (V0 m c) _ = W
  simp only [List.flatten_cons, List.flatten_nil, List.append_nil]
  after_reads_simp
  rfl

theorem same : Pipeline.afterTail₀ cfgs (dats m) 0 (V0 m) [hostOps1] c main_v36 = val_main_v2 (F := Ideal) (a0 m c) (a1 m c) := by
  rw [tail, arr]
  refine funext fun z => (inOrder_val _ z).trans ?_
  rw [val_main_v2_apply]
  unfold prod
  refine Fin.sum_fin_congr fun k => ?_
  rw [padW_val _ _ (z 1).val (z 1).isLt rfl, whole_val]
  exact congrArg₂ (· * ·) (congrArg (a0 m c) (funext fun a => match a with | ⟨0, _⟩ => rfl | ⟨1, _⟩ => rfl)) rfl

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v36) = Pipeline.afterTail₀ cfgs (dats m) 0 (V0 m) [hostOps1] c main_v36) :=
  (θ_run defs _ _).mono (fun _ h c => (h c).2 main_v36 (Pipeline.mem_restRefs_of main_v36 (by decide) (by decide))) (run_main m ρ)

end Cert.InYIdeal.Hand

namespace Cert.InYRefIdeal.Hand

open Cert.InYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.InYRefIdeal.Hand

namespace Cert

open Idealize.ShloMosaic Idealize.ShloMosaic.TcCoe Idealize.SL.Sem
open Cert.InYIdeal.Hand Cert.InYRefIdeal.Read

theorem algebraic_in_y : algebraic_InYIdeal_InYRefIdeal (hInYIdeal := Cert.InYIdeal.Gen.facts)
    (hInYRefIdeal := Cert.InYRefIdeal.Gen.facts) :=
  fun m ρ m' ρ' hpre hag =>
    ⟨fun c => val_main_v2 (F := Ideal) (a0 m c) (a1 m c),
     (θ_run _ _ _).mono (fun r h c => ⟨(h.1 c).trans same, h.2.1 c⟩) (θ_run_and (run_vals m ρ) (Cert.InYIdeal.Gen.frame m ρ)),
     (θ_run _ _ _).mono (fun r h c => ⟨(h c).1.trans ((val_main_v2_eq _ _).trans
       (congrArg₂ (val_main_v2 (F := Ideal)) (hag c).1 (hag c).2)), (h c).2⟩) (Cert.InYRefIdeal.Value.run m' ρ')⟩

end Cert
-- ==== Proof.Spread.lean ====
/-
The gradient of the input projection's columns, spread into the kernel's order with two gaps of zeros.
-/
module

public import proofs.«01_k».proof.Proof.Cols
public import proofs.«01_k».proof.Proof.Gen.InWIdeal.Frame

@[expose] public section

set_option maxRecDepth 16384

noncomputable section

namespace Cert.Cols

open Cert.InWIdeal Cert.InWIdeal.Gen
open Idealize.ShloMosaic Idealize.ShloMosaic.TcCoe

/-- The host's arrangement of the gradient. -/
def spread (d : S2048x3408.Idx → EReal) : S2048x3584.Idx → EReal :=
  concatenate S2048x3584 1
    [⟨S2048x2560, extractStridedSlice S2048x2560 ![0, 0] d slices_S2048x3408_S2048x2560_0_0⟩,
     ⟨S2048x832, extractStridedSlice S2048x832 ![0, 2576] d slices_S2048x3408_S2048x832_0_2576⟩,
     ⟨S2048x64, broadcastInDim S2048x64 ![] bcast_S_S2048x64 (constant (F := Ideal) S_ .f32 0x00000000#32)⟩,
     ⟨S2048x16, extractStridedSlice S2048x16 ![0, 2560] d slices_S2048x3408_S2048x16_0_2560⟩,
     ⟨S2048x112, broadcastInDim S2048x112 ![] bcast_S_S2048x112 (constant (F := Ideal) S_ .f32 0x00000000#32)⟩]
    concatenates_S2048x2560_S2048x832_S2048x64_S2048x16_S2048x112_S2048x3584_d1

/-- The spread gradient holds column `c` at its place. -/
theorem spread_val (d : S2048x3408.Idx → EReal) (z : S2048x3584.Idx) (c : ℕ) (hc : c < 3408) (hz : (z 1).val = place c) :
    spread d z = d (at2 (z 0).val c (z 0).isLt hc) := by
  have hk : (z 0).val < 2048 := (z 0).isLt
  unfold spread
  unfold place at hz
  split_ifs at hz with h1 h2
  · exact (cat2 _ _ z 0 (by show 0 < 5; omega) _ rfl 0 rfl (at2 (w := 2560) (z 0).val c hk h1) rfl
      (by show 0 + c = _; omega)).trans (cut2 0 d _ _ _ rfl (by show c = 0 + c; omega))
  · exact (cat2 _ _ z 3 (by show 3 < 5; omega) _ rfl 3456 rfl (at2 (w := 16) (z 0).val (c - 2560) hk (by omega)) rfl
      (by show 3456 + (c - 2560) = _; omega)).trans (cut2 2560 d _ _ _ rfl (by show c = 2560 + (c - 2560); omega))
  · exact (cat2 _ _ z 1 (by show 1 < 5; omega) _ rfl 2560 rfl (at2 (w := 832) (z 0).val (c - 2576) hk (by omega)) rfl
      (by show 2560 + (c - 2576) = _; omega)).trans (cut2 2576 d _ _ _ rfl (by show c = 2576 + (c - 2576); omega))

/-- The two gaps lie off the columns' places. -/
theorem place_onto {e : ℕ} (h : e < 3392 ∨ 3456 ≤ e ∧ e < 3472) : ∃ c, c < 3408 ∧ place c = e := by
  by_cases h1 : e < 2560
  · exact ⟨e, by omega, if_pos h1⟩
  by_cases h2 : e < 3392
  · refine ⟨e + 16, by omega, ?_⟩
    unfold place
    rw [if_neg (by omega), if_neg (by omega)]
    omega
  · refine ⟨e - 896, by omega, ?_⟩
    unfold place
    rw [if_neg (by omega), if_pos (by omega)]
    omega

end Cert.Cols
-- ==== Proof.InWVal.lean ====
/-
The gradient of the input projection's weight: the kernel's array, cut into shards, is the reference's.
-/
module

public import proofs.«01_k».proof.Defs
public import proofs.«01_k».proof.Proof.Prod
public import proofs.«01_k».proof.Proof.Spread
public import proofs.«01_k».proof.Proof.Gen.InWIdeal.Frame
public import proofs.«01_k».proof.Proof.Gen.InWRefIdeal.Run
public import proofs.«01_k».proof.Proof.Gen.InWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.InWIdeal.Hand

open Cert.InWIdeal Cert.InWIdeal.Gen Cert.Cols
open Idealize.ShloMosaic Idealize.ShloMosaic.TcCoe Idealize.SL.Sem
open Cert.InWRefIdeal.Read (val_main_v7 val_main_v8 val_main_v8_apply val_main_v7_apply val_main_v6_apply val_main_v5_apply val_main_v4_apply val_main_v8_eq)

variable (m : (ℓ : Loc nD τ sig) → Buf (Elt Ideal) ℓ) (c : Dev nD)

/-- The arguments as launched. -/
def a0 : S2048x2048.Idx → EReal := m ((c : Thread nD τ).loc main_arg0)
def a1 : S2048x3408.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_d : (V (F := Ideal) m c main_v7 : S2048x3584.Idx → EReal) = spread (a1 m c) := by
  unfold V a1
  after_reads_simp
  rfl

theorem ix0 : ∀ t : Fin cfg0.N, win0_0.index t = ![0, t.val / 4] := (by decide +kernel : ∀ t : Fin grid0.N, _)
theorem ix1 : ∀ t : Fin cfg0.N, win0_1.index t = ![0, t.val % 4] := (by decide +kernel : ∀ t : Fin grid0.N, _)
theorem ix2 : ∀ t : Fin cfg0.N, win0_2.index t = ![t.val / 4, t.val % 4] := (by decide +kernel : ∀ t : Fin grid0.N, _)

/-! ## One block -/

/-- The block's place in the left operand, and in the right one, at term `k` of a sum. -/
abbrev L (y : S1024x896.Idx) (k : Fin 2048) : S2048x1024.Idx := fun a => match a with | ⟨0, _⟩ => k | ⟨1, _⟩ => ⟨(y 0).val, (y 0).isLt⟩
abbrev R (y : S1024x896.Idx) (k : Fin 2048) : S2048x896.Idx := fun a => match a with | ⟨0, _⟩ => k | ⟨1, _⟩ => ⟨(y 1).val, (y 1).isLt⟩

theorem pay (a : S2048x1024.Idx → EReal) (b : S2048x896.Idx → EReal) (y : S1024x896.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

/-- The product with the spread gradient, over the positions. -/
def prod (x : S2048x2048.Idx → EReal) (d : S2048x3584.Idx → EReal) (z : S2048x3584.Idx) : EReal :=
  ∑ k : Fin 2048, x (at2 k.val (z 0).val k.isLt (z 0).isLt) * d (at2 k.val (z 1).val k.isLt (z 1).isLt)

theorem arr : (dats m 0 c).arrAt 2 cfg0.N = prod (a0 m c) (spread (a1 m c)) := by
  refine (dats m 0 c).arrAt_eq_of_covers 2 _ (by decide +kernel) fun t hf y => ?_
  blk_simp
  rw [after0_2]
  frame_out
  rw [pay]
  unfold prod
  refine Fin.sum_fin_congr fun k => ?_
  congr 1
  · blk_simp [iblk]
    rw [V_x]
    blk_ext [ix0, ix2]
  · blk_simp [iblk]
    rw [V_d]
    blk_ext [ix1, ix2]

/-! ## The shards cut -/

/-- One block of columns as a shard. -/
abbrev up (x : S2048x426.Idx → EReal) : S1x2048x426.Idx → EReal :=
  broadcastInDim S1x2048x426 ![1, 2] bcast_S2048x426_S1x2048x426_1_2 x

theorem up_val (x : S2048x426.Idx → EReal) (z : S1x2048x426.Idx) (i : S2048x426.Idx) (h0 : (i 0).val = (z 1).val)
    (h1 : (i 1).val = (z 2).val) : up x z = x i := by
  refine broadcastInDim_apply _ _ x z i fun a => ?_
  match a with
  | ⟨0, _⟩ => exact h0.trans (if_neg (show ¬(2048 : ℕ) = 1 from by omega)).symm
  | ⟨1, _⟩ => exact h1.trans (if_neg (show ¬(426 : ℕ) = 1 from by omega)).symm

/-- The shards that straddle two or three runs of the kernel's columns. -/
def sixth (u : S2048x3584.Idx → EReal) : S2048x426.Idx → EReal :=
  concatenate S2048x426 1
    [⟨S2048x4, extractStridedSlice S2048x4 ![0, 2556] u slices_S2048x3584_S2048x4_0_2556⟩,
     ⟨S2048x16, extractStridedSlice S2048x16 ![0, 3456] u slices_S2048x3584_S2048x16_0_3456⟩,
     ⟨S2048x406, extractStridedSlice S2048x406 ![0, 2560] u slices_S2048x3584_S2048x406_0_2560⟩]
    concatenates_S2048x4_S2048x16_S2048x406_S2048x426_d1

def seventh (u : S2048x3584.Idx → EReal) : S2048x426.Idx → EReal :=
  concatenate S2048x426 1
    [⟨S2048x362, extractStridedSlice S2048x362 ![0, 2966] u slices_S2048x3584_S2048x362_0_2966⟩,
     ⟨S2048x64, extractStridedSlice S2048x64 ![0, 3328] u slices_S2048x3584_S2048x64_0_3328⟩]
    concatenates_S2048x362_S2048x64_S2048x426_d1

theorem sixth_val (u : S2048x3584.Idx → EReal) (i : S2048x426.Idx) (w : S2048x3584.Idx) (h0 : (w 0).val = (i 0).val)
    (h1 : (w 1).val = place (2556 + (i 1).val)) : sixth u i = u w := by
  have hk : (i 0).val < 2048 := (i 0).isLt
  have hi : (i 1).val < 426 := (i 1).isLt
  unfold sixth
  unfold place at h1
  split_ifs at h1 with c1 c2
  · exact (cat2 _ _ i 0 (by show 0 < 3; omega) _ rfl 0 rfl (at2 (w := 4) (i 0).val (i 1).val hk (by omega)) rfl
      (by show 0 + (i 1).val = _; omega)).trans (cut2 2556 u _ _ w h0 h1)
  · exact (cat2 _ _ i 1 (by show 1 < 3; omega) _ rfl 4 rfl (at2 (w := 16) (i 0).val ((i 1).val - 4) hk (by omega)) rfl
      (by show 4 + ((i 1).val - 4) = _; omega)).trans (cut2 3456 u _ _ w h0 (by show _ = 3456 + ((i 1).val - 4); omega))
  · exact (cat2 _ _ i 2 (by show 2 < 3; omega) _ rfl 20 rfl (at2 (w := 406) (i 0).val ((i 1).val - 20) hk (by omega)) rfl
      (by show 20 + ((i 1).val - 20) = _; omega)).trans (cut2 2560 u _ _ w h0 (by show _ = 2560 + ((i 1).val - 20); omega))

theorem seventh_val (u : S2048x3584.Idx → EReal) (i : S2048x426.Idx) (w : S2048x3584.Idx) (h0 : (w 0).val = (i 0).val)
    (h1 : (w 1).val = place (2982 + (i 1).val)) : seventh u i = u w := by
  have hk : (i 0).val < 2048 := (i 0).isLt
  have hi : (i 1).val < 426 := (i 1).isLt
  unfold seventh
  unfold place at h1
  rw [if_neg (by omega), if_neg (by omega)] at h1
  by_cases c1 : (i 1).val < 362
  · exact (cat2 _ _ i 0 (by show 0 < 2; omega) _ rfl 0 rfl (at2 (w := 362) (i 0).val (i 1).val hk c1) rfl
      (by show 0 + (i 1).val = _; omega)).trans (cut2 2966 u _ _ w h0 (by show _ = 2966 + (i 1).val; omega))
  · exact (cat2 _ _ i 1 (by show 1 < 2; omega) _ rfl 362 rfl (at2 (w := 64) (i 0).val ((i 1).val - 362) hk (by omega)) rfl
      (by show 362 + ((i 1).val - 362) = _; omega)).trans (cut2 3328 u _ _ w h0 (by show _ = 3328 + ((i 1).val - 362); omega))

/-- The host's cut of the kernel's array into eight shards. -/
def shards (u : S2048x3584.Idx → EReal) : S8x2048x426.Idx → EReal :=
  concatenate S8x2048x426 0
    [⟨S1x2048x426, up (extractStridedSlice S2048x426 ![0, 0] u slices_S2048x3584_S2048x426_0_0)⟩,
     ⟨S1x2048x426, up (extractStridedSlice S2048x426 ![0, 426] u slices_S2048x3584_S2048x426_0_426)⟩,
     ⟨S1x2048x426, up (extractStridedSlice S2048x426 ![0, 852] u slices_S2048x3584_S2048x426_0_852)⟩,
     ⟨S1x2048x426, up (extractStridedSlice S2048x426 ![0, 1278] u slices_S2048x3584_S2048x426_0_1278)⟩,
     ⟨S1x2048x426, up (extractStridedSlice S2048x426 ![0, 1704] u slices_S2048x3584_S2048x426_0_1704)⟩,
     ⟨S1x2048x426, up (extractStridedSlice S2048x426 ![0, 2130] u slices_S2048x3584_S2048x426_0_2130)⟩,
     ⟨S1x2048x426, up (sixth u)⟩, ⟨S1x2048x426, up (seventh u)⟩]
    concatenates_S1x2048x426_S1x2048x426_S1x2048x426_S1x2048x426_S1x2048x426_S1x2048x426_S1x2048x426_S1x2048x426_S8x2048x426_d0

/-- One shard of a stack, read at a place. -/
theorem stack (xs : List ((s : Shape) × (s.Idx → EReal))) (h : Shape.Concatenates (xs.map (·.1)) S8x2048x426 0)
    (z : S8x2048x426.Idx) (k : ℕ) (hk : k < xs.length) (x : S2048x426.Idx → EReal) (hx : xs[k] = ⟨S1x2048x426, up x⟩)
    (hp : (((xs.take k).map (·.1)).map fun s : Shape => if h : s.rank = S8x2048x426.rank
      then s.size ((0 : Fin S8x2048x426.rank).cast h.symm) else 0).sum = k) (hz : (z 0).val = k) :
    concatenate S8x2048x426 0 xs h z = x (at2 (z 1).val (z 2).val (z 1).isLt (z 2).isLt) :=
  (concatenate_apply_piece 0 xs h z k hk S1x2048x426 (up x) hx rfl k hp
    (fun a => match a with | ⟨0, _⟩ => ⟨0, by show 0 < 1; omega⟩ | ⟨1, _⟩ => ⟨(z 1).val, (z 1).isLt⟩ | ⟨2, _⟩ => ⟨(z 2).val, (z 2).isLt⟩)
    (fun b hb => match b with | ⟨0, _⟩ => absurd rfl hb | ⟨1, _⟩ => rfl | ⟨2, _⟩ => rfl) (by show k + 0 = _; omega)).trans
    (up_val x _ _ rfl rfl)

theorem shards_val (u : S2048x3584.Idx → EReal) (z : S8x2048x426.Idx) (w : S2048x3584.Idx) (h0 : (w 0).val = (z 1).val)
    (h1 : (w 1).val = place ((z 0).val * 426 + (z 2).val)) : shards u z = u w := by
  have hz : (z 0).val < 8 := (z 0).isLt
  have hc : (z 2).val < 426 := (z 2).isLt
  have lo : (z 0).val < 6 → (w 1).val = (z 0).val * 426 + (z 2).val := fun h => by
    rw [h1]; unfold place; rw [if_pos (by omega)]
  unfold shards
  obtain e | e | e | e | e | e | e | e : (z 0).val = 0 ∨ (z 0).val = 1 ∨ (z 0).val = 2 ∨ (z 0).val = 3 ∨ (z 0).val = 4
    ∨ (z 0).val = 5 ∨ (z 0).val = 6 ∨ (z 0).val = 7 := by omega
  · exact (stack _ _ z 0 (by show 0 < 8; omega) _ rfl rfl e).trans (cut2 0 u _ _ w h0 (by show _ = 0 + (z 2).val; omega))
  · exact (stack _ _ z 1 (by show 1 < 8; omega) _ rfl rfl e).trans (cut2 426 u _ _ w h0 (by show _ = 426 + (z 2).val; omega))
  · exact (stack _ _ z 2 (by show 2 < 8; omega) _ rfl rfl e).trans (cut2 852 u _ _ w h0 (by show _ = 852 + (z 2).val; omega))
  · exact (stack _ _ z 3 (by show 3 < 8; omega) _ rfl rfl e).trans (cut2 1278 u _ _ w h0 (by show _ = 1278 + (z 2).val; omega))
  · exact (stack _ _ z 4 (by show 4 < 8; omega) _ rfl rfl e).trans (cut2 1704 u _ _ w h0 (by show _ = 1704 + (z 2).val; omega))
  · exact (stack _ _ z 5 (by show 5 < 8; omega) _ rfl rfl e).trans (cut2 2130 u _ _ w h0 (by show _ = 2130 + (z 2).val; omega))
  · exact (stack _ _ z 6 (by show 6 < 8; omega) _ rfl rfl e).trans (sixth_val u _ w h0 (by rw [h1, e]))
  · exact (stack _ _ z 7 (by show 7 < 8; omega) _ rfl rfl e).trans (seventh_val u _ w h0 (by rw [h1, e]))

theorem arr_inj : Function.Injective (Pipeline.arrRef spec0) := by decide

/-- The result, in terms of the array the kernel writes. -/
theorem tail : Pipeline.afterTail₀ cfgs (dats m) 0 (V0 m) [hostOps1] c main_v30
    = shards ((dats m 0 c).arrAt 2 cfg0.N) := by
  have h := Pipeline.withArrays_arr spec0 arr_inj c (V0 m c) (fun w => (dats m 0 c).arrAt w cfg0.N) 2
  rw [← h]
  unfold Pipeline.afterTail₀ shards
  generalize Pipeline.withArrays _ c (V0 m c) _ = W
  simp only [List.flatten_cons, List.flatten_nil, List.append_nil]
  after_reads_simp
  rfl

theorem same : Pipeline.afterTail₀ cfgs (dats m) 0 (V0 m) [hostOps1] c main_v30 = val_main_v8 (F := Ideal) (a0 m c) (a1 m c) := by
  rw [tail, arr]
  refine funext fun z => ?_
  have hz : (z 0).val < 8 := (z 0).isLt
  have hk : (z 1).val < 2048 := (z 1).isLt
  have hc : (z 2).val < 426 := (z 2).isLt
  have hl : (z 0).val * 426 + (z 2).val < 3408 := by omega
  refine (shards_val _ z (at2 (z 1).val (place ((z 0).val * 426 + (z 2).val)) (z 1).isLt (place_lt hl)) rfl rfl).trans ?_
  rw [val_main_v8_apply]
  show _ = val_main_v7 (F := Ideal) (a0 m c) (a1 m c) z
  rw [val_main_v7_apply, val_main_v6_apply, val_main_v5_apply, val_main_v4_apply]
  unfold prod
  refine Fin.sum_fin_congr fun k => ?_
  rw [spread_val _ _ ((z 0).val * 426 + (z 2).val) hl rfl, mul_comm]
  refine congrArg₂ (· * ·) (congrArg (a1 m c) (funext fun a => Fin.ext ?_)) (congrArg (a0 m c) (funext fun a => Fin.ext ?_))
  · match a with
    | ⟨0, _⟩ => rfl
    | ⟨1, _⟩ =>
      show (z 0).val * 426 + (z 2).val = (((z 1).val * 8 + (z 0).val) * 426 + (z 2).val) % 3408
      omega
  · match a with
    | ⟨0, _⟩ => rfl
    | ⟨1, _⟩ =>
      show (z 1).val = (((z 1).val * 8 + (z 0).val) * 426 + (z 2).val) / 3408
      omega

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30) = Pipeline.afterTail₀ cfgs (dats m) 0 (V0 m) [hostOps1] c main_v30) :=
  (θ_run defs _ _).mono (fun _ h c => (h c).2 main_v30 (Pipeline.mem_restRefs_of main_v30 (by decide) (by decide))) (run_main m ρ)

end Cert.InWIdeal.Hand

namespace Cert.InWRefIdeal.Hand

open Cert.InWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.InWRefIdeal.Hand

namespace Cert

open Idealize.ShloMosaic Idealize.ShloMosaic.TcCoe Idealize.SL.Sem
open Cert.InWIdeal.Hand Cert.InWRefIdeal.Read

theorem algebraic_in_w : algebraic_InWIdeal_InWRefIdeal (hInWIdeal := Cert.InWIdeal.Gen.facts)
    (hInWRefIdeal := Cert.InWRefIdeal.Gen.facts) :=
  fun m ρ m' ρ' hpre hag =>
    ⟨fun c => val_main_v8 (F := Ideal) (a0 m c) (a1 m c),
     (θ_run _ _ _).mono (fun r h c => ⟨(h.1 c).trans same, h.2.1 c⟩) (θ_run_and (run_vals m ρ) (Cert.InWIdeal.Gen.frame m ρ)),
     (θ_run _ _ _).mono (fun r h c => ⟨(h c).1.trans ((val_main_v8_eq _ _).trans
       (congrArg₂ (val_main_v8 (F := Ideal)) (hag c).1 (hag c).2)), (h c).2⟩) (Cert.InWRefIdeal.Value.run m' ρ')⟩

end Cert
-- ==== Proof.InXVal.lean ====
/-
The gradient of the input projection's input: the kernel's array is the reference's.
-/
module

public import proofs.«01_k».proof.Defs
public import proofs.«01_k».proof.Proof.Prod
public import proofs.«01_k».proof.Proof.Spread
public import Idealize.ShloMosaic.Lib.Pipeline.ReadBack
public import proofs.«01_k».proof.Proof.Gen.InXIdeal.Value
public import proofs.«01_k».proof.Proof.Gen.InXRefIdeal.Run
public import proofs.«01_k».proof.Proof.Gen.InXRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.InXIdeal.Hand

open Cert.InXIdeal Cert.InXIdeal.Gen Cert.Cols
open Idealize.ShloMosaic Idealize.ShloMosaic.TcCoe Idealize.SL.Sem
open Cert.InXRefIdeal.Read (val_main_v4 val_main_v4_apply val_main_v2 val_main_v2_apply val_main_v1_apply val_main_v4_eq)

variable (m : (ℓ : Loc nD τ sig) → Buf (Elt Ideal) ℓ) (c : Dev nD)

/-- The arguments as launched. -/
def a0 : S2048x3408.Idx → EReal := m ((c : Thread nD τ).loc main_arg0)
def a1 : S8x2048x426.Idx → EReal := m ((c : Thread nD τ).loc main_arg1)

variable {m c}

/-! ## The arrays the kernel reads -/

theorem V_d : (V (F := Ideal) m c main_v7 : S2048x3584.Idx → EReal) = spread (a0 m c) := by
  unfold V a0
  after_reads_simp
  rfl
theorem V_w : (V (F := Ideal) m c main_v38 : S2048x3584.Idx → EReal) = padW (a1 m c) := by
  unfold V a1
  after_reads_simp
  rfl
theorem V_zero (z : S1x2048.Idx) : (V (F := Ideal) m c main_v0 : S1x2048.Idx → EReal) z = (0 : EReal) := by
  have e : (V (F := Ideal) m c main_v0 : S1x2048.Idx → EReal) = fun _ => (0 : EReal) := by
    unfold V
    after_reads_simp
    funext z
    exact Ideal.ofBits_zero_f32
  rw [e]

theorem ix0 : ∀ t : Fin cfg0.N, win0_0.index t = ![t.val / 4, t.val % 2] := (by decide +kernel : ∀ t : Fin grid0.N, _)
theorem ix1 : ∀ t : Fin cfg0.N, win0_1.index t = ![t.val / 2 % 2, t.val % 2] := (by decide +kernel : ∀ t : Fin grid0.N, _)
theorem ix2 : ∀ t : Fin cfg0.N, win0_2.index t = ![0, t.val / 2 % 2] := (by decide +kernel : ∀ t : Fin grid0.N, _)
theorem ix3 : ∀ t : Fin cfg0.N, win0_3.index t = ![t.val / 4, t.val / 2 % 2] := (by decide +kernel : ∀ t : Fin grid0.N, _)

/-! ## One block -/

/-- The block's place in the left operand, and in the right one, at term `k` of a sum. -/
abbrev L (y : S1024x1024.Idx) (k : Fin 1792) : S1024x1792.Idx := fun a => match a with | ⟨0, _⟩ => ⟨(y 0).val, (y 0).isLt⟩ | ⟨1, _⟩ => k
abbrev R (y : S1024x1024.Idx) (k : Fin 1792) : S1024x1792.Idx := fun a => match a with | ⟨0, _⟩ => ⟨(y 1).val, (y 1).isLt⟩ | ⟨1, _⟩ => k

/-- The sum a point adds. -/
def part (a b : S1024x1792.Idx → EReal) (y : S1024x1024.Idx) : EReal :=
  ∑ k : Fin 1792, a (L y k) * b (R y k)

theorem pay1 (a b : S1024x1792.Idx → EReal) (y : S1024x1024.Idx) :
    k0_pay1 (F := Ideal) a b y = part a b y := by
  unfold k0_pay1 part
  rw [shapeCast_self, shapeCast_self]
  exact Cert.Prod.dot_sum (φ₁ := .bf16) (φ₂ := .bf16) _ 1792 rfl rfl none a b y (L y) (R y)
    (fun k => funext fun a => match a with | ⟨0, _⟩ => rfl | ⟨1, _⟩ => rfl)
    (fun k => funext fun a => match a with | ⟨0, _⟩ => rfl | ⟨1, _⟩ => rfl)

theorem pay2 (a b : S1024x1792.Idx → EReal) (y : S1024x1024.Idx) :
    k0_pay2 (F := Ideal) a b y = part a b y := by
  unfold k0_pay2
  rw [shapeCast_self]
  exact pay1 a b y

theorem pay3 (a b : S1024x1792.Idx → EReal) (s : S1024x1024.Idx → EReal) (y : S1024x1024.Idx) :
    k0_pay3 (F := Ideal) a b s y = s y + part a b y := by
  unfold k0_pay3
  rw [shapeCast_self]
  exact congrArg (s y + ·) (pay1 a b y)

theorem pay4 (s : S1024x1024.Idx → EReal) (r : S1x1024.Idx → EReal) (hr : ∀ z, r z = 0) (y : S1024x1024.Idx) :
    k0_pay4 (F := Ideal) s r y = s y := by
  unfold k0_pay4
  rw [shapeCast_self]
  refine (congrArg (s y + ·) (hr _)).trans (add_zero _)

/-! ## The accumulator -/

theorem zeros (t : Fin cfg0.N) (z : S1x1024.Idx) : (iblk m c 2 t : S1x1024.Idx → EReal) z = (0 : EReal) := by
  blk_simp [iblk]
  exact V_zero _

/-- The term point `t` adds to the accumulator. -/
def term (m : (ℓ : Loc nD τ sig) → Buf (Elt Ideal) ℓ) (c : Dev nD) (t : Fin cfg0.N) (y : S1024x1024.Idx) : EReal :=
  part (iblk m c 0 t) (iblk m c 1 t) y

theorem acc_first (t : Fin cfg0.N) (h : t.val % 2 = 0) (y : S1024x1024.Idx) :
    (outsAt0 (F := Ideal) m c t.val t.isLt).2 y = (0 : EReal) + term m c t y := by
  rw [outsAt0_A m c t h (by omega) (by omega)]
  frame_out
  rw [pay2, zero_add]
  rfl

theorem acc_next (t : Fin cfg0.N) (h : ¬t.val % 2 = 0) (y : S1024x1024.Idx) :
    ((outsAt0 (F := Ideal) m c t.val t.isLt).2 y : EReal)
      = (outsAt0 (F := Ideal) m c (t.val - 1) (Nat.lt_of_le_of_lt (Nat.sub_le _ _) t.isLt)).2 y + term m c t y := by
  rw [outsAt0_B m c t h (by omega) (by omega)]
  frame_out
  simp only [read_unread_whole]
  rw [pay3]
  rfl

theorem out_last (t : Fin cfg0.N) (h : t.val % 2 = 1) (y : S1024x1024.Idx) :
    (outsAt0 (F := Ideal) m c t.val t.isLt).1 y = (outsAt0 (F := Ideal) m c t.val t.isLt).2 y := by
  rw [outsAt0_B m c t (by omega) h h]
  frame_out
  rw [pay4 _ _ (zeros t)]

/-! ## The array -/

/-- The term of the kernel's sum at place `e` of the columns. -/
def wide (d : S2048x3408.Idx → EReal) (w : S8x2048x426.Idx → EReal) (z : S2048x2048.Idx) (e : Fin 3584) : EReal :=
  spread d (at2 (z 0).val e.val (z 0).isLt e.isLt) * padW w (at2 (z 1).val e.val (z 1).isLt e.isLt)

theorem whole_val (g : S8x2048x426.Idx → EReal) (i : S2048x3408.Idx) :
    val_main_v2 (F := Ideal) g i = g (wix (i 0).val (i 1).val (i 0).isLt (i 1).isLt) := by
  have h0 : (i 0).val < 2048 := (i 0).isLt
  have h1 : (i 1).val < 3408 := (i 1).isLt
  rw [val_main_v2_apply, val_main_v1_apply]
  exact congrArg g (funext fun a => Fin.ext (match a with
    | ⟨0, _⟩ => by show ((i 0).val * 3408 + (i 1).val) / 426 % 8 = (i 1).val / 426; omega
    | ⟨1, _⟩ => by show ((i 0).val * 3408 + (i 1).val) / 3408 = (i 0).val; omega
    | ⟨2, _⟩ => by show ((i 0).val * 3408 + (i 1).val) % 426 = (i 1).val % 426; omega))

/-- The reference's array, its sum taken over the kernel's columns: the gaps add nothing. -/
theorem ref_wide (d : S2048x3408.Idx → EReal) (w : S8x2048x426.Idx → EReal) (z : S2048x2048.Idx) :
    val_main_v4 (F := Ideal) d w z = ∑ e : Fin 3584, wide d w z e := by
  rw [val_main_v4_apply]
  refine Fintype.sum_of_injective (fun k : Fin 3408 => (⟨place k.val, place_lt k.isLt⟩ : Fin 3584))
    (fun k l h => Fin.ext (place_inj k.isLt l.isLt (congrArg Fin.val h))) _ _ (fun e he => ?_) (fun k => ?_)
  · have hn : 3392 ≤ e.val ∧ (e.val < 3456 ∨ 3472 ≤ e.val) := by
      by_contra hc
      obtain ⟨k, hk, hp⟩ := place_onto (e := e.val) (by omega)
      exact he ⟨⟨k, hk⟩, Fin.ext hp⟩
    unfold wide
    rw [padW_zero w (at2 (z 1).val e.val (z 1).isLt e.isLt) hn.1 hn.2]
    exact mul_zero _
  · unfold wide
    rw [spread_val d _ k.val k.isLt rfl, padW_val w _ k.val k.isLt rfl, whole_val]
    exact congrArg₂ (· * ·) (congrArg d (funext fun a => match a with | ⟨0, _⟩ => rfl | ⟨1, _⟩ => rfl)) rfl

/-- That sum cut into the kernel's two halves. -/
theorem ref_val (d : S2048x3408.Idx → EReal) (w : S8x2048x426.Idx → EReal) (z : S2048x2048.Idx) :
    val_main_v4 (F := Ideal) d w z = ∑ s : Fin 2, ∑ k : Fin 1792,
      spread d (fun a => match a with
        | ⟨0, _⟩ => ⟨(z 0).val, (z 0).isLt⟩
        | ⟨1, _⟩ => ⟨s.val * 1792 + k.val, by have := s.isLt; show s.val * 1792 + k.val < 3584; omega⟩)
      * padW w (fun a => match a with
        | ⟨0, _⟩ => ⟨(z 1).val, (z 1).isLt⟩
        | ⟨1, _⟩ => ⟨s.val * 1792 + k.val, by have := s.isLt; show s.val * 1792 + k.val < 3584; omega⟩) := by
  rw [ref_wide]
  refine Eq.symm ?_
  refine Fin.sum_mul_add_congr fun p k hl => ?_
  unfold wide
  exact congrArg₂ (· * ·) (congrArg (spread d) (funext fun a => match a with | ⟨0, _⟩ => rfl | ⟨1, _⟩ => rfl))
    (congrArg (padW w) (funext fun a => match a with | ⟨0, _⟩ => rfl | ⟨1, _⟩ => rfl))

theorem arr : (dats m 0 c).arrAt 3 cfg0.N = val_main_v4 (F := Ideal) (a0 m c) (a1 m c) := by
  refine (dats m 0 c).arrAt_eq_of_covers 3 _ (by decide +kernel) fun t hf y => ?_
  have h1 : t.val % 2 = 1 := (flush0_3 t).mp hf
  blk_simp
  rw [after0_3, out_last t h1, Pipeline.eq_sum_fin_of_reset_step_apply_of_flush (fun n h => (outsAt0 (F := Ideal) m c n h).2) 2
    (fun _ => (0 : EReal)) (term m c) acc_first acc_next t h1 y, ref_val]
  refine (zero_add (M := EReal) _).trans (Fin.sum_fin_congr fun s => ?_)
  have hs : (2 * (t.val / 2) + s.val) % 2 = s.val := by omega
  unfold term part
  refine Fin.sum_fin_congr fun k => congrArg₂ (fun p q : EReal => p * q) ?_ ?_
  · blk_simp [iblk]
    rw [V_d]
    blk_ext [ix0, ix3]
    rw [hs]
  · blk_simp [iblk]
    rw [V_w]
    blk_ext [ix1, ix3]
    rw [hs]

end Cert.InXIdeal.Hand

namespace Cert.InXRefIdeal.Hand

open Cert.InXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.InXRefIdeal.Hand

namespace Cert

open Idealize.ShloMosaic Idealize.ShloMosaic.TcCoe Idealize.SL.Sem
open Cert.InXIdeal.Hand Cert.InXRefIdeal.Read

theorem algebraic_in_x : algebraic_InXIdeal_InXRefIdeal (hInXIdeal := Cert.InXIdeal.Gen.facts)
    (hInXRefIdeal := Cert.InXRefIdeal.Gen.facts) :=
  fun m ρ m' ρ' hpre hag =>
    ⟨fun c => val_main_v4 (F := Ideal) (a0 m c) (a1 m c),
     (θ_run _ _ _).mono (fun r h c => ⟨(h c).1.trans arr, (h c).2⟩) (Cert.InXIdeal.Value.run_blocks m ρ),
     (θ_run _ _ _).mono (fun r h c => ⟨(h c).1.trans ((val_main_v4_eq _ _).trans
       (congrArg₂ (val_main_v4 (F := Ideal)) (hag c).1 (hag c).2)), (h c).2⟩) (Cert.InXRefIdeal.Value.run m' ρ')⟩

end Cert
-- ==== Proof.KvYVal.lean ====
/-
The key-value projection: the kernel's array is the reference's.
-/
module

public import proofs.«01_k».proof.Defs
public import proofs.«01_k».proof.Proof.Prod
public import proofs.«01_k».proof.Proof.Gen.KvYIdeal.Value
public import proofs.«01_k».proof.Proof.Gen.KvYRefIdeal.Run
public import proofs.«01_k».proof.Proof.Gen.KvYRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.KvYIdeal.Hand

open Cert.KvYIdeal Cert.KvYIdeal.Gen
open Idealize.ShloMosaic Idealize.ShloMosaic.TcCoe Idealize.SL.Sem
open Cert.KvYRefIdeal.Read (val_main_v0 val_main_v0_apply val_main_v0_eq)

variable (m : (ℓ : Loc nD τ sig) → Buf (Elt Ideal) ℓ) (c : Dev nD)

/-- The arguments as launched. -/
def a0 : S2048x256.Idx → EReal := m ((c : Thread nD τ).loc main_arg0)
def a1 : S256x2048.Idx → EReal := m ((c : Thread nD τ).loc main_arg1)

variable {m c}

/-! ## The arrays the kernel reads -/

theorem V_x : (V (F := Ideal) m c main_v0 : S2048x256.Idx → EReal) = a0 m c := by
  unfold V a0
  after_reads_simp
  rfl
theorem V_w : (V (F := Ideal) m c main_v1 : S256x2048.Idx → EReal) = a1 m c := by
  unfold V a1
  after_reads_simp
  rfl

theorem ix0 : ∀ t : Fin cfg0.N, win0_0.index t = ![t.val / 2, 0] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)

/-! ## One block -/

/-- The block's place in the left operand, and in the right one, at term `k` of a sum. -/
abbrev L (y : S1024x1024.Idx) (k : Fin 256) : S1024x256.Idx := fun a => match a with | ⟨0, _⟩ => ⟨(y 0).val, (y 0).isLt⟩ | ⟨1, _⟩ => k
abbrev R (y : S1024x1024.Idx) (k : Fin 256) : S256x1024.Idx := fun a => match a with | ⟨0, _⟩ => k | ⟨1, _⟩ => ⟨(y 1).val, (y 1).isLt⟩

theorem pay (a : S1024x256.Idx → EReal) (b : S256x1024.Idx → EReal) (y : S1024x1024.Idx) :
    k0_pay1 (F := Ideal) a b y = ∑ k : Fin 256, a (L y k) * b (R y k) := by
  unfold k0_pay1
  rw [shapeCast_self, shapeCast_self]
  exact Cert.Prod.dot_sum (φ₁ := .bf16) (φ₂ := .bf16) _ 256 rfl rfl none a b y (L y) (R y)
    (fun k => funext fun a => match a with | ⟨0, _⟩ => rfl | ⟨1, _⟩ => rfl)
    (fun k => funext fun a => match a with | ⟨0, _⟩ => rfl | ⟨1, _⟩ => rfl)

theorem arr : (dats m 0 c).arrAt 2 cfg0.N = val_main_v0 (F := Ideal) (a0 m c) (a1 m c) := by
  refine (dats m 0 c).arrAt_eq_of_covers 2 _ (by decide +kernel) fun t hf y => ?_
  blk_simp
  rw [after0_2]
  frame_out
  rw [pay, val_main_v0_apply]
  refine Fin.sum_fin_congr fun k => ?_
  congr 1
  · blk_simp [iblk]
    rw [V_x]
    blk_ext [ix0, ix2]
  · blk_simp [iblk]
    rw [V_w]
    blk_ext [ix1, ix2]

end Cert.KvYIdeal.Hand

namespace Cert.KvYRefIdeal.Hand

open Cert.KvYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.KvYRefIdeal.Hand

namespace Cert

open Idealize.ShloMosaic Idealize.ShloMosaic.TcCoe Idealize.SL.Sem
open Cert.KvYIdeal.Hand Cert.KvYRefIdeal.Read

theorem algebraic_kv_y : algebraic_KvYIdeal_KvYRefIdeal (hKvYIdeal := Cert.KvYIdeal.Gen.facts)
    (hKvYRefIdeal := Cert.KvYRefIdeal.Gen.facts) :=
  fun m ρ m' ρ' hpre hag =>
    ⟨fun c => val_main_v0 (F := Ideal) (a0 m c) (a1 m c),
     (θ_run _ _ _).mono (fun r h c => ⟨(h c).1.trans arr, (h c).2⟩) (Cert.KvYIdeal.Value.run_blocks m ρ),
     (θ_run _ _ _).mono (fun r h c => ⟨(h c).1.trans ((val_main_v0_eq _ _).trans
       (congrArg₂ (val_main_v0 (F := Ideal)) (hag c).1 (hag c).2)), (h c).2⟩) (Cert.KvYRefIdeal.Value.run m' ρ')⟩

end Cert
-- ==== Proof.KvWVal.lean ====
/-
The gradient of the key-value projection's weight: the kernel's array is the reference's.
-/
module

public import proofs.«01_k».proof.Defs
public import proofs.«01_k».proof.Proof.Prod
public import proofs.«01_k».proof.Proof.Gen.KvWIdeal.Value
public import proofs.«01_k».proof.Proof.Gen.KvWRefIdeal.Run
public import proofs.«01_k».proof.Proof.Gen.KvWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.KvWIdeal.Hand

open Cert.KvWIdeal Cert.KvWIdeal.Gen
open Idealize.ShloMosaic Idealize.ShloMosaic.TcCoe Idealize.SL.Sem
open Cert.KvWRefIdeal.Read (val_main_v3 val_main_v3_apply val_main_v2_apply val_main_v4 val_main_v4_apply val_main_v4_eq)

variable (m : (ℓ : Loc nD τ sig) → Buf (Elt Ideal) ℓ) (c : Dev nD)

/-- The arguments as launched. -/
def a0 : S2048x256.Idx → EReal := m ((c : Thread nD τ).loc main_arg0)
def a1 : S2048x2048.Idx → EReal := m ((c : Thread nD τ).loc main_arg1)

variable {m c}

/-! ## The arrays the kernel reads -/

theorem V_x : (V (F := Ideal) m c main_v0 : S2048x256.Idx → EReal) = a0 m c := by
  unfold V a0
  after_reads_simp
  rfl
theorem V_w : (V (F := Ideal) m c main_v1 : S2048x2048.Idx → EReal) = a1 m c := by
  unfold V a1
  after_reads_simp
  rfl

theorem ix0 : ∀ t : Fin cfg0.N, win0_0.index t = ![0, 0] := (by decide +kernel : ∀ t : Fin grid0.N, _)
theorem ix1 : ∀ t : Fin cfg0.N, win0_1.index t = ![0, t.val] := (by decide +kernel : ∀ t : Fin grid0.N, _)
theorem ix2 : ∀ t : Fin cfg0.N, win0_2.index t = ![0, t.val] := (by decide +kernel : ∀ t : Fin grid0.N, _)

/-! ## One block -/

/-- The block's place in the left operand, and in the right one, at term `k` of a sum. -/
abbrev L (y : S256x1024.Idx) (k : Fin 2048) : S2048x256.Idx := fun a => match a with | ⟨0, _⟩ => k | ⟨1, _⟩ => ⟨(y 0).val, (y 0).isLt⟩
abbrev R (y : S256x1024.Idx) (k : Fin 2048) : S2048x1024.Idx := fun a => match a with | ⟨0, _⟩ => k | ⟨1, _⟩ => ⟨(y 1).val, (y 1).isLt⟩

theorem pay (a : S2048x256.Idx → EReal) (b : S2048x1024.Idx → EReal) (y : S256x1024.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

open Cert.KvWRefIdeal.Read (idx_main_v3 lidx_main_v2 ridx_main_v2) in
/-- The reference's array, with each product's factors in the kernel's order. -/
theorem ref_val (x0 : S2048x256.Idx → EReal) (x1 : S2048x2048.Idx → EReal) (z : S256x2048.Idx) :
    val_main_v4 (F := Ideal) x0 x1 z = ∑ k : Fin 2048, x0 (ridx_main_v2 (idx_main_v3 z) k) * x1 (lidx_main_v2 (idx_main_v3 z) k) := by
  refine (val_main_v4_apply (F := Ideal) x0 x1 z).trans ?_
  refine Eq.trans (?_ : _ = val_main_v3 (F := Ideal) x0 x1 z) ?_
  · rfl
  rw [val_main_v3_apply, val_main_v2_apply]
  exact Finset.sum_congr rfl fun k _ => mul_comm _ _

theorem arr : (dats m 0 c).arrAt 2 cfg0.N = val_main_v4 (F := Ideal) (a0 m c) (a1 m c) := by
  refine (dats m 0 c).arrAt_eq_of_covers 2 _ (by decide +kernel) fun t hf y => ?_
  blk_simp
  rw [after0_2]
  frame_out
  rw [pay, ref_val]
  refine Fin.sum_fin_congr fun k => ?_
  congr 1
  · blk_simp [iblk]
    rw [V_x]
    blk_ext [ix0, ix2]
  · blk_simp [iblk]
    rw [V_w]
    blk_ext [ix1, ix2]

end Cert.KvWIdeal.Hand

namespace Cert.KvWRefIdeal.Hand

open Cert.KvWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.KvWRefIdeal.Hand

namespace Cert

open Idealize.ShloMosaic Idealize.ShloMosaic.TcCoe Idealize.SL.Sem
open Cert.KvWIdeal.Hand Cert.KvWRefIdeal.Read

theorem algebraic_kv_w : algebraic_KvWIdeal_KvWRefIdeal (hKvWIdeal := Cert.KvWIdeal.Gen.facts)
    (hKvWRefIdeal := Cert.KvWRefIdeal.Gen.facts) :=
  fun m ρ m' ρ' hpre hag =>
    ⟨fun c => val_main_v4 (F := Ideal) (a0 m c) (a1 m c),
     (θ_run _ _ _).mono (fun r h c => ⟨(h c).1.trans arr, (h c).2⟩) (Cert.KvWIdeal.Value.run_blocks m ρ),
     (θ_run _ _ _).mono (fun r h c => ⟨(h c).1.trans ((val_main_v4_eq _ _).trans
       (congrArg₂ (val_main_v4 (F := Ideal)) (hag c).1 (hag c).2)), (h c).2⟩) (Cert.KvWRefIdeal.Value.run m' ρ')⟩

end Cert
-- ==== Proof.KvXVal.lean ====
/-
The gradient of the key-value projection's input: the kernel's array is the reference's.
-/
module

public import proofs.«01_k».proof.Defs
public import proofs.«01_k».proof.Proof.Prod
public import proofs.«01_k».proof.Proof.Gen.KvXIdeal.Value
public import proofs.«01_k».proof.Proof.Gen.KvXRefIdeal.Run
public import proofs.«01_k».proof.Proof.Gen.KvXRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.KvXIdeal.Hand

open Cert.KvXIdeal Cert.KvXIdeal.Gen
open Idealize.ShloMosaic Idealize.ShloMosaic.TcCoe Idealize.SL.Sem
open Cert.KvXRefIdeal.Read (val_main_v2 val_main_v2_apply val_main_v2_eq)

variable (m : (ℓ : Loc nD τ sig) → Buf (Elt Ideal) ℓ) (c : Dev nD)

/-- The arguments as launched. -/
def a0 : S2048x2048.Idx → EReal := m ((c : Thread nD τ).loc main_arg0)
def a1 : S256x2048.Idx → EReal := m ((c : Thread nD τ).loc main_arg1)

variable {m c}

/-! ## The arrays the kernel reads -/

theorem V_x : (V (F := Ideal) m c main_v0 : S2048x2048.Idx → EReal) = a0 m c := by
  unfold V a0
  after_reads_simp
  rfl
theorem V_w : (V (F := Ideal) m c main_v1 : S256x2048.Idx → EReal) = a1 m c := by
  unfold V a1
  after_reads_simp
  rfl

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

/-! ## One block -/

/-- The block's place in the left operand, and in the right one, at term `k` of a sum. -/
abbrev L (y : S1024x256.Idx) (k : Fin 2048) : S1024x2048.Idx := fun a => match a with | ⟨0, _⟩ => ⟨(y 0).val, (y 0).isLt⟩ | ⟨1, _⟩ => k
abbrev R (y : S1024x256.Idx) (k : Fin 2048) : S256x2048.Idx := fun a => match a with | ⟨0, _⟩ => ⟨(y 1).val, (y 1).isLt⟩ | ⟨1, _⟩ => k

theorem pay (a : S1024x2048.Idx → EReal) (b : S256x2048.Idx → EReal) (y : S1024x256.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

theorem arr : (dats m 0 c).arrAt 2 cfg0.N = val_main_v2 (F := Ideal) (a0 m c) (a1 m c) := by
  refine (dats m 0 c).arrAt_eq_of_covers 2 _ (by decide +kernel) fun t hf y => ?_
  blk_simp
  rw [after0_2]
  frame_out
  rw [pay, val_main_v2_apply]
  refine Fin.sum_fin_congr fun k => ?_
  congr 1
  · blk_simp [iblk]
    rw [V_x]
    blk_ext [ix0, ix2]
  · blk_simp [iblk]
    rw [V_w]
    blk_ext [ix1, ix2]

end Cert.KvXIdeal.Hand

namespace Cert.KvXRefIdeal.Hand

open Cert.KvXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.KvXRefIdeal.Hand

namespace Cert

open Idealize.ShloMosaic Idealize.ShloMosaic.TcCoe Idealize.SL.Sem
open Cert.KvXIdeal.Hand Cert.KvXRefIdeal.Read

theorem algebraic_kv_x : algebraic_KvXIdeal_KvXRefIdeal (hKvXIdeal := Cert.KvXIdeal.Gen.facts)
    (hKvXRefIdeal := Cert.KvXRefIdeal.Gen.facts) :=
  fun m ρ m' ρ' hpre hag =>
    ⟨fun c => val_main_v2 (F := Ideal) (a0 m c) (a1 m c),
     (θ_run _ _ _).mono (fun r h c => ⟨(h c).1.trans arr, (h c).2⟩) (Cert.KvXIdeal.Value.run_blocks m ρ),
     (θ_run _ _ _).mono (fun r h c => ⟨(h c).1.trans ((val_main_v2_eq _ _).trans
       (congrArg₂ (val_main_v2 (F := Ideal)) (hag c).1 (hag c).2)), (h c).2⟩) (Cert.KvXRefIdeal.Value.run m' ρ')⟩

end Cert
-- ==== Proof.Heads.lean ====
/-
Eight heads of 192 columns, each widened to 256 with zeros, and cut back.
-/
module

public import proofs.«01_k».proof.Proof.Prod
public import Idealize.ShloMosaic.Lib.KernelVsHost
public import Idealize.ShloMosaic.Lib.Pipeline.ValueKit

@[expose] public section

set_option maxRecDepth 16384

noncomputable section

namespace Cert.Heads

open Idealize.ShloMosaic

/-- An array of `r` rows and `w` columns, and its place at row `k` and column `c`. -/
abbrev Sq (r w : ℕ) : Shape := ⟨2, ![r, w]⟩
abbrev Sh (r w : ℕ) : Shape := ⟨3, ![r, 8, w]⟩
abbrev at2 {r w : ℕ} (k c : ℕ) (hk : k < r) (hc : c < w) : (Sq r w).Idx := fun a => match a with | ⟨0, _⟩ => ⟨k, hk⟩ | ⟨1, _⟩ => ⟨c, hc⟩
abbrev at3 {r w : ℕ} (k h c : ℕ) (hk : k < r) (hh : h < 8) (hc : c < w) : (Sh r w).Idx := fun a => match a with
  | ⟨0, _⟩ => ⟨k, hk⟩ | ⟨1, _⟩ => ⟨h, hh⟩ | ⟨2, _⟩ => ⟨c, hc⟩

/-- Where column `c` stands among the widened ones. -/
def place (c : ℕ) : ℕ := c / 192 * 256 + c % 192

theorem place_lt {c : ℕ} (h : c < 1536) : place c < 2048 := by
  unfold place
  omega

theorem place_inj {c d : ℕ} (h : place c = place d) : c = d := by
  unfold place at h
  omega

theorem place_onto {e : ℕ} (he : e < 2048) (h : e % 256 < 192) : ∃ c, c < 1536 ∧ place c = e :=
  ⟨e / 256 * 192 + e % 256, by omega, by unfold place; omega⟩

/-- The number the heads are filled with. -/
def zero : (⟨0, ![]⟩ : Shape).Idx → EReal := sitofp (F := Ideal) .bf16 (constantI ⟨0, ![]⟩ 32 0#32)

theorem zero_val (i : (⟨0, ![]⟩ : Shape).Idx) : zero i = (0 : EReal) := sitofp_zero (φ := .bf16)

variable {r : ℕ}

/-- The heads widened. -/
def widen (h1 : (Sq r 1536).ShapeCasts (Sh r 192)) (hp : (Sh r 192).Pads ![0, 0, 0] ![0, 0, 64] ![0, 0, 0] (Sh r 256))
    (hu : 0 < (⟨0, ![]⟩ : Shape).numel) (h2 : (Sh r 256).ShapeCasts (Sq r 2048)) (v : (⟨0, ![]⟩ : Shape).Idx → EReal)
    (x : (Sq r 1536).Idx → EReal) : (Sq r 2048).Idx → EReal :=
  shapeCast (Sq r 2048) (pad (Sh r 256) ![0, 0, 0] ![0, 0, 64] ![0, 0, 0] (shapeCast (Sh r 192) x h1) v hp hu) h2

/-- The heads cut back. -/
def narrow (h1 : (Sq r 2048).ShapeCasts (Sh r 256)) (hs : (Sh r 256).Slices ![0, 0, 0] (Sh r 192))
    (h2 : (Sh r 192).ShapeCasts (Sq r 1536)) (u : (Sq r 2048).Idx → EReal) : (Sq r 1536).Idx → EReal :=
  shapeCast (Sq r 1536) (extractStridedSlice (Sh r 192) ![0, 0, 0] (shapeCast (Sh r 256) u h1) hs) h2

variable {h1 : (Sq r 1536).ShapeCasts (Sh r 192)} {hp : (Sh r 192).Pads ![0, 0, 0] ![0, 0, 64] ![0, 0, 0] (Sh r 256)}
  {hu : 0 < (⟨0, ![]⟩ : Shape).numel} {h2 : (Sh r 256).ShapeCasts (Sq r 2048)} {v : (⟨0, ![]⟩ : Shape).Idx → EReal}

theorem cast_val {w n : ℕ} (hn : n = 8 * w) (y : (Sh r w).Idx → EReal) (h : (Sh r w).ShapeCasts (Sq r n)) (z : (Sq r n).Idx)
    (g c : ℕ) (hg : g < 8) (hc : c < w) (hz : (z 1).val = g * w + c) :
    shapeCast (Sq r n) y h z = y (at3 (z 0).val g c (z 0).isLt hg hc) := by
  refine shapeCast_apply y h z _ ?_
  rewrite [Shape.rowMajor_val_two, Shape.rowMajor_val_three]
  show ((z 0).val * 8 + g) * w + c = (z 0).val * n + (z 1).val
  rw [hz, hn]
  ring

theorem split_val {w n : ℕ} (hn : n = 8 * w) (y : (Sq r n).Idx → EReal) (h : (Sq r n).ShapeCasts (Sh r w)) (z : (Sh r w).Idx)
    (c : ℕ) (hc : c < n) (hz : c = (z 1).val * w + (z 2).val) :
    shapeCast (Sh r w) y h z = y (at2 (z 0).val c (z 0).isLt hc) := by
  refine shapeCast_apply y h z _ ?_
  rewrite [Shape.rowMajor_val_two, Shape.rowMajor_val_three]
  show (z 0).val * n + c = ((z 0).val * 8 + (z 1).val) * w + (z 2).val
  rw [hz, hn]
  ring

theorem pad_in (y : (Sh r 192).Idx → EReal) (z : (Sh r 256).Idx) (i : (Sh r 192).Idx) (e0 : (z 0).val = (i 0).val)
    (e1 : (z 1).val = (i 1).val) (e2 : (z 2).val = (i 2).val) :
    pad (Sh r 256) ![0, 0, 0] ![0, 0, 64] ![0, 0, 0] y v hp hu z = y i :=
  pad_apply_of_inside _ _ _ y v hp hu z i (fun a => match a with
    | ⟨0, _⟩ => e0.trans (by show (i 0).val = 0 + (i 0).val * (0 + 1); omega)
    | ⟨1, _⟩ => e1.trans (by show (i 1).val = 0 + (i 1).val * (0 + 1); omega)
    | ⟨2, _⟩ => e2.trans (by show (i 2).val = 0 + (i 2).val * (0 + 1); omega))

theorem pad_out (hv : ∀ i, v i = (0 : EReal)) (y : (Sh r 192).Idx → EReal) (z : (Sh r 256).Idx) (hz : 192 ≤ (z 2).val) :
    pad (Sh r 256) ![0, 0, 0] ![0, 0, 64] ![0, 0, 0] y v hp hu z = (0 : EReal) := by
  refine (pad_apply_of_not_inside _ _ _ y v hp hu z (2 : Fin 3) fun hin => ?_).trans (hv _)
  have h3 : ((z 2).val - 0) / (0 + 1) < 192 := hin.2.2
  omega

theorem cut_in (y : (Sh r 256).Idx → EReal) (gs : (Sh r 256).Slices ![0, 0, 0] (Sh r 192)) (z : (Sh r 192).Idx) (i : (Sh r 256).Idx)
    (e0 : (i 0).val = (z 0).val) (e1 : (i 1).val = (z 1).val) (e2 : (i 2).val = (z 2).val) :
    extractStridedSlice (Sh r 192) ![0, 0, 0] y gs z = y i :=
  extractStridedSlice_apply ![0, 0, 0] y gs z i (fun a => match a with
    | ⟨0, _⟩ => e0.trans (Nat.zero_add _).symm
    | ⟨1, _⟩ => e1.trans (Nat.zero_add _).symm
    | ⟨2, _⟩ => e2.trans (Nat.zero_add _).symm)

theorem widen_val (x : (Sq r 1536).Idx → EReal) (z : (Sq r 2048).Idx) (c : ℕ) (hc : c < 1536) (hz : (z 1).val = place c) :
    widen h1 hp hu h2 v x z = x (at2 (z 0).val c (z 0).isLt hc) := by
  have hg : c / 192 < 8 := by omega
  have hd : c % 192 < 192 := by omega
  have hd' : c % 192 < 256 := by omega
  have e : c = c / 192 * 192 + c % 192 := by omega
  unfold widen
  exact ((cast_val (w := 256) (n := 2048) (by omega) _ h2 z (c / 192) (c % 192) hg hd' hz).trans
    (pad_in _ _ (at3 (z 0).val (c / 192) (c % 192) (z 0).isLt hg hd) rfl rfl rfl)).trans
    (split_val (w := 192) (n := 1536) (by omega) x h1 _ c hc e)

theorem widen_zero (hv : ∀ i, v i = (0 : EReal)) (x : (Sq r 1536).Idx → EReal) (z : (Sq r 2048).Idx) (hz : 192 ≤ (z 1).val % 256) :
    widen h1 hp hu h2 v x z = (0 : EReal) := by
  have h : (z 1).val < 2048 := (z 1).isLt
  have hg : (z 1).val / 256 < 8 := by omega
  have hd : (z 1).val % 256 < 256 := by omega
  have e : (z 1).val = (z 1).val / 256 * 256 + (z 1).val % 256 := by omega
  unfold widen
  exact (cast_val (w := 256) (n := 2048) (by omega) _ h2 z ((z 1).val / 256) ((z 1).val % 256) hg hd e).trans (pad_out hv _ _ hz)

theorem narrow_val {g1 : (Sq r 2048).ShapeCasts (Sh r 256)} {gs : (Sh r 256).Slices ![0, 0, 0] (Sh r 192)}
    {g2 : (Sh r 192).ShapeCasts (Sq r 1536)} (u : (Sq r 2048).Idx → EReal) (z : (Sq r 1536).Idx) :
    narrow g1 gs g2 u z = u (at2 (z 0).val (place (z 1).val) (z 0).isLt (place_lt (z 1).isLt)) := by
  have h : (z 1).val < 1536 := (z 1).isLt
  have hg : (z 1).val / 192 < 8 := by omega
  have hd : (z 1).val % 192 < 192 := by omega
  have hd' : (z 1).val % 192 < 256 := by omega
  have e : (z 1).val = (z 1).val / 192 * 192 + (z 1).val % 192 := by omega
  unfold narrow
  exact ((cast_val (w := 192) (n := 1536) (by omega) _ g2 z ((z 1).val / 192) ((z 1).val % 192) hg hd e).trans
    (cut_in _ gs _ (at3 (z 0).val ((z 1).val / 192) ((z 1).val % 192) (z 0).isLt hg hd') rfl rfl rfl)).trans
    (split_val (w := 256) (n := 2048) (by omega) u g1 _ (place (z 1).val) _ rfl)

end Cert.Heads
-- ==== Proof.QYVal.lean ====
/-
The query projection: the kernel's array, cut back to the heads' columns, is the reference's.
-/
module

public import proofs.«01_k».proof.Defs
public import proofs.«01_k».proof.Proof.Prod
public import proofs.«01_k».proof.Proof.Heads
public import proofs.«01_k».proof.Proof.Gen.QYIdeal.Frame
public import proofs.«01_k».proof.Proof.Gen.QYRefIdeal.Run
public import proofs.«01_k».proof.Proof.Gen.QYRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.QYIdeal.Hand

open Cert.QYIdeal Cert.QYIdeal.Gen Cert.Heads
open Idealize.ShloMosaic Idealize.ShloMosaic.TcCoe Idealize.SL.Sem
open Cert.QYRefIdeal.Read (val_main_v0 val_main_v0_apply)

variable (m : (ℓ : Loc nD τ sig) → Buf (Elt Ideal) ℓ) (c : Dev nD)

/-- The arguments as launched. -/
def a0 : S2048x512.Idx → EReal := m ((c : Thread nD τ).loc main_arg0)
def a1 : S512x1536.Idx → EReal := m ((c : Thread nD τ).loc main_arg1)

variable {m c}

/-! ## The arrays the kernel reads -/

/-- The weight, its heads widened. -/
def wide (x : S512x1536.Idx → EReal) : S512x2048.Idx → EReal :=
  widen (r := 512) shapeCasts_S512x1536_S512x8x192 pads_S512x8x192_S512x8x256_000_000_0640 h_S_ shapeCasts_S512x8x256_S512x2048 zero x

theorem V_x : (V (F := Ideal) m c main_v0 : S2048x512.Idx → EReal) = a0 m c := by
  unfold V V0 a0
  simp only [List.flatten_cons, List.flatten_nil, List.append_nil, List.cons_append, List.nil_append]
  after_reads_simp
  rfl
theorem V_w : (V (F := Ideal) m c main_v4 : S512x2048.Idx → EReal) = wide (a1 m c) := by
  unfold V V0 a1
  simp only [List.flatten_cons, List.flatten_nil, List.append_nil, List.cons_append, List.nil_append]
  after_reads_simp
  rfl

theorem ix0 : ∀ t : Fin cfg0.N, win0_0.index t = ![t.val / 2, 0] := (by decide +kernel : ∀ t : Fin grid0.N, _)
theorem ix1 : ∀ t : Fin cfg0.N, win0_1.index t = ![0, t.val % 2] := (by decide +kernel : ∀ t : Fin grid0.N, _)
theorem ix2 : ∀ t : Fin cfg0.N, win0_2.index t = ![t.val / 2, t.val % 2] := (by decide +kernel : ∀ t : Fin grid0.N, _)

/-! ## One block -/

/-- The block's place in the left operand, and in the right one, at term `k` of a sum. -/
abbrev L (y : S1024x1024.Idx) (k : Fin 512) : S1024x512.Idx := fun a => match a with | ⟨0, _⟩ => ⟨(y 0).val, (y 0).isLt⟩ | ⟨1, _⟩ => k
abbrev R (y : S1024x1024.Idx) (k : Fin 512) : S512x1024.Idx := fun a => match a with | ⟨0, _⟩ => k | ⟨1, _⟩ => ⟨(y 1).val, (y 1).isLt⟩

theorem pay (a : S1024x512.Idx → EReal) (b : S512x1024.Idx → EReal) (y : S1024x1024.Idx) :
    k0_pay1 (F := Ideal) a b y = ∑ k : Fin 512, a (L y k) * b (R y k) := by
  unfold k0_pay1
  rw [shapeCast_self, shapeCast_self]
  exact Cert.Prod.dot_sum (φ₁ := .bf16) (φ₂ := .bf16) _ 512 rfl rfl none a b y (L y) (R y)
    (fun k => funext fun a => match a with | ⟨0, _⟩ => rfl | ⟨1, _⟩ => rfl)
    (fun k => funext fun a => match a with | ⟨0, _⟩ => rfl | ⟨1, _⟩ => rfl)

/-- The product with the widened weight. -/
def prod (x : S2048x512.Idx → EReal) (w : S512x2048.Idx → EReal) (z : S2048x2048.Idx) : EReal :=
  ∑ k : Fin 512, x (fun a => match a with | ⟨0, _⟩ => ⟨(z 0).val, (z 0).isLt⟩ | ⟨1, _⟩ => k) * w (fun a => match a with | ⟨0, _⟩ => k | ⟨1, _⟩ => ⟨(z 1).val, (z 1).isLt⟩)

set_option maxHeartbeats 1000000 in
/-- The array, for whatever the widened operand holds. -/
theorem arr (W : S512x2048.Idx → EReal) (hW : (V (F := Ideal) m c main_v4 : S512x2048.Idx → EReal) = W) :
    (dats m 0 c).arrAt 2 cfg0.N = prod (a0 m c) W := by
  refine (dats m 0 c).arrAt_eq_of_covers 2 _ (by decide +kernel) fun t hf y => ?_
  blk_simp
  rw [after0_2]
  frame_out
  rw [pay]
  unfold prod
  refine Fin.sum_fin_congr fun k => ?_
  congr 1
  · blk_simp [iblk]
    rw [V_x]
    blk_ext [ix0, ix2]
  · blk_simp [iblk]
    rw [hW]
    blk_ext [ix1, ix2]

/-! ## The heads cut back -/

/-- The host's cut of the kernel's columns. -/
def cut (u : S2048x2048.Idx → EReal) : S2048x1536.Idx → EReal :=
  narrow (r := 2048) shapeCasts_S2048x2048_S2048x8x256 slices_S2048x8x256_S2048x8x192_0_0_0 shapeCasts_S2048x8x192_S2048x1536 u

theorem arr_inj : Function.Injective (Pipeline.arrRef spec0) := by decide

/-- The result, in terms of the array the kernel writes. -/
theorem tail : Pipeline.afterTail₀ cfgs (dats m) 0 (V0 m) [hostOps1] c main_v8 = cut ((dats m 0 c).arrAt 2 cfg0.N) := by
  have h := Pipeline.withArrays_arr spec0 arr_inj c (V0 m c) (fun w => (dats m 0 c).arrAt w cfg0.N) 2
  rw [← h]
  unfold Pipeline.afterTail₀ cut
  generalize Pipeline.withArrays _ c (V0 m c) _ = W
  simp only [List.flatten_cons, List.flatten_nil, List.append_nil]
  after_reads_simp
  rfl

theorem same : Pipeline.afterTail₀ cfgs (dats m) 0 (V0 m) [hostOps1] c main_v8 = val_main_v0 (F := Ideal) (a0 m c) (a1 m c) := by
  rw [tail, arr _ V_w]
  refine funext fun z => (narrow_val (r := 2048) _ z).trans ?_
  rw [val_main_v0_apply]
  unfold prod wide
  refine Fin.sum_fin_congr fun k => ?_
  rw [widen_val (r := 512) _ _ (z 1).val (z 1).isLt rfl]
  exact congrArg₂ (· * ·) (congrArg (a0 m c) (funext fun a => match a with | ⟨0, _⟩ => rfl | ⟨1, _⟩ => rfl))
    (congrArg (a1 m c) (funext fun a => match a with | ⟨0, _⟩ => rfl | ⟨1, _⟩ => rfl))

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8) :=
  (θ_run defs _ _).mono (fun _ h c => (h c).2 main_v8 (Pipeline.mem_restRefs_of main_v8 (by decide) (by decide))) (run_main m ρ)

end Cert.QYIdeal.Hand

namespace Cert.QYRefIdeal.Hand

open Cert.QYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.QYRefIdeal.Hand

namespace Cert

open Idealize.ShloMosaic Idealize.ShloMosaic.TcCoe Idealize.SL.Sem
open Cert.QYIdeal.Hand Cert.QYRefIdeal.Read

theorem algebraic_q_y : algebraic_QYIdeal_QYRefIdeal (hQYIdeal := Cert.QYIdeal.Gen.facts)
    (hQYRefIdeal := Cert.QYRefIdeal.Gen.facts) :=
  fun m ρ m' ρ' hpre hag =>
    ⟨fun c => val_main_v0 (F := Ideal) (a0 m c) (a1 m c),
     (θ_run _ _ _).mono (fun r h c => ⟨(h.1 c).trans same, h.2.1 c⟩) (θ_run_and (run_vals m ρ) (Cert.QYIdeal.Gen.frame m ρ)),
     (θ_run _ _ _).mono (fun r h c => ⟨(h c).1.trans ((val_main_v0_eq _ _).trans
       (congrArg₂ (val_main_v0 (F := Ideal)) (hag c).1 (hag c).2)), (h c).2⟩) (Cert.QYRefIdeal.Value.run m' ρ')⟩

end Cert
-- ==== Proof.QWVal.lean ====
/-
The gradient of the query projection's weight: the kernel's array, cut back to the heads' columns, is the reference's.
-/
module

public import proofs.«01_k».proof.Defs
public import proofs.«01_k».proof.Proof.Prod
public import proofs.«01_k».proof.Proof.Heads
public import proofs.«01_k».proof.Proof.Gen.QWIdeal.Frame
public import proofs.«01_k».proof.Proof.Gen.QWRefIdeal.Run
public import proofs.«01_k».proof.Proof.Gen.QWRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.QWIdeal.Hand

open Cert.QWIdeal Cert.QWIdeal.Gen Cert.Heads
open Idealize.ShloMosaic Idealize.ShloMosaic.TcCoe Idealize.SL.Sem
open Cert.QWRefIdeal.Read (val_main_v3 val_main_v3_apply val_main_v2_apply val_main_v4 val_main_v4_apply)

variable (m : (ℓ : Loc nD τ sig) → Buf (Elt Ideal) ℓ) (c : Dev nD)

/-- The arguments as launched. -/
def a0 : S2048x512.Idx → EReal := m ((c : Thread nD τ).loc main_arg0)
def a1 : S2048x1536.Idx → EReal := m ((c : Thread nD τ).loc main_arg1)

variable {m c}

/-! ## The arrays the kernel reads -/

/-- The gradient, its heads widened. -/
def wide (x : S2048x1536.Idx → EReal) : S2048x2048.Idx → EReal :=
  widen (r := 2048) shapeCasts_S2048x1536_S2048x8x192 pads_S2048x8x192_S2048x8x256_000_000_0640 h_S_ shapeCasts_S2048x8x256_S2048x2048 zero x

theorem V_x : (V (F := Ideal) m c main_v0 : S2048x512.Idx → EReal) = a0 m c := by
  unfold V V0 a0
  simp only [List.flatten_cons, List.flatten_nil, List.append_nil, List.cons_append, List.nil_append]
  after_reads_simp
  rfl
theorem V_d : (V (F := Ideal) m c main_v4 : S2048x2048.Idx → EReal) = wide (a1 m c) := by
  unfold V V0 a1
  simp only [List.flatten_cons, List.flatten_nil, List.append_nil, List.cons_append, List.nil_append]
  after_reads_simp
  rfl

theorem ix0 : ∀ t : Fin cfg0.N, win0_0.index t = ![0, 0] := (by decide +kernel : ∀ t : Fin grid0.N, _)
theorem ix1 : ∀ t : Fin cfg0.N, win0_1.index t = ![0, t.val] := (by decide +kernel : ∀ t : Fin grid0.N, _)
theorem ix2 : ∀ t : Fin cfg0.N, win0_2.index t = ![0, t.val] := (by decide +kernel : ∀ t : Fin grid0.N, _)

/-! ## One block -/

/-- The block's place in the left operand, and in the right one, at term `k` of a sum. -/
abbrev L (y : S512x1024.Idx) (k : Fin 2048) : S2048x512.Idx := fun a => match a with | ⟨0, _⟩ => k | ⟨1, _⟩ => ⟨(y 0).val, (y 0).isLt⟩
abbrev R (y : S512x1024.Idx) (k : Fin 2048) : S2048x1024.Idx := fun a => match a with | ⟨0, _⟩ => k | ⟨1, _⟩ => ⟨(y 1).val, (y 1).isLt⟩

theorem pay (a : S2048x512.Idx → EReal) (b : S2048x1024.Idx → EReal) (y : S512x1024.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

/-- The product with the widened gradient. -/
def prod (x : S2048x512.Idx → EReal) (d : S2048x2048.Idx → EReal) (z : S512x2048.Idx) : EReal :=
  ∑ k : Fin 2048, x (fun a => match a with | ⟨0, _⟩ => k | ⟨1, _⟩ => ⟨(z 0).val, (z 0).isLt⟩) * d (fun a => match a with | ⟨0, _⟩ => k | ⟨1, _⟩ => ⟨(z 1).val, (z 1).isLt⟩)

set_option maxHeartbeats 1000000 in
/-- The array, for whatever the widened operand holds. -/
theorem arr (W : S2048x2048.Idx → EReal) (hW : (V (F := Ideal) m c main_v4 : S2048x2048.Idx → EReal) = W) :
    (dats m 0 c).arrAt 2 cfg0.N = prod (a0 m c) W := by
  refine (dats m 0 c).arrAt_eq_of_covers 2 _ (by decide +kernel) fun t hf y => ?_
  blk_simp
  rw [after0_2]
  frame_out
  rw [pay]
  unfold prod
  refine Fin.sum_fin_congr fun k => ?_
  congr 1
  · blk_simp [iblk]
    rw [V_x]
    blk_ext [ix0, ix2]
  · blk_simp [iblk]
    rw [hW]
    blk_ext [ix1, ix2]

/-! ## The heads cut back -/

/-- The host's cut of the kernel's columns. -/
def cut (u : S512x2048.Idx → EReal) : S512x1536.Idx → EReal :=
  narrow (r := 512) shapeCasts_S512x2048_S512x8x256 slices_S512x8x256_S512x8x192_0_0_0 shapeCasts_S512x8x192_S512x1536 u

theorem arr_inj : Function.Injective (Pipeline.arrRef spec0) := by decide

/-- The result, in terms of the array the kernel writes. -/
theorem tail : Pipeline.afterTail₀ cfgs (dats m) 0 (V0 m) [hostOps1] c main_v8 = cut ((dats m 0 c).arrAt 2 cfg0.N) := by
  have h := Pipeline.withArrays_arr spec0 arr_inj c (V0 m c) (fun w => (dats m 0 c).arrAt w cfg0.N) 2
  rw [← h]
  unfold Pipeline.afterTail₀ cut
  generalize Pipeline.withArrays _ c (V0 m c) _ = W
  simp only [List.flatten_cons, List.flatten_nil, List.append_nil]
  after_reads_simp
  rfl

open Cert.QWRefIdeal.Read (idx_main_v3 lidx_main_v2 ridx_main_v2) in
/-- The reference's array, with each product's factors in the kernel's order. -/
theorem ref_val (x0 : S2048x512.Idx → EReal) (x1 : S2048x1536.Idx → EReal) (z : S512x1536.Idx) :
    val_main_v4 (F := Ideal) x0 x1 z = ∑ k : Fin 2048, x0 (ridx_main_v2 (idx_main_v3 z) k) * x1 (lidx_main_v2 (idx_main_v3 z) k) := by
  refine (val_main_v4_apply (F := Ideal) x0 x1 z).trans ?_
  refine Eq.trans (?_ : _ = val_main_v3 (F := Ideal) x0 x1 z) ?_
  · rfl
  rw [val_main_v3_apply, val_main_v2_apply]
  exact Finset.sum_congr rfl fun k _ => mul_comm _ _

theorem same : Pipeline.afterTail₀ cfgs (dats m) 0 (V0 m) [hostOps1] c main_v8 = val_main_v4 (F := Ideal) (a0 m c) (a1 m c) := by
  rw [tail, arr _ V_d]
  refine funext fun z => (narrow_val (r := 512) _ z).trans ?_
  rw [ref_val]
  unfold prod wide
  refine Fin.sum_fin_congr fun k => ?_
  rw [widen_val (r := 2048) _ _ (z 1).val (z 1).isLt rfl]
  exact congrArg₂ (· * ·) (congrArg (a0 m c) (funext fun a => match a with | ⟨0, _⟩ => rfl | ⟨1, _⟩ => rfl))
    (congrArg (a1 m c) (funext fun a => match a with | ⟨0, _⟩ => rfl | ⟨1, _⟩ => rfl))

theorem run_vals (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8) :=
  (θ_run defs _ _).mono (fun _ h c => (h c).2 main_v8 (Pipeline.mem_restRefs_of main_v8 (by decide) (by decide))) (run_main m ρ)

end Cert.QWIdeal.Hand

namespace Cert.QWRefIdeal.Hand

open Cert.QWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.QWRefIdeal.Hand

namespace Cert

open Idealize.ShloMosaic Idealize.ShloMosaic.TcCoe Idealize.SL.Sem
open Cert.QWIdeal.Hand Cert.QWRefIdeal.Read

theorem algebraic_q_w : algebraic_QWIdeal_QWRefIdeal (hQWIdeal := Cert.QWIdeal.Gen.facts)
    (hQWRefIdeal := Cert.QWRefIdeal.Gen.facts) :=
  fun m ρ m' ρ' hpre hag =>
    ⟨fun c => val_main_v4 (F := Ideal) (a0 m c) (a1 m c),
     (θ_run _ _ _).mono (fun r h c => ⟨(h.1 c).trans same, h.2.1 c⟩) (θ_run_and (run_vals m ρ) (Cert.QWIdeal.Gen.frame m ρ)),
     (θ_run _ _ _).mono (fun r h c => ⟨(h c).1.trans ((val_main_v4_eq _ _).trans
       (congrArg₂ (val_main_v4 (F := Ideal)) (hag c).1 (hag c).2)), (h c).2⟩) (Cert.QWRefIdeal.Value.run m' ρ')⟩

end Cert
-- ==== Proof.QXVal.lean ====
/-
The gradient of the query projection's input: the kernel's array is the reference's.
-/
module

public import proofs.«01_k».proof.Defs
public import proofs.«01_k».proof.Proof.Prod
public import proofs.«01_k».proof.Proof.Heads
public import proofs.«01_k».proof.Proof.Gen.QXIdeal.Value
public import proofs.«01_k».proof.Proof.Gen.QXRefIdeal.Run
public import proofs.«01_k».proof.Proof.Gen.QXRefIdeal.Read
public import Idealize.ShloMosaic.Lib.Pipeline.ValueKit
public import Idealize.ShloMosaic.Lib.StableHlo.RunRead
public import Idealize.ShloMosaic.Lib.Quiescent

@[expose] public section

set_option maxRecDepth 16384

noncomputable section

namespace Cert.QXIdeal.Hand

open Cert.QXIdeal Cert.QXIdeal.Gen Cert.Heads
open Idealize.ShloMosaic Idealize.ShloMosaic.TcCoe Idealize.SL.Sem
open Cert.QXRefIdeal.Read (val_main_v2 val_main_v2_apply)

variable (m : (ℓ : Loc nD τ sig) → Buf (Elt Ideal) ℓ) (c : Dev nD)

/-- The arguments as launched. -/
def a0 : S2048x1536.Idx → EReal := m ((c : Thread nD τ).loc main_arg0)
def a1 : S512x1536.Idx → EReal := m ((c : Thread nD τ).loc main_arg1)

variable {m c}

/-! ## The arrays the kernel reads -/

/-- The gradient, its heads widened. -/
def wideD (x : S2048x1536.Idx → EReal) : S2048x2048.Idx → EReal :=
  widen (r := 2048) shapeCasts_S2048x1536_S2048x8x192 pads_S2048x8x192_S2048x8x256_000_000_0640 h_S_ shapeCasts_S2048x8x256_S2048x2048 zero x
/-- The weight, its heads widened. -/
def wideW (x : S512x1536.Idx → EReal) : S512x2048.Idx → EReal :=
  widen (r := 512) shapeCasts_S512x1536_S512x8x192 pads_S512x8x192_S512x8x256_000_000_0640 h_S_ shapeCasts_S512x8x256_S512x2048 zero x

theorem V_d : (V (F := Ideal) m c main_v3 : S2048x2048.Idx → EReal) = wideD (a0 m c) := by
  unfold V a0
  simp only [List.flatten_cons, List.flatten_nil, List.append_nil, List.cons_append, List.nil_append]
  after_reads_simp
  rfl
theorem V_w : (V (F := Ideal) m c main_v7 : S512x2048.Idx → EReal) = wideW (a1 m c) := by
  unfold V a1
  simp only [List.flatten_cons, List.flatten_nil, List.append_nil, List.cons_append, List.nil_append]
  after_reads_simp
  rfl

theorem ix0 : ∀ t : Fin cfg0.N, win0_0.index t = ![t.val, 0] := (by decide +kernel : ∀ t : Fin grid0.N, _)
theorem ix1 : ∀ t : Fin cfg0.N, win0_1.index t = ![0, 0] := (by decide +kernel : ∀ t : Fin grid0.N, _)
theorem ix2 : ∀ t : Fin cfg0.N, win0_2.index t = ![t.val, 0] := (by decide +kernel : ∀ t : Fin grid0.N, _)

/-! ## One block -/

/-- The block's place in the left operand, and in the right one, at term `k` of a sum. -/
abbrev L (y : S1024x512.Idx) (k : Fin 2048) : S1024x2048.Idx := fun a => match a with | ⟨0, _⟩ => ⟨(y 0).val, (y 0).isLt⟩ | ⟨1, _⟩ => k
abbrev R (y : S1024x512.Idx) (k : Fin 2048) : S512x2048.Idx := fun a => match a with | ⟨0, _⟩ => ⟨(y 1).val, (y 1).isLt⟩ | ⟨1, _⟩ => k

theorem pay (a : S1024x2048.Idx → EReal) (b : S512x2048.Idx → EReal) (y : S1024x512.Idx) :
    k0_pay1 (F := Ideal) a b y = ∑ k : Fin 2048, a (L y k) * b (R y k) := by
  unfold k0_pay1
  rw [shapeCast_self, shapeCast_self]
  exact Cert.Prod.dot_sum (φ₁ := .bf16) (φ₂ := .bf16) _ 2048 rfl rfl none a b y (L y) (R y)
    (fun k => funext fun a => match a with | ⟨0, _⟩ => rfl | ⟨1, _⟩ => rfl)
    (fun k => funext fun a => match a with | ⟨0, _⟩ => rfl | ⟨1, _⟩ => rfl)

/-- The reference's array, its sum taken over the widened columns: the zeros add nothing. -/
theorem ref_val (d : S2048x1536.Idx → EReal) (w : S512x1536.Idx → EReal) (z : S2048x512.Idx) :
    val_main_v2 (F := Ideal) d w z = ∑ e : Fin 2048,
      wideD d (at2 (z 0).val e.val (z 0).isLt e.isLt) * wideW w (at2 (z 1).val e.val (z 1).isLt e.isLt) := by
  rw [val_main_v2_apply]
  unfold wideD wideW
  refine Fintype.sum_of_injective (fun k : Fin 1536 => (⟨place k.val, place_lt k.isLt⟩ : Fin 2048))
    (fun k l h => Fin.ext (place_inj (congrArg Fin.val h))) _ _ (fun e he => ?_) (fun k => ?_)
  · have hn : 192 ≤ e.val % 256 := by
      by_contra hc
      obtain ⟨k, hk, hp⟩ := place_onto e.isLt (by omega)
      exact he ⟨⟨k, hk⟩, Fin.ext hp⟩
    rw [widen_zero (r := 512) zero_val w (at2 (z 1).val e.val (z 1).isLt e.isLt) hn]
    exact mul_zero _
  · rw [widen_val (r := 2048) d _ k.val k.isLt rfl, widen_val (r := 512) w _ k.val k.isLt rfl]
    exact congrArg₂ (· * ·) (congrArg d (funext fun a => match a with | ⟨0, _⟩ => rfl | ⟨1, _⟩ => rfl))
      (congrArg w (funext fun a => match a with | ⟨0, _⟩ => rfl | ⟨1, _⟩ => rfl))

theorem arr : (dats m 0 c).arrAt 2 cfg0.N = val_main_v2 (F := Ideal) (a0 m c) (a1 m c) := by
  refine (dats m 0 c).arrAt_eq_of_covers 2 _ (by decide +kernel) fun t hf y => ?_
  blk_simp
  rw [after0_2]
  frame_out
  rw [pay, ref_val]
  refine Fin.sum_fin_congr fun k => ?_
  congr 1
  · blk_simp [iblk]
    rw [V_d]
    blk_ext [ix0, ix2]
  · blk_simp [iblk]
    rw [V_w]
    blk_ext [ix1, ix2]

end Cert.QXIdeal.Hand

namespace Cert.QXRefIdeal.Hand

open Cert.QXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.QXRefIdeal.Hand

namespace Cert

open Idealize.ShloMosaic Idealize.ShloMosaic.TcCoe Idealize.SL.Sem
open Cert.QXIdeal.Hand Cert.QXRefIdeal.Read

theorem algebraic_q_x : algebraic_QXIdeal_QXRefIdeal (hQXIdeal := Cert.QXIdeal.Gen.facts)
    (hQXRefIdeal := Cert.QXRefIdeal.Gen.facts) :=
  fun m ρ m' ρ' hpre hag =>
    ⟨fun c => val_main_v2 (F := Ideal) (a0 m c) (a1 m c),
     (θ_run _ _ _).mono (fun r h c => ⟨(h c).1.trans arr, (h c).2⟩) (Cert.QXIdeal.Value.run_blocks m ρ),
     (θ_run _ _ _).mono (fun r h c => ⟨(h c).1.trans ((val_main_v2_eq _ _).trans
       (congrArg₂ (val_main_v2 (F := Ideal)) (hag c).1 (hag c).2)), (h c).2⟩) (Cert.QXRefIdeal.Value.run m' ρ')⟩

end Cert
-- ==== Proof.SameVal.lean ====
/-
Four calls that are earlier ones under another name: their claims are the earlier ones.
-/
module

public import proofs.«01_k».proof.Defs
public import proofs.«01_k».proof.Proof.GateXVal
public import proofs.«01_k».proof.Proof.OutWVal
public import proofs.«01_k».proof.Proof.KvYVal
public import proofs.«01_k».proof.Proof.KvWVal
public import proofs.«01_k».proof.Proof.Gen.MixXIdeal.Value
public import proofs.«01_k».proof.Proof.Gen.MixXRefIdeal.Run
public import proofs.«01_k».proof.Proof.Gen.OutVIdeal.Value
public import proofs.«01_k».proof.Proof.Gen.OutVRefIdeal.Run
public import proofs.«01_k».proof.Proof.Gen.PleYIdeal.Value
public import proofs.«01_k».proof.Proof.Gen.PleYRefIdeal.Run
public import proofs.«01_k».proof.Proof.Gen.PleWIdeal.Value
public import proofs.«01_k».proof.Proof.Gen.PleWRefIdeal.Run

@[expose] public section

set_option maxRecDepth 16384

noncomputable section

namespace Cert.MixXRefIdeal.Hand

open Cert.MixXRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.MixXRefIdeal.Hand

namespace Cert.OutVRefIdeal.Hand

open Cert.OutVRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.OutVRefIdeal.Hand

namespace Cert.PleYRefIdeal.Hand

open Cert.PleYRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.PleYRefIdeal.Hand

namespace Cert.PleWRefIdeal.Hand

open Cert.PleWRefIdeal
open Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) _⟩) (Value.run m ρ)

end Cert.PleWRefIdeal.Hand

namespace Cert

open Idealize.ShloMosaic Idealize.ShloMosaic.TcCoe Idealize.SL.Sem

/-- The two texts' body tables are one. -/
theorem body_mix : Cert.MixXIdeal.defs₀ (F := Ideal) = Cert.GateXIdeal.defs₀ (F := Ideal) :=
  congrArg Defs.onTc (funext fun l => funext fun x => match l, x with
    | 0, (_, _) => rfl
    | ⟨_ + 1, h⟩, _ => absurd h (Nat.not_lt.2 (Nat.le_add_left _ _)))

theorem defs_mix : Cert.MixXIdeal.defs (F := Ideal) = Cert.GateXIdeal.defs (F := Ideal) :=
  congrArg (Pipeline.defs (Cert.GateXIdeal.pcfgs (F := Ideal))) body_mix

theorem algebraic_mix_x : algebraic_MixXIdeal_MixXRefIdeal (hMixXIdeal := Cert.MixXIdeal.Gen.facts)
    (hMixXRefIdeal := Cert.MixXRefIdeal.Gen.facts) := by
  unfold algebraic_MixXIdeal_MixXRefIdeal
  rw [defs_mix]
  exact algebraic_gate_x

theorem body_out : Cert.OutVIdeal.defs₀ (F := Ideal) = Cert.OutWIdeal.defs₀ (F := Ideal) :=
  congrArg Defs.onTc (funext fun l => funext fun x => match l, x with
    | 0, (_, _) => rfl
    | ⟨_ + 1, h⟩, _ => absurd h (Nat.not_lt.2 (Nat.le_add_left _ _)))

theorem defs_out : Cert.OutVIdeal.defs (F := Ideal) = Cert.OutWIdeal.defs (F := Ideal) :=
  congrArg (Pipeline.defs (Cert.OutWIdeal.pcfgs (F := Ideal))) body_out

theorem algebraic_out_v : algebraic_OutVIdeal_OutVRefIdeal (hOutVIdeal := Cert.OutVIdeal.Gen.facts)
    (hOutVRefIdeal := Cert.OutVRefIdeal.Gen.facts) := by
  unfold algebraic_OutVIdeal_OutVRefIdeal
  rw [defs_out]
  exact algebraic_out_w

theorem body_ple_y : Cert.PleYIdeal.defs₀ (F := Ideal) = Cert.KvYIdeal.defs₀ (F := Ideal) :=
  congrArg Defs.onTc (funext fun l => funext fun x => match l, x with
    | 0, (_, _) => rfl
    | ⟨_ + 1, h⟩, _ => absurd h (Nat.not_lt.2 (Nat.le_add_left _ _)))

theorem defs_ple_y : Cert.PleYIdeal.defs (F := Ideal) = Cert.KvYIdeal.defs (F := Ideal) :=
  congrArg (Pipeline.defs (Cert.KvYIdeal.pcfgs (F := Ideal))) body_ple_y

theorem algebraic_ple_y : algebraic_PleYIdeal_PleYRefIdeal (hPleYIdeal := Cert.PleYIdeal.Gen.facts)
    (hPleYRefIdeal := Cert.PleYRefIdeal.Gen.facts) := by
  unfold algebraic_PleYIdeal_PleYRefIdeal
  rw [defs_ple_y]
  exact algebraic_kv_y

theorem body_ple_w : Cert.PleWIdeal.defs₀ (F := Ideal) = Cert.KvWIdeal.defs₀ (F := Ideal) :=
  congrArg Defs.onTc (funext fun l => funext fun x => match l, x with
    | 0, (_, _) => rfl
    | ⟨_ + 1, h⟩, _ => absurd h (Nat.not_lt.2 (Nat.le_add_left _ _)))

theorem defs_ple_w : Cert.PleWIdeal.defs (F := Ideal) = Cert.KvWIdeal.defs (F := Ideal) :=
  congrArg (Pipeline.defs (Cert.KvWIdeal.pcfgs (F := Ideal))) body_ple_w

theorem algebraic_ple_w : algebraic_PleWIdeal_PleWRefIdeal (hPleWIdeal := Cert.PleWIdeal.Gen.facts)
    (hPleWRefIdeal := Cert.PleWRefIdeal.Gen.facts) := by
  unfold algebraic_PleWIdeal_PleWRefIdeal
  rw [defs_ple_w]
  exact algebraic_kv_w

end Cert
-- ==== Proof.lean ====
/- The certificate: each claim from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Gen.DownX.Frame
public import proofs.«01_k».proof.Proof.Gen.DownXIdeal.Frame
public import proofs.«01_k».proof.Proof.Gen.DownXIdeal.Value
public import proofs.«01_k».proof.Proof.Gen.DownXRefIdeal.Run
public import proofs.«01_k».proof.Proof.Gen.DownXRefIdeal.Read
public import proofs.«01_k».proof.Proof.Gen.DownW.Frame
public import proofs.«01_k».proof.Proof.Gen.DownWIdeal.Frame
public import proofs.«01_k».proof.Proof.Gen.DownWIdeal.Value
public import proofs.«01_k».proof.Proof.Gen.DownWRefIdeal.Run
public import proofs.«01_k».proof.Proof.Gen.DownWRefIdeal.Read
public import proofs.«01_k».proof.Proof.Gen.UpW.Frame
public import proofs.«01_k».proof.Proof.Gen.UpWIdeal.Frame
public import proofs.«01_k».proof.Proof.Gen.UpWIdeal.Value
public import proofs.«01_k».proof.Proof.Gen.UpWRefIdeal.Run
public import proofs.«01_k».proof.Proof.Gen.UpWRefIdeal.Read
public import proofs.«01_k».proof.Proof.Gen.UpX.Frame
public import proofs.«01_k».proof.Proof.Gen.UpXIdeal.Frame
public import proofs.«01_k».proof.Proof.Gen.UpXIdeal.Value
public import proofs.«01_k».proof.Proof.Gen.UpXRefIdeal.Run
public import proofs.«01_k».proof.Proof.Gen.UpXRefIdeal.Read
public import proofs.«01_k».proof.Proof.Gen.UpY.Frame
public import proofs.«01_k».proof.Proof.Gen.UpYIdeal.Frame
public import proofs.«01_k».proof.Proof.Gen.UpYRefIdeal.Run
public import proofs.«01_k».proof.Proof.Gen.UpYRefIdeal.Read
public import proofs.«01_k».proof.Proof.Gen.DownY.Frame
public import proofs.«01_k».proof.Proof.Gen.DownYIdeal.Frame
public import proofs.«01_k».proof.Proof.Gen.DownYIdeal.Value
public import proofs.«01_k».proof.Proof.Gen.DownYRefIdeal.Run
public import proofs.«01_k».proof.Proof.Gen.DownYRefIdeal.Read
public import proofs.«01_k».proof.Proof.Gen.GateY.Frame
public import proofs.«01_k».proof.Proof.Gen.GateYIdeal.Frame
public import proofs.«01_k».proof.Proof.Gen.GateYIdeal.Value
public import proofs.«01_k».proof.Proof.Gen.GateYRefIdeal.Run
public import proofs.«01_k».proof.Proof.Gen.GateYRefIdeal.Read
public import proofs.«01_k».proof.Proof.Gen.GateW.Frame
public import proofs.«01_k».proof.Proof.Gen.GateWIdeal.Frame
public import proofs.«01_k».proof.Proof.Gen.GateWIdeal.Value
public import proofs.«01_k».proof.Proof.Gen.GateWRefIdeal.Run
public import proofs.«01_k».proof.Proof.Gen.GateWRefIdeal.Read
public import proofs.«01_k».proof.Proof.Gen.GateX.Frame
public import proofs.«01_k».proof.Proof.Gen.GateXIdeal.Frame
public import proofs.«01_k».proof.Proof.Gen.GateXIdeal.Value
public import proofs.«01_k».proof.Proof.Gen.GateXRefIdeal.Run
public import proofs.«01_k».proof.Proof.Gen.GateXRefIdeal.Read
public import proofs.«01_k».proof.Proof.Gen.OutS.Frame
public import proofs.«01_k».proof.Proof.Gen.OutSIdeal.Frame
public import proofs.«01_k».proof.Proof.Gen.OutSIdeal.Value
public import proofs.«01_k».proof.Proof.Gen.OutSRefIdeal.Run
public import proofs.«01_k».proof.Proof.Gen.OutSRefIdeal.Read
public import proofs.«01_k».proof.Proof.Gen.OutM.Frame
public import proofs.«01_k».proof.Proof.Gen.OutMIdeal.Frame
public import proofs.«01_k».proof.Proof.Gen.OutMIdeal.Value
public import proofs.«01_k».proof.Proof.Gen.OutMRefIdeal.Run
public import proofs.«01_k».proof.Proof.Gen.OutMRefIdeal.Read
public import proofs.«01_k».proof.Proof.Gen.OutW.Frame
public import proofs.«01_k».proof.Proof.Gen.OutWIdeal.Frame
public import proofs.«01_k».proof.Proof.Gen.OutWIdeal.Value
public import proofs.«01_k».proof.Proof.Gen.OutWRefIdeal.Run
public import proofs.«01_k».proof.Proof.Gen.OutWRefIdeal.Read
public import proofs.«01_k».proof.Proof.Gen.MixX.Frame
public import proofs.«01_k».proof.Proof.Gen.MixXIdeal.Frame
public import proofs.«01_k».proof.Proof.Gen.MixXIdeal.Value
public import proofs.«01_k».proof.Proof.Gen.MixXRefIdeal.Run
public import proofs.«01_k».proof.Proof.Gen.MixXRefIdeal.Read
public import proofs.«01_k».proof.Proof.Gen.OutV.Frame
public import proofs.«01_k».proof.Proof.Gen.OutVIdeal.Frame
public import proofs.«01_k».proof.Proof.Gen.OutVIdeal.Value
public import proofs.«01_k».proof.Proof.Gen.OutVRefIdeal.Run
public import proofs.«01_k».proof.Proof.Gen.OutVRefIdeal.Read
public import proofs.«01_k».proof.Proof.Gen.InY.Frame
public import proofs.«01_k».proof.Proof.Gen.InYIdeal.Frame
public import proofs.«01_k».proof.Proof.Gen.InYRefIdeal.Run
public import proofs.«01_k».proof.Proof.Gen.InYRefIdeal.Read
public import proofs.«01_k».proof.Proof.Gen.InW.Frame
public import proofs.«01_k».proof.Proof.Gen.InWIdeal.Frame
public import proofs.«01_k».proof.Proof.Gen.InWRefIdeal.Run
public import proofs.«01_k».proof.Proof.Gen.InWRefIdeal.Read
public import proofs.«01_k».proof.Proof.Gen.InX.Frame
public import proofs.«01_k».proof.Proof.Gen.InXIdeal.Frame
public import proofs.«01_k».proof.Proof.Gen.InXIdeal.Value
public import proofs.«01_k».proof.Proof.Gen.InXRefIdeal.Run
public import proofs.«01_k».proof.Proof.Gen.InXRefIdeal.Read
public import proofs.«01_k».proof.Proof.Gen.KvY.Frame
public import proofs.«01_k».proof.Proof.Gen.KvYIdeal.Frame
public import proofs.«01_k».proof.Proof.Gen.KvYIdeal.Value
public import proofs.«01_k».proof.Proof.Gen.KvYRefIdeal.Run
public import proofs.«01_k».proof.Proof.Gen.KvYRefIdeal.Read
public import proofs.«01_k».proof.Proof.Gen.KvW.Frame
public import proofs.«01_k».proof.Proof.Gen.KvWIdeal.Frame
public import proofs.«01_k».proof.Proof.Gen.KvWIdeal.Value
public import proofs.«01_k».proof.Proof.Gen.KvWRefIdeal.Run
public import proofs.«01_k».proof.Proof.Gen.KvWRefIdeal.Read
public import proofs.«01_k».proof.Proof.Gen.KvX.Frame
public import proofs.«01_k».proof.Proof.Gen.KvXIdeal.Frame
public import proofs.«01_k».proof.Proof.Gen.KvXIdeal.Value
public import proofs.«01_k».proof.Proof.Gen.KvXRefIdeal.Run
public import proofs.«01_k».proof.Proof.Gen.KvXRefIdeal.Read
public import proofs.«01_k».proof.Proof.Gen.PleY.Frame
public import proofs.«01_k».proof.Proof.Gen.PleYIdeal.Frame
public import proofs.«01_k».proof.Proof.Gen.PleYIdeal.Value
public import proofs.«01_k».proof.Proof.Gen.PleYRefIdeal.Run
public import proofs.«01_k».proof.Proof.Gen.PleYRefIdeal.Read
public import proofs.«01_k».proof.Proof.Gen.PleW.Frame
public import proofs.«01_k».proof.Proof.Gen.PleWIdeal.Frame
public import proofs.«01_k».proof.Proof.Gen.PleWIdeal.Value
public import proofs.«01_k».proof.Proof.Gen.PleWRefIdeal.Run
public import proofs.«01_k».proof.Proof.Gen.PleWRefIdeal.Read
public import proofs.«01_k».proof.Proof.Gen.QY.Frame
public import proofs.«01_k».proof.Proof.Gen.QYIdeal.Frame
public import proofs.«01_k».proof.Proof.Gen.QYRefIdeal.Run
public import proofs.«01_k».proof.Proof.Gen.QYRefIdeal.Read
public import proofs.«01_k».proof.Proof.Gen.QW.Frame
public import proofs.«01_k».proof.Proof.Gen.QWIdeal.Frame
public import proofs.«01_k».proof.Proof.Gen.QWRefIdeal.Run
public import proofs.«01_k».proof.Proof.Gen.QWRefIdeal.Read
public import proofs.«01_k».proof.Proof.Gen.QX.Frame
public import proofs.«01_k».proof.Proof.Gen.QXIdeal.Frame
public import proofs.«01_k».proof.Proof.Gen.QXIdeal.Value
public import proofs.«01_k».proof.Proof.Gen.QXRefIdeal.Run
public import proofs.«01_k».proof.Proof.Gen.QXRefIdeal.Read
public import proofs.«01_k».proof.Proof.BitsData
public import proofs.«01_k».proof.Proof.Data
public import proofs.«01_k».proof.Proof.Rest
public import proofs.«01_k».proof.Proof.Alg
public import proofs.«01_k».proof.Proof.DownXVal
public import proofs.«01_k».proof.Proof.DownWVal
public import proofs.«01_k».proof.Proof.UpWVal
public import proofs.«01_k».proof.Proof.UpXVal
public import proofs.«01_k».proof.Proof.UpYVal
public import proofs.«01_k».proof.Proof.DownYVal
public import proofs.«01_k».proof.Proof.GateYVal
public import proofs.«01_k».proof.Proof.GateWVal
public import proofs.«01_k».proof.Proof.GateXVal
public import proofs.«01_k».proof.Proof.OutSVal
public import proofs.«01_k».proof.Proof.OutMVal
public import proofs.«01_k».proof.Proof.OutWVal
public import proofs.«01_k».proof.Proof.InYVal
public import proofs.«01_k».proof.Proof.InWVal
public import proofs.«01_k».proof.Proof.InXVal
public import proofs.«01_k».proof.Proof.KvYVal
public import proofs.«01_k».proof.Proof.KvWVal
public import proofs.«01_k».proof.Proof.KvXVal
public import proofs.«01_k».proof.Proof.QYVal
public import proofs.«01_k».proof.Proof.QWVal
public import proofs.«01_k».proof.Proof.QXVal
public import proofs.«01_k».proof.Proof.SameVal

@[expose] public section

noncomputable section

namespace Cert.Proof

open Idealize.ShloMosaic Idealize.SL.Sem Cert.Kernel

/-- The named mask stands for ⊥, and the printed program says so at both places. -/
theorem preserves : Cert.preserves_Kernel_KernelIdeal :=
  ⟨rfl, fun _ => IdealRules.named_const.ideal_named _ _ _ _ rfl, IdealRules.named_const.ideal_named_scalar _ _ _ _ rfl⟩

theorem claim : Cert.Claim := ⟨Cert.Kernel.Gen.facts, Cert.KernelIdeal.Gen.facts, Cert.ReferenceIdeal.Gen.facts,
  Cert.DownX.Gen.facts, Cert.DownXIdeal.Gen.facts, Cert.DownXRefIdeal.Gen.facts,
  Cert.DownW.Gen.facts, Cert.DownWIdeal.Gen.facts, Cert.DownWRefIdeal.Gen.facts,
  Cert.UpW.Gen.facts, Cert.UpWIdeal.Gen.facts, Cert.UpWRefIdeal.Gen.facts,
  Cert.UpX.Gen.facts, Cert.UpXIdeal.Gen.facts, Cert.UpXRefIdeal.Gen.facts,
  Cert.UpY.Gen.facts, Cert.UpYIdeal.Gen.facts, Cert.UpYRefIdeal.Gen.facts,
  Cert.DownY.Gen.facts, Cert.DownYIdeal.Gen.facts, Cert.DownYRefIdeal.Gen.facts,
  Cert.GateY.Gen.facts, Cert.GateYIdeal.Gen.facts, Cert.GateYRefIdeal.Gen.facts,
  Cert.GateW.Gen.facts, Cert.GateWIdeal.Gen.facts, Cert.GateWRefIdeal.Gen.facts,
  Cert.GateX.Gen.facts, Cert.GateXIdeal.Gen.facts, Cert.GateXRefIdeal.Gen.facts,
  Cert.OutS.Gen.facts, Cert.OutSIdeal.Gen.facts, Cert.OutSRefIdeal.Gen.facts,
  Cert.OutM.Gen.facts, Cert.OutMIdeal.Gen.facts, Cert.OutMRefIdeal.Gen.facts,
  Cert.OutW.Gen.facts, Cert.OutWIdeal.Gen.facts, Cert.OutWRefIdeal.Gen.facts,
  Cert.MixX.Gen.facts, Cert.MixXIdeal.Gen.facts, Cert.MixXRefIdeal.Gen.facts,
  Cert.OutV.Gen.facts, Cert.OutVIdeal.Gen.facts, Cert.OutVRefIdeal.Gen.facts,
  Cert.InY.Gen.facts, Cert.InYIdeal.Gen.facts, Cert.InYRefIdeal.Gen.facts,
  Cert.InW.Gen.facts, Cert.InWIdeal.Gen.facts, Cert.InWRefIdeal.Gen.facts,
  Cert.InX.Gen.facts, Cert.InXIdeal.Gen.facts, Cert.InXRefIdeal.Gen.facts,
  Cert.KvY.Gen.facts, Cert.KvYIdeal.Gen.facts, Cert.KvYRefIdeal.Gen.facts,
  Cert.KvW.Gen.facts, Cert.KvWIdeal.Gen.facts, Cert.KvWRefIdeal.Gen.facts,
  Cert.KvX.Gen.facts, Cert.KvXIdeal.Gen.facts, Cert.KvXRefIdeal.Gen.facts,
  Cert.PleY.Gen.facts, Cert.PleYIdeal.Gen.facts, Cert.PleYRefIdeal.Gen.facts,
  Cert.PleW.Gen.facts, Cert.PleWIdeal.Gen.facts, Cert.PleWRefIdeal.Gen.facts,
  Cert.QY.Gen.facts, Cert.QYIdeal.Gen.facts, Cert.QYRefIdeal.Gen.facts,
  Cert.QW.Gen.facts, Cert.QWIdeal.Gen.facts, Cert.QWRefIdeal.Gen.facts,
  Cert.QX.Gen.facts, Cert.QXIdeal.Gen.facts, Cert.QXRefIdeal.Gen.facts,
  Cert.Pre_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  fun m ρ _ => Cert.DownX.Gen.frame m ρ,
  fun m ρ _ => Cert.DownXIdeal.Gen.frame m ρ,
  fun m ρ _ => Cert.DownXRefIdeal.Hand.frame m ρ,
  fun m ρ _ => Cert.DownW.Gen.frame m ρ,
  fun m ρ _ => Cert.DownWIdeal.Gen.frame m ρ,
  fun m ρ _ => Cert.DownWRefIdeal.Hand.frame m ρ,
  fun m ρ _ => Cert.UpW.Gen.frame m ρ,
  fun m ρ _ => Cert.UpWIdeal.Gen.frame m ρ,
  fun m ρ _ => Cert.UpWRefIdeal.Hand.frame m ρ,
  fun m ρ _ => Cert.UpX.Gen.frame m ρ,
  fun m ρ _ => Cert.UpXIdeal.Gen.frame m ρ,
  fun m ρ _ => Cert.UpXRefIdeal.Hand.frame m ρ,
  fun m ρ _ => Cert.UpY.Gen.frame m ρ,
  fun m ρ _ => Cert.UpYIdeal.Gen.frame m ρ,
  fun m ρ _ => Cert.UpYRefIdeal.Hand.frame m ρ,
  fun m ρ _ => Cert.DownY.Gen.frame m ρ,
  fun m ρ _ => Cert.DownYIdeal.Gen.frame m ρ,
  fun m ρ _ => Cert.DownYRefIdeal.Hand.frame m ρ,
  fun m ρ _ => Cert.GateY.Gen.frame m ρ,
  fun m ρ _ => Cert.GateYIdeal.Gen.frame m ρ,
  fun m ρ _ => Cert.GateYRefIdeal.Hand.frame m ρ,
  fun m ρ _ => Cert.GateW.Gen.frame m ρ,
  fun m ρ _ => Cert.GateWIdeal.Gen.frame m ρ,
  fun m ρ _ => Cert.GateWRefIdeal.Hand.frame m ρ,
  fun m ρ _ => Cert.GateX.Gen.frame m ρ,
  fun m ρ _ => Cert.GateXIdeal.Gen.frame m ρ,
  fun m ρ _ => Cert.GateXRefIdeal.Hand.frame m ρ,
  fun m ρ _ => Cert.OutS.Gen.frame m ρ,
  fun m ρ _ => Cert.OutSIdeal.Gen.frame m ρ,
  fun m ρ _ => Cert.OutSRefIdeal.Hand.frame m ρ,
  fun m ρ _ => Cert.OutM.Gen.frame m ρ,
  fun m ρ _ => Cert.OutMIdeal.Gen.frame m ρ,
  fun m ρ _ => Cert.OutMRefIdeal.Hand.frame m ρ,
  fun m ρ _ => Cert.OutW.Gen.frame m ρ,
  fun m ρ _ => Cert.OutWIdeal.Gen.frame m ρ,
  fun m ρ _ => Cert.OutWRefIdeal.Hand.frame m ρ,
  fun m ρ _ => Cert.MixX.Gen.frame m ρ,
  fun m ρ _ => Cert.MixXIdeal.Gen.frame m ρ,
  fun m ρ _ => Cert.MixXRefIdeal.Hand.frame m ρ,
  fun m ρ _ => Cert.OutV.Gen.frame m ρ,
  fun m ρ _ => Cert.OutVIdeal.Gen.frame m ρ,
  fun m ρ _ => Cert.OutVRefIdeal.Hand.frame m ρ,
  fun m ρ _ => Cert.InY.Gen.frame m ρ,
  fun m ρ _ => Cert.InYIdeal.Gen.frame m ρ,
  fun m ρ _ => Cert.InYRefIdeal.Hand.frame m ρ,
  fun m ρ _ => Cert.InW.Gen.frame m ρ,
  fun m ρ _ => Cert.InWIdeal.Gen.frame m ρ,
  fun m ρ _ => Cert.InWRefIdeal.Hand.frame m ρ,
  fun m ρ _ => Cert.InX.Gen.frame m ρ,
  fun m ρ _ => Cert.InXIdeal.Gen.frame m ρ,
  fun m ρ _ => Cert.InXRefIdeal.Hand.frame m ρ,
  fun m ρ _ => Cert.KvY.Gen.frame m ρ,
  fun m ρ _ => Cert.KvYIdeal.Gen.frame m ρ,
  fun m ρ _ => Cert.KvYRefIdeal.Hand.frame m ρ,
  fun m ρ _ => Cert.KvW.Gen.frame m ρ,
  fun m ρ _ => Cert.KvWIdeal.Gen.frame m ρ,
  fun m ρ _ => Cert.KvWRefIdeal.Hand.frame m ρ,
  fun m ρ _ => Cert.KvX.Gen.frame m ρ,
  fun m ρ _ => Cert.KvXIdeal.Gen.frame m ρ,
  fun m ρ _ => Cert.KvXRefIdeal.Hand.frame m ρ,
  fun m ρ _ => Cert.PleY.Gen.frame m ρ,
  fun m ρ _ => Cert.PleYIdeal.Gen.frame m ρ,
  fun m ρ _ => Cert.PleYRefIdeal.Hand.frame m ρ,
  fun m ρ _ => Cert.PleW.Gen.frame m ρ,
  fun m ρ _ => Cert.PleWIdeal.Gen.frame m ρ,
  fun m ρ _ => Cert.PleWRefIdeal.Hand.frame m ρ,
  fun m ρ _ => Cert.QY.Gen.frame m ρ,
  fun m ρ _ => Cert.QYIdeal.Gen.frame m ρ,
  fun m ρ _ => Cert.QYRefIdeal.Hand.frame m ρ,
  fun m ρ _ => Cert.QW.Gen.frame m ρ,
  fun m ρ _ => Cert.QWIdeal.Gen.frame m ρ,
  fun m ρ _ => Cert.QWRefIdeal.Hand.frame m ρ,
  fun m ρ _ => Cert.QX.Gen.frame m ρ,
  fun m ρ _ => Cert.QXIdeal.Gen.frame m ρ,
  fun m ρ _ => Cert.QXRefIdeal.Hand.frame m ρ,
  preserves,
  Cert.algebraic,
  trivial,
  Cert.algebraic_down_x,
  trivial,
  Cert.algebraic_down_w,
  trivial,
  Cert.algebraic_up_w,
  trivial,
  Cert.algebraic_up_x,
  trivial,
  Cert.algebraic_up_y,
  trivial,
  Cert.algebraic_down_y,
  trivial,
  Cert.algebraic_gate_y,
  trivial,
  Cert.algebraic_gate_w,
  trivial,
  Cert.algebraic_gate_x,
  trivial,
  Cert.algebraic_out_s,
  trivial,
  Cert.algebraic_out_m,
  trivial,
  Cert.algebraic_out_w,
  trivial,
  Cert.algebraic_mix_x,
  trivial,
  Cert.algebraic_out_v,
  trivial,
  Cert.algebraic_in_y,
  trivial,
  Cert.algebraic_in_w,
  trivial,
  Cert.algebraic_in_x,
  trivial,
  Cert.algebraic_kv_y,
  trivial,
  Cert.algebraic_kv_w,
  trivial,
  Cert.algebraic_kv_x,
  trivial,
  Cert.algebraic_ple_y,
  trivial,
  Cert.algebraic_ple_w,
  trivial,
  Cert.algebraic_q_y,
  trivial,
  Cert.algebraic_q_w,
  trivial,
  Cert.algebraic_q_x⟩

end Cert.Proof

end
